-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v4_0)) (v1 : (c : Dev Cert.KernelIdeal.nD) → Buf (Elt Ideal) ((c.tc : Thread Cert.KernelIdeal.nD Cert.KernelIdeal.τ).loc Cert.KernelIdeal.main_v4_2)) (v2 : (c : Dev Cert.KernelIdeal.nD) → Buf (Elt Ideal) ((c.tc : Thread Cert.KernelIdeal.nD Cert.KernelIdeal.τ).loc Cert.KernelIdeal.main_v4_3)) (v3 : (c : Dev Cert.KernelIdeal.nD) → Buf (Elt Ideal) ((c.tc : Thread Cert.KernelIdeal.nD Cert.KernelIdeal.τ).loc Cert.KernelIdeal.main_v4_1)) (v4 : (c : Dev Cert.KernelIdeal.nD) → Buf (Elt Ideal) ((c.tc : Thread Cert.KernelIdeal.nD Cert.KernelIdeal.τ).loc Cert.KernelIdeal.main_v4_4)) (v5 : (c : Dev Cert.KernelIdeal.nD) → Buf (Elt Ideal) ((c.tc : Thread Cert.KernelIdeal.nD Cert.KernelIdeal.τ).loc Cert.KernelIdeal.main_v4_5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4_0) = v0 c
          ∧ r.2.mem ((c.tc : Thread Cert.KernelIdeal.nD Cert.KernelIdeal.τ).loc Cert.KernelIdeal.main_v4_2) = v1 c
          ∧ r.2.mem ((c.tc : Thread Cert.KernelIdeal.nD Cert.KernelIdeal.τ).loc Cert.KernelIdeal.main_v4_3) = v2 c
          ∧ r.2.mem ((c.tc : Thread Cert.KernelIdeal.nD Cert.KernelIdeal.τ).loc Cert.KernelIdeal.main_v4_1) = v3 c
          ∧ r.2.mem ((c.tc : Thread Cert.KernelIdeal.nD Cert.KernelIdeal.τ).loc Cert.KernelIdeal.main_v4_4) = v4 c
          ∧ r.2.mem ((c.tc : Thread Cert.KernelIdeal.nD Cert.KernelIdeal.τ).loc Cert.KernelIdeal.main_v4_5) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v60_0) = v0 c
          ∧ r.2.mem ((c.tc : Thread Cert.ReferenceIdeal.nD Cert.ReferenceIdeal.τ).loc Cert.ReferenceIdeal.main_v60_1) = v1 c
          ∧ r.2.mem ((c.tc : Thread Cert.ReferenceIdeal.nD Cert.ReferenceIdeal.τ).loc Cert.ReferenceIdeal.main_v60_2) = v2 c
          ∧ r.2.mem ((c.tc : Thread Cert.ReferenceIdeal.nD Cert.ReferenceIdeal.τ).loc Cert.ReferenceIdeal.main_v60_3) = v3 c
          ∧ r.2.mem ((c.tc : Thread Cert.ReferenceIdeal.nD Cert.ReferenceIdeal.τ).loc Cert.ReferenceIdeal.main_v60_4) = v4 c
          ∧ r.2.mem ((c.tc : Thread Cert.ReferenceIdeal.nD Cert.ReferenceIdeal.τ).loc Cert.ReferenceIdeal.main_v60_5) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x128x12288 : Shape := ⟨3, ![2, 128, 12288]⟩
abbrev S2x128 : Shape := ⟨2, ![2, 128]⟩
abbrev S32000x6144 : Shape := ⟨2, ![32000, 6144]⟩
abbrev S32000x768 : Shape := ⟨2, ![32000, 768]⟩
abbrev S1 : Shape := ⟨1, ![1]⟩
abbrev S256x12288 : Shape := ⟨2, ![256, 12288]⟩
abbrev S256x6144 : Shape := ⟨2, ![256, 6144]⟩
abbrev S256x1 : Shape := ⟨2, ![256, 1]⟩
abbrev S256x32000 : Shape := ⟨2, ![256, 32000]⟩
abbrev S256x768 : Shape := ⟨2, ![256, 768]⟩
abbrev S256x1280 : Shape := ⟨2, ![256, 1280]⟩
abbrev S256x128 : Shape := ⟨2, ![256, 128]⟩
abbrev S256x256 : Shape := ⟨2, ![256, 256]⟩
abbrev S256x1024 : Shape := ⟨2, ![256, 1024]⟩
abbrev S64x1024 : Shape := ⟨2, ![64, 1024]⟩
abbrev S256x128x1 : Shape := ⟨3, ![256, 128, 1]⟩
abbrev S256 : Shape := ⟨1, ![256]⟩
abbrev S128x1 : Shape := ⟨2, ![128, 1]⟩
abbrev S128x128 : Shape := ⟨2, ![128, 128]⟩
abbrev S1x128 : Shape := ⟨2, ![1, 128]⟩
abbrev S32x128 : Shape := ⟨2, ![32, 128]⟩

abbrev nBuf : Space → Nat
  | .hbm => 15
  | .vmem => 23
  | .smem => 1
  | _ => 0

abbrev bufTy : (tb : Table) → Fin (tcTables nBuf tb) → BufTy
  | .hbm, ⟨0, _⟩ => ⟨S2x128x12288, .fp8e4m3⟩
  | .hbm, ⟨1, _⟩ => ⟨S2x128, .f32⟩
  | .hbm, ⟨2, _⟩ => ⟨S32000x6144, .i8⟩
  | .hbm, ⟨3, _⟩ => ⟨S32000x768, .fp8e4m3⟩
  | .hbm, ⟨4, _⟩ => ⟨S1, .f32⟩
  | .hbm, ⟨5, _⟩ => ⟨S256x12288, .fp8e4m3⟩
  | .hbm, ⟨6, _⟩ => ⟨S256x6144, .fp8e4m3⟩
  | .hbm, ⟨7, _⟩ => ⟨S256x6144, .fp8e4m3⟩
  | .hbm, ⟨8, _⟩ => ⟨S256x1, .f32⟩
  | .hbm, ⟨9, _⟩ => ⟨S256x32000, .fp8e5m2⟩
  | .hbm, ⟨10, _⟩ => ⟨S256x32000, .fp8e5m2⟩
  | .hbm, ⟨11, _⟩ => ⟨S2x128, .f32⟩
  | .hbm, ⟨12, _⟩ => ⟨S2x128, .f32⟩
  | .hbm, ⟨13, _⟩ => ⟨S2x128, .f32⟩
  | .hbm, ⟨14, _⟩ => ⟨S2x128, .f32⟩
  | .local _ .vmem, ⟨0, _⟩ => ⟨S256x6144, .fp8e4m3⟩
  | .local _ .vmem, ⟨1, _⟩ => ⟨S256x6144, .fp8e4m3⟩
  | .local _ .vmem, ⟨2, _⟩ => ⟨S256x1, .f32⟩
  | .local _ .vmem, ⟨3, _⟩ => ⟨S256x6144, .i8⟩
  | .local _ .vmem, ⟨4, _⟩ => ⟨S256x6144, .i8⟩
  | .local _ .vmem, ⟨5, _⟩ => ⟨S256x768, .fp8e4m3⟩
  | .local _ .vmem, ⟨6, _⟩ => ⟨S256x768, .fp8e4m3⟩
  | .local _ .vmem, ⟨7, _⟩ => ⟨S256x1280, .fp8e5m2⟩
  | .local _ .vmem, ⟨8, _⟩ => ⟨S256x1280, .fp8e5m2⟩
  | .local _ .vmem, ⟨9, _⟩ => ⟨S256x1280, .fp8e5m2⟩
  | .local _ .vmem, ⟨10, _⟩ => ⟨S256x1280, .fp8e5m2⟩
  | .local _ .vmem, ⟨11, _⟩ => ⟨S2x128, .f32⟩
  | .local _ .vmem, ⟨12, _⟩ => ⟨S2x128, .f32⟩
  | .local _ .vmem, ⟨13, _⟩ => ⟨S2x128, .f32⟩
  | .local _ .vmem, ⟨14, _⟩ => ⟨S2x128, .f32⟩
  | .local _ .vmem, ⟨15, _⟩ => ⟨S256x32000, .f32⟩
  | .local _ .vmem, ⟨16, _⟩ => ⟨S256x128, .f32⟩
  | .local _ .vmem, ⟨17, _⟩ => ⟨S256x128, .f32⟩
  | .local _ .vmem, ⟨18, _⟩ => ⟨S256x128, .f32⟩
  | .local _ .vmem, ⟨19, _⟩ => ⟨S256x128, .f32⟩
  | .local _ .vmem, ⟨20, _⟩ => ⟨S256x128, .f32⟩
  | .local _ .vmem, ⟨21, _⟩ => ⟨S256x128, .f32⟩
  | .local _ .vmem, ⟨22, _⟩ => ⟨S256x128, .f32⟩
  | .local _ .smem, ⟨0, _⟩ => ⟨S1, .f32⟩
  | _, _ => ⟨S2x128x12288, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .smem, ⟨0, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v4_2 : Ref sig .tc := ⟨.hbm, 11, rfl⟩
abbrev main_v4_3 : Ref sig .tc := ⟨.hbm, 12, rfl⟩
abbrev main_v4_4 : Ref sig .tc := ⟨.hbm, 13, rfl⟩
abbrev main_v4_5 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg4_0 : Ref sig .tc := ⟨.vmem, 3, rfl⟩
abbrev cc0_stg4_1 : Ref sig .tc := ⟨.vmem, 4, rfl⟩
abbrev cc0_stg5_0 : Ref sig .tc := ⟨.vmem, 5, rfl⟩
abbrev cc0_stg5_1 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_scratch0 : Ref sig .tc := ⟨.vmem, 15, rfl⟩
abbrev cc0_scratch1 : Ref sig .tc := ⟨.vmem, 16, rfl⟩
abbrev cc0_scratch2 : Ref sig .tc := ⟨.vmem, 17, rfl⟩
abbrev cc0_scratch3 : Ref sig .tc := ⟨.vmem, 18, rfl⟩
abbrev cc0_scratch4 : Ref sig .tc := ⟨.vmem, 19, rfl⟩
abbrev cc0_scratch5 : Ref sig .tc := ⟨.vmem, 20, rfl⟩
abbrev cc0_scratch6 : Ref sig .tc := ⟨.vmem, 21, rfl⟩
abbrev cc0_scratch7 : Ref sig .tc := ⟨.vmem, 22, rfl⟩
abbrev cc0_stg3_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem4_1 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem9_0 : DmaSem sig := 13
abbrev cc0_sem10_0 : DmaSem sig := 14
abbrev cc0_sem11_0 : DmaSem sig := 15

abbrev nD : Nat := 1
abbrev τ : Topo := Topo.v7x

variable {F : FTy → Type} [FloatOps F]

abbrev grid0 : Pipeline.Grid := ⟨1, ![150], ![false]⟩

def k0_cond2 (i : grid0.Coords) : BitVec 1 :=
  let arg0 : BitVec 32 := BitVec.ofNat 32 (i 0).val
  let c125_i32 : BitVec 32 := 125#32
  let v3 : BitVec 1 := Scalar.cmpi .slt arg0 c125_i32
  let v4 : BitVec 32 := Scalar.extui v3
  let c0_i32_1 : BitVec 32 := 0#32
  let v5 : BitVec 1 := Scalar.cmpi .ne v4 c0_i32_1
  v5

def k0_mult1 (i : grid0.Coords) : BitVec 32 :=
  let arg0 : BitVec 32 := BitVec.ofNat 32 (i 0).val
  let c256_i32 : BitVec 32 := 256#32
  let v837 : BitVec 32 := Scalar.muli arg0 c256_i32
  v837
def k0_off1 (i : grid0.Coords) : Fin 2 → Nat :=
  let c0_280 : Index := 0#32
  let arg0 : BitVec 32 := BitVec.ofNat 32 (i 0).val
  let c256_i32 : BitVec 32 := 256#32
  let v837 : BitVec 32 := Scalar.muli arg0 c256_i32
  let v838 : BitVec 32 := v837
  let v839 : Index := Scalar.indexCast v838
  ![0, v839.toNat]
def k0_cond4 (i : grid0.Coords) : BitVec 1 :=
  let arg0 : BitVec 32 := BitVec.ofNat 32 (i 0).val
  let c125_i32_4 : BitVec 32 := 125#32
  let v9 : BitVec 1 := Scalar.cmpi .sge arg0 c125_i32_4
  let v10 : BitVec 32 := Scalar.extui v9
  let c0_i32_5 : BitVec 32 := 0#32
  let v11 : BitVec 1 := Scalar.cmpi .ne v10 c0_i32_5
  v11

def k0_mult2 (i : grid0.Coords) : BitVec 32 :=
  let arg0 : BitVec 32 := BitVec.ofNat 32 (i 0).val
  let c125_i32_7 : BitVec 32 := 125#32
  let v15 : BitVec 32 := Scalar.subi arg0 c125_i32_7
  let c1280_i32 : BitVec 32 := 1280#32
  let v16 : BitVec 32 := Scalar.muli v15 c1280_i32
  let c0_i32_15 : BitVec 32 := 0#32
  let v21 : BitVec 32 := Scalar.addi v16 c0_i32_15
  v21
def k0_off2 (i : grid0.Coords) (c0_i32_15 : BitVec 32) : Fin 2 → Nat :=
  let c0_16 : Index := 0#32
  let arg0 : BitVec 32 := BitVec.ofNat 32 (i 0).val
  let c125_i32_7 : BitVec 32 := 125#32
  let v15 : BitVec 32 := Scalar.subi arg0 c125_i32_7
  let c1280_i32 : BitVec 32 := 1280#32
  let v16 : BitVec 32 := Scalar.muli v15 c1280_i32
  let v21 : BitVec 32 := Scalar.addi v16 c0_i32_15
  let v22 : BitVec 32 := v21
  let v23 : Index := Scalar.indexCast v22
  ![0, v23.toNat]
def k0_mult3 (i : grid0.Coords) : BitVec 32 :=
  let arg0 : BitVec 32 := BitVec.ofNat 32 (i 0).val
  let c125_i32_7 : BitVec 32 := 125#32
  let v15 : BitVec 32 := Scalar.subi arg0 c125_i32_7
  let c1280_i32 : BitVec 32 := 1280#32
  let v16 : BitVec 32 := Scalar.muli v15 c1280_i32
  let c128_i32 : BitVec 32 := 128#32
  let v49 : BitVec 32 := Scalar.addi v16 c128_i32
  v49
def k0_mult4 (i : grid0.Coords) : BitVec 32 :=
  let arg0 : BitVec 32 := BitVec.ofNat 32 (i 0).val
  let c125_i32_7 : BitVec 32 := 125#32
  let v15 : BitVec 32 := Scalar.subi arg0 c125_i32_7
  let c1280_i32 : BitVec 32 := 1280#32
  let v16 : BitVec 32 := Scalar.muli v15 c1280_i32
  let c256_i32 : BitVec 32 := 256#32
  let v77 : BitVec 32 := Scalar.addi v16 c256_i32
  v77
def k0_mult5 (i : grid0.Coords) : BitVec 32 :=
  let arg0 : BitVec 32 := BitVec.ofNat 32 (i 0).val
  let c125_i32_7 : BitVec 32 := 125#32
  let v15 : BitVec 32 := Scalar.subi arg0 c125_i32_7
  let c1280_i32 : BitVec 32 := 1280#32
  let v16 : BitVec 32 := Scalar.muli v15 c1280_i32
  let c384_i32 : BitVec 32 := 384#32
  let v105 : BitVec 32 := Scalar.addi v16 c384_i32
  v105
def k0_mult6 (i : grid0.Coords) : BitVec 32 :=
  let arg0 : BitVec 32 := BitVec.ofNat 32 (i 0).val
  let c125_i32_7 : BitVec 32 := 125#32
  let v15 : BitVec 32 := Scalar.subi arg0 c125_i32_7
  let c1280_i32 : BitVec 32 := 1280#32
  let v16 : BitVec 32 := Scalar.muli v15 c1280_i32
  let c512_i32 : BitVec 32 := 512#32
  let v133 : BitVec 32 := Scalar.addi v16 c512_i32
  v133
def k0_mult7 (i : grid0.Coords) : BitVec 32 :=
  let arg0 : BitVec 32 := BitVec.ofNat 32 (i 0).val
  let c125_i32_7 : BitVec 32 := 125#32
  let v15 : BitVec 32 := Scalar.subi arg0 c125_i32_7
  let c1280_i32 : BitVec 32 := 1280#32
  let v16 : BitVec 32 := Scalar.muli v15 c1280_i32
  let c640_i32 : BitVec 32 := 640#32
  let v161 : BitVec 32 := Scalar.addi v16 c640_i32
  v161
def k0_mult8 (i : grid0.Coords) : BitVec 32 :=
  let arg0 : BitVec 32 := BitVec.ofNat 32 (i 0).val
  let c125_i32_7 : BitVec 32 := 125#32
  let v15 : BitVec 32 := Scalar.subi arg0 c125_i32_7
  let c1280_i32 : BitVec 32 := 1280#32
  let v16 : BitVec 32 := Scalar.muli v15 c1280_i32
  let c768_i32 : BitVec 32 := 768#32
  let v189 : BitVec 32 := Scalar.addi v16 c768_i32
  v189
def k0_mult9 (i : grid0.Coords) : BitVec 32 :=
  let arg0 : BitVec 32 := BitVec.ofNat 32 (i 0).val
  let c125_i32_7 : BitVec 32 := 125#32
  let v15 : BitVec 32 := Scalar.subi arg0 c125_i32_7
  let c1280_i32 : BitVec 32 := 1280#32
  let v16 : BitVec 32 := Scalar.muli v15 c1280_i32
  let c896_i32 : BitVec 32 := 896#32
  let v217 : BitVec 32 := Scalar.addi v16 c896_i32
  v217
def k0_mult10 (i : grid0.Coords) : BitVec 32 :=
  let arg0 : BitVec 32 := BitVec.ofNat 32 (i 0).val
  let c125_i32_7 : BitVec 32 := 125#32
  let v15 : BitVec 32 := Scalar.subi arg0 c125_i32_7
  let c1280_i32 : BitVec 32 := 1280#32
  let v16 : BitVec 32 := Scalar.muli v15 c1280_i32
  let c1024_i32 : BitVec 32 := 1024#32
  let v245 : BitVec 32 := Scalar.addi v16 c1024_i32
  v245
def k0_mult11 (i : grid0.Coords) : BitVec 32 :=
  let arg0 : BitVec 32 := BitVec.ofNat 32 (i 0).val
  let c125_i32_7 : BitVec 32 := 125#32
  let v15 : BitVec 32 := Scalar.subi arg0 c125_i32_7
  let c1280_i32 : BitVec 32 := 1280#32
  let v16 : BitVec 32 := Scalar.muli v15 c1280_i32
  let c1152_i32 : BitVec 32 := 1152#32
  let v273 : BitVec 32 := Scalar.addi v16 c1152_i32
  v273
def k0_mult12 (i : grid0.Coords) : BitVec 32 :=
  let arg0 : BitVec 32 := BitVec.ofNat 32 (i 0).val
  let c125_i32_7 : BitVec 32 := 125#32
  let v15 : BitVec 32 := Scalar.subi arg0 c125_i32_7
  let c1280_i32 : BitVec 32 := 1280#32
  let v16 : BitVec 32 := Scalar.muli v15 c1280_i32
  let c0_i32_97 : BitVec 32 := 0#32
  let v311 : BitVec 32 := Scalar.addi v16 c0_i32_97
  v311
def k0_off3 (i : grid0.Coords) (c0_i32_97 : BitVec 32) : Fin 2 → Nat :=
  let c32_98 : Index := 32#32
  let arg0 : BitVec 32 := BitVec.ofNat 32 (i 0).val
  let c125_i32_7 : BitVec 32 := 125#32
  let v15 : BitVec 32 := Scalar.subi arg0 c125_i32_7
  let c1280_i32 : BitVec 32 := 1280#32
  let v16 : BitVec 32 := Scalar.muli v15 c1280_i32
  let v311 : BitVec 32 := Scalar.addi v16 c0_i32_97
  let v312 : BitVec 32 := v311
  let v313 : Index := Scalar.indexCast v312
  ![32, v313.toNat]
def k0_mult13 (i : grid0.Coords) : BitVec 32 :=
  let arg0 : BitVec 32 := BitVec.ofNat 32 (i 0).val
  let c125_i32_7 : BitVec 32 := 125#32
  let v15 : BitVec 32 := Scalar.subi arg0 c125_i32_7
  let c1280_i32 : BitVec 32 := 1280#32
  let v16 : BitVec 32 := Scalar.muli v15 c1280_i32
  let c128_i32_106 : BitVec 32 := 128#32
  let v339 : BitVec 32 := Scalar.addi v16 c128_i32_106
  v339
def k0_mult14 (i : grid0.Coords) : BitVec 32 :=
  let arg0 : BitVec 32 := BitVec.ofNat 32 (i 0).val
  let c125_i32_7 : BitVec 32 := 125#32
  let v15 : BitVec 32 := Scalar.subi arg0 c125_i32_7
  let c1280_i32 : BitVec 32 := 1280#32
  let v16 : BitVec 32 := Scalar.muli v15 c1280_i32
  let c256_i32_115 : BitVec 32 := 256#32
  let v367 : BitVec 32 := Scalar.addi v16 c256_i32_115
  v367
def k0_mult15 (i : grid0.Coords) : BitVec 32 :=
  let arg0 : BitVec 32 := BitVec.ofNat 32 (i 0).val
  let c125_i32_7 : BitVec 32 := 125#32
  let v15 : BitVec 32 := Scalar.subi arg0 c125_i32_7
  let c1280_i32 : BitVec 32 := 1280#32
  let v16 : BitVec 32 := Scalar.muli v15 c1280_i32
  let c384_i32_124 : BitVec 32 := 384#32
  let v395 : BitVec 32 := Scalar.addi v16 c384_i32_124
  v395
def k0_mult16 (i : grid0.Coords) : BitVec 32 :=
  let arg0 : BitVec 32 := BitVec.ofNat 32 (i 0).val
  let c125_i32_7 : BitVec 32 := 125#32
  let v15 : BitVec 32 := Scalar.subi arg0 c125_i32_7
  let c1280_i32 : BitVec 32 := 1280#32
  let v16 : BitVec 32 := Scalar.muli v15 c1280_i32
  let c512_i32_133 : BitVec 32 := 512#32
  let v423 : BitVec 32 := Scalar.addi v16 c512_i32_133
  v423
def k0_mult17 (i : grid0.Coords) : BitVec 32 :=
  let arg0 : BitVec 32 := BitVec.ofNat 32 (i 0).val
  let c125_i32_7 : BitVec 32 := 125#32
  let v15 : BitVec 32 := Scalar.subi arg0 c125_i32_7
  let c1280_i32 : BitVec 32 := 1280#32
  let v16 : BitVec 32 := Scalar.muli v15 c1280_i32
  let c640_i32_142 : BitVec 32 := 640#32
  let v451 : BitVec 32 := Scalar.addi v16 c640_i32_142
  v451
def k0_mult18 (i : grid0.Coords) : BitVec 32 :=
  let arg0 : BitVec 32 := BitVec.ofNat 32 (i 0).val
  let c125_i32_7 : BitVec 32 := 125#32
  let v15 : BitVec 32 := Scalar.subi arg0 c125_i32_7
  let c1280_i32 : BitVec 32 := 1280#32
  let v16 : BitVec 32 := Scalar.muli v15 c1280_i32
  let c768_i32_151 : BitVec 32 := 768#32
  let v479 : BitVec 32 := Scalar.addi v16 c768_i32_151
  v479
def k0_mult19 (i : grid0.Coords) : BitVec 32 :=
  let arg0 : BitVec 32 := BitVec.ofNat 32 (i 0).val
  let c125_i32_7 : BitVec 32 := 125#32
  let v15 : BitVec 32 := Scalar.subi arg0 c125_i32_7
  let c1280_i32 : BitVec 32 := 1280#32
  let v16 : BitVec 32 := Scalar.muli v15 c1280_i32
  let c896_i32_160 : BitVec 32 := 896#32
  let v507 : BitVec 32 := Scalar.addi v16 c896_i32_160
  v507
def k0_mult20 (i : grid0.Coords) : BitVec 32 :=
  let arg0 : BitVec 32 := BitVec.ofNat 32 (i 0).val
  let c125_i32_7 : BitVec 32 := 125#32
  let v15 : BitVec 32 := Scalar.subi arg0 c125_i32_7
  let c1280_i32 : BitVec 32 := 1280#32
  let v16 : BitVec 32 := Scalar.muli v15 c1280_i32
  let c1024_i32_169 : BitVec 32 := 1024#32
  let v535 : BitVec 32 := Scalar.addi v16 c1024_i32_169
  v535
def k0_mult21 (i : grid0.Coords) : BitVec 32 :=
  let arg0 : BitVec 32 := BitVec.ofNat 32 (i 0).val
  let c125_i32_7 : BitVec 32 := 125#32
  let v15 : BitVec 32 := Scalar.subi arg0 c125_i32_7
  let c1280_i32 : BitVec 32 := 1280#32
  let v16 : BitVec 32 := Scalar.muli v15 c1280_i32
  let c1152_i32_178 : BitVec 32 := 1152#32
  let v563 : BitVec 32 := Scalar.addi v16 c1152_i32_178
  v563
def k0_mult22 (i : grid0.Coords) : BitVec 32 :=
  let arg0 : BitVec 32 := BitVec.ofNat 32 (i 0).val
  let c125_i32_7 : BitVec 32 := 125#32
  let v15 : BitVec 32 := Scalar.subi arg0 c125_i32_7
  let c1280_i32 : BitVec 32 := 1280#32
  let v16 : BitVec 32 := Scalar.muli v15 c1280_i32
  let c0_i32_198 : BitVec 32 := 0#32
  let v601 : BitVec 32 := Scalar.addi v16 c0_i32_198
  v601
def k0_off4 (i : grid0.Coords) (c0_i32_198 : BitVec 32) : Fin 2 → Nat :=
  let c64_199 : Index := 64#32
  let arg0 : BitVec 32 := BitVec.ofNat 32 (i 0).val
  let c125_i32_7 : BitVec 32 := 125#32
  let v15 : BitVec 32 := Scalar.subi arg0 c125_i32_7
  let c1280_i32 : BitVec 32 := 1280#32
  let v16 : BitVec 32 := Scalar.muli v15 c1280_i32
  let v601 : BitVec 32 := Scalar.addi v16 c0_i32_198
  let v602 : BitVec 32 := v601
  let v603 : Index := Scalar.indexCast v602
  ![64, v603.toNat]
def k0_mult23 (i : grid0.Coords) : BitVec 32 :=
  let arg0 : BitVec 32 := BitVec.ofNat 32 (i 0).val
  let c125_i32_7 : BitVec 32 := 125#32
  let v15 : BitVec 32 := Scalar.subi arg0 c125_i32_7
  let c1280_i32 : BitVec 32 := 1280#32
  let v16 : BitVec 32 := Scalar.muli v15 c1280_i32
  let c128_i32_207 : BitVec 32 := 128#32
  let v629 : BitVec 32 := Scalar.addi v16 c128_i32_207
  v629
def k0_mult24 (i : grid0.Coords) : BitVec 32 :=
  let arg0 : BitVec 32 := BitVec.ofNat 32 (i 0).val
  let c125_i32_7 : BitVec 32 := 125#32
  let v15 : BitVec 32 := Scalar.subi arg0 c125_i32_7
  let c1280_i32 : BitVec 32 := 1280#32
  let v16 : BitVec 32 := Scalar.muli v15 c1280_i32
  let c256_i32_216 : BitVec 32 := 256#32
  let v657 : BitVec 32 := Scalar.addi v16 c256_i32_216
  v657
def k0_mult25 (i : grid0.Coords) : BitVec 32 :=
  let arg0 : BitVec 32 := BitVec.ofNat 32 (i 0).val
  let c125_i32_7 : BitVec 32 := 125#32
  let v15 : BitVec 32 := Scalar.subi arg0 c125_i32_7
  let c1280_i32 : BitVec 32 := 1280#32
  let v16 : BitVec 32 := Scalar.muli v15 c1280_i32
  let c384_i32_225 : BitVec 32 := 384#32
  let v685 : BitVec 32 := Scalar.addi v16 c384_i32_225
  v685
def k0_mult26 (i : grid0.Coords) : BitVec 32 :=
  let arg0 : BitVec 32 := BitVec.ofNat 32 (i 0).val
  let c125_i32_7 : BitVec 32 := 125#32
  let v15 : BitVec 32 := Scalar.subi arg0 c125_i32_7
  let c1280_i32 : BitVec 32 := 1280#32
  let v16 : BitVec 32 := Scalar.muli v15 c1280_i32
  let c512_i32_234 : BitVec 32 := 512#32
  let v713 : BitVec 32 := Scalar.addi v16 c512_i32_234
  v713
def k0_mult27 (i : grid0.Coords) : BitVec 32 :=
  let arg0 : BitVec 32 := BitVec.ofNat 32 (i 0).val
  let c125_i32_7 : BitVec 32 := 125#32
  let v15 : BitVec 32 := Scalar.subi arg0 c125_i32_7
  let c1280_i32 : BitVec 32 := 1280#32
  let v16 : BitVec 32 := Scalar.muli v15 c1280_i32
  let c640_i32_243 : BitVec 32 := 640#32
  let v741 : BitVec 32 := Scalar.addi v16 c640_i32_243
  v741
def k0_mult28 (i : grid0.Coords) : BitVec 32 :=
  let arg0 : BitVec 32 := BitVec.ofNat 32 (i 0).val
  let c125_i32_7 : BitVec 32 := 125#32
  let v15 : BitVec 32 := Scalar.subi arg0 c125_i32_7
  let c1280_i32 : BitVec 32 := 1280#32
  let v16 : BitVec 32 := Scalar.muli v15 c1280_i32
  let c768_i32_252 : BitVec 32 := 768#32
  let v769 : BitVec 32 := Scalar.addi v16 c768_i32_252
  v769
def k0_mult29 (i : grid0.Coords) : BitVec 32 :=
  let arg0 : BitVec 32 := BitVec.ofNat 32 (i 0).val
  let c125_i32_7 : BitVec 32 := 125#32
  let v15 : BitVec 32 := Scalar.subi arg0 c125_i32_7
  let c1280_i32 : BitVec 32 := 1280#32
  let v16 : BitVec 32 := Scalar.muli v15 c1280_i32
  let c896_i32_261 : BitVec 32 := 896#32
  let v797 : BitVec 32 := Scalar.addi v16 c896_i32_261
  v797
def k0_mult30 (i : grid0.Coords) : BitVec 32 :=
  let arg0 : BitVec 32 := BitVec.ofNat 32 (i 0).val
  let c125_i32_7 : BitVec 32 := 125#32
  let v15 : BitVec 32 := Scalar.subi arg0 c125_i32_7
  let c1280_i32 : BitVec 32 := 1280#32
  let v16 : BitVec 32 := Scalar.muli v15 c1280_i32
  let c1024_i32_270 : BitVec 32 := 1024#32
  let v825 : BitVec 32 := Scalar.addi v16 c1024_i32_270
  v825
def k0_mult31 (i : grid0.Coords) : BitVec 32 :=
  let arg0 : BitVec 32 := BitVec.ofNat 32 (i 0).val
  let c125_i32_7 : BitVec 32 := 125#32
  let v15 : BitVec 32 := Scalar.subi arg0 c125_i32_7
  let c1280_i32 : BitVec 32 := 1280#32
  let v16 : BitVec 32 := Scalar.muli v15 c1280_i32
  let c1152_i32_279 : BitVec 32 := 1152#32
  let v853 : BitVec 32 := Scalar.addi v16 c1152_i32_279
  v853
def k0_mult32 (i : grid0.Coords) : BitVec 32 :=
  let arg0 : BitVec 32 := BitVec.ofNat 32 (i 0).val
  let c125_i32_7 : BitVec 32 := 125#32
  let v15 : BitVec 32 := Scalar.subi arg0 c125_i32_7
  let c1280_i32 : BitVec 32 := 1280#32
  let v16 : BitVec 32 := Scalar.muli v15 c1280_i32
  let c0_i32_299 : BitVec 32 := 0#32
  let v891 : BitVec 32 := Scalar.addi v16 c0_i32_299
  v891
def k0_off5 (i : grid0.Coords) (c0_i32_299 : BitVec 32) : Fin 2 → Nat :=
  let c96_300 : Index := 96#32
  let arg0 : BitVec 32 := BitVec.ofNat 32 (i 0).val
  let c125_i32_7 : BitVec 32 := 125#32
  let v15 : BitVec 32 := Scalar.subi arg0 c125_i32_7
  let c1280_i32 : BitVec 32 := 1280#32
  let v16 : BitVec 32 := Scalar.muli v15 c1280_i32
  let v891 : BitVec 32 := Scalar.addi v16 c0_i32_299
  let v892 : BitVec 32 := v891
  let v893 : Index := Scalar.indexCast v892
  ![96, v893.toNat]
def k0_mult33 (i : grid0.Coords) : BitVec 32 :=
  let arg0 : BitVec 32 := BitVec.ofNat 32 (i 0).val
  let c125_i32_7 : BitVec 32 := 125#32
  let v15 : BitVec 32 := Scalar.subi arg0 c125_i32_7
  let c1280_i32 : BitVec 32 := 1280#32
  let v16 : BitVec 32 := Scalar.muli v15 c1280_i32
  let c128_i32_308 : BitVec 32 := 128#32
  let v919 : BitVec 32 := Scalar.addi v16 c128_i32_308
  v919
def k0_mult34 (i : grid0.Coords) : BitVec 32 :=
  let arg0 : BitVec 32 := BitVec.ofNat 32 (i 0).val
  let c125_i32_7 : BitVec 32 := 125#32
  let v15 : BitVec 32 := Scalar.subi arg0 c125_i32_7
  let c1280_i32 : BitVec 32 := 1280#32
  let v16 : BitVec 32 := Scalar.muli v15 c1280_i32
  let c256_i32_317 : BitVec 32 := 256#32
  let v947 : BitVec 32 := Scalar.addi v16 c256_i32_317
  v947
def k0_mult35 (i : grid0.Coords) : BitVec 32 :=
  let arg0 : BitVec 32 := BitVec.ofNat 32 (i 0).val
  let c125_i32_7 : BitVec 32 := 125#32
  let v15 : BitVec 32 := Scalar.subi arg0 c125_i32_7
  let c1280_i32 : BitVec 32 := 1280#32
  let v16 : BitVec 32 := Scalar.muli v15 c1280_i32
  let c384_i32_326 : BitVec 32 := 384#32
  let v975 : BitVec 32 := Scalar.addi v16 c384_i32_326
  v975
def k0_mult36 (i : grid0.Coords) : BitVec 32 :=
  let arg0 : BitVec 32 := BitVec.ofNat 32 (i 0).val
  let c125_i32_7 : BitVec 32 := 125#32
  let v15 : BitVec 32 := Scalar.subi arg0 c125_i32_7
  let c1280_i32 : BitVec 32 := 1280#32
  let v16 : BitVec 32 := Scalar.muli v15 c1280_i32
  let c512_i32_335 : BitVec 32 := 512#32
  let v1003 : BitVec 32 := Scalar.addi v16 c512_i32_335
  v1003
def k0_mult37 (i : grid0.Coords) : BitVec 32 :=
  let arg0 : BitVec 32 := BitVec.ofNat 32 (i 0).val
  let c125_i32_7 : BitVec 32 := 125#32
  let v15 : BitVec 32 := Scalar.subi arg0 c125_i32_7
  let c1280_i32 : BitVec 32 := 1280#32
  let v16 : BitVec 32 := Scalar.muli v15 c1280_i32
  let c640_i32_344 : BitVec 32 := 640#32
  let v1031 : BitVec 32 := Scalar.addi v16 c640_i32_344
  v1031
def k0_mult38 (i : grid0.Coords) : BitVec 32 :=
  let arg0 : BitVec 32 := BitVec.ofNat 32 (i 0).val
  let c125_i32_7 : BitVec 32 := 125#32
  let v15 : BitVec 32 := Scalar.subi arg0 c125_i32_7
  let c1280_i32 : BitVec 32 := 1280#32
  let v16 : BitVec 32 := Scalar.muli v15 c1280_i32
  let c768_i32_353 : BitVec 32 := 768#32
  let v1059 : BitVec 32 := Scalar.addi v16 c768_i32_353
  v1059
def k0_mult39 (i : grid0.Coords) : BitVec 32 :=
  let arg0 : BitVec 32 := BitVec.ofNat 32 (i 0).val
  let c125_i32_7 : BitVec 32 := 125#32
  let v15 : BitVec 32 := Scalar.subi arg0 c125_i32_7
  let c1280_i32 : BitVec 32 := 1280#32
  let v16 : BitVec 32 := Scalar.muli v15 c1280_i32
  let c896_i32_362 : BitVec 32 := 896#32
  let v1087 : BitVec 32 := Scalar.addi v16 c896_i32_362
  v1087
def k0_mult40 (i : grid0.Coords) : BitVec 32 :=
  let arg0 : BitVec 32 := BitVec.ofNat 32 (i 0).val
  let c125_i32_7 : BitVec 32 := 125#32
  let v15 : BitVec 32 := Scalar.subi arg0 c125_i32_7
  let c1280_i32 : BitVec 32 := 1280#32
  let v16 : BitVec 32 := Scalar.muli v15 c1280_i32
  let c1024_i32_371 : BitVec 32 := 1024#32
  let v1115 : BitVec 32 := Scalar.addi v16 c1024_i32_371
  v1115
def k0_mult41 (i : grid0.Coords) : BitVec 32 :=
  let arg0 : BitVec 32 := BitVec.ofNat 32 (i 0).val
  let c125_i32_7 : BitVec 32 := 125#32
  let v15 : BitVec 32 := Scalar.subi arg0 c125_i32_7
  let c1280_i32 : BitVec 32 := 1280#32
  let v16 : BitVec 32 := Scalar.muli v15 c1280_i32
  let c1152_i32_380 : BitVec 32 := 1152#32
  let v1143 : BitVec 32 := Scalar.addi v16 c1152_i32_380
  v1143
def k0_mult42 (i : grid0.Coords) : BitVec 32 :=
  let arg0 : BitVec 32 := BitVec.ofNat 32 (i 0).val
  let c125_i32_7 : BitVec 32 := 125#32
  let v15 : BitVec 32 := Scalar.subi arg0 c125_i32_7
  let c1280_i32 : BitVec 32 := 1280#32
  let v16 : BitVec 32 := Scalar.muli v15 c1280_i32
  let c0_i32_401 : BitVec 32 := 0#32
  let v1181 : BitVec 32 := Scalar.addi v16 c0_i32_401
  v1181
def k0_off6 (i : grid0.Coords) (c0_i32_401 : BitVec 32) : Fin 2 → Nat :=
  let c128_402 : Index := 128#32
  let arg0 : BitVec 32 := BitVec.ofNat 32 (i 0).val
  let c125_i32_7 : BitVec 32 := 125#32
  let v15 : BitVec 32 := Scalar.subi arg0 c125_i32_7
  let c1280_i32 : BitVec 32 := 1280#32
  let v16 : BitVec 32 := Scalar.muli v15 c1280_i32
  let v1181 : BitVec 32 := Scalar.addi v16 c0_i32_401
  let v1182 : BitVec 32 := v1181
  let v1183 : Index := Scalar.indexCast v1182
  ![128, v1183.toNat]
def k0_mult43 (i : grid0.Coords) : BitVec 32 :=
  let arg0 : BitVec 32 := BitVec.ofNat 32 (i 0).val
  let c125_i32_7 : BitVec 32 := 125#32
  let v15 : BitVec 32 := Scalar.subi arg0 c125_i32_7
  let c1280_i32 : BitVec 32 := 1280#32
  let v16 : BitVec 32 := Scalar.muli v15 c1280_i32
  let c128_i32_410 : BitVec 32 := 128#32
  let v1209 : BitVec 32 := Scalar.addi v16 c128_i32_410
  v1209
def k0_mult44 (i : grid0.Coords) : BitVec 32 :=
  let arg0 : BitVec 32 := BitVec.ofNat 32 (i 0).val
  let c125_i32_7 : BitVec 32 := 125#32
  let v15 : BitVec 32 := Scalar.subi arg0 c125_i32_7
  let c1280_i32 : BitVec 32 := 1280#32
  let v16 : BitVec 32 := Scalar.muli v15 c1280_i32
  let c256_i32_419 : BitVec 32 := 256#32
  let v1237 : BitVec 32 := Scalar.addi v16 c256_i32_419
  v1237
def k0_mult45 (i : grid0.Coords) : BitVec 32 :=
  let arg0 : BitVec 32 := BitVec.ofNat 32 (i 0).val
  let c125_i32_7 : BitVec 32 := 125#32
  let v15 : BitVec 32 := Scalar.subi arg0 c125_i32_7
  let c1280_i32 : BitVec 32 := 1280#32
  let v16 : BitVec 32 := Scalar.muli v15 c1280_i32
  let c384_i32_428 : BitVec 32 := 384#32
  let v1265 : BitVec 32 := Scalar.addi v16 c384_i32_428
  v1265
def k0_mult46 (i : grid0.Coords) : BitVec 32 :=
  let arg0 : BitVec 32 := BitVec.ofNat 32 (i 0).val
  let c125_i32_7 : BitVec 32 := 125#32
  let v15 : BitVec 32 := Scalar.subi arg0 c125_i32_7
  let c1280_i32 : BitVec 32 := 1280#32
  let v16 : BitVec 32 := Scalar.muli v15 c1280_i32
  let c512_i32_437 : BitVec 32 := 512#32
  let v1293 : BitVec 32 := Scalar.addi v16 c512_i32_437
  v1293
def k0_mult47 (i : grid0.Coords) : BitVec 32 :=
  let arg0 : BitVec 32 := BitVec.ofNat 32 (i 0).val
  let c125_i32_7 : BitVec 32 := 125#32
  let v15 : BitVec 32 := Scalar.subi arg0 c125_i32_7
  let c1280_i32 : BitVec 32 := 1280#32
  let v16 : BitVec 32 := Scalar.muli v15 c1280_i32
  let c640_i32_446 : BitVec 32 := 640#32
  let v1321 : BitVec 32 := Scalar.addi v16 c640_i32_446
  v1321
def k0_mult48 (i : grid0.Coords) : BitVec 32 :=
  let arg0 : BitVec 32 := BitVec.ofNat 32 (i 0).val
  let c125_i32_7 : BitVec 32 := 125#32
  let v15 : BitVec 32 := Scalar.subi arg0 c125_i32_7
  let c1280_i32 : BitVec 32 := 1280#32
  let v16 : BitVec 32 := Scalar.muli v15 c1280_i32
  let c768_i32_455 : BitVec 32 := 768#32
  let v1349 : BitVec 32 := Scalar.addi v16 c768_i32_455
  v1349
def k0_mult49 (i : grid0.Coords) : BitVec 32 :=
  let arg0 : BitVec 32 := BitVec.ofNat 32 (i 0).val
  let c125_i32_7 : BitVec 32 := 125#32
  let v15 : BitVec 32 := Scalar.subi arg0 c125_i32_7
  let c1280_i32 : BitVec 32 := 1280#32
  let v16 : BitVec 32 := Scalar.muli v15 c1280_i32
  let c896_i32_464 : BitVec 32 := 896#32
  let v1377 : BitVec 32 := Scalar.addi v16 c896_i32_464
  v1377
def k0_mult50 (i : grid0.Coords) : BitVec 32 :=
  let arg0 : BitVec 32 := BitVec.ofNat 32 (i 0).val
  let c125_i32_7 : BitVec 32 := 125#32
  let v15 : BitVec 32 := Scalar.subi arg0 c125_i32_7
  let c1280_i32 : BitVec 32 := 1280#32
  let v16 : BitVec 32 := Scalar.muli v15 c1280_i32
  let c1024_i32_473 : BitVec 32 := 1024#32
  let v1405 : BitVec 32 := Scalar.addi v16 c1024_i32_473
  v1405
def k0_mult51 (i : grid0.Coords) : BitVec 32 :=
  let arg0 : BitVec 32 := BitVec.ofNat 32 (i 0).val
  let c125_i32_7 : BitVec 32 := 125#32
  let v15 : BitVec 32 := Scalar.subi arg0 c125_i32_7
  let c1280_i32 : BitVec 32 := 1280#32
  let v16 : BitVec 32 := Scalar.muli v15 c1280_i32
  let c1152_i32_482 : BitVec 32 := 1152#32
  let v1433 : BitVec 32 := Scalar.addi v16 c1152_i32_482
  v1433
def k0_mult52 (i : grid0.Coords) : BitVec 32 :=
  let arg0 : BitVec 32 := BitVec.ofNat 32 (i 0).val
  let c125_i32_7 : BitVec 32 := 125#32
  let v15 : BitVec 32 := Scalar.subi arg0 c125_i32_7
  let c1280_i32 : BitVec 32 := 1280#32
  let v16 : BitVec 32 := Scalar.muli v15 c1280_i32
  let c0_i32_502 : BitVec 32 := 0#32
  let v1471 : BitVec 32 := Scalar.addi v16 c0_i32_502
  v1471
def k0_off7 (i : grid0.Coords) (c0_i32_502 : BitVec 32) : Fin 2 → Nat :=
  let c160_503 : Index := 160#32
  let arg0 : BitVec 32 := BitVec.ofNat 32 (i 0).val
  let c125_i32_7 : BitVec 32 := 125#32
  let v15 : BitVec 32 := Scalar.subi arg0 c125_i32_7
  let c1280_i32 : BitVec 32 := 1280#32
  let v16 : BitVec 32 := Scalar.muli v15 c1280_i32
  let v1471 : BitVec 32 := Scalar.addi v16 c0_i32_502
  let v1472 : BitVec 32 := v1471
  let v1473 : Index := Scalar.indexCast v1472
  ![160, v1473.toNat]
def k0_mult53 (i : grid0.Coords) : BitVec 32 :=
  let arg0 : BitVec 32 := BitVec.ofNat 32 (i 0).val
  let c125_i32_7 : BitVec 32 := 125#32
  let v15 : BitVec 32 := Scalar.subi arg0 c125_i32_7
  let c1280_i32 : BitVec 32 := 1280#32
  let v16 : BitVec 32 := Scalar.muli v15 c1280_i32
  let c128_i32_511 : BitVec 32 := 128#32
  let v1499 : BitVec 32 := Scalar.addi v16 c128_i32_511
  v1499
def k0_mult54 (i : grid0.Coords) : BitVec 32 :=
  let arg0 : BitVec 32 := BitVec.ofNat 32 (i 0).val
  let c125_i32_7 : BitVec 32 := 125#32
  let v15 : BitVec 32 := Scalar.subi arg0 c125_i32_7
  let c1280_i32 : BitVec 32 := 1280#32
  let v16 : BitVec 32 := Scalar.muli v15 c1280_i32
  let c256_i32_520 : BitVec 32 := 256#32
  let v1527 : BitVec 32 := Scalar.addi v16 c256_i32_520
  v1527
def k0_mult55 (i : grid0.Coords) : BitVec 32 :=
  let arg0 : BitVec 32 := BitVec.ofNat 32 (i 0).val
  let c125_i32_7 : BitVec 32 := 125#32
  let v15 : BitVec 32 := Scalar.subi arg0 c125_i32_7
  let c1280_i32 : BitVec 32 := 1280#32
  let v16 : BitVec 32 := Scalar.muli v15 c1280_i32
  let c384_i32_529 : BitVec 32 := 384#32
  let v1555 : BitVec 32 := Scalar.addi v16 c384_i32_529
  v1555
def k0_mult56 (i : grid0.Coords) : BitVec 32 :=
  let arg0 : BitVec 32 := BitVec.ofNat 32 (i 0).val
  let c125_i32_7 : BitVec 32 := 125#32
  let v15 : BitVec 32 := Scalar.subi arg0 c125_i32_7
  let c1280_i32 : BitVec 32 := 1280#32
  let v16 : BitVec 32 := Scalar.muli v15 c1280_i32
  let c512_i32_538 : BitVec 32 := 512#32
  let v1583 : BitVec 32 := Scalar.addi v16 c512_i32_538
  v1583
def k0_mult57 (i : grid0.Coords) : BitVec 32 :=
  let arg0 : BitVec 32 := BitVec.ofNat 32 (i 0).val
  let c125_i32_7 : BitVec 32 := 125#32
  let v15 : BitVec 32 := Scalar.subi arg0 c125_i32_7
  let c1280_i32 : BitVec 32 := 1280#32
  let v16 : BitVec 32 := Scalar.muli v15 c1280_i32
  let c640_i32_547 : BitVec 32 := 640#32
  let v1611 : BitVec 32 := Scalar.addi v16 c640_i32_547
  v1611
def k0_mult58 (i : grid0.Coords) : BitVec 32 :=
  let arg0 : BitVec 32 := BitVec.ofNat 32 (i 0).val
  let c125_i32_7 : BitVec 32 := 125#32
  let v15 : BitVec 32 := Scalar.subi arg0 c125_i32_7
  let c1280_i32 : BitVec 32 := 1280#32
  let v16 : BitVec 32 := Scalar.muli v15 c1280_i32
  let c768_i32_556 : BitVec 32 := 768#32
  let v1639 : BitVec 32 := Scalar.addi v16 c768_i32_556
  v1639
def k0_mult59 (i : grid0.Coords) : BitVec 32 :=
  let arg0 : BitVec 32 := BitVec.ofNat 32 (i 0).val
  let c125_i32_7 : BitVec 32 := 125#32
  let v15 : BitVec 32 := Scalar.subi arg0 c125_i32_7
  let c1280_i32 : BitVec 32 := 1280#32
  let v16 : BitVec 32 := Scalar.muli v15 c1280_i32
  let c896_i32_565 : BitVec 32 := 896#32
  let v1667 : BitVec 32 := Scalar.addi v16 c896_i32_565
  v1667
def k0_mult60 (i : grid0.Coords) : BitVec 32 :=
  let arg0 : BitVec 32 := BitVec.ofNat 32 (i 0).val
  let c125_i32_7 : BitVec 32 := 125#32
  let v15 : BitVec 32 := Scalar.subi arg0 c125_i32_7
  let c1280_i32 : BitVec 32 := 1280#32
  let v16 : BitVec 32 := Scalar.muli v15 c1280_i32
  let c1024_i32_574 : BitVec 32 := 1024#32
  let v1695 : BitVec 32 := Scalar.addi v16 c1024_i32_574
  v1695
def k0_mult61 (i : grid0.Coords) : BitVec 32 :=
  let arg0 : BitVec 32 := BitVec.ofNat 32 (i 0).val
  let c125_i32_7 : BitVec 32 := 125#32
  let v15 : BitVec 32 := Scalar.subi arg0 c125_i32_7
  let c1280_i32 : BitVec 32 := 1280#32
  let v16 : BitVec 32 := Scalar.muli v15 c1280_i32
  let c1152_i32_583 : BitVec 32 := 1152#32
  let v1723 : BitVec 32 := Scalar.addi v16 c1152_i32_583
  v1723
def k0_mult62 (i : grid0.Coords) : BitVec 32 :=
  let arg0 : BitVec 32 := BitVec.ofNat 32 (i 0).val
  let c125_i32_7 : BitVec 32 := 125#32
  let v15 : BitVec 32 := Scalar.subi arg0 c125_i32_7
  let c1280_i32 : BitVec 32 := 1280#32
  let v16 : BitVec 32 := Scalar.muli v15 c1280_i32
  let c0_i32_603 : BitVec 32 := 0#32
  let v1761 : BitVec 32 := Scalar.addi v16 c0_i32_603
  v1761
def k0_off8 (i : grid0.Coords) (c0_i32_603 : BitVec 32) : Fin 2 → Nat :=
  let c192_604 : Index := 192#32
  let arg0 : BitVec 32 := BitVec.ofNat 32 (i 0).val
  let c125_i32_7 : BitVec 32 := 125#32
  let v15 : BitVec 32 := Scalar.subi arg0 c125_i32_7
  let c1280_i32 : BitVec 32 := 1280#32
  let v16 : BitVec 32 := Scalar.muli v15 c1280_i32
  let v1761 : BitVec 32 := Scalar.addi v16 c0_i32_603
  let v1762 : BitVec 32 := v1761
  let v1763 : Index := Scalar.indexCast v1762
  ![192, v1763.toNat]
def k0_mult63 (i : grid0.Coords) : BitVec 32 :=
  let arg0 : BitVec 32 := BitVec.ofNat 32 (i 0).val
  let c125_i32_7 : BitVec 32 := 125#32
  let v15 : BitVec 32 := Scalar.subi arg0 c125_i32_7
  let c1280_i32 : BitVec 32 := 1280#32
  let v16 : BitVec 32 := Scalar.muli v15 c1280_i32
  let c128_i32_612 : BitVec 32 := 128#32
  let v1789 : BitVec 32 := Scalar.addi v16 c128_i32_612
  v1789
def k0_mult64 (i : grid0.Coords) : BitVec 32 :=
  let arg0 : BitVec 32 := BitVec.ofNat 32 (i 0).val
  let c125_i32_7 : BitVec 32 := 125#32
  let v15 : BitVec 32 := Scalar.subi arg0 c125_i32_7
  let c1280_i32 : BitVec 32 := 1280#32
  let v16 : BitVec 32 := Scalar.muli v15 c1280_i32
  let c256_i32_621 : BitVec 32 := 256#32
  let v1817 : BitVec 32 := Scalar.addi v16 c256_i32_621
  v1817
def k0_mult65 (i : grid0.Coords) : BitVec 32 :=
  let arg0 : BitVec 32 := BitVec.ofNat 32 (i 0).val
  let c125_i32_7 : BitVec 32 := 125#32
  let v15 : BitVec 32 := Scalar.subi arg0 c125_i32_7
  let c1280_i32 : BitVec 32 := 1280#32
  let v16 : BitVec 32 := Scalar.muli v15 c1280_i32
  let c384_i32_630 : BitVec 32 := 384#32
  let v1845 : BitVec 32 := Scalar.addi v16 c384_i32_630
  v1845
def k0_mult66 (i : grid0.Coords) : BitVec 32 :=
  let arg0 : BitVec 32 := BitVec.ofNat 32 (i 0).val
  let c125_i32_7 : BitVec 32 := 125#32
  let v15 : BitVec 32 := Scalar.subi arg0 c125_i32_7
  let c1280_i32 : BitVec 32 := 1280#32
  let v16 : BitVec 32 := Scalar.muli v15 c1280_i32
  let c512_i32_639 : BitVec 32 := 512#32
  let v1873 : BitVec 32 := Scalar.addi v16 c512_i32_639
  v1873
def k0_mult67 (i : grid0.Coords) : BitVec 32 :=
  let arg0 : BitVec 32 := BitVec.ofNat 32 (i 0).val
  let c125_i32_7 : BitVec 32 := 125#32
  let v15 : BitVec 32 := Scalar.subi arg0 c125_i32_7
  let c1280_i32 : BitVec 32 := 1280#32
  let v16 : BitVec 32 := Scalar.muli v15 c1280_i32
  let c640_i32_648 : BitVec 32 := 640#32
  let v1901 : BitVec 32 := Scalar.addi v16 c640_i32_648
  v1901
def k0_mult68 (i : grid0.Coords) : BitVec 32 :=
  let arg0 : BitVec 32 := BitVec.ofNat 32 (i 0).val
  let c125_i32_7 : BitVec 32 := 125#32
  let v15 : BitVec 32 := Scalar.subi arg0 c125_i32_7
  let c1280_i32 : BitVec 32 := 1280#32
  let v16 : BitVec 32 := Scalar.muli v15 c1280_i32
  let c768_i32_657 : BitVec 32 := 768#32
  let v1929 : BitVec 32 := Scalar.addi v16 c768_i32_657
  v1929
def k0_mult69 (i : grid0.Coords) : BitVec 32 :=
  let arg0 : BitVec 32 := BitVec.ofNat 32 (i 0).val
  let c125_i32_7 : BitVec 32 := 125#32
  let v15 : BitVec 32 := Scalar.subi arg0 c125_i32_7
  let c1280_i32 : BitVec 32 := 1280#32
  let v16 : BitVec 32 := Scalar.muli v15 c1280_i32
  let c896_i32_666 : BitVec 32 := 896#32
  let v1957 : BitVec 32 := Scalar.addi v16 c896_i32_666
  v1957
def k0_mult70 (i : grid0.Coords) : BitVec 32 :=
  let arg0 : BitVec 32 := BitVec.ofNat 32 (i 0).val
  let c125_i32_7 : BitVec 32 := 125#32
  let v15 : BitVec 32 := Scalar.subi arg0 c125_i32_7
  let c1280_i32 : BitVec 32 := 1280#32
  let v16 : BitVec 32 := Scalar.muli v15 c1280_i32
  let c1024_i32_675 : BitVec 32 := 1024#32
  let v1985 : BitVec 32 := Scalar.addi v16 c1024_i32_675
  v1985
def k0_mult71 (i : grid0.Coords) : BitVec 32 :=
  let arg0 : BitVec 32 := BitVec.ofNat 32 (i 0).val
  let c125_i32_7 : BitVec 32 := 125#32
  let v15 : BitVec 32 := Scalar.subi arg0 c125_i32_7
  let c1280_i32 : BitVec 32 := 1280#32
  let v16 : BitVec 32 := Scalar.muli v15 c1280_i32
  let c1152_i32_684 : BitVec 32 := 1152#32
  let v2013 : BitVec 32 := Scalar.addi v16 c1152_i32_684
  v2013
def k0_mult72 (i : grid0.Coords) : BitVec 32 :=
  let arg0 : BitVec 32 := BitVec.ofNat 32 (i 0).val
  let c125_i32_7 : BitVec 32 := 125#32
  let v15 : BitVec 32 := Scalar.subi arg0 c125_i32_7
  let c1280_i32 : BitVec 32 := 1280#32
  let v16 : BitVec 32 := Scalar.muli v15 c1280_i32
  let c0_i32_704 : BitVec 32 := 0#32
  let v2051 : BitVec 32 := Scalar.addi v16 c0_i32_704
  v2051
def k0_off9 (i : grid0.Coords) (c0_i32_704 : BitVec 32) : Fin 2 → Nat :=
  let c224_705 : Index := 224#32
  let arg0 : BitVec 32 := BitVec.ofNat 32 (i 0).val
  let c125_i32_7 : BitVec 32 := 125#32
  let v15 : BitVec 32 := Scalar.subi arg0 c125_i32_7
  let c1280_i32 : BitVec 32 := 1280#32
  let v16 : BitVec 32 := Scalar.muli v15 c1280_i32
  let v2051 : BitVec 32 := Scalar.addi v16 c0_i32_704
  let v2052 : BitVec 32 := v2051
  let v2053 : Index := Scalar.indexCast v2052
  ![224, v2053.toNat]
def k0_mult73 (i : grid0.Coords) : BitVec 32 :=
  let arg0 : BitVec 32 := BitVec.ofNat 32 (i 0).val
  let c125_i32_7 : BitVec 32 := 125#32
  let v15 : BitVec 32 := Scalar.subi arg0 c125_i32_7
  let c1280_i32 : BitVec 32 := 1280#32
  let v16 : BitVec 32 := Scalar.muli v15 c1280_i32
  let c128_i32_713 : BitVec 32 := 128#32
  let v2079 : BitVec 32 := Scalar.addi v16 c128_i32_713
  v2079
def k0_mult74 (i : grid0.Coords) : BitVec 32 :=
  let arg0 : BitVec 32 := BitVec.ofNat 32 (i 0).val
  let c125_i32_7 : BitVec 32 := 125#32
  let v15 : BitVec 32 := Scalar.subi arg0 c125_i32_7
  let c1280_i32 : BitVec 32 := 1280#32
  let v16 : BitVec 32 := Scalar.muli v15 c1280_i32
  let c256_i32_722 : BitVec 32 := 256#32
  let v2107 : BitVec 32 := Scalar.addi v16 c256_i32_722
  v2107
def k0_mult75 (i : grid0.Coords) : BitVec 32 :=
  let arg0 : BitVec 32 := BitVec.ofNat 32 (i 0).val
  let c125_i32_7 : BitVec 32 := 125#32
  let v15 : BitVec 32 := Scalar.subi arg0 c125_i32_7
  let c1280_i32 : BitVec 32 := 1280#32
  let v16 : BitVec 32 := Scalar.muli v15 c1280_i32
  let c384_i32_731 : BitVec 32 := 384#32
  let v2135 : BitVec 32 := Scalar.addi v16 c384_i32_731
  v2135
def k0_mult76 (i : grid0.Coords) : BitVec 32 :=
  let arg0 : BitVec 32 := BitVec.ofNat 32 (i 0).val
  let c125_i32_7 : BitVec 32 := 125#32
  let v15 : BitVec 32 := Scalar.subi arg0 c125_i32_7
  let c1280_i32 : BitVec 32 := 1280#32
  let v16 : BitVec 32 := Scalar.muli v15 c1280_i32
  let c512_i32_740 : BitVec 32 := 512#32
  let v2163 : BitVec 32 := Scalar.addi v16 c512_i32_740
  v2163
def k0_mult77 (i : grid0.Coords) : BitVec 32 :=
  let arg0 : BitVec 32 := BitVec.ofNat 32 (i 0).val
  let c125_i32_7 : BitVec 32 := 125#32
  let v15 : BitVec 32 := Scalar.subi arg0 c125_i32_7
  let c1280_i32 : BitVec 32 := 1280#32
  let v16 : BitVec 32 := Scalar.muli v15 c1280_i32
  let c640_i32_749 : BitVec 32 := 640#32
  let v2191 : BitVec 32 := Scalar.addi v16 c640_i32_749
  v2191
def k0_mult78 (i : grid0.Coords) : BitVec 32 :=
  let arg0 : BitVec 32 := BitVec.ofNat 32 (i 0).val
  let c125_i32_7 : BitVec 32 := 125#32
  let v15 : BitVec 32 := Scalar.subi arg0 c125_i32_7
  let c1280_i32 : BitVec 32 := 1280#32
  let v16 : BitVec 32 := Scalar.muli v15 c1280_i32
  let c768_i32_758 : BitVec 32 := 768#32
  let v2219 : BitVec 32 := Scalar.addi v16 c768_i32_758
  v2219
def k0_mult79 (i : grid0.Coords) : BitVec 32 :=
  let arg0 : BitVec 32 := BitVec.ofNat 32 (i 0).val
  let c125_i32_7 : BitVec 32 := 125#32
  let v15 : BitVec 32 := Scalar.subi arg0 c125_i32_7
  let c1280_i32 : BitVec 32 := 1280#32
  let v16 : BitVec 32 := Scalar.muli v15 c1280_i32
  let c896_i32_767 : BitVec 32 := 896#32
  let v2247 : BitVec 32 := Scalar.addi v16 c896_i32_767
  v2247
def k0_mult80 (i : grid0.Coords) : BitVec 32 :=
  let arg0 : BitVec 32 := BitVec.ofNat 32 (i 0).val
  let c125_i32_7 : BitVec 32 := 125#32
  let v15 : BitVec 32 := Scalar.subi arg0 c125_i32_7
  let c1280_i32 : BitVec 32 := 1280#32
  let v16 : BitVec 32 := Scalar.muli v15 c1280_i32
  let c1024_i32_776 : BitVec 32 := 1024#32
  let v2275 : BitVec 32 := Scalar.addi v16 c1024_i32_776
  v2275
def k0_mult81 (i : grid0.Coords) : BitVec 32 :=
  let arg0 : BitVec 32 := BitVec.ofNat 32 (i 0).val
  let c125_i32_7 : BitVec 32 := 125#32
  let v15 : BitVec 32 := Scalar.subi arg0 c125_i32_7
  let c1280_i32 : BitVec 32 := 1280#32
  let v16 : BitVec 32 := Scalar.muli v15 c1280_i32
  let c1152_i32_785 : BitVec 32 := 1152#32
  let v2303 : BitVec 32 := Scalar.addi v16 c1152_i32_785
  v2303
def k0_cond3 (i : grid0.Coords) : BitVec 1 :=
  let arg0 : BitVec 32 := BitVec.ofNat 32 (i 0).val
  let c125_i32_2 : BitVec 32 := 125#32
  let v6 : BitVec 1 := Scalar.cmpi .eq arg0 c125_i32_2
  let v7 : BitVec 32 := Scalar.extui v6
  let c0_i32_3 : BitVec 32 := 0#32
  let v8 : BitVec 1 := Scalar.cmpi .ne v7 c0_i32_3
  v8

def k0_cond5 (i : grid0.Coords) : BitVec 1 :=
  let arg0 : BitVec 32 := BitVec.ofNat 32 (i 0).val
  let c149_i32 : BitVec 32 := 149#32
  let v12 : BitVec 1 := Scalar.cmpi .eq arg0 c149_i32
  let v13 : BitVec 32 := Scalar.extui v12
  let c0_i32_6 : BitVec 32 := 0#32
  let v14 : BitVec 1 := Scalar.cmpi .ne v13 c0_i32_6
  v14

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c124_i32 : BitVec 32 := 124#32
  let v0 : BitVec 32 := Scalar.minsi arg0 c124_i32
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c124_i32 : BitVec 32 := 124#32
  let v0 : BitVec 32 := Scalar.minsi arg0 c124_i32
  let c0_i32 : BitVec 32 := 0#32
  let c0_i32_0 : BitVec 32 := 0#32
  ![v0.toNat, c0_i32.toNat]

def cc0_transform_6 (i : grid0.Coords) : Fin 2 → Nat :=
  let arg0 : BitVec 32 := BitVec.ofNat 32 (i 0).val
  let c125_i32 : BitVec 32 := 125#32
  let v0 : BitVec 32 := Scalar.subi arg0 c125_i32
  let c0_i32 : BitVec 32 := 0#32
  let v1 : BitVec 32 := Scalar.maxsi v0 c0_i32
  let c0_i32_0 : BitVec 32 := 0#32
  let c0_i32_1 : BitVec 32 := 0#32
  ![c0_i32_0.toNat, v1.toNat]

def cc0_transform_7 (i : grid0.Coords) : Fin 2 → Nat :=
  let arg0 : BitVec 32 := BitVec.ofNat 32 (i 0).val
  let c125_i32 : BitVec 32 := 125#32
  let v0 : BitVec 32 := Scalar.subi arg0 c125_i32
  let c0_i32 : BitVec 32 := 0#32
  let v1 : BitVec 32 := Scalar.maxsi v0 c0_i32
  let c0_i32_0 : BitVec 32 := 0#32
  let c0_i32_1 : BitVec 32 := 0#32
  ![c0_i32_0.toNat, v1.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S256x6144 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S256x6144 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .smem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x6144 .i8 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x768 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1280 .fp8e5m2 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1280 .fp8e5m2 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S2x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S2x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S2x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S2x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== ReferenceIdeal.lean ====
abbrev S2x128x12288 : Shape := ⟨3, ![2, 128, 12288]⟩
abbrev S2x128 : Shape := ⟨2, ![2, 128]⟩
abbrev S32000x6144 : Shape := ⟨2, ![32000, 6144]⟩
abbrev S32000x768 : Shape := ⟨2, ![32000, 768]⟩
abbrev S1 : Shape := ⟨1, ![1]⟩
abbrev S256x12288 : Shape := ⟨2, ![256, 12288]⟩
abbrev S256x6144 : Shape := ⟨2, ![256, 6144]⟩
abbrev S256x1 : Shape := ⟨2, ![256, 1]⟩
abbrev S1x1 : Shape := ⟨2, ![1, 1]⟩
abbrev S_ : Shape := ⟨0, ![]⟩
abbrev S256x32000 : Shape := ⟨2, ![256, 32000]⟩
abbrev S32000x768x8 : Shape := ⟨3, ![32000, 768, 8]⟩
abbrev S32000x768x1 : Shape := ⟨3, ![32000, 768, 1]⟩
abbrev S256 : Shape := ⟨1, ![256]⟩

abbrev nBuf : Space → Nat
  | .hbm => 121
  | .vmem => 13
  | .smem => 0
  | _ => 0

abbrev bufTy : (tb : Table) → Fin (tcTables nBuf tb) → BufTy
  | .hbm, ⟨0, _⟩ => ⟨S2x128x12288, .fp8e4m3⟩
  | .hbm, ⟨1, _⟩ => ⟨S2x128, .f32⟩
  | .hbm, ⟨2, _⟩ => ⟨S32000x6144, .i8⟩
  | .hbm, ⟨3, _⟩ => ⟨S32000x768, .fp8e4m3⟩
  | .hbm, ⟨4, _⟩ => ⟨S1, .f32⟩
  | .hbm, ⟨5, _⟩ => ⟨S256x12288, .fp8e4m3⟩
  | .hbm, ⟨6, _⟩ => ⟨S32000x6144, .i32⟩
  | .hbm, ⟨7, _⟩ => ⟨S256x6144, .fp8e4m3⟩
  | .hbm, ⟨8, _⟩ => ⟨S256x6144, .fp8e4m3⟩
  | .hbm, ⟨9, _⟩ => ⟨S256x1, .f32⟩
  | .hbm, ⟨10, _⟩ => ⟨S1x1, .f32⟩
  | .hbm, ⟨11, _⟩ => ⟨S_, .i32⟩
  | .hbm, ⟨12, _⟩ => ⟨S32000x6144, .i32⟩
  | .hbm, ⟨13, _⟩ => ⟨S32000x6144, .i32⟩
  | .hbm, ⟨14, _⟩ => ⟨S_, .i32⟩
  | .hbm, ⟨15, _⟩ => ⟨S32000x6144, .i32⟩
  | .hbm, ⟨16, _⟩ => ⟨S32000x6144, .i32⟩
  | .hbm, ⟨17, _⟩ => ⟨S_, .i32⟩
  | .hbm, ⟨18, _⟩ => ⟨S32000x6144, .i32⟩
  | .hbm, ⟨19, _⟩ => ⟨S32000x6144, .i1⟩
  | .hbm, ⟨20, _⟩ => ⟨S_, .i32⟩
  | .hbm, ⟨21, _⟩ => ⟨S32000x6144, .i32⟩
  | .hbm, ⟨22, _⟩ => ⟨S32000x6144, .i32⟩
  | .hbm, ⟨23, _⟩ => ⟨S_, .i32⟩
  | .hbm, ⟨24, _⟩ => ⟨S32000x6144, .i32⟩
  | .hbm, ⟨25, _⟩ => ⟨S32000x6144, .i1⟩
  | .hbm, ⟨26, _⟩ => ⟨S_, .i32⟩
  | .hbm, ⟨27, _⟩ => ⟨S32000x6144, .i32⟩
  | .hbm, ⟨28, _⟩ => ⟨S32000x6144, .i32⟩
  | .hbm, ⟨29, _⟩ => ⟨S_, .i32⟩
  | .hbm, ⟨30, _⟩ => ⟨S32000x6144, .i32⟩
  | .hbm, ⟨31, _⟩ => ⟨S32000x6144, .i1⟩
  | .hbm, ⟨32, _⟩ => ⟨S_, .i32⟩
  | .hbm, ⟨33, _⟩ => ⟨S32000x6144, .i32⟩
  | .hbm, ⟨34, _⟩ => ⟨S32000x6144, .i32⟩
  | .hbm, ⟨35, _⟩ => ⟨S_, .i32⟩
  | .hbm, ⟨36, _⟩ => ⟨S32000x6144, .i32⟩
  | .hbm, ⟨37, _⟩ => ⟨S32000x6144, .i1⟩
  | .hbm, ⟨38, _⟩ => ⟨S_, .bf16⟩
  | .hbm, ⟨39, _⟩ => ⟨S_, .bf16⟩
  | .hbm, ⟨40, _⟩ => ⟨S32000x6144, .bf16⟩
  | .hbm, ⟨41, _⟩ => ⟨S32000x6144, .bf16⟩
  | .hbm, ⟨42, _⟩ => ⟨S32000x6144, .bf16⟩
  | .hbm, ⟨43, _⟩ => ⟨S_, .bf16⟩
  | .hbm, ⟨44, _⟩ => ⟨S_, .bf16⟩
  | .hbm, ⟨45, _⟩ => ⟨S32000x6144, .bf16⟩
  | .hbm, ⟨46, _⟩ => ⟨S32000x6144, .bf16⟩
  | .hbm, ⟨47, _⟩ => ⟨S32000x6144, .bf16⟩
  | .hbm, ⟨48, _⟩ => ⟨S32000x6144, .bf16⟩
  | .hbm, ⟨49, _⟩ => ⟨S_, .bf16⟩
  | .hbm, ⟨50, _⟩ => ⟨S_, .bf16⟩
  | .hbm, ⟨51, _⟩ => ⟨S32000x6144, .bf16⟩
  | .hbm, ⟨52, _⟩ => ⟨S32000x6144, .bf16⟩
  | .hbm, ⟨53, _⟩ => ⟨S32000x6144, .bf16⟩
  | .hbm, ⟨54, _⟩ => ⟨S_, .bf16⟩
  | .hbm, ⟨55, _⟩ => ⟨S_, .bf16⟩
  | .hbm, ⟨56, _⟩ => ⟨S32000x6144, .bf16⟩
  | .hbm, ⟨57, _⟩ => ⟨S32000x6144, .bf16⟩
  | .hbm, ⟨58, _⟩ => ⟨S32000x6144, .bf16⟩
  | .hbm, ⟨59, _⟩ => ⟨S32000x6144, .bf16⟩
  | .hbm, ⟨60, _⟩ => ⟨S32000x6144, .bf16⟩
  | .hbm, ⟨61, _⟩ => ⟨S32000x6144, .bf16⟩
  | .hbm, ⟨62, _⟩ => ⟨S32000x6144, .bf16⟩
  | .hbm, ⟨63, _⟩ => ⟨S_, .i32⟩
  | .hbm, ⟨64, _⟩ => ⟨S32000x6144, .i32⟩
  | .hbm, ⟨65, _⟩ => ⟨S32000x6144, .i32⟩
  | .hbm, ⟨66, _⟩ => ⟨S_, .i32⟩
  | .hbm, ⟨67, _⟩ => ⟨S32000x6144, .i32⟩
  | .hbm, ⟨68, _⟩ => ⟨S32000x6144, .i32⟩
  | .hbm, ⟨69, _⟩ => ⟨S_, .i32⟩
  | .hbm, ⟨70, _⟩ => ⟨S32000x6144, .i32⟩
  | .hbm, ⟨71, _⟩ => ⟨S32000x6144, .i1⟩
  | .hbm, ⟨72, _⟩ => ⟨S_, .i32⟩
  | .hbm, ⟨73, _⟩ => ⟨S32000x6144, .i32⟩
  | .hbm, ⟨74, _⟩ => ⟨S32000x6144, .i32⟩
  | .hbm, ⟨75, _⟩ => ⟨S_, .i32⟩
  | .hbm, ⟨76, _⟩ => ⟨S32000x6144, .i32⟩
  | .hbm, ⟨77, _⟩ => ⟨S32000x6144, .i1⟩
  | .hbm, ⟨78, _⟩ => ⟨S_, .i32⟩
  | .hbm, ⟨79, _⟩ => ⟨S32000x6144, .i32⟩
  | .hbm, ⟨80, _⟩ => ⟨S32000x6144, .i32⟩
  | .hbm, ⟨81, _⟩ => ⟨S_, .i32⟩
  | .hbm, ⟨82, _⟩ => ⟨S32000x6144, .i32⟩
  | .hbm, ⟨83, _⟩ => ⟨S32000x6144, .i1⟩
  | .hbm, ⟨84, _⟩ => ⟨S_, .i32⟩
  | .hbm, ⟨85, _⟩ => ⟨S32000x6144, .i32⟩
  | .hbm, ⟨86, _⟩ => ⟨S32000x6144, .i32⟩
  | .hbm, ⟨87, _⟩ => ⟨S_, .i32⟩
  | .hbm, ⟨88, _⟩ => ⟨S32000x6144, .i32⟩
  | .hbm, ⟨89, _⟩ => ⟨S32000x6144, .i1⟩
  | .hbm, ⟨90, _⟩ => ⟨S_, .bf16⟩
  | .hbm, ⟨91, _⟩ => ⟨S_, .bf16⟩
  | .hbm, ⟨92, _⟩ => ⟨S32000x6144, .bf16⟩
  | .hbm, ⟨93, _⟩ => ⟨S32000x6144, .bf16⟩
  | .hbm, ⟨94, _⟩ => ⟨S32000x6144, .bf16⟩
  | .hbm, ⟨95, _⟩ => ⟨S_, .bf16⟩
  | .hbm, ⟨96, _⟩ => ⟨S_, .bf16⟩
  | .hbm, ⟨97, _⟩ => ⟨S32000x6144, .bf16⟩
  | .hbm, ⟨98, _⟩ => ⟨S32000x6144, .bf16⟩
  | .hbm, ⟨99, _⟩ => ⟨S32000x6144, .bf16⟩
  | .hbm, ⟨100, _⟩ => ⟨S32000x6144, .bf16⟩
  | .hbm, ⟨101, _⟩ => ⟨S_, .bf16⟩
  | .hbm, ⟨102, _⟩ => ⟨S_, .bf16⟩
  | .hbm, ⟨103, _⟩ => ⟨S32000x6144, .bf16⟩
  | .hbm, ⟨104, _⟩ => ⟨S32000x6144, .bf16⟩
  | .hbm, ⟨105, _⟩ => ⟨S32000x6144, .bf16⟩
  | .hbm, ⟨106, _⟩ => ⟨S_, .bf16⟩
  | .hbm, ⟨107, _⟩ => ⟨S_, .bf16⟩
  | .hbm, ⟨108, _⟩ => ⟨S32000x6144, .bf16⟩
  | .hbm, ⟨109, _⟩ => ⟨S32000x6144, .bf16⟩
  | .hbm, ⟨110, _⟩ => ⟨S32000x6144, .bf16⟩
  | .hbm, ⟨111, _⟩ => ⟨S32000x6144, .bf16⟩
  | .hbm, ⟨112, _⟩ => ⟨S32000x6144, .bf16⟩
  | .hbm, ⟨113, _⟩ => ⟨S32000x6144, .bf16⟩
  | .hbm, ⟨114, _⟩ => ⟨S32000x6144, .bf16⟩
  | .hbm, ⟨115, _⟩ => ⟨S256x32000, .fp8e5m2⟩
  | .hbm, ⟨116, _⟩ => ⟨S2x128, .f32⟩
  | .hbm, ⟨117, _⟩ => ⟨S2x128, .f32⟩
  | .hbm, ⟨118, _⟩ => ⟨S256x32000, .fp8e5m2⟩
  | .hbm, ⟨119, _⟩ => ⟨S2x128, .f32⟩
  | .hbm, ⟨120, _⟩ => ⟨S2x128, .f32⟩
  | .local _ .vmem, ⟨0, _⟩ => ⟨S256x6144, .fp8e4m3⟩
  | .local _ .vmem, ⟨1, _⟩ => ⟨S256x6144, .fp8e4m3⟩
  | .local _ .vmem, ⟨2, _⟩ => ⟨S256x1, .f32⟩
  | .local _ .vmem, ⟨3, _⟩ => ⟨S1x1, .f32⟩
  | .local _ .vmem, ⟨4, _⟩ => ⟨S32000x6144, .bf16⟩
  | .local _ .vmem, ⟨5, _⟩ => ⟨S32000x6144, .bf16⟩
  | .local _ .vmem, ⟨6, _⟩ => ⟨S32000x768, .fp8e4m3⟩
  | .local _ .vmem, ⟨7, _⟩ => ⟨S256x32000, .fp8e5m2⟩
  | .local _ .vmem, ⟨8, _⟩ => ⟨S2x128, .f32⟩
  | .local _ .vmem, ⟨9, _⟩ => ⟨S2x128, .f32⟩
  | .local _ .vmem, ⟨10, _⟩ => ⟨S256x32000, .fp8e5m2⟩
  | .local _ .vmem, ⟨11, _⟩ => ⟨S2x128, .f32⟩
  | .local _ .vmem, ⟨12, _⟩ => ⟨S2x128, .f32⟩
  | _, _ => ⟨S2x128x12288, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_c : Ref sig .tc := ⟨.hbm, 11, rfl⟩
abbrev main_v6 : Ref sig .tc := ⟨.hbm, 12, rfl⟩
abbrev main_v7 : Ref sig .tc := ⟨.hbm, 13, rfl⟩
abbrev main_c_0 : Ref sig .tc := ⟨.hbm, 14, rfl⟩
abbrev main_v8 : Ref sig .tc := ⟨.hbm, 15, rfl⟩
abbrev main_v9 : Ref sig .tc := ⟨.hbm, 16, rfl⟩
abbrev main_c_1 : Ref sig .tc := ⟨.hbm, 17, rfl⟩
abbrev main_v10 : Ref sig .tc := ⟨.hbm, 18, rfl⟩
abbrev main_v11 : Ref sig .tc := ⟨.hbm, 19, rfl⟩
abbrev main_c_2 : Ref sig .tc := ⟨.hbm, 20, rfl⟩
abbrev main_v12 : Ref sig .tc := ⟨.hbm, 21, rfl⟩
abbrev main_v13 : Ref sig .tc := ⟨.hbm, 22, rfl⟩
abbrev main_c_3 : Ref sig .tc := ⟨.hbm, 23, rfl⟩
abbrev main_v14 : Ref sig .tc := ⟨.hbm, 24, rfl⟩
abbrev main_v15 : Ref sig .tc := ⟨.hbm, 25, rfl⟩
abbrev main_c_4 : Ref sig .tc := ⟨.hbm, 26, rfl⟩
abbrev main_v16 : Ref sig .tc := ⟨.hbm, 27, rfl⟩
abbrev main_v17 : Ref sig .tc := ⟨.hbm, 28, rfl⟩
abbrev main_c_5 : Ref sig .tc := ⟨.hbm, 29, rfl⟩
abbrev main_v18 : Ref sig .tc := ⟨.hbm, 30, rfl⟩
abbrev main_v19 : Ref sig .tc := ⟨.hbm, 31, rfl⟩
abbrev main_c_6 : Ref sig .tc := ⟨.hbm, 32, rfl⟩
abbrev main_v20 : Ref sig .tc := ⟨.hbm, 33, rfl⟩
abbrev main_v21 : Ref sig .tc := ⟨.hbm, 34, rfl⟩
abbrev main_c_7 : Ref sig .tc := ⟨.hbm, 35, rfl⟩
abbrev main_v22 : Ref sig .tc := ⟨.hbm, 36, rfl⟩
abbrev main_v23 : Ref sig .tc := ⟨.hbm, 37, rfl⟩
abbrev main_cst : Ref sig .tc := ⟨.hbm, 38, rfl⟩
abbrev main_cst_8 : Ref sig .tc := ⟨.hbm, 39, rfl⟩
abbrev main_call0_v0 : Ref sig .tc := ⟨.hbm, 40, rfl⟩
abbrev main_call0_v1 : Ref sig .tc := ⟨.hbm, 41, rfl⟩
abbrev main_v24 : Ref sig .tc := ⟨.hbm, 42, rfl⟩
abbrev main_cst_9 : Ref sig .tc := ⟨.hbm, 43, rfl⟩
abbrev main_cst_10 : Ref sig .tc := ⟨.hbm, 44, rfl⟩
abbrev main_call1_v0 : Ref sig .tc := ⟨.hbm, 45, rfl⟩
abbrev main_call1_v1 : Ref sig .tc := ⟨.hbm, 46, rfl⟩
abbrev main_v25 : Ref sig .tc := ⟨.hbm, 47, rfl⟩
abbrev main_v26 : Ref sig .tc := ⟨.hbm, 48, rfl⟩
abbrev main_cst_11 : Ref sig .tc := ⟨.hbm, 49, rfl⟩
abbrev main_cst_12 : Ref sig .tc := ⟨.hbm, 50, rfl⟩
abbrev main_call3_v0 : Ref sig .tc := ⟨.hbm, 51, rfl⟩
abbrev main_call3_v1 : Ref sig .tc := ⟨.hbm, 52, rfl⟩
abbrev main_v27 : Ref sig .tc := ⟨.hbm, 53, rfl⟩
abbrev main_cst_13 : Ref sig .tc := ⟨.hbm, 54, rfl⟩
abbrev main_cst_14 : Ref sig .tc := ⟨.hbm, 55, rfl⟩
abbrev main_call4_v0 : Ref sig .tc := ⟨.hbm, 56, rfl⟩
abbrev main_call4_v1 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_c_15 : Ref sig .tc := ⟨.hbm, 63, rfl⟩
abbrev main_v33 : Ref sig .tc := ⟨.hbm, 64, rfl⟩
abbrev main_v34 : Ref sig .tc := ⟨.hbm, 65, rfl⟩
abbrev main_c_16 : Ref sig .tc := ⟨.hbm, 66, rfl⟩
abbrev main_v35 : Ref sig .tc := ⟨.hbm, 67, rfl⟩
abbrev main_v36 : Ref sig .tc := ⟨.hbm, 68, rfl⟩
abbrev main_c_17 : Ref sig .tc := ⟨.hbm, 69, rfl⟩
abbrev main_v37 : Ref sig .tc := ⟨.hbm, 70, rfl⟩
abbrev main_v38 : Ref sig .tc := ⟨.hbm, 71, rfl⟩
abbrev main_c_18 : Ref sig .tc := ⟨.hbm, 72, rfl⟩
abbrev main_v39 : Ref sig .tc := ⟨.hbm, 73, rfl⟩
abbrev main_v40 : Ref sig .tc := ⟨.hbm, 74, rfl⟩
abbrev main_c_19 : Ref sig .tc := ⟨.hbm, 75, rfl⟩
abbrev main_v41 : Ref sig .tc := ⟨.hbm, 76, rfl⟩
abbrev main_v42 : Ref sig .tc := ⟨.hbm, 77, rfl⟩
abbrev main_c_20 : Ref sig .tc := ⟨.hbm, 78, rfl⟩
abbrev main_v43 : Ref sig .tc := ⟨.hbm, 79, rfl⟩
abbrev main_v44 : Ref sig .tc := ⟨.hbm, 80, rfl⟩
abbrev main_c_21 : Ref sig .tc := ⟨.hbm, 81, rfl⟩
abbrev main_v45 : Ref sig .tc := ⟨.hbm, 82, rfl⟩
abbrev main_v46 : Ref sig .tc := ⟨.hbm, 83, rfl⟩
abbrev main_c_22 : Ref sig .tc := ⟨.hbm, 84, rfl⟩
abbrev main_v47 : Ref sig .tc := ⟨.hbm, 85, rfl⟩
abbrev main_v48 : Ref sig .tc := ⟨.hbm, 86, rfl⟩
abbrev main_c_23 : Ref sig .tc := ⟨.hbm, 87, rfl⟩
abbrev main_v49 : Ref sig .tc := ⟨.hbm, 88, rfl⟩
abbrev main_v50 : Ref sig .tc := ⟨.hbm, 89, rfl⟩
abbrev main_cst_24 : Ref sig .tc := ⟨.hbm, 90, rfl⟩
abbrev main_cst_25 : Ref sig .tc := ⟨.hbm, 91, rfl⟩
abbrev main_call8_v0 : Ref sig .tc := ⟨.hbm, 92, rfl⟩
abbrev main_call8_v1 : Ref sig .tc := ⟨.hbm, 93, rfl⟩
abbrev main_v51 : Ref sig .tc := ⟨.hbm, 94, rfl⟩
abbrev main_cst_26 : Ref sig .tc := ⟨.hbm, 95, rfl⟩
abbrev main_cst_27 : Ref sig .tc := ⟨.hbm, 96, rfl⟩
abbrev main_call9_v0 : Ref sig .tc := ⟨.hbm, 97, rfl⟩
abbrev main_call9_v1 : Ref sig .tc := ⟨.hbm, 98, rfl⟩
abbrev main_v52 : Ref sig .tc := ⟨.hbm, 99, rfl⟩
abbrev main_v53 : Ref sig .tc := ⟨.hbm, 100, rfl⟩
abbrev main_cst_28 : Ref sig .tc := ⟨.hbm, 101, rfl⟩
abbrev main_cst_29 : Ref sig .tc := ⟨.hbm, 102, rfl⟩
abbrev main_call11_v0 : Ref sig .tc := ⟨.hbm, 103, rfl⟩
abbrev main_call11_v1 : Ref sig .tc := ⟨.hbm, 104, rfl⟩
abbrev main_v54 : Ref sig .tc := ⟨.hbm, 105, rfl⟩
abbrev main_cst_30 : Ref sig .tc := ⟨.hbm, 106, rfl⟩
abbrev main_cst_31 : Ref sig .tc := ⟨.hbm, 107, rfl⟩
abbrev main_call12_v0 : Ref sig .tc := ⟨.hbm, 108, rfl⟩
abbrev main_call12_v1 : Ref sig .tc := ⟨.hbm, 109, rfl⟩
abbrev main_v55 : Ref sig .tc := ⟨.hbm, 110, rfl⟩
abbrev main_v56 : Ref sig .tc := ⟨.hbm, 111, rfl⟩
abbrev main_v57 : Ref sig .tc := ⟨.hbm, 112, rfl⟩
abbrev main_v58 : Ref sig .tc := ⟨.hbm, 113, rfl⟩
abbrev main_v59 : Ref sig .tc := ⟨.hbm, 114, rfl⟩
abbrev main_v60_0 : Ref sig .tc := ⟨.hbm, 115, rfl⟩
abbrev main_v60_1 : Ref sig .tc := ⟨.hbm, 116, rfl⟩
abbrev main_v60_2 : Ref sig .tc := ⟨.hbm, 117, rfl⟩
abbrev main_v60_3 : Ref sig .tc := ⟨.hbm, 118, rfl⟩
abbrev main_v60_4 : Ref sig .tc := ⟨.hbm, 119, rfl⟩
abbrev main_v60_5 : Ref sig .tc := ⟨.hbm, 120, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12

abbrev nD : Nat := 1
abbrev τ : Topo := Topo.v7x

variable {F : FTy → Type} [FloatOps F]

abbrev grid0 : Pipeline.Grid := .none

abbrev stage0_0 : Fin 1 → Memref sig .tc .vmem S256x6144 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x6144 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S256x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S32000x6144 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S32000x6144 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S32000x768 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S256x32000 .fp8e5m2 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S2x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S2x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S256x32000 .fp8e5m2 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S2x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S2x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
-- ==== Proof.KernelPoints.lean ====
/- The points of the grid the body tells apart, in closed form, and the buffers it is called with.

   The body asks five things of the grid index `i`: whether it is the first point, whether it is one of the 125 vocabulary
   tiles, whether it is point 125, whether it is one of the 25 output tiles, whether it is the last point. -/
module

public import proofs.«01_k».proof.Proof.Gen.Kernel.Frame
public import proofs.«01_k».proof.Proof.Gen.Kernel.Skeleton
public import Idealize.ShloMosaic.Lib.WordCmp

@[expose] public section

set_option maxRecDepth 16384

noncomputable section

namespace Cert.Kernel.Body

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The five conditions -/

/-- The body is at the first point. -/
abbrev cond0 (i : grid0.Coords) : Prop := (Scalar.cmpi .ne (Scalar.extui (Scalar.cmpi .eq (BitVec.ofNat 32 (i 0).val) 0#32)) 0#32) = 1#1
/-- The body is at a vocabulary tile. -/
abbrev cond1 (i : grid0.Coords) : Prop := k0_cond2 i = 1#1
/-- The body is at point 125. -/
abbrev cond2 (i : grid0.Coords) : Prop := k0_cond3 i = 1#1
/-- The body is at an output tile. -/
abbrev cond3 (i : grid0.Coords) : Prop := k0_cond4 i = 1#1
/-- The body is at the last point. -/
abbrev cond4 (i : grid0.Coords) : Prop := k0_cond5 i = 1#1

/-- The grid's coordinate at a point is the point. -/
theorem coord0 (t : Fin grid0.N) : (grid0.coords t 0).val = t.val := by
  have ht : t.val < 150 := Nat.lt_of_lt_of_eq t.isLt N_0
  have e : (grid0.coords t 0).val = t.val / 1 % 150 := Pipeline.Grid.coords_val t 0 (by decide) rfl
  omega

theorem lt150 (t : Fin cfg0.N) : t.val < 150 := Nat.lt_of_lt_of_eq t.isLt N_0

theorem hcond0 : ∀ t : Fin cfg0.N, cond0 (grid0.coords t) ↔ t.val = 0 :=
  (fun t => by
    have ht : t.val < 150 := Nat.lt_of_lt_of_eq t.isLt N_0
    have e0 := coord0 t
    simp only [cond0, e0]
    word_cmp
   : ∀ t : Fin grid0.N, cond0 (grid0.coords t) ↔ t.val = 0)
theorem hcond1 : ∀ t : Fin cfg0.N, cond1 (grid0.coords t) ↔ t.val < 125 :=
  (by decide +kernel : ∀ t : Fin grid0.N, cond1 (grid0.coords t) ↔ t.val < 125)
theorem hcond2 : ∀ t : Fin cfg0.N, cond2 (grid0.coords t) ↔ t.val = 125 :=
  (fun t => by
    have ht : t.val < 150 := Nat.lt_of_lt_of_eq t.isLt N_0
    have e0 := coord0 t
    simp only [cond2, k0_cond3, e0]
    word_cmp
   : ∀ t : Fin grid0.N, cond2 (grid0.coords t) ↔ t.val = 125)
theorem hcond3 : ∀ t : Fin cfg0.N, cond3 (grid0.coords t) ↔ 125 ≤ t.val :=
  (by decide +kernel : ∀ t : Fin grid0.N, cond3 (grid0.coords t) ↔ 125 ≤ t.val)
theorem hcond4 : ∀ t : Fin cfg0.N, cond4 (grid0.coords t) ↔ t.val = 149 :=
  (fun t => by
    have ht : t.val < 150 := Nat.lt_of_lt_of_eq t.isLt N_0
    have e0 := coord0 t
    simp only [cond4, k0_cond5, e0]
    word_cmp
   : ∀ t : Fin grid0.N, cond4 (grid0.coords t) ↔ t.val = 149)

/-! ## The buffers the body is called with -/

/-- Window 0's current staging buffer at a point, and that it is a whole buffer. -/
abbrev ms0 (t : Fin cfg0.N) : Memref sig .tc .vmem S256x6144 .fp8e4m3 := win0_0.stage (cfg0.slots t 0)
abbrev hs0 (t : Fin cfg0.N) : (ms0 t).IsWhole := hstage0_0 ((cfg0.slots t 0).cast nbuf0_0)
/-- Window 1's current staging buffer at a point, and that it is a whole buffer. -/
abbrev ms1 (t : Fin cfg0.N) : Memref sig .tc .vmem S256x6144 .fp8e4m3 := win0_1.stage (cfg0.slots t 1)
abbrev hs1 (t : Fin cfg0.N) : (ms1 t).IsWhole := hstage0_1 ((cfg0.slots t 1).cast nbuf0_1)
/-- Window 2's current staging buffer at a point, and that it is a whole buffer. -/
abbrev ms2 (t : Fin cfg0.N) : Memref sig .tc .vmem S256x1 .f32 := win0_2.stage (cfg0.slots t 2)
abbrev hs2 (t : Fin cfg0.N) : (ms2 t).IsWhole := hstage0_2 ((cfg0.slots t 2).cast nbuf0_2)
/-- Window 3's current staging buffer at a point, and that it is a whole buffer. -/
abbrev ms3 (t : Fin cfg0.N) : Memref sig .tc .smem S1 .f32 := win0_3.stage (cfg0.slots t 3)
abbrev hs3 (t : Fin cfg0.N) : (ms3 t).IsWhole := hstage0_3 ((cfg0.slots t 3).cast nbuf0_3)
/-- Window 4's current staging buffer at a point, and that it is a whole buffer. -/
abbrev ms4 (t : Fin cfg0.N) : Memref sig .tc .vmem S256x6144 .i8 := win0_4.stage (cfg0.slots t 4)
abbrev hs4 (t : Fin cfg0.N) : (ms4 t).IsWhole := hstage0_4 ((cfg0.slots t 4).cast nbuf0_4)
/-- Window 5's current staging buffer at a point, and that it is a whole buffer. -/
abbrev ms5 (t : Fin cfg0.N) : Memref sig .tc .vmem S256x768 .fp8e4m3 := win0_5.stage (cfg0.slots t 5)
abbrev hs5 (t : Fin cfg0.N) : (ms5 t).IsWhole := hstage0_5 ((cfg0.slots t 5).cast nbuf0_5)
/-- Window 6's current staging buffer at a point, and that it is a whole buffer. -/
abbrev ms6 (t : Fin cfg0.N) : Memref sig .tc .vmem S256x1280 .fp8e5m2 := win0_6.stage (cfg0.slots t 6)
abbrev hs6 (t : Fin cfg0.N) : (ms6 t).IsWhole := hstage0_6 ((cfg0.slots t 6).cast nbuf0_6)
/-- Window 7's current staging buffer at a point, and that it is a whole buffer. -/
abbrev ms7 (t : Fin cfg0.N) : Memref sig .tc .vmem S256x1280 .fp8e5m2 := win0_7.stage (cfg0.slots t 7)
abbrev hs7 (t : Fin cfg0.N) : (ms7 t).IsWhole := hstage0_7 ((cfg0.slots t 7).cast nbuf0_7)
/-- Window 8's current staging buffer at a point, and that it is a whole buffer. -/
abbrev ms8 (t : Fin cfg0.N) : Memref sig .tc .vmem S2x128 .f32 := win0_8.stage (cfg0.slots t 8)
abbrev hs8 (t : Fin cfg0.N) : (ms8 t).IsWhole := hstage0_8 ((cfg0.slots t 8).cast nbuf0_8)
/-- Window 9's current staging buffer at a point, and that it is a whole buffer. -/
abbrev ms9 (t : Fin cfg0.N) : Memref sig .tc .vmem S2x128 .f32 := win0_9.stage (cfg0.slots t 9)
abbrev hs9 (t : Fin cfg0.N) : (ms9 t).IsWhole := hstage0_9 ((cfg0.slots t 9).cast nbuf0_9)
/-- Window 10's current staging buffer at a point, and that it is a whole buffer. -/
abbrev ms10 (t : Fin cfg0.N) : Memref sig .tc .vmem S2x128 .f32 := win0_10.stage (cfg0.slots t 10)
abbrev hs10 (t : Fin cfg0.N) : (ms10 t).IsWhole := hstage0_10 ((cfg0.slots t 10).cast nbuf0_10)
/-- Window 11's current staging buffer at a point, and that it is a whole buffer. -/
abbrev ms11 (t : Fin cfg0.N) : Memref sig .tc .vmem S2x128 .f32 := win0_11.stage (cfg0.slots t 11)
abbrev hs11 (t : Fin cfg0.N) : (ms11 t).IsWhole := hstage0_11 ((cfg0.slots t 11).cast nbuf0_11)
/-- Scratch buffer 0. -/
abbrev sc0 : Memref sig .tc .vmem S256x32000 .f32 := Memref.whole cc0_scratch0
/-- Scratch buffer 1. -/
abbrev sc1 : Memref sig .tc .vmem S256x128 .f32 := Memref.whole cc0_scratch1
/-- Scratch buffer 2. -/
abbrev sc2 : Memref sig .tc .vmem S256x128 .f32 := Memref.whole cc0_scratch2
/-- Scratch buffer 3. -/
abbrev sc3 : Memref sig .tc .vmem S256x128 .f32 := Memref.whole cc0_scratch3
/-- Scratch buffer 4. -/
abbrev sc4 : Memref sig .tc .vmem S256x128 .f32 := Memref.whole cc0_scratch4
/-- Scratch buffer 5. -/
abbrev sc5 : Memref sig .tc .vmem S256x128 .f32 := Memref.whole cc0_scratch5
/-- Scratch buffer 6. -/
abbrev sc6 : Memref sig .tc .vmem S256x128 .f32 := Memref.whole cc0_scratch6
/-- Scratch buffer 7. -/
abbrev sc7 : Memref sig .tc .vmem S256x128 .f32 := Memref.whole cc0_scratch7

/-- The invariant a launch hands the body, spelled out: the eight scratch buffers at some contents and the generator register
    at some state. -/
theorem PhiA_eq (c : Dev nD) :
    (Pipeline.ΦA spec0 c : sProp 𝕄)
      = iprop(iprop((∃ d, owns (c : Thread nD τ) sc0 fullShare d) ∗ (∃ d, owns (c : Thread nD τ) sc1 fullShare d) ∗ (∃ d, owns (c : Thread nD τ) sc2 fullShare d) ∗ (∃ d, owns (c : Thread nD τ) sc3 fullShare d) ∗ (∃ d, owns (c : Thread nD τ) sc4 fullShare d) ∗ (∃ d, owns (c : Thread nD τ) sc5 fullShare d) ∗ (∃ d, owns (c : Thread nD τ) sc6 fullShare d) ∗ (∃ d, owns (c : Thread nD τ) sc7 fullShare d)) ∗ (∃ r, prngReg c r)) := by
  unfold Pipeline.ΦA; rw [scopedRest0_eq]; simp only [sc0, sc1, sc2, sc3, sc4, sc5, sc6, sc7, owns_whole]; try rfl

end Cert.Kernel.Body

end
-- ==== Proof.KernelRunA.lean ====
module

public import proofs.«01_k».proof.Proof.KernelPoints

@[expose] public section

set_option maxRecDepth 16384

noncomputable section

namespace Cert.Kernel.Body

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the run's proof term is long: the definition's closing pass walks all of it
set_option maxHeartbeats 8000000 in
/-- The body's run at the first point: the running sums are set up, then a vocabulary tile is folded in. On whole buffers at the contents `d1` … `d20` (six inputs, six outputs, eight scratch buffers) the
    body ends with every buffer it does not store into as it was, and each one it stores into with the listed pieces (last
    first) written over what it held. -/
noncomputable def runA (c : Dev nD) (i : grid0.Coords) (arg1 : Memref sig .tc .vmem S256x6144 .fp8e4m3) (harg1 : arg1.IsWhole) (arg2 : Memref sig .tc .vmem S256x6144 .fp8e4m3) (harg2 : arg2.IsWhole) (arg3 : Memref sig .tc .vmem S256x1 .f32) (harg3 : arg3.IsWhole) (arg4 : Memref sig .tc .smem S1 .f32) (harg4 : arg4.IsWhole) (arg5 : Memref sig .tc .vmem S256x6144 .i8) (harg5 : arg5.IsWhole) (arg6 : Memref sig .tc .vmem S256x768 .fp8e4m3) (harg6 : arg6.IsWhole) (arg7 : Memref sig .tc .vmem S256x1280 .fp8e5m2) (harg7 : arg7.IsWhole) (arg8 : Memref sig .tc .vmem S256x1280 .fp8e5m2) (harg8 : arg8.IsWhole) (arg9 : Memref sig .tc .vmem S2x128 .f32) (harg9 : arg9.IsWhole) (arg10 : Memref sig .tc .vmem S2x128 .f32) (harg10 : arg10.IsWhole) (arg11 : Memref sig .tc .vmem S2x128 .f32) (harg11 : arg11.IsWhole) (arg12 : Memref sig .tc .vmem S2x128 .f32) (harg12 : arg12.IsWhole) (arg13 : Memref sig .tc .vmem S256x32000 .f32) (harg13 : arg13.IsWhole) (arg14 : Memref sig .tc .vmem S256x128 .f32) (harg14 : arg14.IsWhole) (arg15 : Memref sig .tc .vmem S256x128 .f32) (harg15 : arg15.IsWhole) (arg16 : Memref sig .tc .vmem S256x128 .f32) (harg16 : arg16.IsWhole) (arg17 : Memref sig .tc .vmem S256x128 .f32) (harg17 : arg17.IsWhole) (arg18 : Memref sig .tc .vmem S256x128 .f32) (harg18 : arg18.IsWhole) (arg19 : Memref sig .tc .vmem S256x128 .f32) (harg19 : arg19.IsWhole) (arg20 : Memref sig .tc .vmem S256x128 .f32) (harg20 : arg20.IsWhole) (hc0 : cond0 i) (hc1 : cond1 i) (hc2 : ¬cond2 i) (hc3 : ¬cond3 i) (hc4 : ¬cond4 i)
    (d1 : Vec F S256x6144 .fp8e4m3) (d2 : Vec F S256x6144 .fp8e4m3) (d3 : Vec F S256x1 .f32) (d4 : Vec F S1 .f32) (d5 : Vec F S256x6144 .i8) (d6 : Vec F S256x768 .fp8e4m3) (d7 : Vec F S256x1280 .fp8e5m2) (d8 : Vec F S256x1280 .fp8e5m2) (d9 : Vec F S2x128 .f32) (d10 : Vec F S2x128 .f32) (d11 : Vec F S2x128 .f32) (d12 : Vec F S2x128 .f32) (d13 : Vec F S256x32000 .f32) (d14 : Vec F S256x128 .f32) (d15 : Vec F S256x128 .f32) (d16 : Vec F S256x128 .f32) (d17 : Vec F S256x128 .f32) (d18 : Vec F S256x128 .f32) (d19 : Vec F S256x128 .f32) (d20 : Vec F S256x128 .f32) :
    Σ' (L13 : List (View.Piece (Elt F) S256x32000 .f32)), Σ' (L14 : List (View.Piece (Elt F) S256x128 .f32)), Σ' (L15 : List (View.Piece (Elt F) S256x128 .f32)), { L16 : List (View.Piece (Elt F) S256x128 .f32) //
      ∀ (E : Set ℕ) (K : PUnit → sProp 𝕄),
        iprop(owns (c : Thread nD τ) arg1 fullShare d1 ∗ owns (c : Thread nD τ) arg2 fullShare d2 ∗ owns (c : Thread nD τ) arg3 fullShare d3 ∗ owns (c : Thread nD τ) arg4 fullShare d4 ∗ owns (c : Thread nD τ) arg5 fullShare d5 ∗ owns (c : Thread nD τ) arg6 fullShare d6 ∗ owns (c : Thread nD τ) arg7 fullShare d7 ∗ owns (c : Thread nD τ) arg8 fullShare d8 ∗ owns (c : Thread nD τ) arg9 fullShare d9 ∗ owns (c : Thread nD τ) arg10 fullShare d10 ∗ owns (c : Thread nD τ) arg11 fullShare d11 ∗ owns (c : Thread nD τ) arg12 fullShare d12 ∗ owns (c : Thread nD τ) arg13 fullShare d13 ∗ owns (c : Thread nD τ) arg14 fullShare d14 ∗ owns (c : Thread nD τ) arg15 fullShare d15 ∗ owns (c : Thread nD τ) arg16 fullShare d16 ∗ owns (c : Thread nD τ) arg17 fullShare d17 ∗ owns (c : Thread nD τ) arg18 fullShare d18 ∗ owns (c : Thread nD τ) arg19 fullShare d19 ∗ owns (c : Thread nD τ) arg20 fullShare d20
            ∗ (iprop(owns (c : Thread nD τ) arg1 fullShare d1 ∗ owns (c : Thread nD τ) arg2 fullShare d2 ∗ owns (c : Thread nD τ) arg3 fullShare d3 ∗ owns (c : Thread nD τ) arg4 fullShare d4 ∗ owns (c : Thread nD τ) arg5 fullShare d5 ∗ owns (c : Thread nD τ) arg6 fullShare d6 ∗ owns (c : Thread nD τ) arg7 fullShare d7 ∗ owns (c : Thread nD τ) arg8 fullShare d8 ∗ owns (c : Thread nD τ) arg9 fullShare d9 ∗ owns (c : Thread nD τ) arg10 fullShare d10 ∗ owns (c : Thread nD τ) arg11 fullShare d11 ∗ owns (c : Thread nD τ) arg12 fullShare d12 ∗ (arg13.view.loc (c : Thread nD τ) ↦[arg13.view.set]{fullShare} arg13.view.writes (Elt F) (harg13.unread d13) L13) ∗ (arg14.view.loc (c : Thread nD τ) ↦[arg14.view.set]{fullShare} arg14.view.writes (Elt F) (harg14.unread d14) L14) ∗ (arg15.view.loc (c : Thread nD τ) ↦[arg15.view.set]{fullShare} arg15.view.writes (Elt F) (harg15.unread d15) L15) ∗ (arg16.view.loc (c : Thread nD τ) ↦[arg16.view.set]{fullShare} arg16.view.writes (Elt F) (harg16.unread d16) L16) ∗ owns (c : Thread nD τ) arg17 fullShare d17 ∗ owns (c : Thread nD τ) arg18 fullShare d18 ∗ owns (c : Thread nD τ) arg19 fullShare d19 ∗ owns (c : Thread nD τ) arg20 fullShare d20) -∗ K ⟨⟩))
          ⊢ wp frame (wpE (defs₀ (F := F)) Variants.none c none) E (cc0_nvfp4_logit_store i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K } := by
  refine ⟨?_, ?_, ?_, ?_, fun E K => ?run⟩
  case run =>
    simp only [cc0_nvfp4_logit_store_eq_skeleton]; unfold cc0_nvfp4_logit_store_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton]
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14; obtain rfl := harg15.eq_unread hf15; obtain rfl := harg16.eq_unread hf16; obtain rfl := harg17.eq_unread hf17; obtain rfl := harg18.eq_unread hf18; obtain rfl := harg19.eq_unread hf19; obtain rfl := harg20.eq_unread hf20
    sl_exec (disch := first | sl_exact hc0 | sl_exact hc1 | sl_exact hc2 | sl_exact hc3 | sl_exact hc4)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H12]
    · iexists _; isplitr; · ipureintro; exact harg12.read_unread _
      iexact H12
    isplitl [H13]
    · iexact H13
    isplitl [H14]
    · iexact H14
    isplitl [H15]
    · iexact H15
    isplitl [H16]
    · iexact H16
    isplitl [H17]
    · iexists _; isplitr; · ipureintro; exact harg17.read_unread _
      iexact H17
    isplitl [H18]
    · iexists _; isplitr; · ipureintro; exact harg18.read_unread _
      iexact H18
    isplitl [H19]
    · iexists _; isplitr; · ipureintro; exact harg19.read_unread _
      iexact H19
    iexists _; isplitr; · ipureintro; exact harg20.read_unread _
    iexact H20

end Cert.Kernel.Body

end
-- ==== Proof.KernelRunB.lean ====
module

public import proofs.«01_k».proof.Proof.KernelRunA

@[expose] public section

set_option maxRecDepth 16384

noncomputable section

namespace Cert.Kernel.Body

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the run's proof term is long: the definition's closing pass walks all of it
set_option maxHeartbeats 8000000 in
/-- The body's run at points 1 to 124: a vocabulary tile is folded in. On whole buffers at the contents `d1` … `d20` (six inputs, six outputs, eight scratch buffers) the
    body ends with every buffer it does not store into as it was, and each one it stores into with the listed pieces (last
    first) written over what it held. -/
noncomputable def runB (c : Dev nD) (i : grid0.Coords) (arg1 : Memref sig .tc .vmem S256x6144 .fp8e4m3) (harg1 : arg1.IsWhole) (arg2 : Memref sig .tc .vmem S256x6144 .fp8e4m3) (harg2 : arg2.IsWhole) (arg3 : Memref sig .tc .vmem S256x1 .f32) (harg3 : arg3.IsWhole) (arg4 : Memref sig .tc .smem S1 .f32) (harg4 : arg4.IsWhole) (arg5 : Memref sig .tc .vmem S256x6144 .i8) (harg5 : arg5.IsWhole) (arg6 : Memref sig .tc .vmem S256x768 .fp8e4m3) (harg6 : arg6.IsWhole) (arg7 : Memref sig .tc .vmem S256x1280 .fp8e5m2) (harg7 : arg7.IsWhole) (arg8 : Memref sig .tc .vmem S256x1280 .fp8e5m2) (harg8 : arg8.IsWhole) (arg9 : Memref sig .tc .vmem S2x128 .f32) (harg9 : arg9.IsWhole) (arg10 : Memref sig .tc .vmem S2x128 .f32) (harg10 : arg10.IsWhole) (arg11 : Memref sig .tc .vmem S2x128 .f32) (harg11 : arg11.IsWhole) (arg12 : Memref sig .tc .vmem S2x128 .f32) (harg12 : arg12.IsWhole) (arg13 : Memref sig .tc .vmem S256x32000 .f32) (harg13 : arg13.IsWhole) (arg14 : Memref sig .tc .vmem S256x128 .f32) (harg14 : arg14.IsWhole) (arg15 : Memref sig .tc .vmem S256x128 .f32) (harg15 : arg15.IsWhole) (arg16 : Memref sig .tc .vmem S256x128 .f32) (harg16 : arg16.IsWhole) (arg17 : Memref sig .tc .vmem S256x128 .f32) (harg17 : arg17.IsWhole) (arg18 : Memref sig .tc .vmem S256x128 .f32) (harg18 : arg18.IsWhole) (arg19 : Memref sig .tc .vmem S256x128 .f32) (harg19 : arg19.IsWhole) (arg20 : Memref sig .tc .vmem S256x128 .f32) (harg20 : arg20.IsWhole) (hc0 : ¬cond0 i) (hc1 : cond1 i) (hc2 : ¬cond2 i) (hc3 : ¬cond3 i) (hc4 : ¬cond4 i)
    (d1 : Vec F S256x6144 .fp8e4m3) (d2 : Vec F S256x6144 .fp8e4m3) (d3 : Vec F S256x1 .f32) (d4 : Vec F S1 .f32) (d5 : Vec F S256x6144 .i8) (d6 : Vec F S256x768 .fp8e4m3) (d7 : Vec F S256x1280 .fp8e5m2) (d8 : Vec F S256x1280 .fp8e5m2) (d9 : Vec F S2x128 .f32) (d10 : Vec F S2x128 .f32) (d11 : Vec F S2x128 .f32) (d12 : Vec F S2x128 .f32) (d13 : Vec F S256x32000 .f32) (d14 : Vec F S256x128 .f32) (d15 : Vec F S256x128 .f32) (d16 : Vec F S256x128 .f32) (d17 : Vec F S256x128 .f32) (d18 : Vec F S256x128 .f32) (d19 : Vec F S256x128 .f32) (d20 : Vec F S256x128 .f32) :
    Σ' (L13 : List (View.Piece (Elt F) S256x32000 .f32)), Σ' (L14 : List (View.Piece (Elt F) S256x128 .f32)), Σ' (L15 : List (View.Piece (Elt F) S256x128 .f32)), { L16 : List (View.Piece (Elt F) S256x128 .f32) //
      ∀ (E : Set ℕ) (K : PUnit → sProp 𝕄),
        iprop(owns (c : Thread nD τ) arg1 fullShare d1 ∗ owns (c : Thread nD τ) arg2 fullShare d2 ∗ owns (c : Thread nD τ) arg3 fullShare d3 ∗ owns (c : Thread nD τ) arg4 fullShare d4 ∗ owns (c : Thread nD τ) arg5 fullShare d5 ∗ owns (c : Thread nD τ) arg6 fullShare d6 ∗ owns (c : Thread nD τ) arg7 fullShare d7 ∗ owns (c : Thread nD τ) arg8 fullShare d8 ∗ owns (c : Thread nD τ) arg9 fullShare d9 ∗ owns (c : Thread nD τ) arg10 fullShare d10 ∗ owns (c : Thread nD τ) arg11 fullShare d11 ∗ owns (c : Thread nD τ) arg12 fullShare d12 ∗ owns (c : Thread nD τ) arg13 fullShare d13 ∗ owns (c : Thread nD τ) arg14 fullShare d14 ∗ owns (c : Thread nD τ) arg15 fullShare d15 ∗ owns (c : Thread nD τ) arg16 fullShare d16 ∗ owns (c : Thread nD τ) arg17 fullShare d17 ∗ owns (c : Thread nD τ) arg18 fullShare d18 ∗ owns (c : Thread nD τ) arg19 fullShare d19 ∗ owns (c : Thread nD τ) arg20 fullShare d20
            ∗ (iprop(owns (c : Thread nD τ) arg1 fullShare d1 ∗ owns (c : Thread nD τ) arg2 fullShare d2 ∗ owns (c : Thread nD τ) arg3 fullShare d3 ∗ owns (c : Thread nD τ) arg4 fullShare d4 ∗ owns (c : Thread nD τ) arg5 fullShare d5 ∗ owns (c : Thread nD τ) arg6 fullShare d6 ∗ owns (c : Thread nD τ) arg7 fullShare d7 ∗ owns (c : Thread nD τ) arg8 fullShare d8 ∗ owns (c : Thread nD τ) arg9 fullShare d9 ∗ owns (c : Thread nD τ) arg10 fullShare d10 ∗ owns (c : Thread nD τ) arg11 fullShare d11 ∗ owns (c : Thread nD τ) arg12 fullShare d12 ∗ (arg13.view.loc (c : Thread nD τ) ↦[arg13.view.set]{fullShare} arg13.view.writes (Elt F) (harg13.unread d13) L13) ∗ (arg14.view.loc (c : Thread nD τ) ↦[arg14.view.set]{fullShare} arg14.view.writes (Elt F) (harg14.unread d14) L14) ∗ (arg15.view.loc (c : Thread nD τ) ↦[arg15.view.set]{fullShare} arg15.view.writes (Elt F) (harg15.unread d15) L15) ∗ (arg16.view.loc (c : Thread nD τ) ↦[arg16.view.set]{fullShare} arg16.view.writes (Elt F) (harg16.unread d16) L16) ∗ owns (c : Thread nD τ) arg17 fullShare d17 ∗ owns (c : Thread nD τ) arg18 fullShare d18 ∗ owns (c : Thread nD τ) arg19 fullShare d19 ∗ owns (c : Thread nD τ) arg20 fullShare d20) -∗ K ⟨⟩))
          ⊢ wp frame (wpE (defs₀ (F := F)) Variants.none c none) E (cc0_nvfp4_logit_store i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K } := by
  refine ⟨?_, ?_, ?_, ?_, fun E K => ?run⟩
  case run =>
    simp only [cc0_nvfp4_logit_store_eq_skeleton]; unfold cc0_nvfp4_logit_store_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton]
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14; obtain rfl := harg15.eq_unread hf15; obtain rfl := harg16.eq_unread hf16; obtain rfl := harg17.eq_unread hf17; obtain rfl := harg18.eq_unread hf18; obtain rfl := harg19.eq_unread hf19; obtain rfl := harg20.eq_unread hf20
    sl_exec (disch := first | sl_exact hc0 | sl_exact hc1 | sl_exact hc2 | sl_exact hc3 | sl_exact hc4)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H12]
    · iexists _; isplitr; · ipureintro; exact harg12.read_unread _
      iexact H12
    isplitl [H13]
    · iexact H13
    isplitl [H14]
    · iexact H14
    isplitl [H15]
    · iexact H15
    isplitl [H16]
    · iexact H16
    isplitl [H17]
    · iexists _; isplitr; · ipureintro; exact harg17.read_unread _
      iexact H17
    isplitl [H18]
    · iexists _; isplitr; · ipureintro; exact harg18.read_unread _
      iexact H18
    isplitl [H19]
    · iexists _; isplitr; · ipureintro; exact harg19.read_unread _
      iexact H19
    iexists _; isplitr; · ipureintro; exact harg20.read_unread _
    iexact H20

end Cert.Kernel.Body

end
-- ==== Proof.KernelRunC.lean ====
module

public import proofs.«01_k».proof.Proof.KernelRunB

@[expose] public section

set_option maxRecDepth 16384

noncomputable section

namespace Cert.Kernel.Body

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the run's proof term is long: the definition's closing pass walks all of it
set_option maxHeartbeats 8000000 in
/-- The body's run at point 125: the two log-sum-exps are closed, then an output tile is coded. On whole buffers at the contents `d1` … `d20` (six inputs, six outputs, eight scratch buffers) the
    body ends with every buffer it does not store into as it was, and each one it stores into with the listed pieces (last
    first) written over what it held. -/
noncomputable def runC (c : Dev nD) (i : grid0.Coords) (arg1 : Memref sig .tc .vmem S256x6144 .fp8e4m3) (harg1 : arg1.IsWhole) (arg2 : Memref sig .tc .vmem S256x6144 .fp8e4m3) (harg2 : arg2.IsWhole) (arg3 : Memref sig .tc .vmem S256x1 .f32) (harg3 : arg3.IsWhole) (arg4 : Memref sig .tc .smem S1 .f32) (harg4 : arg4.IsWhole) (arg5 : Memref sig .tc .vmem S256x6144 .i8) (harg5 : arg5.IsWhole) (arg6 : Memref sig .tc .vmem S256x768 .fp8e4m3) (harg6 : arg6.IsWhole) (arg7 : Memref sig .tc .vmem S256x1280 .fp8e5m2) (harg7 : arg7.IsWhole) (arg8 : Memref sig .tc .vmem S256x1280 .fp8e5m2) (harg8 : arg8.IsWhole) (arg9 : Memref sig .tc .vmem S2x128 .f32) (harg9 : arg9.IsWhole) (arg10 : Memref sig .tc .vmem S2x128 .f32) (harg10 : arg10.IsWhole) (arg11 : Memref sig .tc .vmem S2x128 .f32) (harg11 : arg11.IsWhole) (arg12 : Memref sig .tc .vmem S2x128 .f32) (harg12 : arg12.IsWhole) (arg13 : Memref sig .tc .vmem S256x32000 .f32) (harg13 : arg13.IsWhole) (arg14 : Memref sig .tc .vmem S256x128 .f32) (harg14 : arg14.IsWhole) (arg15 : Memref sig .tc .vmem S256x128 .f32) (harg15 : arg15.IsWhole) (arg16 : Memref sig .tc .vmem S256x128 .f32) (harg16 : arg16.IsWhole) (arg17 : Memref sig .tc .vmem S256x128 .f32) (harg17 : arg17.IsWhole) (arg18 : Memref sig .tc .vmem S256x128 .f32) (harg18 : arg18.IsWhole) (arg19 : Memref sig .tc .vmem S256x128 .f32) (harg19 : arg19.IsWhole) (arg20 : Memref sig .tc .vmem S256x128 .f32) (harg20 : arg20.IsWhole) (hc0 : ¬cond0 i) (hc1 : ¬cond1 i) (hc2 : cond2 i) (hc3 : cond3 i) (hc4 : ¬cond4 i)
    (d1 : Vec F S256x6144 .fp8e4m3) (d2 : Vec F S256x6144 .fp8e4m3) (d3 : Vec F S256x1 .f32) (d4 : Vec F S1 .f32) (d5 : Vec F S256x6144 .i8) (d6 : Vec F S256x768 .fp8e4m3) (d7 : Vec F S256x1280 .fp8e5m2) (d8 : Vec F S256x1280 .fp8e5m2) (d9 : Vec F S2x128 .f32) (d10 : Vec F S2x128 .f32) (d11 : Vec F S2x128 .f32) (d12 : Vec F S2x128 .f32) (d13 : Vec F S256x32000 .f32) (d14 : Vec F S256x128 .f32) (d15 : Vec F S256x128 .f32) (d16 : Vec F S256x128 .f32) (d17 : Vec F S256x128 .f32) (d18 : Vec F S256x128 .f32) (d19 : Vec F S256x128 .f32) (d20 : Vec F S256x128 .f32) :
    Σ' (L7 : List (View.Piece (Elt F) S256x1280 .fp8e5m2)), Σ' (L8 : List (View.Piece (Elt F) S256x1280 .fp8e5m2)), Σ' (L9 : List (View.Piece (Elt F) S2x128 .f32)), Σ' (L11 : List (View.Piece (Elt F) S2x128 .f32)), Σ' (L17 : List (View.Piece (Elt F) S256x128 .f32)), Σ' (L18 : List (View.Piece (Elt F) S256x128 .f32)), Σ' (L19 : List (View.Piece (Elt F) S256x128 .f32)), { L20 : List (View.Piece (Elt F) S256x128 .f32) //
      ∀ (E : Set ℕ) (K : PUnit → sProp 𝕄),
        iprop(owns (c : Thread nD τ) arg1 fullShare d1 ∗ owns (c : Thread nD τ) arg2 fullShare d2 ∗ owns (c : Thread nD τ) arg3 fullShare d3 ∗ owns (c : Thread nD τ) arg4 fullShare d4 ∗ owns (c : Thread nD τ) arg5 fullShare d5 ∗ owns (c : Thread nD τ) arg6 fullShare d6 ∗ owns (c : Thread nD τ) arg7 fullShare d7 ∗ owns (c : Thread nD τ) arg8 fullShare d8 ∗ owns (c : Thread nD τ) arg9 fullShare d9 ∗ owns (c : Thread nD τ) arg10 fullShare d10 ∗ owns (c : Thread nD τ) arg11 fullShare d11 ∗ owns (c : Thread nD τ) arg12 fullShare d12 ∗ owns (c : Thread nD τ) arg13 fullShare d13 ∗ owns (c : Thread nD τ) arg14 fullShare d14 ∗ owns (c : Thread nD τ) arg15 fullShare d15 ∗ owns (c : Thread nD τ) arg16 fullShare d16 ∗ owns (c : Thread nD τ) arg17 fullShare d17 ∗ owns (c : Thread nD τ) arg18 fullShare d18 ∗ owns (c : Thread nD τ) arg19 fullShare d19 ∗ owns (c : Thread nD τ) arg20 fullShare d20
            ∗ (iprop(owns (c : Thread nD τ) arg1 fullShare d1 ∗ owns (c : Thread nD τ) arg2 fullShare d2 ∗ owns (c : Thread nD τ) arg3 fullShare d3 ∗ owns (c : Thread nD τ) arg4 fullShare d4 ∗ owns (c : Thread nD τ) arg5 fullShare d5 ∗ owns (c : Thread nD τ) arg6 fullShare d6 ∗ (arg7.view.loc (c : Thread nD τ) ↦[arg7.view.set]{fullShare} arg7.view.writes (Elt F) (harg7.unread d7) L7) ∗ (arg8.view.loc (c : Thread nD τ) ↦[arg8.view.set]{fullShare} arg8.view.writes (Elt F) (harg8.unread d8) L8) ∗ (arg9.view.loc (c : Thread nD τ) ↦[arg9.view.set]{fullShare} arg9.view.writes (Elt F) (harg9.unread d9) L9) ∗ owns (c : Thread nD τ) arg10 fullShare d10 ∗ (arg11.view.loc (c : Thread nD τ) ↦[arg11.view.set]{fullShare} arg11.view.writes (Elt F) (harg11.unread d11) L11) ∗ owns (c : Thread nD τ) arg12 fullShare d12 ∗ owns (c : Thread nD τ) arg13 fullShare d13 ∗ owns (c : Thread nD τ) arg14 fullShare d14 ∗ owns (c : Thread nD τ) arg15 fullShare d15 ∗ owns (c : Thread nD τ) arg16 fullShare d16 ∗ (arg17.view.loc (c : Thread nD τ) ↦[arg17.view.set]{fullShare} arg17.view.writes (Elt F) (harg17.unread d17) L17) ∗ (arg18.view.loc (c : Thread nD τ) ↦[arg18.view.set]{fullShare} arg18.view.writes (Elt F) (harg18.unread d18) L18) ∗ (arg19.view.loc (c : Thread nD τ) ↦[arg19.view.set]{fullShare} arg19.view.writes (Elt F) (harg19.unread d19) L19) ∗ (arg20.view.loc (c : Thread nD τ) ↦[arg20.view.set]{fullShare} arg20.view.writes (Elt F) (harg20.unread d20) L20)) -∗ K ⟨⟩))
          ⊢ wp frame (wpE (defs₀ (F := F)) Variants.none c none) E (cc0_nvfp4_logit_store i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K } := by
  refine ⟨?_, ?_, ?_, ?_, ?_, ?_, ?_, ?_, fun E K => ?run⟩
  case run =>
    simp only [cc0_nvfp4_logit_store_eq_skeleton]; unfold cc0_nvfp4_logit_store_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton]
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14; obtain rfl := harg15.eq_unread hf15; obtain rfl := harg16.eq_unread hf16; obtain rfl := harg17.eq_unread hf17; obtain rfl := harg18.eq_unread hf18; obtain rfl := harg19.eq_unread hf19; obtain rfl := harg20.eq_unread hf20
    sl_exec (disch := first | sl_exact hc0 | sl_exact hc1 | sl_exact hc2 | sl_exact hc3 | sl_exact hc4)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexact H7
    isplitl [H8]
    · iexact H8
    isplitl [H9]
    · iexact H9
    isplitl [H10]
    · iexists _; isplitr; · ipureintro; exact harg10.read_unread _
      iexact H10
    isplitl [H11]
    · iexact H11
    isplitl [H12]
    · iexists _; isplitr; · ipureintro; exact harg12.read_unread _
      iexact H12
    isplitl [H13]
    · iexists _; isplitr; · ipureintro; exact harg13.read_unread _
      iexact H13
    isplitl [H14]
    · iexists _; isplitr; · ipureintro; exact harg14.read_unread _
      iexact H14
    isplitl [H15]
    · iexists _; isplitr; · ipureintro; exact harg15.read_unread _
      iexact H15
    isplitl [H16]
    · iexists _; isplitr; · ipureintro; exact harg16.read_unread _
      iexact H16
    isplitl [H17]
    · iexact H17
    isplitl [H18]
    · iexact H18
    isplitl [H19]
    · iexact H19
    iexact H20

end Cert.Kernel.Body

end
-- ==== Proof.KernelRunD.lean ====
module

public import proofs.«01_k».proof.Proof.KernelRunC

@[expose] public section

set_option maxRecDepth 16384

noncomputable section

namespace Cert.Kernel.Body

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the run's proof term is long: the definition's closing pass walks all of it
set_option maxHeartbeats 8000000 in
/-- The body's run at points 126 to 148: an output tile is coded. On whole buffers at the contents `d1` … `d20` (six inputs, six outputs, eight scratch buffers) the
    body ends with every buffer it does not store into as it was, and each one it stores into with the listed pieces (last
    first) written over what it held. -/
noncomputable def runD (c : Dev nD) (i : grid0.Coords) (arg1 : Memref sig .tc .vmem S256x6144 .fp8e4m3) (harg1 : arg1.IsWhole) (arg2 : Memref sig .tc .vmem S256x6144 .fp8e4m3) (harg2 : arg2.IsWhole) (arg3 : Memref sig .tc .vmem S256x1 .f32) (harg3 : arg3.IsWhole) (arg4 : Memref sig .tc .smem S1 .f32) (harg4 : arg4.IsWhole) (arg5 : Memref sig .tc .vmem S256x6144 .i8) (harg5 : arg5.IsWhole) (arg6 : Memref sig .tc .vmem S256x768 .fp8e4m3) (harg6 : arg6.IsWhole) (arg7 : Memref sig .tc .vmem S256x1280 .fp8e5m2) (harg7 : arg7.IsWhole) (arg8 : Memref sig .tc .vmem S256x1280 .fp8e5m2) (harg8 : arg8.IsWhole) (arg9 : Memref sig .tc .vmem S2x128 .f32) (harg9 : arg9.IsWhole) (arg10 : Memref sig .tc .vmem S2x128 .f32) (harg10 : arg10.IsWhole) (arg11 : Memref sig .tc .vmem S2x128 .f32) (harg11 : arg11.IsWhole) (arg12 : Memref sig .tc .vmem S2x128 .f32) (harg12 : arg12.IsWhole) (arg13 : Memref sig .tc .vmem S256x32000 .f32) (harg13 : arg13.IsWhole) (arg14 : Memref sig .tc .vmem S256x128 .f32) (harg14 : arg14.IsWhole) (arg15 : Memref sig .tc .vmem S256x128 .f32) (harg15 : arg15.IsWhole) (arg16 : Memref sig .tc .vmem S256x128 .f32) (harg16 : arg16.IsWhole) (arg17 : Memref sig .tc .vmem S256x128 .f32) (harg17 : arg17.IsWhole) (arg18 : Memref sig .tc .vmem S256x128 .f32) (harg18 : arg18.IsWhole) (arg19 : Memref sig .tc .vmem S256x128 .f32) (harg19 : arg19.IsWhole) (arg20 : Memref sig .tc .vmem S256x128 .f32) (harg20 : arg20.IsWhole) (hc0 : ¬cond0 i) (hc1 : ¬cond1 i) (hc2 : ¬cond2 i) (hc3 : cond3 i) (hc4 : ¬cond4 i)
    (d1 : Vec F S256x6144 .fp8e4m3) (d2 : Vec F S256x6144 .fp8e4m3) (d3 : Vec F S256x1 .f32) (d4 : Vec F S1 .f32) (d5 : Vec F S256x6144 .i8) (d6 : Vec F S256x768 .fp8e4m3) (d7 : Vec F S256x1280 .fp8e5m2) (d8 : Vec F S256x1280 .fp8e5m2) (d9 : Vec F S2x128 .f32) (d10 : Vec F S2x128 .f32) (d11 : Vec F S2x128 .f32) (d12 : Vec F S2x128 .f32) (d13 : Vec F S256x32000 .f32) (d14 : Vec F S256x128 .f32) (d15 : Vec F S256x128 .f32) (d16 : Vec F S256x128 .f32) (d17 : Vec F S256x128 .f32) (d18 : Vec F S256x128 .f32) (d19 : Vec F S256x128 .f32) (d20 : Vec F S256x128 .f32) :
    Σ' (L7 : List (View.Piece (Elt F) S256x1280 .fp8e5m2)), Σ' (L8 : List (View.Piece (Elt F) S256x1280 .fp8e5m2)), Σ' (L19 : List (View.Piece (Elt F) S256x128 .f32)), { L20 : List (View.Piece (Elt F) S256x128 .f32) //
      ∀ (E : Set ℕ) (K : PUnit → sProp 𝕄),
        iprop(owns (c : Thread nD τ) arg1 fullShare d1 ∗ owns (c : Thread nD τ) arg2 fullShare d2 ∗ owns (c : Thread nD τ) arg3 fullShare d3 ∗ owns (c : Thread nD τ) arg4 fullShare d4 ∗ owns (c : Thread nD τ) arg5 fullShare d5 ∗ owns (c : Thread nD τ) arg6 fullShare d6 ∗ owns (c : Thread nD τ) arg7 fullShare d7 ∗ owns (c : Thread nD τ) arg8 fullShare d8 ∗ owns (c : Thread nD τ) arg9 fullShare d9 ∗ owns (c : Thread nD τ) arg10 fullShare d10 ∗ owns (c : Thread nD τ) arg11 fullShare d11 ∗ owns (c : Thread nD τ) arg12 fullShare d12 ∗ owns (c : Thread nD τ) arg13 fullShare d13 ∗ owns (c : Thread nD τ) arg14 fullShare d14 ∗ owns (c : Thread nD τ) arg15 fullShare d15 ∗ owns (c : Thread nD τ) arg16 fullShare d16 ∗ owns (c : Thread nD τ) arg17 fullShare d17 ∗ owns (c : Thread nD τ) arg18 fullShare d18 ∗ owns (c : Thread nD τ) arg19 fullShare d19 ∗ owns (c : Thread nD τ) arg20 fullShare d20
            ∗ (iprop(owns (c : Thread nD τ) arg1 fullShare d1 ∗ owns (c : Thread nD τ) arg2 fullShare d2 ∗ owns (c : Thread nD τ) arg3 fullShare d3 ∗ owns (c : Thread nD τ) arg4 fullShare d4 ∗ owns (c : Thread nD τ) arg5 fullShare d5 ∗ owns (c : Thread nD τ) arg6 fullShare d6 ∗ (arg7.view.loc (c : Thread nD τ) ↦[arg7.view.set]{fullShare} arg7.view.writes (Elt F) (harg7.unread d7) L7) ∗ (arg8.view.loc (c : Thread nD τ) ↦[arg8.view.set]{fullShare} arg8.view.writes (Elt F) (harg8.unread d8) L8) ∗ owns (c : Thread nD τ) arg9 fullShare d9 ∗ owns (c : Thread nD τ) arg10 fullShare d10 ∗ owns (c : Thread nD τ) arg11 fullShare d11 ∗ owns (c : Thread nD τ) arg12 fullShare d12 ∗ owns (c : Thread nD τ) arg13 fullShare d13 ∗ owns (c : Thread nD τ) arg14 fullShare d14 ∗ owns (c : Thread nD τ) arg15 fullShare d15 ∗ owns (c : Thread nD τ) arg16 fullShare d16 ∗ owns (c : Thread nD τ) arg17 fullShare d17 ∗ owns (c : Thread nD τ) arg18 fullShare d18 ∗ (arg19.view.loc (c : Thread nD τ) ↦[arg19.view.set]{fullShare} arg19.view.writes (Elt F) (harg19.unread d19) L19) ∗ (arg20.view.loc (c : Thread nD τ) ↦[arg20.view.set]{fullShare} arg20.view.writes (Elt F) (harg20.unread d20) L20)) -∗ K ⟨⟩))
          ⊢ wp frame (wpE (defs₀ (F := F)) Variants.none c none) E (cc0_nvfp4_logit_store i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K } := by
  refine ⟨?_, ?_, ?_, ?_, fun E K => ?run⟩
  case run =>
    simp only [cc0_nvfp4_logit_store_eq_skeleton]; unfold cc0_nvfp4_logit_store_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton]
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14; obtain rfl := harg15.eq_unread hf15; obtain rfl := harg16.eq_unread hf16; obtain rfl := harg17.eq_unread hf17; obtain rfl := harg18.eq_unread hf18; obtain rfl := harg19.eq_unread hf19; obtain rfl := harg20.eq_unread hf20
    sl_exec (disch := first | sl_exact hc0 | sl_exact hc1 | sl_exact hc2 | sl_exact hc3 | sl_exact hc4)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexact H7
    isplitl [H8]
    · iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H12]
    · iexists _; isplitr; · ipureintro; exact harg12.read_unread _
      iexact H12
    isplitl [H13]
    · iexists _; isplitr; · ipureintro; exact harg13.read_unread _
      iexact H13
    isplitl [H14]
    · iexists _; isplitr; · ipureintro; exact harg14.read_unread _
      iexact H14
    isplitl [H15]
    · iexists _; isplitr; · ipureintro; exact harg15.read_unread _
      iexact H15
    isplitl [H16]
    · iexists _; isplitr; · ipureintro; exact harg16.read_unread _
      iexact H16
    isplitl [H17]
    · iexists _; isplitr; · ipureintro; exact harg17.read_unread _
      iexact H17
    isplitl [H18]
    · iexists _; isplitr; · ipureintro; exact harg18.read_unread _
      iexact H18
    isplitl [H19]
    · iexact H19
    iexact H20

end Cert.Kernel.Body

end
-- ==== Proof.KernelRunE.lean ====
module

public import proofs.«01_k».proof.Proof.KernelRunD

@[expose] public section

set_option maxRecDepth 16384

noncomputable section

namespace Cert.Kernel.Body

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the run's proof term is long: the definition's closing pass walks all of it
set_option maxHeartbeats 8000000 in
/-- The body's run at the last point: an output tile is coded, then the two errors are closed. On whole buffers at the contents `d1` … `d20` (six inputs, six outputs, eight scratch buffers) the
    body ends with every buffer it does not store into as it was, and each one it stores into with the listed pieces (last
    first) written over what it held. -/
noncomputable def runE (c : Dev nD) (i : grid0.Coords) (arg1 : Memref sig .tc .vmem S256x6144 .fp8e4m3) (harg1 : arg1.IsWhole) (arg2 : Memref sig .tc .vmem S256x6144 .fp8e4m3) (harg2 : arg2.IsWhole) (arg3 : Memref sig .tc .vmem S256x1 .f32) (harg3 : arg3.IsWhole) (arg4 : Memref sig .tc .smem S1 .f32) (harg4 : arg4.IsWhole) (arg5 : Memref sig .tc .vmem S256x6144 .i8) (harg5 : arg5.IsWhole) (arg6 : Memref sig .tc .vmem S256x768 .fp8e4m3) (harg6 : arg6.IsWhole) (arg7 : Memref sig .tc .vmem S256x1280 .fp8e5m2) (harg7 : arg7.IsWhole) (arg8 : Memref sig .tc .vmem S256x1280 .fp8e5m2) (harg8 : arg8.IsWhole) (arg9 : Memref sig .tc .vmem S2x128 .f32) (harg9 : arg9.IsWhole) (arg10 : Memref sig .tc .vmem S2x128 .f32) (harg10 : arg10.IsWhole) (arg11 : Memref sig .tc .vmem S2x128 .f32) (harg11 : arg11.IsWhole) (arg12 : Memref sig .tc .vmem S2x128 .f32) (harg12 : arg12.IsWhole) (arg13 : Memref sig .tc .vmem S256x32000 .f32) (harg13 : arg13.IsWhole) (arg14 : Memref sig .tc .vmem S256x128 .f32) (harg14 : arg14.IsWhole) (arg15 : Memref sig .tc .vmem S256x128 .f32) (harg15 : arg15.IsWhole) (arg16 : Memref sig .tc .vmem S256x128 .f32) (harg16 : arg16.IsWhole) (arg17 : Memref sig .tc .vmem S256x128 .f32) (harg17 : arg17.IsWhole) (arg18 : Memref sig .tc .vmem S256x128 .f32) (harg18 : arg18.IsWhole) (arg19 : Memref sig .tc .vmem S256x128 .f32) (harg19 : arg19.IsWhole) (arg20 : Memref sig .tc .vmem S256x128 .f32) (harg20 : arg20.IsWhole) (hc0 : ¬cond0 i) (hc1 : ¬cond1 i) (hc2 : ¬cond2 i) (hc3 : cond3 i) (hc4 : cond4 i)
    (d1 : Vec F S256x6144 .fp8e4m3) (d2 : Vec F S256x6144 .fp8e4m3) (d3 : Vec F S256x1 .f32) (d4 : Vec F S1 .f32) (d5 : Vec F S256x6144 .i8) (d6 : Vec F S256x768 .fp8e4m3) (d7 : Vec F S256x1280 .fp8e5m2) (d8 : Vec F S256x1280 .fp8e5m2) (d9 : Vec F S2x128 .f32) (d10 : Vec F S2x128 .f32) (d11 : Vec F S2x128 .f32) (d12 : Vec F S2x128 .f32) (d13 : Vec F S256x32000 .f32) (d14 : Vec F S256x128 .f32) (d15 : Vec F S256x128 .f32) (d16 : Vec F S256x128 .f32) (d17 : Vec F S256x128 .f32) (d18 : Vec F S256x128 .f32) (d19 : Vec F S256x128 .f32) (d20 : Vec F S256x128 .f32) :
    Σ' (L7 : List (View.Piece (Elt F) S256x1280 .fp8e5m2)), Σ' (L8 : List (View.Piece (Elt F) S256x1280 .fp8e5m2)), Σ' (L10 : List (View.Piece (Elt F) S2x128 .f32)), Σ' (L12 : List (View.Piece (Elt F) S2x128 .f32)), Σ' (L19 : List (View.Piece (Elt F) S256x128 .f32)), { L20 : List (View.Piece (Elt F) S256x128 .f32) //
      ∀ (E : Set ℕ) (K : PUnit → sProp 𝕄),
        iprop(owns (c : Thread nD τ) arg1 fullShare d1 ∗ owns (c : Thread nD τ) arg2 fullShare d2 ∗ owns (c : Thread nD τ) arg3 fullShare d3 ∗ owns (c : Thread nD τ) arg4 fullShare d4 ∗ owns (c : Thread nD τ) arg5 fullShare d5 ∗ owns (c : Thread nD τ) arg6 fullShare d6 ∗ owns (c : Thread nD τ) arg7 fullShare d7 ∗ owns (c : Thread nD τ) arg8 fullShare d8 ∗ owns (c : Thread nD τ) arg9 fullShare d9 ∗ owns (c : Thread nD τ) arg10 fullShare d10 ∗ owns (c : Thread nD τ) arg11 fullShare d11 ∗ owns (c : Thread nD τ) arg12 fullShare d12 ∗ owns (c : Thread nD τ) arg13 fullShare d13 ∗ owns (c : Thread nD τ) arg14 fullShare d14 ∗ owns (c : Thread nD τ) arg15 fullShare d15 ∗ owns (c : Thread nD τ) arg16 fullShare d16 ∗ owns (c : Thread nD τ) arg17 fullShare d17 ∗ owns (c : Thread nD τ) arg18 fullShare d18 ∗ owns (c : Thread nD τ) arg19 fullShare d19 ∗ owns (c : Thread nD τ) arg20 fullShare d20
            ∗ (iprop(owns (c : Thread nD τ) arg1 fullShare d1 ∗ owns (c : Thread nD τ) arg2 fullShare d2 ∗ owns (c : Thread nD τ) arg3 fullShare d3 ∗ owns (c : Thread nD τ) arg4 fullShare d4 ∗ owns (c : Thread nD τ) arg5 fullShare d5 ∗ owns (c : Thread nD τ) arg6 fullShare d6 ∗ (arg7.view.loc (c : Thread nD τ) ↦[arg7.view.set]{fullShare} arg7.view.writes (Elt F) (harg7.unread d7) L7) ∗ (arg8.view.loc (c : Thread nD τ) ↦[arg8.view.set]{fullShare} arg8.view.writes (Elt F) (harg8.unread d8) L8) ∗ owns (c : Thread nD τ) arg9 fullShare d9 ∗ (arg10.view.loc (c : Thread nD τ) ↦[arg10.view.set]{fullShare} arg10.view.writes (Elt F) (harg10.unread d10) L10) ∗ owns (c : Thread nD τ) arg11 fullShare d11 ∗ (arg12.view.loc (c : Thread nD τ) ↦[arg12.view.set]{fullShare} arg12.view.writes (Elt F) (harg12.unread d12) L12) ∗ owns (c : Thread nD τ) arg13 fullShare d13 ∗ owns (c : Thread nD τ) arg14 fullShare d14 ∗ owns (c : Thread nD τ) arg15 fullShare d15 ∗ owns (c : Thread nD τ) arg16 fullShare d16 ∗ owns (c : Thread nD τ) arg17 fullShare d17 ∗ owns (c : Thread nD τ) arg18 fullShare d18 ∗ (arg19.view.loc (c : Thread nD τ) ↦[arg19.view.set]{fullShare} arg19.view.writes (Elt F) (harg19.unread d19) L19) ∗ (arg20.view.loc (c : Thread nD τ) ↦[arg20.view.set]{fullShare} arg20.view.writes (Elt F) (harg20.unread d20) L20)) -∗ K ⟨⟩))
          ⊢ wp frame (wpE (defs₀ (F := F)) Variants.none c none) E (cc0_nvfp4_logit_store i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K } := by
  refine ⟨?_, ?_, ?_, ?_, ?_, ?_, fun E K => ?run⟩
  case run =>
    simp only [cc0_nvfp4_logit_store_eq_skeleton]; unfold cc0_nvfp4_logit_store_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton]
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14; obtain rfl := harg15.eq_unread hf15; obtain rfl := harg16.eq_unread hf16; obtain rfl := harg17.eq_unread hf17; obtain rfl := harg18.eq_unread hf18; obtain rfl := harg19.eq_unread hf19; obtain rfl := harg20.eq_unread hf20
    sl_exec (disch := first | sl_exact hc0 | sl_exact hc1 | sl_exact hc2 | sl_exact hc3 | sl_exact hc4)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexact H7
    isplitl [H8]
    · iexact H8
    isplitl [H9]
    · iexists _; isplitr; · ipureintro; exact harg9.read_unread _
      iexact H9
    isplitl [H10]
    · iexact H10
    isplitl [H11]
    · iexists _; isplitr; · ipureintro; exact harg11.read_unread _
      iexact H11
    isplitl [H12]
    · iexact H12
    isplitl [H13]
    · iexists _; isplitr; · ipureintro; exact harg13.read_unread _
      iexact H13
    isplitl [H14]
    · iexists _; isplitr; · ipureintro; exact harg14.read_unread _
      iexact H14
    isplitl [H15]
    · iexists _; isplitr; · ipureintro; exact harg15.read_unread _
      iexact H15
    isplitl [H16]
    · iexists _; isplitr; · ipureintro; exact harg16.read_unread _
      iexact H16
    isplitl [H17]
    · iexists _; isplitr; · ipureintro; exact harg17.read_unread _
      iexact H17
    isplitl [H18]
    · iexists _; isplitr; · ipureintro; exact harg18.read_unread _
      iexact H18
    isplitl [H19]
    · iexact H19
    iexact H20

end Cert.Kernel.Body

end
-- ==== Proof.KernelFrame.lean ====
/- The frame: the body run at every point of the grid with nothing said of what it computes, and from it that the program
   runs to the end, leaves its arguments as they were and every semaphore counter at zero.

   The six outputs and the eight scratch buffers are only ever held "at some contents", so the five runs of the body
   (first point, vocabulary tile, point 125, output tile, last point) are used through one lemma, `weaken`. -/
module

public import Idealize.ShloMosaic.Lib.Pipeline.FrameBody
public import Idealize.ShloMosaic.Lib.Ring
public import Idealize.ShloMosaic.Lib.Tactic
public import proofs.«01_k».proof.Proof.KernelRunE

@[expose] public section

set_option maxRecDepth 16384

noncomputable section

namespace Cert.Kernel.Body

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A buffer held at written contents is held at some contents. -/
theorem wrote (c : Dev nD) {sp : Space} {s : Shape} {e : EltTy} (b : Memref sig .tc sp s e) (f) :
    (b.view.loc (c : Thread nD τ) ↦[b.view.set]{fullShare} f : sProp 𝕄) ⊢ iprop(∃ d, owns (c : Thread nD τ) b fullShare d) := by
  unfold owns
  iintro H
  iexists _; iexists f; isplitr; · ipureintro; rfl
  iexact H

/-- A buffer held at known contents is held at some contents. -/
theorem kept (c : Dev nD) {sp : Space} {s : Shape} {e : EltTy} (b : Memref sig .tc sp s e) (d : Vec F s e) :
    (owns (c : Thread nD τ) b fullShare d : sProp 𝕄) ⊢ iprop(∃ d, owns (c : Thread nD τ) b fullShare d) := by
  iintro H; iexists d; iexact H

/-- What a body run keeps of the buffers when nothing is said of what it computes: the inputs as they were, the outputs and
    the scratch buffers at some contents. -/
abbrev kept20 (c : Dev nD) (t : Fin cfg0.N) (d0 : Vec F S256x6144 .fp8e4m3) (d1 : Vec F S256x6144 .fp8e4m3) (d2 : Vec F S256x1 .f32) (d3 : Vec F S1 .f32) (d4 : Vec F S256x6144 .i8) (d5 : Vec F S256x768 .fp8e4m3) : sProp 𝕄 :=
  iprop(owns (c : Thread nD τ) (ms0 t) fullShare d0 ∗ owns (c : Thread nD τ) (ms1 t) fullShare d1 ∗ owns (c : Thread nD τ) (ms2 t) fullShare d2 ∗ owns (c : Thread nD τ) (ms3 t) fullShare d3 ∗ owns (c : Thread nD τ) (ms4 t) fullShare d4 ∗ owns (c : Thread nD τ) (ms5 t) fullShare d5 ∗ (∃ d, owns (c : Thread nD τ) (ms6 t) fullShare d) ∗ (∃ d, owns (c : Thread nD τ) (ms7 t) fullShare d) ∗ (∃ d, owns (c : Thread nD τ) (ms8 t) fullShare d) ∗ (∃ d, owns (c : Thread nD τ) (ms9 t) fullShare d) ∗ (∃ d, owns (c : Thread nD τ) (ms10 t) fullShare d) ∗ (∃ d, owns (c : Thread nD τ) (ms11 t) fullShare d) ∗ (∃ d, owns (c : Thread nD τ) (sc0) fullShare d) ∗ (∃ d, owns (c : Thread nD τ) (sc1) fullShare d) ∗ (∃ d, owns (c : Thread nD τ) (sc2) fullShare d) ∗ (∃ d, owns (c : Thread nD τ) (sc3) fullShare d) ∗ (∃ d, owns (c : Thread nD τ) (sc4) fullShare d) ∗ (∃ d, owns (c : Thread nD τ) (sc5) fullShare d) ∗ (∃ d, owns (c : Thread nD τ) (sc6) fullShare d) ∗ (∃ d, owns (c : Thread nD τ) (sc7) fullShare d))

/-- A run of the body, its written buffers forgotten. -/
theorem weaken (c : Dev nD) (t : Fin cfg0.N) (d0 : Vec F S256x6144 .fp8e4m3) (d1 : Vec F S256x6144 .fp8e4m3) (d2 : Vec F S256x1 .f32) (d3 : Vec F S1 .f32) (d4 : Vec F S256x6144 .i8) (d5 : Vec F S256x768 .fp8e4m3) (d6 : Vec F S256x1280 .fp8e5m2) (d7 : Vec F S256x1280 .fp8e5m2) (d8 : Vec F S2x128 .f32) (d9 : Vec F S2x128 .f32) (d10 : Vec F S2x128 .f32) (d11 : Vec F S2x128 .f32) (d12 : Vec F S256x32000 .f32) (d13 : Vec F S256x128 .f32) (d14 : Vec F S256x128 .f32) (d15 : Vec F S256x128 .f32) (d16 : Vec F S256x128 .f32) (d17 : Vec F S256x128 .f32) (d18 : Vec F S256x128 .f32) (d19 : Vec F S256x128 .f32) (W6 W7 W8 W9 W10 W11 W12 W13 W14 W15 W16 W17 W18 W19 : sProp 𝕄)
    (h6 : W6 ⊢ iprop(∃ d, owns (c : Thread nD τ) (ms6 t) fullShare d)) (h7 : W7 ⊢ iprop(∃ d, owns (c : Thread nD τ) (ms7 t) fullShare d)) (h8 : W8 ⊢ iprop(∃ d, owns (c : Thread nD τ) (ms8 t) fullShare d)) (h9 : W9 ⊢ iprop(∃ d, owns (c : Thread nD τ) (ms9 t) fullShare d)) (h10 : W10 ⊢ iprop(∃ d, owns (c : Thread nD τ) (ms10 t) fullShare d)) (h11 : W11 ⊢ iprop(∃ d, owns (c : Thread nD τ) (ms11 t) fullShare d)) (h12 : W12 ⊢ iprop(∃ d, owns (c : Thread nD τ) (sc0) fullShare d)) (h13 : W13 ⊢ iprop(∃ d, owns (c : Thread nD τ) (sc1) fullShare d)) (h14 : W14 ⊢ iprop(∃ d, owns (c : Thread nD τ) (sc2) fullShare d)) (h15 : W15 ⊢ iprop(∃ d, owns (c : Thread nD τ) (sc3) fullShare d)) (h16 : W16 ⊢ iprop(∃ d, owns (c : Thread nD τ) (sc4) fullShare d)) (h17 : W17 ⊢ iprop(∃ d, owns (c : Thread nD τ) (sc5) fullShare d)) (h18 : W18 ⊢ iprop(∃ d, owns (c : Thread nD τ) (sc6) fullShare d)) (h19 : W19 ⊢ iprop(∃ d, owns (c : Thread nD τ) (sc7) fullShare d))
    (run : ∀ (E : Set ℕ) (K : PUnit → sProp 𝕄), iprop(owns (c : Thread nD τ) (ms0 t) fullShare d0 ∗ owns (c : Thread nD τ) (ms1 t) fullShare d1 ∗ owns (c : Thread nD τ) (ms2 t) fullShare d2 ∗ owns (c : Thread nD τ) (ms3 t) fullShare d3 ∗ owns (c : Thread nD τ) (ms4 t) fullShare d4 ∗ owns (c : Thread nD τ) (ms5 t) fullShare d5 ∗ owns (c : Thread nD τ) (ms6 t) fullShare d6 ∗ owns (c : Thread nD τ) (ms7 t) fullShare d7 ∗ owns (c : Thread nD τ) (ms8 t) fullShare d8 ∗ owns (c : Thread nD τ) (ms9 t) fullShare d9 ∗ owns (c : Thread nD τ) (ms10 t) fullShare d10 ∗ owns (c : Thread nD τ) (ms11 t) fullShare d11 ∗ owns (c : Thread nD τ) (sc0) fullShare d12 ∗ owns (c : Thread nD τ) (sc1) fullShare d13 ∗ owns (c : Thread nD τ) (sc2) fullShare d14 ∗ owns (c : Thread nD τ) (sc3) fullShare d15 ∗ owns (c : Thread nD τ) (sc4) fullShare d16 ∗ owns (c : Thread nD τ) (sc5) fullShare d17 ∗ owns (c : Thread nD τ) (sc6) fullShare d18 ∗ owns (c : Thread nD τ) (sc7) fullShare d19
      ∗ (iprop(owns (c : Thread nD τ) (ms0 t) fullShare d0 ∗ owns (c : Thread nD τ) (ms1 t) fullShare d1 ∗ owns (c : Thread nD τ) (ms2 t) fullShare d2 ∗ owns (c : Thread nD τ) (ms3 t) fullShare d3 ∗ owns (c : Thread nD τ) (ms4 t) fullShare d4 ∗ owns (c : Thread nD τ) (ms5 t) fullShare d5 ∗ W6 ∗ W7 ∗ W8 ∗ W9 ∗ W10 ∗ W11 ∗ W12 ∗ W13 ∗ W14 ∗ W15 ∗ W16 ∗ W17 ∗ W18 ∗ W19) -∗ K ⟨⟩)) ⊢ wp frame (wpE (defs₀ (F := F)) Variants.none c none) E (bodyAt0 t) K) :
    iprop(owns (c : Thread nD τ) (ms0 t) fullShare d0 ∗ owns (c : Thread nD τ) (ms1 t) fullShare d1 ∗ owns (c : Thread nD τ) (ms2 t) fullShare d2 ∗ owns (c : Thread nD τ) (ms3 t) fullShare d3 ∗ owns (c : Thread nD τ) (ms4 t) fullShare d4 ∗ owns (c : Thread nD τ) (ms5 t) fullShare d5 ∗ owns (c : Thread nD τ) (ms6 t) fullShare d6 ∗ owns (c : Thread nD τ) (ms7 t) fullShare d7 ∗ owns (c : Thread nD τ) (ms8 t) fullShare d8 ∗ owns (c : Thread nD τ) (ms9 t) fullShare d9 ∗ owns (c : Thread nD τ) (ms10 t) fullShare d10 ∗ owns (c : Thread nD τ) (ms11 t) fullShare d11 ∗ owns (c : Thread nD τ) (sc0) fullShare d12 ∗ owns (c : Thread nD τ) (sc1) fullShare d13 ∗ owns (c : Thread nD τ) (sc2) fullShare d14 ∗ owns (c : Thread nD τ) (sc3) fullShare d15 ∗ owns (c : Thread nD τ) (sc4) fullShare d16 ∗ owns (c : Thread nD τ) (sc5) fullShare d17 ∗ owns (c : Thread nD τ) (sc6) fullShare d18 ∗ owns (c : Thread nD τ) (sc7) fullShare d19) ⊢ wp frame (wpE (defs₀ (F := F)) Variants.none c none) Set.univ (bodyAt0 t) (fun _ => kept20 c t d0 d1 d2 d3 d4 d5) := by
  refine BIBase.Entails.trans ?_ (run Set.univ _)
  iintro ⟨H0, H1, H2, H3, H4, H5, H6, H7, H8, H9, H10, H11, H12, H13, H14, H15, H16, H17, H18, H19⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  iintro ⟨H0, H1, H2, H3, H4, H5, H6, H7, H8, H9, H10, H11, H12, H13, H14, H15, H16, H17, H18, H19⟩
  isplitl [H0]; · iexact H0
  isplitl [H1]; · iexact H1
  isplitl [H2]; · iexact H2
  isplitl [H3]; · iexact H3
  isplitl [H4]; · iexact H4
  isplitl [H5]; · iexact H5
  isplitl [H6]; · iapply h6; iexact H6
  isplitl [H7]; · iapply h7; iexact H7
  isplitl [H8]; · iapply h8; iexact H8
  isplitl [H9]; · iapply h9; iexact H9
  isplitl [H10]; · iapply h10; iexact H10
  isplitl [H11]; · iapply h11; iexact H11
  isplitl [H12]; · iapply h12; iexact H12
  isplitl [H13]; · iapply h13; iexact H13
  isplitl [H14]; · iapply h14; iexact H14
  isplitl [H15]; · iapply h15; iexact H15
  isplitl [H16]; · iapply h16; iexact H16
  isplitl [H17]; · iapply h17; iexact H17
  isplitl [H18]; · iapply h18; iexact H18
  iapply h19; iexact H19

set_option maxHeartbeats 4000000 in
/-- The body at any point, from any contents: one of the five runs. -/
theorem body_kept (c : Dev nD) (t : Fin cfg0.N) (d0 : Vec F S256x6144 .fp8e4m3) (d1 : Vec F S256x6144 .fp8e4m3) (d2 : Vec F S256x1 .f32) (d3 : Vec F S1 .f32) (d4 : Vec F S256x6144 .i8) (d5 : Vec F S256x768 .fp8e4m3) (d6 : Vec F S256x1280 .fp8e5m2) (d7 : Vec F S256x1280 .fp8e5m2) (d8 : Vec F S2x128 .f32) (d9 : Vec F S2x128 .f32) (d10 : Vec F S2x128 .f32) (d11 : Vec F S2x128 .f32) (d12 : Vec F S256x32000 .f32) (d13 : Vec F S256x128 .f32) (d14 : Vec F S256x128 .f32) (d15 : Vec F S256x128 .f32) (d16 : Vec F S256x128 .f32) (d17 : Vec F S256x128 .f32) (d18 : Vec F S256x128 .f32) (d19 : Vec F S256x128 .f32) :
    iprop(owns (c : Thread nD τ) (ms0 t) fullShare d0 ∗ owns (c : Thread nD τ) (ms1 t) fullShare d1 ∗ owns (c : Thread nD τ) (ms2 t) fullShare d2 ∗ owns (c : Thread nD τ) (ms3 t) fullShare d3 ∗ owns (c : Thread nD τ) (ms4 t) fullShare d4 ∗ owns (c : Thread nD τ) (ms5 t) fullShare d5 ∗ owns (c : Thread nD τ) (ms6 t) fullShare d6 ∗ owns (c : Thread nD τ) (ms7 t) fullShare d7 ∗ owns (c : Thread nD τ) (ms8 t) fullShare d8 ∗ owns (c : Thread nD τ) (ms9 t) fullShare d9 ∗ owns (c : Thread nD τ) (ms10 t) fullShare d10 ∗ owns (c : Thread nD τ) (ms11 t) fullShare d11 ∗ owns (c : Thread nD τ) (sc0) fullShare d12 ∗ owns (c : Thread nD τ) (sc1) fullShare d13 ∗ owns (c : Thread nD τ) (sc2) fullShare d14 ∗ owns (c : Thread nD τ) (sc3) fullShare d15 ∗ owns (c : Thread nD τ) (sc4) fullShare d16 ∗ owns (c : Thread nD τ) (sc5) fullShare d17 ∗ owns (c : Thread nD τ) (sc6) fullShare d18 ∗ owns (c : Thread nD τ) (sc7) fullShare d19) ⊢ wp frame (wpE (defs₀ (F := F)) Variants.none c none) Set.univ (bodyAt0 t) (fun _ => kept20 c t d0 d1 d2 d3 d4 d5) := by
  have hN := lt150 t
  by_cases hA : t.val = 0
  · refine weaken c t d0 d1 d2 d3 d4 d5 d6 d7 d8 d9 d10 d11 d12 d13 d14 d15 d16 d17 d18 d19 _ _ _ _ _ _ _ _ _ _ _ _ _ _ ?_ ?_ ?_ ?_ ?_ ?_ ?_ ?_ ?_ ?_ ?_ ?_ ?_ ?_
      (runA c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) sc0 (Memref.isWhole_whole _) sc1 (Memref.isWhole_whole _) sc2 (Memref.isWhole_whole _) sc3 (Memref.isWhole_whole _) sc4 (Memref.isWhole_whole _) sc5 (Memref.isWhole_whole _) sc6 (Memref.isWhole_whole _) sc7 (Memref.isWhole_whole _) ((hcond0 t).mpr (by omega)) ((hcond1 t).mpr (by omega)) (fun h => absurd ((hcond2 t).mp h) (by omega)) (fun h => absurd ((hcond3 t).mp h) (by omega)) (fun h => absurd ((hcond4 t).mp h) (by omega)) d0 d1 d2 d3 d4 d5 d6 d7 d8 d9 d10 d11 d12 d13 d14 d15 d16 d17 d18 d19).2.2.2.2
    · exact kept c _ _
    · exact kept c _ _
    · exact kept c _ _
    · exact kept c _ _
    · exact kept c _ _
    · exact kept c _ _
    · exact wrote c _ _
    · exact wrote c _ _
    · exact wrote c _ _
    · exact wrote c _ _
    · exact kept c _ _
    · exact kept c _ _
    · exact kept c _ _
    · exact kept c _ _
  by_cases hB : t.val < 125
  · refine weaken c t d0 d1 d2 d3 d4 d5 d6 d7 d8 d9 d10 d11 d12 d13 d14 d15 d16 d17 d18 d19 _ _ _ _ _ _ _ _ _ _ _ _ _ _ ?_ ?_ ?_ ?_ ?_ ?_ ?_ ?_ ?_ ?_ ?_ ?_ ?_ ?_
      (runB c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) sc0 (Memref.isWhole_whole _) sc1 (Memref.isWhole_whole _) sc2 (Memref.isWhole_whole _) sc3 (Memref.isWhole_whole _) sc4 (Memref.isWhole_whole _) sc5 (Memref.isWhole_whole _) sc6 (Memref.isWhole_whole _) sc7 (Memref.isWhole_whole _) (fun h => absurd ((hcond0 t).mp h) (by omega)) ((hcond1 t).mpr (by omega)) (fun h => absurd ((hcond2 t).mp h) (by omega)) (fun h => absurd ((hcond3 t).mp h) (by omega)) (fun h => absurd ((hcond4 t).mp h) (by omega)) d0 d1 d2 d3 d4 d5 d6 d7 d8 d9 d10 d11 d12 d13 d14 d15 d16 d17 d18 d19).2.2.2.2
    · exact kept c _ _
    · exact kept c _ _
    · exact kept c _ _
    · exact kept c _ _
    · exact kept c _ _
    · exact kept c _ _
    · exact wrote c _ _
    · exact wrote c _ _
    · exact wrote c _ _
    · exact wrote c _ _
    · exact kept c _ _
    · exact kept c _ _
    · exact kept c _ _
    · exact kept c _ _
  by_cases hC : t.val = 125
  · refine weaken c t d0 d1 d2 d3 d4 d5 d6 d7 d8 d9 d10 d11 d12 d13 d14 d15 d16 d17 d18 d19 _ _ _ _ _ _ _ _ _ _ _ _ _ _ ?_ ?_ ?_ ?_ ?_ ?_ ?_ ?_ ?_ ?_ ?_ ?_ ?_ ?_
      (runC c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) sc0 (Memref.isWhole_whole _) sc1 (Memref.isWhole_whole _) sc2 (Memref.isWhole_whole _) sc3 (Memref.isWhole_whole _) sc4 (Memref.isWhole_whole _) sc5 (Memref.isWhole_whole _) sc6 (Memref.isWhole_whole _) sc7 (Memref.isWhole_whole _) (fun h => absurd ((hcond0 t).mp h) (by omega)) (fun h => absurd ((hcond1 t).mp h) (by omega)) ((hcond2 t).mpr (by omega)) ((hcond3 t).mpr (by omega)) (fun h => absurd ((hcond4 t).mp h) (by omega)) d0 d1 d2 d3 d4 d5 d6 d7 d8 d9 d10 d11 d12 d13 d14 d15 d16 d17 d18 d19).2.2.2.2.2.2.2.2
    · exact wrote c _ _
    · exact wrote c _ _
    · exact wrote c _ _
    · exact kept c _ _
    · exact wrote c _ _
    · exact kept c _ _
    · exact kept c _ _
    · exact kept c _ _
    · exact kept c _ _
    · exact kept c _ _
    · exact wrote c _ _
    · exact wrote c _ _
    · exact wrote c _ _
    · exact wrote c _ _
  by_cases hE : t.val ≠ 149
  · refine weaken c t d0 d1 d2 d3 d4 d5 d6 d7 d8 d9 d10 d11 d12 d13 d14 d15 d16 d17 d18 d19 _ _ _ _ _ _ _ _ _ _ _ _ _ _ ?_ ?_ ?_ ?_ ?_ ?_ ?_ ?_ ?_ ?_ ?_ ?_ ?_ ?_
      (runD c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) sc0 (Memref.isWhole_whole _) sc1 (Memref.isWhole_whole _) sc2 (Memref.isWhole_whole _) sc3 (Memref.isWhole_whole _) sc4 (Memref.isWhole_whole _) sc5 (Memref.isWhole_whole _) sc6 (Memref.isWhole_whole _) sc7 (Memref.isWhole_whole _) (fun h => absurd ((hcond0 t).mp h) (by omega)) (fun h => absurd ((hcond1 t).mp h) (by omega)) (fun h => absurd ((hcond2 t).mp h) (by omega)) ((hcond3 t).mpr (by omega)) (fun h => absurd ((hcond4 t).mp h) (by omega)) d0 d1 d2 d3 d4 d5 d6 d7 d8 d9 d10 d11 d12 d13 d14 d15 d16 d17 d18 d19).2.2.2.2
    · exact wrote c _ _
    · exact wrote c _ _
    · exact kept c _ _
    · exact kept c _ _
    · exact kept c _ _
    · exact kept c _ _
    · exact kept c _ _
    · exact kept c _ _
    · exact kept c _ _
    · exact kept c _ _
    · exact kept c _ _
    · exact kept c _ _
    · exact wrote c _ _
    · exact wrote c _ _
  · refine weaken c t d0 d1 d2 d3 d4 d5 d6 d7 d8 d9 d10 d11 d12 d13 d14 d15 d16 d17 d18 d19 _ _ _ _ _ _ _ _ _ _ _ _ _ _ ?_ ?_ ?_ ?_ ?_ ?_ ?_ ?_ ?_ ?_ ?_ ?_ ?_ ?_
      (runE c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) sc0 (Memref.isWhole_whole _) sc1 (Memref.isWhole_whole _) sc2 (Memref.isWhole_whole _) sc3 (Memref.isWhole_whole _) sc4 (Memref.isWhole_whole _) sc5 (Memref.isWhole_whole _) sc6 (Memref.isWhole_whole _) sc7 (Memref.isWhole_whole _) (fun h => absurd ((hcond0 t).mp h) (by omega)) (fun h => absurd ((hcond1 t).mp h) (by omega)) (fun h => absurd ((hcond2 t).mp h) (by omega)) ((hcond3 t).mpr (by omega)) ((hcond4 t).mpr (by omega)) d0 d1 d2 d3 d4 d5 d6 d7 d8 d9 d10 d11 d12 d13 d14 d15 d16 d17 d18 d19).2.2.2.2.2.2
    · exact wrote c _ _
    · exact wrote c _ _
    · exact kept c _ _
    · exact wrote c _ _
    · exact kept c _ _
    · exact wrote c _ _
    · exact kept c _ _
    · exact kept c _ _
    · exact kept c _ _
    · exact kept c _ _
    · exact kept c _ _
    · exact kept c _ _
    · exact wrote c _ _
    · exact wrote c _ _

/-! ## The pipeline's proof data -/

/-- The outputs, of which nothing is said. -/
def forgets : Fin 12 → Bool := fun w => w.val == 6 || w.val == 7 || w.val == 8 || w.val == 9 || w.val == 10 || w.val == 11

/-- The proof data: inputs at their blocks, outputs unnamed, the scratch buffers at some contents throughout. -/
def fdats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, h⟩ => Pipeline.Dat.unnamed (cfg := cfg0) ⟨6, h⟩ t
    | ⟨7, h⟩ => Pipeline.Dat.unnamed (cfg := cfg0) ⟨7, h⟩ t
    | ⟨8, h⟩ => Pipeline.Dat.unnamed (cfg := cfg0) ⟨8, h⟩ t
    | ⟨9, h⟩ => Pipeline.Dat.unnamed (cfg := cfg0) ⟨9, h⟩ t
    | ⟨10, h⟩ => Pipeline.Dat.unnamed (cfg := cfg0) ⟨10, h⟩ t
    | ⟨11, h⟩ => Pipeline.Dat.unnamed (cfg := cfg0) ⟨11, h⟩ t
  Φ _ := Pipeline.ΦA spec0 c
  q _ := fullShare
  owed _ := 0

theorem fA_eq (c : Dev nD) (w : Fin cfg0.W) : (fdats m 0 c).A w = V m c (Pipeline.arrRef spec0 w) := by
  dsimp only [fdats]
theorem fafter0 (c : Dev nD) (t : Fin cfg0.N) : (fdats m 0 c).after 0 t = iblk m c 0 t := by dsimp only [fdats]
theorem fbefore0 (c : Dev nD) (t : Fin cfg0.N) (d) : (fdats m 0 c).before 0 t d = iblk m c 0 t :=
  before0_0_of m (fdats m 0 c) (fA_eq m c 0) (fafter0 m c) t d
theorem fleaves0 (c : Dev nD) (t : Fin cfg0.N) :
    (fdats m 0 c).leavesExact 0 t = owns (c : Thread nD τ) (ms0 t) fullShare (iblk m c 0 t) := by
  unfold Dat.leavesExact
  rw [show cfg0.idle 0 (grid0.coords t) = false from rfl, fafter0]
theorem fafter1 (c : Dev nD) (t : Fin cfg0.N) : (fdats m 0 c).after 1 t = iblk m c 1 t := by dsimp only [fdats]
theorem fbefore1 (c : Dev nD) (t : Fin cfg0.N) (d) : (fdats m 0 c).before 1 t d = iblk m c 1 t :=
  before0_1_of m (fdats m 0 c) (fA_eq m c 1) (fafter1 m c) t d
theorem fleaves1 (c : Dev nD) (t : Fin cfg0.N) :
    (fdats m 0 c).leavesExact 1 t = owns (c : Thread nD τ) (ms1 t) fullShare (iblk m c 1 t) := by
  unfold Dat.leavesExact
  rw [show cfg0.idle 1 (grid0.coords t) = false from rfl, fafter1]
theorem fafter2 (c : Dev nD) (t : Fin cfg0.N) : (fdats m 0 c).after 2 t = iblk m c 2 t := by dsimp only [fdats]
theorem fbefore2 (c : Dev nD) (t : Fin cfg0.N) (d) : (fdats m 0 c).before 2 t d = iblk m c 2 t :=
  before0_2_of m (fdats m 0 c) (fA_eq m c 2) (fafter2 m c) t d
theorem fleaves2 (c : Dev nD) (t : Fin cfg0.N) :
    (fdats m 0 c).leavesExact 2 t = owns (c : Thread nD τ) (ms2 t) fullShare (iblk m c 2 t) := by
  unfold Dat.leavesExact
  rw [show cfg0.idle 2 (grid0.coords t) = false from rfl, fafter2]
theorem fafter3 (c : Dev nD) (t : Fin cfg0.N) : (fdats m 0 c).after 3 t = iblk m c 3 t := by dsimp only [fdats]
theorem fbefore3 (c : Dev nD) (t : Fin cfg0.N) (d) : (fdats m 0 c).before 3 t d = iblk m c 3 t :=
  before0_3_of m (fdats m 0 c) (fA_eq m c 3) (fafter3 m c) t d
theorem fleaves3 (c : Dev nD) (t : Fin cfg0.N) :
    (fdats m 0 c).leavesExact 3 t = owns (c : Thread nD τ) (ms3 t) fullShare (iblk m c 3 t) := by
  unfold Dat.leavesExact
  rw [show cfg0.idle 3 (grid0.coords t) = false from rfl, fafter3]
theorem fafter4 (c : Dev nD) (t : Fin cfg0.N) : (fdats m 0 c).after 4 t = iblk m c 4 t := by dsimp only [fdats]
theorem fbefore4 (c : Dev nD) (t : Fin cfg0.N) (d) : (fdats m 0 c).before 4 t d = iblk m c 4 t :=
  before0_4_of m (fdats m 0 c) (fA_eq m c 4) (fafter4 m c) t d
theorem fleaves4 (c : Dev nD) (t : Fin cfg0.N) :
    (fdats m 0 c).leavesExact 4 t = owns (c : Thread nD τ) (ms4 t) fullShare (iblk m c 4 t) := by
  unfold Dat.leavesExact
  rw [show cfg0.idle 4 (grid0.coords t) = false from rfl, fafter4]
theorem fafter5 (c : Dev nD) (t : Fin cfg0.N) : (fdats m 0 c).after 5 t = iblk m c 5 t := by dsimp only [fdats]
theorem fbefore5 (c : Dev nD) (t : Fin cfg0.N) (d) : (fdats m 0 c).before 5 t d = iblk m c 5 t :=
  before0_5_of m (fdats m 0 c) (fA_eq m c 5) (fafter5 m c) t d
theorem fleaves5 (c : Dev nD) (t : Fin cfg0.N) :
    (fdats m 0 c).leavesExact 5 t = owns (c : Thread nD τ) (ms5 t) fullShare (iblk m c 5 t) := by
  unfold Dat.leavesExact
  rw [show cfg0.idle 5 (grid0.coords t) = false from rfl, fafter5]

/-- What the body is called with at a point, -/
def bodyPre (c : Dev nD) (t : Fin cfg0.N) : sProp 𝕄 :=
  iprop((fdats m 0 c).Φ t.castSucc ∗ (fdats m 0 c).owesAt () t.castSucc
    ∗ (∃ d, owns (c : Thread nD τ) (ms0 t) fullShare ((fdats m 0 c).before 0 t d)) ∗ (∃ d, owns (c : Thread nD τ) (ms1 t) fullShare ((fdats m 0 c).before 1 t d)) ∗ (∃ d, owns (c : Thread nD τ) (ms2 t) fullShare ((fdats m 0 c).before 2 t d)) ∗ (∃ d, owns (c : Thread nD τ) (ms3 t) fullShare ((fdats m 0 c).before 3 t d)) ∗ (∃ d, owns (c : Thread nD τ) (ms4 t) fullShare ((fdats m 0 c).before 4 t d)) ∗ (∃ d, owns (c : Thread nD τ) (ms5 t) fullShare ((fdats m 0 c).before 5 t d)) ∗ (∃ d, owns (c : Thread nD τ) (ms6 t) fullShare d) ∗ (∃ d, owns (c : Thread nD τ) (ms7 t) fullShare d) ∗ (∃ d, owns (c : Thread nD τ) (ms8 t) fullShare d) ∗ (∃ d, owns (c : Thread nD τ) (ms9 t) fullShare d) ∗ (∃ d, owns (c : Thread nD τ) (ms10 t) fullShare d) ∗ (∃ d, owns (c : Thread nD τ) (ms11 t) fullShare d))

/-- and what it returns. -/
def bodyPost (c : Dev nD) (t : Fin cfg0.N) : sProp 𝕄 :=
  iprop((fdats m 0 c).Φ t.succ ∗ (fdats m 0 c).owesAt () t.succ
    ∗ (fdats m 0 c).leavesExact 0 t ∗ (fdats m 0 c).leavesExact 1 t ∗ (fdats m 0 c).leavesExact 2 t ∗ (fdats m 0 c).leavesExact 3 t ∗ (fdats m 0 c).leavesExact 4 t ∗ (fdats m 0 c).leavesExact 5 t ∗ (∃ d, owns (c : Thread nD τ) (ms6 t) fullShare d) ∗ (∃ d, owns (c : Thread nD τ) (ms7 t) fullShare d) ∗ (∃ d, owns (c : Thread nD τ) (ms8 t) fullShare d) ∗ (∃ d, owns (c : Thread nD τ) (ms9 t) fullShare d) ∗ (∃ d, owns (c : Thread nD τ) (ms10 t) fullShare d) ∗ (∃ d, owns (c : Thread nD τ) (ms11 t) fullShare d))

theorem sound_body (c : Dev nD) (t : Fin cfg0.N) :
    bodyPre m c t ⊢ wp frame (wpE (defs₀ (F := F)) Variants.none c none) Set.univ (bodyAt0 t) (fun _ => bodyPost m c t) := by
  unfold bodyPre bodyPost
  simp only [fbefore0, fbefore1, fbefore2, fbefore3, fbefore4, fbefore5, fleaves0, fleaves1, fleaves2, fleaves3, fleaves4, fleaves5]
  rw [show (fdats m 0 c).owesAt () t.succ = (fdats m 0 c).owesAt () t.castSucc from rfl]
  rw [show (fdats m 0 c).Φ t.succ = Pipeline.ΦA spec0 c from rfl, show (fdats m 0 c).Φ t.castSucc = Pipeline.ΦA spec0 c from rfl, PhiA_eq]
  iintro ⟨⟨⟨⟨%s0, S0⟩, ⟨%s1, S1⟩, ⟨%s2, S2⟩, ⟨%s3, S3⟩, ⟨%s4, S4⟩, ⟨%s5, S5⟩, ⟨%s6, S6⟩, ⟨%s7, S7⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  ihave Hwp := body_kept c t (iblk m c 0 t) (iblk m c 1 t) (iblk m c 2 t) (iblk m c 3 t) (iblk m c 4 t) (iblk m c 5 t) d6 d7 d8 d9 d10 d11 s0 s1 s2 s3 s4 s5 s6 s7 $$ [H0 H1 H2 H3 H4 H5 H6 H7 H8 H9 H10 H11 S0 S1 S2 S3 S4 S5 S6 S7]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [S0]; · iexact S0
    isplitl [S1]; · iexact S1
    isplitl [S2]; · iexact S2
    isplitl [S3]; · iexact S3
    isplitl [S4]; · iexact S4
    isplitl [S5]; · iexact S5
    isplitl [S6]; · iexact S6
    iexact S7
  iapply wp_wand $$ Hwp
  iintro %u ⟨H0, H1, H2, H3, H4, H5, H6, H7, H8, H9, H10, H11, S0, S1, S2, S3, S4, S5, S6, S7⟩
  isplitl [S0 S1 S2 S3 S4 S5 S6 S7 Hg]
  · isplitl [S0 S1 S2 S3 S4 S5 S6 S7]
    · isplitl [S0]; · iexact S0
      isplitl [S1]; · iexact S1
      isplitl [S2]; · iexact S2
      isplitl [S3]; · iexact S3
      isplitl [S4]; · iexact S4
      isplitl [S5]; · iexact S5
      isplitl [S6]; · iexact S6
      iexact S7
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

/-- The body table's row at a point is the body. -/
theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (fdats (F := F) m 0 c) (defs₀ (F := F)) Variants.none () Set.univ forgets := fun t => by
  rw [bigSep_W0, bigSep_W0, defs₀_row]
  exact triple_restated (sound_body m c t) rfl .rfl fun _ => .rfl

/-! ## The run and the frame -/

-- the implicit arguments of `θ_run_frame_track_forget` are found by unifying its conclusion with this one
set_option backward.isDefEq.respectTransparency.types false in
theorem run_main : θ_run defs (onTc (τ := τ) (main (F := F))) (s₀ m ρ)
    (fun r => (Pipeline.RDat.FramePost (cfgs 0) (fun c => (fdats m 0 c).toRForget forgets) (V m)) r ∧ r.2.sem = fun _ => 0) :=
  Pipeline.θ_run_frame_track_forget (Q' := _) cfgs (fdats m) (0 : Fin 1) launch0 defs₀ Variants.none forgets m ρ main
    (hbody := fun c => (body_obligation m c).loose) (hshare := fun c => (fdats m 0 c).share_full fun _ => rfl)
    (howed := fun _ _ => rfl) (V := V m) (hmain := hmain m Variants.none) (hA := fA_eq m)
    (hin := fun _ => .rfl) (hout := fun _ => .rfl)

/-- A run that leaves every input array as the launch found it leaves the arguments as they were. -/
theorem args_of (rdat : (c : Dev nD) → Pipeline.RDat τ (Elt F) Unit ℕ (UR sig nD τ) ℕ (cfgs 0) c)
    (hA : ∀ c w, (rdat c).A w = V m c (Pipeline.arrRef spec0 w)) (r : _)
    (h : Pipeline.RDat.FramePost (cfgs 0) rdat (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  ⟨((h c).2 main_arg0 (Pipeline.mem_restRefs_of main_arg0 (by decide) (by decide))).trans (V_main_arg0 m c),
    ((h c).2 main_arg1 (Pipeline.mem_restRefs_of main_arg1 (by decide) (by decide))).trans (V_main_arg1 m c),
    (Pipeline.RDat.FramePost.arr_in h c 4 rfl).trans ((hA c 4).trans (V_main_arg2 m c)),
    (Pipeline.RDat.FramePost.arr_in h c 5 rfl).trans ((hA c 5).trans (V_main_arg3 m c)),
    (Pipeline.RDat.FramePost.arr_in h c 3 rfl).trans ((hA c 3).trans (V_main_arg4 m c))⟩

/-- The frame: the program runs to the end, its arguments end unchanged, every semaphore counter ends at zero. -/
theorem frame_main : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun r h => ⟨args_of m (fun c => (fdats m 0 c).toRForget forgets) (fA_eq m) r h.1, h.2⟩) (run_main m ρ)

end Cert.Kernel.Body

end
-- ==== Proof.KernelIdealPoints.lean ====
/- The points of the grid the body tells apart, in closed form, and the buffers it is called with.

   The body asks five things of the grid index `i`: whether it is the first point, whether it is one of the 125 vocabulary
   tiles, whether it is point 125, whether it is one of the 25 output tiles, whether it is the last point. -/
module

public import proofs.«01_k».proof.Proof.Gen.KernelIdeal.Frame
public import proofs.«01_k».proof.Proof.Gen.KernelIdeal.Skeleton
public import Idealize.ShloMosaic.Lib.WordCmp

@[expose] public section

set_option maxRecDepth 16384

noncomputable section

namespace Cert.KernelIdeal.Body

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The five conditions -/

/-- The body is at the first point. -/
abbrev cond0 (i : grid0.Coords) : Prop := (Scalar.cmpi .ne (Scalar.extui (Scalar.cmpi .eq (BitVec.ofNat 32 (i 0).val) 0#32)) 0#32) = 1#1
/-- The body is at a vocabulary tile. -/
abbrev cond1 (i : grid0.Coords) : Prop := k0_cond2 i = 1#1
/-- The body is at point 125. -/
abbrev cond2 (i : grid0.Coords) : Prop := k0_cond3 i = 1#1
/-- The body is at an output tile. -/
abbrev cond3 (i : grid0.Coords) : Prop := k0_cond4 i = 1#1
/-- The body is at the last point. -/
abbrev cond4 (i : grid0.Coords) : Prop := k0_cond5 i = 1#1

/-- The grid's coordinate at a point is the point. -/
theorem coord0 (t : Fin grid0.N) : (grid0.coords t 0).val = t.val := by
  have ht : t.val < 150 := Nat.lt_of_lt_of_eq t.isLt N_0
  have e : (grid0.coords t 0).val = t.val / 1 % 150 := Pipeline.Grid.coords_val t 0 (by decide) rfl
  omega

theorem lt150 (t : Fin cfg0.N) : t.val < 150 := Nat.lt_of_lt_of_eq t.isLt N_0

theorem hcond0 : ∀ t : Fin cfg0.N, cond0 (grid0.coords t) ↔ t.val = 0 :=
  (fun t => by
    have ht : t.val < 150 := Nat.lt_of_lt_of_eq t.isLt N_0
    have e0 := coord0 t
    simp only [cond0, e0]
    word_cmp
   : ∀ t : Fin grid0.N, cond0 (grid0.coords t) ↔ t.val = 0)
theorem hcond1 : ∀ t : Fin cfg0.N, cond1 (grid0.coords t) ↔ t.val < 125 :=
  (by decide +kernel : ∀ t : Fin grid0.N, cond1 (grid0.coords t) ↔ t.val < 125)
theorem hcond2 : ∀ t : Fin cfg0.N, cond2 (grid0.coords t) ↔ t.val = 125 :=
  (fun t => by
    have ht : t.val < 150 := Nat.lt_of_lt_of_eq t.isLt N_0
    have e0 := coord0 t
    simp only [cond2, k0_cond3, e0]
    word_cmp
   : ∀ t : Fin grid0.N, cond2 (grid0.coords t) ↔ t.val = 125)
theorem hcond3 : ∀ t : Fin cfg0.N, cond3 (grid0.coords t) ↔ 125 ≤ t.val :=
  (by decide +kernel : ∀ t : Fin grid0.N, cond3 (grid0.coords t) ↔ 125 ≤ t.val)
theorem hcond4 : ∀ t : Fin cfg0.N, cond4 (grid0.coords t) ↔ t.val = 149 :=
  (fun t => by
    have ht : t.val < 150 := Nat.lt_of_lt_of_eq t.isLt N_0
    have e0 := coord0 t
    simp only [cond4, k0_cond5, e0]
    word_cmp
   : ∀ t : Fin grid0.N, cond4 (grid0.coords t) ↔ t.val = 149)

/-! ## The buffers the body is called with -/

/-- Window 0's current staging buffer at a point, and that it is a whole buffer. -/
abbrev ms0 (t : Fin cfg0.N) : Memref sig .tc .vmem S256x6144 .fp8e4m3 := win0_0.stage (cfg0.slots t 0)
abbrev hs0 (t : Fin cfg0.N) : (ms0 t).IsWhole := hstage0_0 ((cfg0.slots t 0).cast nbuf0_0)
/-- Window 1's current staging buffer at a point, and that it is a whole buffer. -/
abbrev ms1 (t : Fin cfg0.N) : Memref sig .tc .vmem S256x6144 .fp8e4m3 := win0_1.stage (cfg0.slots t 1)
abbrev hs1 (t : Fin cfg0.N) : (ms1 t).IsWhole := hstage0_1 ((cfg0.slots t 1).cast nbuf0_1)
/-- Window 2's current staging buffer at a point, and that it is a whole buffer. -/
abbrev ms2 (t : Fin cfg0.N) : Memref sig .tc .vmem S256x1 .f32 := win0_2.stage (cfg0.slots t 2)
abbrev hs2 (t : Fin cfg0.N) : (ms2 t).IsWhole := hstage0_2 ((cfg0.slots t 2).cast nbuf0_2)
/-- Window 3's current staging buffer at a point, and that it is a whole buffer. -/
abbrev ms3 (t : Fin cfg0.N) : Memref sig .tc .smem S1 .f32 := win0_3.stage (cfg0.slots t 3)
abbrev hs3 (t : Fin cfg0.N) : (ms3 t).IsWhole := hstage0_3 ((cfg0.slots t 3).cast nbuf0_3)
/-- Window 4's current staging buffer at a point, and that it is a whole buffer. -/
abbrev ms4 (t : Fin cfg0.N) : Memref sig .tc .vmem S256x6144 .i8 := win0_4.stage (cfg0.slots t 4)
abbrev hs4 (t : Fin cfg0.N) : (ms4 t).IsWhole := hstage0_4 ((cfg0.slots t 4).cast nbuf0_4)
/-- Window 5's current staging buffer at a point, and that it is a whole buffer. -/
abbrev ms5 (t : Fin cfg0.N) : Memref sig .tc .vmem S256x768 .fp8e4m3 := win0_5.stage (cfg0.slots t 5)
abbrev hs5 (t : Fin cfg0.N) : (ms5 t).IsWhole := hstage0_5 ((cfg0.slots t 5).cast nbuf0_5)
/-- Window 6's current staging buffer at a point, and that it is a whole buffer. -/
abbrev ms6 (t : Fin cfg0.N) : Memref sig .tc .vmem S256x1280 .fp8e5m2 := win0_6.stage (cfg0.slots t 6)
abbrev hs6 (t : Fin cfg0.N) : (ms6 t).IsWhole := hstage0_6 ((cfg0.slots t 6).cast nbuf0_6)
/-- Window 7's current staging buffer at a point, and that it is a whole buffer. -/
abbrev ms7 (t : Fin cfg0.N) : Memref sig .tc .vmem S256x1280 .fp8e5m2 := win0_7.stage (cfg0.slots t 7)
abbrev hs7 (t : Fin cfg0.N) : (ms7 t).IsWhole := hstage0_7 ((cfg0.slots t 7).cast nbuf0_7)
/-- Window 8's current staging buffer at a point, and that it is a whole buffer. -/
abbrev ms8 (t : Fin cfg0.N) : Memref sig .tc .vmem S2x128 .f32 := win0_8.stage (cfg0.slots t 8)
abbrev hs8 (t : Fin cfg0.N) : (ms8 t).IsWhole := hstage0_8 ((cfg0.slots t 8).cast nbuf0_8)
/-- Window 9's current staging buffer at a point, and that it is a whole buffer. -/
abbrev ms9 (t : Fin cfg0.N) : Memref sig .tc .vmem S2x128 .f32 := win0_9.stage (cfg0.slots t 9)
abbrev hs9 (t : Fin cfg0.N) : (ms9 t).IsWhole := hstage0_9 ((cfg0.slots t 9).cast nbuf0_9)
/-- Window 10's current staging buffer at a point, and that it is a whole buffer. -/
abbrev ms10 (t : Fin cfg0.N) : Memref sig .tc .vmem S2x128 .f32 := win0_10.stage (cfg0.slots t 10)
abbrev hs10 (t : Fin cfg0.N) : (ms10 t).IsWhole := hstage0_10 ((cfg0.slots t 10).cast nbuf0_10)
/-- Window 11's current staging buffer at a point, and that it is a whole buffer. -/
abbrev ms11 (t : Fin cfg0.N) : Memref sig .tc .vmem S2x128 .f32 := win0_11.stage (cfg0.slots t 11)
abbrev hs11 (t : Fin cfg0.N) : (ms11 t).IsWhole := hstage0_11 ((cfg0.slots t 11).cast nbuf0_11)
/-- Scratch buffer 0. -/
abbrev sc0 : Memref sig .tc .vmem S256x32000 .f32 := Memref.whole cc0_scratch0
/-- Scratch buffer 1. -/
abbrev sc1 : Memref sig .tc .vmem S256x128 .f32 := Memref.whole cc0_scratch1
/-- Scratch buffer 2. -/
abbrev sc2 : Memref sig .tc .vmem S256x128 .f32 := Memref.whole cc0_scratch2
/-- Scratch buffer 3. -/
abbrev sc3 : Memref sig .tc .vmem S256x128 .f32 := Memref.whole cc0_scratch3
/-- Scratch buffer 4. -/
abbrev sc4 : Memref sig .tc .vmem S256x128 .f32 := Memref.whole cc0_scratch4
/-- Scratch buffer 5. -/
abbrev sc5 : Memref sig .tc .vmem S256x128 .f32 := Memref.whole cc0_scratch5
/-- Scratch buffer 6. -/
abbrev sc6 : Memref sig .tc .vmem S256x128 .f32 := Memref.whole cc0_scratch6
/-- Scratch buffer 7. -/
abbrev sc7 : Memref sig .tc .vmem S256x128 .f32 := Memref.whole cc0_scratch7

/-- The invariant a launch hands the body, spelled out: the eight scratch buffers at some contents and the generator register
    at some state. -/
theorem PhiA_eq (c : Dev nD) :
    (Pipeline.ΦA spec0 c : sProp 𝕄)
      = iprop(iprop((∃ d, owns (c : Thread nD τ) sc0 fullShare d) ∗ (∃ d, owns (c : Thread nD τ) sc1 fullShare d) ∗ (∃ d, owns (c : Thread nD τ) sc2 fullShare d) ∗ (∃ d, owns (c : Thread nD τ) sc3 fullShare d) ∗ (∃ d, owns (c : Thread nD τ) sc4 fullShare d) ∗ (∃ d, owns (c : Thread nD τ) sc5 fullShare d) ∗ (∃ d, owns (c : Thread nD τ) sc6 fullShare d) ∗ (∃ d, owns (c : Thread nD τ) sc7 fullShare d)) ∗ (∃ r, prngReg c r)) := by
  unfold Pipeline.ΦA; rw [scopedRest0_eq]; simp only [sc0, sc1, sc2, sc3, sc4, sc5, sc6, sc7, owns_whole]; try rfl

end Cert.KernelIdeal.Body

end
-- ==== Proof.KernelIdealRunA.lean ====
module

public import proofs.«01_k».proof.Proof.KernelIdealPoints

@[expose] public section

set_option maxRecDepth 16384

noncomputable section

namespace Cert.KernelIdeal.Body

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the run's proof term is long: the definition's closing pass walks all of it
set_option maxHeartbeats 8000000 in
/-- The body's run at the first point: the running sums are set up, then a vocabulary tile is folded in. On whole buffers at the contents `d1` … `d20` (six inputs, six outputs, eight scratch buffers) the
    body ends with every buffer it does not store into as it was, and each one it stores into with the listed pieces (last
    first) written over what it held. -/
noncomputable def runA (c : Dev nD) (i : grid0.Coords) (arg1 : Memref sig .tc .vmem S256x6144 .fp8e4m3) (harg1 : arg1.IsWhole) (arg2 : Memref sig .tc .vmem S256x6144 .fp8e4m3) (harg2 : arg2.IsWhole) (arg3 : Memref sig .tc .vmem S256x1 .f32) (harg3 : arg3.IsWhole) (arg4 : Memref sig .tc .smem S1 .f32) (harg4 : arg4.IsWhole) (arg5 : Memref sig .tc .vmem S256x6144 .i8) (harg5 : arg5.IsWhole) (arg6 : Memref sig .tc .vmem S256x768 .fp8e4m3) (harg6 : arg6.IsWhole) (arg7 : Memref sig .tc .vmem S256x1280 .fp8e5m2) (harg7 : arg7.IsWhole) (arg8 : Memref sig .tc .vmem S256x1280 .fp8e5m2) (harg8 : arg8.IsWhole) (arg9 : Memref sig .tc .vmem S2x128 .f32) (harg9 : arg9.IsWhole) (arg10 : Memref sig .tc .vmem S2x128 .f32) (harg10 : arg10.IsWhole) (arg11 : Memref sig .tc .vmem S2x128 .f32) (harg11 : arg11.IsWhole) (arg12 : Memref sig .tc .vmem S2x128 .f32) (harg12 : arg12.IsWhole) (arg13 : Memref sig .tc .vmem S256x32000 .f32) (harg13 : arg13.IsWhole) (arg14 : Memref sig .tc .vmem S256x128 .f32) (harg14 : arg14.IsWhole) (arg15 : Memref sig .tc .vmem S256x128 .f32) (harg15 : arg15.IsWhole) (arg16 : Memref sig .tc .vmem S256x128 .f32) (harg16 : arg16.IsWhole) (arg17 : Memref sig .tc .vmem S256x128 .f32) (harg17 : arg17.IsWhole) (arg18 : Memref sig .tc .vmem S256x128 .f32) (harg18 : arg18.IsWhole) (arg19 : Memref sig .tc .vmem S256x128 .f32) (harg19 : arg19.IsWhole) (arg20 : Memref sig .tc .vmem S256x128 .f32) (harg20 : arg20.IsWhole) (hc0 : cond0 i) (hc1 : cond1 i) (hc2 : ¬cond2 i) (hc3 : ¬cond3 i) (hc4 : ¬cond4 i)
    (d1 : Vec F S256x6144 .fp8e4m3) (d2 : Vec F S256x6144 .fp8e4m3) (d3 : Vec F S256x1 .f32) (d4 : Vec F S1 .f32) (d5 : Vec F S256x6144 .i8) (d6 : Vec F S256x768 .fp8e4m3) (d7 : Vec F S256x1280 .fp8e5m2) (d8 : Vec F S256x1280 .fp8e5m2) (d9 : Vec F S2x128 .f32) (d10 : Vec F S2x128 .f32) (d11 : Vec F S2x128 .f32) (d12 : Vec F S2x128 .f32) (d13 : Vec F S256x32000 .f32) (d14 : Vec F S256x128 .f32) (d15 : Vec F S256x128 .f32) (d16 : Vec F S256x128 .f32) (d17 : Vec F S256x128 .f32) (d18 : Vec F S256x128 .f32) (d19 : Vec F S256x128 .f32) (d20 : Vec F S256x128 .f32) :
    Σ' (L13 : List (View.Piece (Elt F) S256x32000 .f32)), Σ' (L14 : List (View.Piece (Elt F) S256x128 .f32)), Σ' (L15 : List (View.Piece (Elt F) S256x128 .f32)), { L16 : List (View.Piece (Elt F) S256x128 .f32) //
      ∀ (E : Set ℕ) (K : PUnit → sProp 𝕄),
        iprop(owns (c : Thread nD τ) arg1 fullShare d1 ∗ owns (c : Thread nD τ) arg2 fullShare d2 ∗ owns (c : Thread nD τ) arg3 fullShare d3 ∗ owns (c : Thread nD τ) arg4 fullShare d4 ∗ owns (c : Thread nD τ) arg5 fullShare d5 ∗ owns (c : Thread nD τ) arg6 fullShare d6 ∗ owns (c : Thread nD τ) arg7 fullShare d7 ∗ owns (c : Thread nD τ) arg8 fullShare d8 ∗ owns (c : Thread nD τ) arg9 fullShare d9 ∗ owns (c : Thread nD τ) arg10 fullShare d10 ∗ owns (c : Thread nD τ) arg11 fullShare d11 ∗ owns (c : Thread nD τ) arg12 fullShare d12 ∗ owns (c : Thread nD τ) arg13 fullShare d13 ∗ owns (c : Thread nD τ) arg14 fullShare d14 ∗ owns (c : Thread nD τ) arg15 fullShare d15 ∗ owns (c : Thread nD τ) arg16 fullShare d16 ∗ owns (c : Thread nD τ) arg17 fullShare d17 ∗ owns (c : Thread nD τ) arg18 fullShare d18 ∗ owns (c : Thread nD τ) arg19 fullShare d19 ∗ owns (c : Thread nD τ) arg20 fullShare d20
            ∗ (iprop(owns (c : Thread nD τ) arg1 fullShare d1 ∗ owns (c : Thread nD τ) arg2 fullShare d2 ∗ owns (c : Thread nD τ) arg3 fullShare d3 ∗ owns (c : Thread nD τ) arg4 fullShare d4 ∗ owns (c : Thread nD τ) arg5 fullShare d5 ∗ owns (c : Thread nD τ) arg6 fullShare d6 ∗ owns (c : Thread nD τ) arg7 fullShare d7 ∗ owns (c : Thread nD τ) arg8 fullShare d8 ∗ owns (c : Thread nD τ) arg9 fullShare d9 ∗ owns (c : Thread nD τ) arg10 fullShare d10 ∗ owns (c : Thread nD τ) arg11 fullShare d11 ∗ owns (c : Thread nD τ) arg12 fullShare d12 ∗ (arg13.view.loc (c : Thread nD τ) ↦[arg13.view.set]{fullShare} arg13.view.writes (Elt F) (harg13.unread d13) L13) ∗ (arg14.view.loc (c : Thread nD τ) ↦[arg14.view.set]{fullShare} arg14.view.writes (Elt F) (harg14.unread d14) L14) ∗ (arg15.view.loc (c : Thread nD τ) ↦[arg15.view.set]{fullShare} arg15.view.writes (Elt F) (harg15.unread d15) L15) ∗ (arg16.view.loc (c : Thread nD τ) ↦[arg16.view.set]{fullShare} arg16.view.writes (Elt F) (harg16.unread d16) L16) ∗ owns (c : Thread nD τ) arg17 fullShare d17 ∗ owns (c : Thread nD τ) arg18 fullShare d18 ∗ owns (c : Thread nD τ) arg19 fullShare d19 ∗ owns (c : Thread nD τ) arg20 fullShare d20) -∗ K ⟨⟩))
          ⊢ wp frame (wpE (defs₀ (F := F)) Variants.none c none) E (cc0_nvfp4_logit_store i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K } := by
  refine ⟨?_, ?_, ?_, ?_, fun E K => ?run⟩
  case run =>
    simp only [cc0_nvfp4_logit_store_eq_skeleton]; unfold cc0_nvfp4_logit_store_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton]
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14; obtain rfl := harg15.eq_unread hf15; obtain rfl := harg16.eq_unread hf16; obtain rfl := harg17.eq_unread hf17; obtain rfl := harg18.eq_unread hf18; obtain rfl := harg19.eq_unread hf19; obtain rfl := harg20.eq_unread hf20
    sl_exec (disch := first | sl_exact hc0 | sl_exact hc1 | sl_exact hc2 | sl_exact hc3 | sl_exact hc4)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H12]
    · iexists _; isplitr; · ipureintro; exact harg12.read_unread _
      iexact H12
    isplitl [H13]
    · iexact H13
    isplitl [H14]
    · iexact H14
    isplitl [H15]
    · iexact H15
    isplitl [H16]
    · iexact H16
    isplitl [H17]
    · iexists _; isplitr; · ipureintro; exact harg17.read_unread _
      iexact H17
    isplitl [H18]
    · iexists _; isplitr; · ipureintro; exact harg18.read_unread _
      iexact H18
    isplitl [H19]
    · iexists _; isplitr; · ipureintro; exact harg19.read_unread _
      iexact H19
    iexists _; isplitr; · ipureintro; exact harg20.read_unread _
    iexact H20

end Cert.KernelIdeal.Body

end
-- ==== Proof.KernelIdealRunB.lean ====
module

public import proofs.«01_k».proof.Proof.KernelIdealRunA

@[expose] public section

set_option maxRecDepth 16384

noncomputable section

namespace Cert.KernelIdeal.Body

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the run's proof term is long: the definition's closing pass walks all of it
set_option maxHeartbeats 8000000 in
/-- The body's run at points 1 to 124: a vocabulary tile is folded in. On whole buffers at the contents `d1` … `d20` (six inputs, six outputs, eight scratch buffers) the
    body ends with every buffer it does not store into as it was, and each one it stores into with the listed pieces (last
    first) written over what it held. -/
noncomputable def runB (c : Dev nD) (i : grid0.Coords) (arg1 : Memref sig .tc .vmem S256x6144 .fp8e4m3) (harg1 : arg1.IsWhole) (arg2 : Memref sig .tc .vmem S256x6144 .fp8e4m3) (harg2 : arg2.IsWhole) (arg3 : Memref sig .tc .vmem S256x1 .f32) (harg3 : arg3.IsWhole) (arg4 : Memref sig .tc .smem S1 .f32) (harg4 : arg4.IsWhole) (arg5 : Memref sig .tc .vmem S256x6144 .i8) (harg5 : arg5.IsWhole) (arg6 : Memref sig .tc .vmem S256x768 .fp8e4m3) (harg6 : arg6.IsWhole) (arg7 : Memref sig .tc .vmem S256x1280 .fp8e5m2) (harg7 : arg7.IsWhole) (arg8 : Memref sig .tc .vmem S256x1280 .fp8e5m2) (harg8 : arg8.IsWhole) (arg9 : Memref sig .tc .vmem S2x128 .f32) (harg9 : arg9.IsWhole) (arg10 : Memref sig .tc .vmem S2x128 .f32) (harg10 : arg10.IsWhole) (arg11 : Memref sig .tc .vmem S2x128 .f32) (harg11 : arg11.IsWhole) (arg12 : Memref sig .tc .vmem S2x128 .f32) (harg12 : arg12.IsWhole) (arg13 : Memref sig .tc .vmem S256x32000 .f32) (harg13 : arg13.IsWhole) (arg14 : Memref sig .tc .vmem S256x128 .f32) (harg14 : arg14.IsWhole) (arg15 : Memref sig .tc .vmem S256x128 .f32) (harg15 : arg15.IsWhole) (arg16 : Memref sig .tc .vmem S256x128 .f32) (harg16 : arg16.IsWhole) (arg17 : Memref sig .tc .vmem S256x128 .f32) (harg17 : arg17.IsWhole) (arg18 : Memref sig .tc .vmem S256x128 .f32) (harg18 : arg18.IsWhole) (arg19 : Memref sig .tc .vmem S256x128 .f32) (harg19 : arg19.IsWhole) (arg20 : Memref sig .tc .vmem S256x128 .f32) (harg20 : arg20.IsWhole) (hc0 : ¬cond0 i) (hc1 : cond1 i) (hc2 : ¬cond2 i) (hc3 : ¬cond3 i) (hc4 : ¬cond4 i)
    (d1 : Vec F S256x6144 .fp8e4m3) (d2 : Vec F S256x6144 .fp8e4m3) (d3 : Vec F S256x1 .f32) (d4 : Vec F S1 .f32) (d5 : Vec F S256x6144 .i8) (d6 : Vec F S256x768 .fp8e4m3) (d7 : Vec F S256x1280 .fp8e5m2) (d8 : Vec F S256x1280 .fp8e5m2) (d9 : Vec F S2x128 .f32) (d10 : Vec F S2x128 .f32) (d11 : Vec F S2x128 .f32) (d12 : Vec F S2x128 .f32) (d13 : Vec F S256x32000 .f32) (d14 : Vec F S256x128 .f32) (d15 : Vec F S256x128 .f32) (d16 : Vec F S256x128 .f32) (d17 : Vec F S256x128 .f32) (d18 : Vec F S256x128 .f32) (d19 : Vec F S256x128 .f32) (d20 : Vec F S256x128 .f32) :
    Σ' (L13 : List (View.Piece (Elt F) S256x32000 .f32)), Σ' (L14 : List (View.Piece (Elt F) S256x128 .f32)), Σ' (L15 : List (View.Piece (Elt F) S256x128 .f32)), { L16 : List (View.Piece (Elt F) S256x128 .f32) //
      ∀ (E : Set ℕ) (K : PUnit → sProp 𝕄),
        iprop(owns (c : Thread nD τ) arg1 fullShare d1 ∗ owns (c : Thread nD τ) arg2 fullShare d2 ∗ owns (c : Thread nD τ) arg3 fullShare d3 ∗ owns (c : Thread nD τ) arg4 fullShare d4 ∗ owns (c : Thread nD τ) arg5 fullShare d5 ∗ owns (c : Thread nD τ) arg6 fullShare d6 ∗ owns (c : Thread nD τ) arg7 fullShare d7 ∗ owns (c : Thread nD τ) arg8 fullShare d8 ∗ owns (c : Thread nD τ) arg9 fullShare d9 ∗ owns (c : Thread nD τ) arg10 fullShare d10 ∗ owns (c : Thread nD τ) arg11 fullShare d11 ∗ owns (c : Thread nD τ) arg12 fullShare d12 ∗ owns (c : Thread nD τ) arg13 fullShare d13 ∗ owns (c : Thread nD τ) arg14 fullShare d14 ∗ owns (c : Thread nD τ) arg15 fullShare d15 ∗ owns (c : Thread nD τ) arg16 fullShare d16 ∗ owns (c : Thread nD τ) arg17 fullShare d17 ∗ owns (c : Thread nD τ) arg18 fullShare d18 ∗ owns (c : Thread nD τ) arg19 fullShare d19 ∗ owns (c : Thread nD τ) arg20 fullShare d20
            ∗ (iprop(owns (c : Thread nD τ) arg1 fullShare d1 ∗ owns (c : Thread nD τ) arg2 fullShare d2 ∗ owns (c : Thread nD τ) arg3 fullShare d3 ∗ owns (c : Thread nD τ) arg4 fullShare d4 ∗ owns (c : Thread nD τ) arg5 fullShare d5 ∗ owns (c : Thread nD τ) arg6 fullShare d6 ∗ owns (c : Thread nD τ) arg7 fullShare d7 ∗ owns (c : Thread nD τ) arg8 fullShare d8 ∗ owns (c : Thread nD τ) arg9 fullShare d9 ∗ owns (c : Thread nD τ) arg10 fullShare d10 ∗ owns (c : Thread nD τ) arg11 fullShare d11 ∗ owns (c : Thread nD τ) arg12 fullShare d12 ∗ (arg13.view.loc (c : Thread nD τ) ↦[arg13.view.set]{fullShare} arg13.view.writes (Elt F) (harg13.unread d13) L13) ∗ (arg14.view.loc (c : Thread nD τ) ↦[arg14.view.set]{fullShare} arg14.view.writes (Elt F) (harg14.unread d14) L14) ∗ (arg15.view.loc (c : Thread nD τ) ↦[arg15.view.set]{fullShare} arg15.view.writes (Elt F) (harg15.unread d15) L15) ∗ (arg16.view.loc (c : Thread nD τ) ↦[arg16.view.set]{fullShare} arg16.view.writes (Elt F) (harg16.unread d16) L16) ∗ owns (c : Thread nD τ) arg17 fullShare d17 ∗ owns (c : Thread nD τ) arg18 fullShare d18 ∗ owns (c : Thread nD τ) arg19 fullShare d19 ∗ owns (c : Thread nD τ) arg20 fullShare d20) -∗ K ⟨⟩))
          ⊢ wp frame (wpE (defs₀ (F := F)) Variants.none c none) E (cc0_nvfp4_logit_store i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K } := by
  refine ⟨?_, ?_, ?_, ?_, fun E K => ?run⟩
  case run =>
    simp only [cc0_nvfp4_logit_store_eq_skeleton]; unfold cc0_nvfp4_logit_store_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton]
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14; obtain rfl := harg15.eq_unread hf15; obtain rfl := harg16.eq_unread hf16; obtain rfl := harg17.eq_unread hf17; obtain rfl := harg18.eq_unread hf18; obtain rfl := harg19.eq_unread hf19; obtain rfl := harg20.eq_unread hf20
    sl_exec (disch := first | sl_exact hc0 | sl_exact hc1 | sl_exact hc2 | sl_exact hc3 | sl_exact hc4)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H12]
    · iexists _; isplitr; · ipureintro; exact harg12.read_unread _
      iexact H12
    isplitl [H13]
    · iexact H13
    isplitl [H14]
    · iexact H14
    isplitl [H15]
    · iexact H15
    isplitl [H16]
    · iexact H16
    isplitl [H17]
    · iexists _; isplitr; · ipureintro; exact harg17.read_unread _
      iexact H17
    isplitl [H18]
    · iexists _; isplitr; · ipureintro; exact harg18.read_unread _
      iexact H18
    isplitl [H19]
    · iexists _; isplitr; · ipureintro; exact harg19.read_unread _
      iexact H19
    iexists _; isplitr; · ipureintro; exact harg20.read_unread _
    iexact H20

end Cert.KernelIdeal.Body

end
-- ==== Proof.KernelIdealRunC.lean ====
module

public import proofs.«01_k».proof.Proof.KernelIdealRunB

@[expose] public section

set_option maxRecDepth 16384

noncomputable section

namespace Cert.KernelIdeal.Body

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the run's proof term is long: the definition's closing pass walks all of it
set_option maxHeartbeats 8000000 in
/-- The body's run at point 125: the two log-sum-exps are closed, then an output tile is coded. On whole buffers at the contents `d1` … `d20` (six inputs, six outputs, eight scratch buffers) the
    body ends with every buffer it does not store into as it was, and each one it stores into with the listed pieces (last
    first) written over what it held. -/
noncomputable def runC (c : Dev nD) (i : grid0.Coords) (arg1 : Memref sig .tc .vmem S256x6144 .fp8e4m3) (harg1 : arg1.IsWhole) (arg2 : Memref sig .tc .vmem S256x6144 .fp8e4m3) (harg2 : arg2.IsWhole) (arg3 : Memref sig .tc .vmem S256x1 .f32) (harg3 : arg3.IsWhole) (arg4 : Memref sig .tc .smem S1 .f32) (harg4 : arg4.IsWhole) (arg5 : Memref sig .tc .vmem S256x6144 .i8) (harg5 : arg5.IsWhole) (arg6 : Memref sig .tc .vmem S256x768 .fp8e4m3) (harg6 : arg6.IsWhole) (arg7 : Memref sig .tc .vmem S256x1280 .fp8e5m2) (harg7 : arg7.IsWhole) (arg8 : Memref sig .tc .vmem S256x1280 .fp8e5m2) (harg8 : arg8.IsWhole) (arg9 : Memref sig .tc .vmem S2x128 .f32) (harg9 : arg9.IsWhole) (arg10 : Memref sig .tc .vmem S2x128 .f32) (harg10 : arg10.IsWhole) (arg11 : Memref sig .tc .vmem S2x128 .f32) (harg11 : arg11.IsWhole) (arg12 : Memref sig .tc .vmem S2x128 .f32) (harg12 : arg12.IsWhole) (arg13 : Memref sig .tc .vmem S256x32000 .f32) (harg13 : arg13.IsWhole) (arg14 : Memref sig .tc .vmem S256x128 .f32) (harg14 : arg14.IsWhole) (arg15 : Memref sig .tc .vmem S256x128 .f32) (harg15 : arg15.IsWhole) (arg16 : Memref sig .tc .vmem S256x128 .f32) (harg16 : arg16.IsWhole) (arg17 : Memref sig .tc .vmem S256x128 .f32) (harg17 : arg17.IsWhole) (arg18 : Memref sig .tc .vmem S256x128 .f32) (harg18 : arg18.IsWhole) (arg19 : Memref sig .tc .vmem S256x128 .f32) (harg19 : arg19.IsWhole) (arg20 : Memref sig .tc .vmem S256x128 .f32) (harg20 : arg20.IsWhole) (hc0 : ¬cond0 i) (hc1 : ¬cond1 i) (hc2 : cond2 i) (hc3 : cond3 i) (hc4 : ¬cond4 i)
    (d1 : Vec F S256x6144 .fp8e4m3) (d2 : Vec F S256x6144 .fp8e4m3) (d3 : Vec F S256x1 .f32) (d4 : Vec F S1 .f32) (d5 : Vec F S256x6144 .i8) (d6 : Vec F S256x768 .fp8e4m3) (d7 : Vec F S256x1280 .fp8e5m2) (d8 : Vec F S256x1280 .fp8e5m2) (d9 : Vec F S2x128 .f32) (d10 : Vec F S2x128 .f32) (d11 : Vec F S2x128 .f32) (d12 : Vec F S2x128 .f32) (d13 : Vec F S256x32000 .f32) (d14 : Vec F S256x128 .f32) (d15 : Vec F S256x128 .f32) (d16 : Vec F S256x128 .f32) (d17 : Vec F S256x128 .f32) (d18 : Vec F S256x128 .f32) (d19 : Vec F S256x128 .f32) (d20 : Vec F S256x128 .f32) :
    Σ' (L7 : List (View.Piece (Elt F) S256x1280 .fp8e5m2)), Σ' (L8 : List (View.Piece (Elt F) S256x1280 .fp8e5m2)), Σ' (L9 : List (View.Piece (Elt F) S2x128 .f32)), Σ' (L11 : List (View.Piece (Elt F) S2x128 .f32)), Σ' (L17 : List (View.Piece (Elt F) S256x128 .f32)), Σ' (L18 : List (View.Piece (Elt F) S256x128 .f32)), Σ' (L19 : List (View.Piece (Elt F) S256x128 .f32)), { L20 : List (View.Piece (Elt F) S256x128 .f32) //
      ∀ (E : Set ℕ) (K : PUnit → sProp 𝕄),
        iprop(owns (c : Thread nD τ) arg1 fullShare d1 ∗ owns (c : Thread nD τ) arg2 fullShare d2 ∗ owns (c : Thread nD τ) arg3 fullShare d3 ∗ owns (c : Thread nD τ) arg4 fullShare d4 ∗ owns (c : Thread nD τ) arg5 fullShare d5 ∗ owns (c : Thread nD τ) arg6 fullShare d6 ∗ owns (c : Thread nD τ) arg7 fullShare d7 ∗ owns (c : Thread nD τ) arg8 fullShare d8 ∗ owns (c : Thread nD τ) arg9 fullShare d9 ∗ owns (c : Thread nD τ) arg10 fullShare d10 ∗ owns (c : Thread nD τ) arg11 fullShare d11 ∗ owns (c : Thread nD τ) arg12 fullShare d12 ∗ owns (c : Thread nD τ) arg13 fullShare d13 ∗ owns (c : Thread nD τ) arg14 fullShare d14 ∗ owns (c : Thread nD τ) arg15 fullShare d15 ∗ owns (c : Thread nD τ) arg16 fullShare d16 ∗ owns (c : Thread nD τ) arg17 fullShare d17 ∗ owns (c : Thread nD τ) arg18 fullShare d18 ∗ owns (c : Thread nD τ) arg19 fullShare d19 ∗ owns (c : Thread nD τ) arg20 fullShare d20
            ∗ (iprop(owns (c : Thread nD τ) arg1 fullShare d1 ∗ owns (c : Thread nD τ) arg2 fullShare d2 ∗ owns (c : Thread nD τ) arg3 fullShare d3 ∗ owns (c : Thread nD τ) arg4 fullShare d4 ∗ owns (c : Thread nD τ) arg5 fullShare d5 ∗ owns (c : Thread nD τ) arg6 fullShare d6 ∗ (arg7.view.loc (c : Thread nD τ) ↦[arg7.view.set]{fullShare} arg7.view.writes (Elt F) (harg7.unread d7) L7) ∗ (arg8.view.loc (c : Thread nD τ) ↦[arg8.view.set]{fullShare} arg8.view.writes (Elt F) (harg8.unread d8) L8) ∗ (arg9.view.loc (c : Thread nD τ) ↦[arg9.view.set]{fullShare} arg9.view.writes (Elt F) (harg9.unread d9) L9) ∗ owns (c : Thread nD τ) arg10 fullShare d10 ∗ (arg11.view.loc (c : Thread nD τ) ↦[arg11.view.set]{fullShare} arg11.view.writes (Elt F) (harg11.unread d11) L11) ∗ owns (c : Thread nD τ) arg12 fullShare d12 ∗ owns (c : Thread nD τ) arg13 fullShare d13 ∗ owns (c : Thread nD τ) arg14 fullShare d14 ∗ owns (c : Thread nD τ) arg15 fullShare d15 ∗ owns (c : Thread nD τ) arg16 fullShare d16 ∗ (arg17.view.loc (c : Thread nD τ) ↦[arg17.view.set]{fullShare} arg17.view.writes (Elt F) (harg17.unread d17) L17) ∗ (arg18.view.loc (c : Thread nD τ) ↦[arg18.view.set]{fullShare} arg18.view.writes (Elt F) (harg18.unread d18) L18) ∗ (arg19.view.loc (c : Thread nD τ) ↦[arg19.view.set]{fullShare} arg19.view.writes (Elt F) (harg19.unread d19) L19) ∗ (arg20.view.loc (c : Thread nD τ) ↦[arg20.view.set]{fullShare} arg20.view.writes (Elt F) (harg20.unread d20) L20)) -∗ K ⟨⟩))
          ⊢ wp frame (wpE (defs₀ (F := F)) Variants.none c none) E (cc0_nvfp4_logit_store i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K } := by
  refine ⟨?_, ?_, ?_, ?_, ?_, ?_, ?_, ?_, fun E K => ?run⟩
  case run =>
    simp only [cc0_nvfp4_logit_store_eq_skeleton]; unfold cc0_nvfp4_logit_store_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton]
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14; obtain rfl := harg15.eq_unread hf15; obtain rfl := harg16.eq_unread hf16; obtain rfl := harg17.eq_unread hf17; obtain rfl := harg18.eq_unread hf18; obtain rfl := harg19.eq_unread hf19; obtain rfl := harg20.eq_unread hf20
    sl_exec (disch := first | sl_exact hc0 | sl_exact hc1 | sl_exact hc2 | sl_exact hc3 | sl_exact hc4)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexact H7
    isplitl [H8]
    · iexact H8
    isplitl [H9]
    · iexact H9
    isplitl [H10]
    · iexists _; isplitr; · ipureintro; exact harg10.read_unread _
      iexact H10
    isplitl [H11]
    · iexact H11
    isplitl [H12]
    · iexists _; isplitr; · ipureintro; exact harg12.read_unread _
      iexact H12
    isplitl [H13]
    · iexists _; isplitr; · ipureintro; exact harg13.read_unread _
      iexact H13
    isplitl [H14]
    · iexists _; isplitr; · ipureintro; exact harg14.read_unread _
      iexact H14
    isplitl [H15]
    · iexists _; isplitr; · ipureintro; exact harg15.read_unread _
      iexact H15
    isplitl [H16]
    · iexists _; isplitr; · ipureintro; exact harg16.read_unread _
      iexact H16
    isplitl [H17]
    · iexact H17
    isplitl [H18]
    · iexact H18
    isplitl [H19]
    · iexact H19
    iexact H20

end Cert.KernelIdeal.Body

end
-- ==== Proof.KernelIdealRunD.lean ====
module

public import proofs.«01_k».proof.Proof.KernelIdealRunC

@[expose] public section

set_option maxRecDepth 16384

noncomputable section

namespace Cert.KernelIdeal.Body

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the run's proof term is long: the definition's closing pass walks all of it
set_option maxHeartbeats 8000000 in
/-- The body's run at points 126 to 148: an output tile is coded. On whole buffers at the contents `d1` … `d20` (six inputs, six outputs, eight scratch buffers) the
    body ends with every buffer it does not store into as it was, and each one it stores into with the listed pieces (last
    first) written over what it held. -/
noncomputable def runD (c : Dev nD) (i : grid0.Coords) (arg1 : Memref sig .tc .vmem S256x6144 .fp8e4m3) (harg1 : arg1.IsWhole) (arg2 : Memref sig .tc .vmem S256x6144 .fp8e4m3) (harg2 : arg2.IsWhole) (arg3 : Memref sig .tc .vmem S256x1 .f32) (harg3 : arg3.IsWhole) (arg4 : Memref sig .tc .smem S1 .f32) (harg4 : arg4.IsWhole) (arg5 : Memref sig .tc .vmem S256x6144 .i8) (harg5 : arg5.IsWhole) (arg6 : Memref sig .tc .vmem S256x768 .fp8e4m3) (harg6 : arg6.IsWhole) (arg7 : Memref sig .tc .vmem S256x1280 .fp8e5m2) (harg7 : arg7.IsWhole) (arg8 : Memref sig .tc .vmem S256x1280 .fp8e5m2) (harg8 : arg8.IsWhole) (arg9 : Memref sig .tc .vmem S2x128 .f32) (harg9 : arg9.IsWhole) (arg10 : Memref sig .tc .vmem S2x128 .f32) (harg10 : arg10.IsWhole) (arg11 : Memref sig .tc .vmem S2x128 .f32) (harg11 : arg11.IsWhole) (arg12 : Memref sig .tc .vmem S2x128 .f32) (harg12 : arg12.IsWhole) (arg13 : Memref sig .tc .vmem S256x32000 .f32) (harg13 : arg13.IsWhole) (arg14 : Memref sig .tc .vmem S256x128 .f32) (harg14 : arg14.IsWhole) (arg15 : Memref sig .tc .vmem S256x128 .f32) (harg15 : arg15.IsWhole) (arg16 : Memref sig .tc .vmem S256x128 .f32) (harg16 : arg16.IsWhole) (arg17 : Memref sig .tc .vmem S256x128 .f32) (harg17 : arg17.IsWhole) (arg18 : Memref sig .tc .vmem S256x128 .f32) (harg18 : arg18.IsWhole) (arg19 : Memref sig .tc .vmem S256x128 .f32) (harg19 : arg19.IsWhole) (arg20 : Memref sig .tc .vmem S256x128 .f32) (harg20 : arg20.IsWhole) (hc0 : ¬cond0 i) (hc1 : ¬cond1 i) (hc2 : ¬cond2 i) (hc3 : cond3 i) (hc4 : ¬cond4 i)
    (d1 : Vec F S256x6144 .fp8e4m3) (d2 : Vec F S256x6144 .fp8e4m3) (d3 : Vec F S256x1 .f32) (d4 : Vec F S1 .f32) (d5 : Vec F S256x6144 .i8) (d6 : Vec F S256x768 .fp8e4m3) (d7 : Vec F S256x1280 .fp8e5m2) (d8 : Vec F S256x1280 .fp8e5m2) (d9 : Vec F S2x128 .f32) (d10 : Vec F S2x128 .f32) (d11 : Vec F S2x128 .f32) (d12 : Vec F S2x128 .f32) (d13 : Vec F S256x32000 .f32) (d14 : Vec F S256x128 .f32) (d15 : Vec F S256x128 .f32) (d16 : Vec F S256x128 .f32) (d17 : Vec F S256x128 .f32) (d18 : Vec F S256x128 .f32) (d19 : Vec F S256x128 .f32) (d20 : Vec F S256x128 .f32) :
    Σ' (L7 : List (View.Piece (Elt F) S256x1280 .fp8e5m2)), Σ' (L8 : List (View.Piece (Elt F) S256x1280 .fp8e5m2)), Σ' (L19 : List (View.Piece (Elt F) S256x128 .f32)), { L20 : List (View.Piece (Elt F) S256x128 .f32) //
      ∀ (E : Set ℕ) (K : PUnit → sProp 𝕄),
        iprop(owns (c : Thread nD τ) arg1 fullShare d1 ∗ owns (c : Thread nD τ) arg2 fullShare d2 ∗ owns (c : Thread nD τ) arg3 fullShare d3 ∗ owns (c : Thread nD τ) arg4 fullShare d4 ∗ owns (c : Thread nD τ) arg5 fullShare d5 ∗ owns (c : Thread nD τ) arg6 fullShare d6 ∗ owns (c : Thread nD τ) arg7 fullShare d7 ∗ owns (c : Thread nD τ) arg8 fullShare d8 ∗ owns (c : Thread nD τ) arg9 fullShare d9 ∗ owns (c : Thread nD τ) arg10 fullShare d10 ∗ owns (c : Thread nD τ) arg11 fullShare d11 ∗ owns (c : Thread nD τ) arg12 fullShare d12 ∗ owns (c : Thread nD τ) arg13 fullShare d13 ∗ owns (c : Thread nD τ) arg14 fullShare d14 ∗ owns (c : Thread nD τ) arg15 fullShare d15 ∗ owns (c : Thread nD τ) arg16 fullShare d16 ∗ owns (c : Thread nD τ) arg17 fullShare d17 ∗ owns (c : Thread nD τ) arg18 fullShare d18 ∗ owns (c : Thread nD τ) arg19 fullShare d19 ∗ owns (c : Thread nD τ) arg20 fullShare d20
            ∗ (iprop(owns (c : Thread nD τ) arg1 fullShare d1 ∗ owns (c : Thread nD τ) arg2 fullShare d2 ∗ owns (c : Thread nD τ) arg3 fullShare d3 ∗ owns (c : Thread nD τ) arg4 fullShare d4 ∗ owns (c : Thread nD τ) arg5 fullShare d5 ∗ owns (c : Thread nD τ) arg6 fullShare d6 ∗ (arg7.view.loc (c : Thread nD τ) ↦[arg7.view.set]{fullShare} arg7.view.writes (Elt F) (harg7.unread d7) L7) ∗ (arg8.view.loc (c : Thread nD τ) ↦[arg8.view.set]{fullShare} arg8.view.writes (Elt F) (harg8.unread d8) L8) ∗ owns (c : Thread nD τ) arg9 fullShare d9 ∗ owns (c : Thread nD τ) arg10 fullShare d10 ∗ owns (c : Thread nD τ) arg11 fullShare d11 ∗ owns (c : Thread nD τ) arg12 fullShare d12 ∗ owns (c : Thread nD τ) arg13 fullShare d13 ∗ owns (c : Thread nD τ) arg14 fullShare d14 ∗ owns (c : Thread nD τ) arg15 fullShare d15 ∗ owns (c : Thread nD τ) arg16 fullShare d16 ∗ owns (c : Thread nD τ) arg17 fullShare d17 ∗ owns (c : Thread nD τ) arg18 fullShare d18 ∗ (arg19.view.loc (c : Thread nD τ) ↦[arg19.view.set]{fullShare} arg19.view.writes (Elt F) (harg19.unread d19) L19) ∗ (arg20.view.loc (c : Thread nD τ) ↦[arg20.view.set]{fullShare} arg20.view.writes (Elt F) (harg20.unread d20) L20)) -∗ K ⟨⟩))
          ⊢ wp frame (wpE (defs₀ (F := F)) Variants.none c none) E (cc0_nvfp4_logit_store i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K } := by
  refine ⟨?_, ?_, ?_, ?_, fun E K => ?run⟩
  case run =>
    simp only [cc0_nvfp4_logit_store_eq_skeleton]; unfold cc0_nvfp4_logit_store_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton]
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14; obtain rfl := harg15.eq_unread hf15; obtain rfl := harg16.eq_unread hf16; obtain rfl := harg17.eq_unread hf17; obtain rfl := harg18.eq_unread hf18; obtain rfl := harg19.eq_unread hf19; obtain rfl := harg20.eq_unread hf20
    sl_exec (disch := first | sl_exact hc0 | sl_exact hc1 | sl_exact hc2 | sl_exact hc3 | sl_exact hc4)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexact H7
    isplitl [H8]
    · iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H12]
    · iexists _; isplitr; · ipureintro; exact harg12.read_unread _
      iexact H12
    isplitl [H13]
    · iexists _; isplitr; · ipureintro; exact harg13.read_unread _
      iexact H13
    isplitl [H14]
    · iexists _; isplitr; · ipureintro; exact harg14.read_unread _
      iexact H14
    isplitl [H15]
    · iexists _; isplitr; · ipureintro; exact harg15.read_unread _
      iexact H15
    isplitl [H16]
    · iexists _; isplitr; · ipureintro; exact harg16.read_unread _
      iexact H16
    isplitl [H17]
    · iexists _; isplitr; · ipureintro; exact harg17.read_unread _
      iexact H17
    isplitl [H18]
    · iexists _; isplitr; · ipureintro; exact harg18.read_unread _
      iexact H18
    isplitl [H19]
    · iexact H19
    iexact H20

end Cert.KernelIdeal.Body

end
-- ==== Proof.KernelIdealRunE.lean ====
module

public import proofs.«01_k».proof.Proof.KernelIdealRunD

@[expose] public section

set_option maxRecDepth 16384

noncomputable section

namespace Cert.KernelIdeal.Body

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the run's proof term is long: the definition's closing pass walks all of it
set_option maxHeartbeats 8000000 in
/-- The body's run at the last point: an output tile is coded, then the two errors are closed. On whole buffers at the contents `d1` … `d20` (six inputs, six outputs, eight scratch buffers) the
    body ends with every buffer it does not store into as it was, and each one it stores into with the listed pieces (last
    first) written over what it held. -/
noncomputable def runE (c : Dev nD) (i : grid0.Coords) (arg1 : Memref sig .tc .vmem S256x6144 .fp8e4m3) (harg1 : arg1.IsWhole) (arg2 : Memref sig .tc .vmem S256x6144 .fp8e4m3) (harg2 : arg2.IsWhole) (arg3 : Memref sig .tc .vmem S256x1 .f32) (harg3 : arg3.IsWhole) (arg4 : Memref sig .tc .smem S1 .f32) (harg4 : arg4.IsWhole) (arg5 : Memref sig .tc .vmem S256x6144 .i8) (harg5 : arg5.IsWhole) (arg6 : Memref sig .tc .vmem S256x768 .fp8e4m3) (harg6 : arg6.IsWhole) (arg7 : Memref sig .tc .vmem S256x1280 .fp8e5m2) (harg7 : arg7.IsWhole) (arg8 : Memref sig .tc .vmem S256x1280 .fp8e5m2) (harg8 : arg8.IsWhole) (arg9 : Memref sig .tc .vmem S2x128 .f32) (harg9 : arg9.IsWhole) (arg10 : Memref sig .tc .vmem S2x128 .f32) (harg10 : arg10.IsWhole) (arg11 : Memref sig .tc .vmem S2x128 .f32) (harg11 : arg11.IsWhole) (arg12 : Memref sig .tc .vmem S2x128 .f32) (harg12 : arg12.IsWhole) (arg13 : Memref sig .tc .vmem S256x32000 .f32) (harg13 : arg13.IsWhole) (arg14 : Memref sig .tc .vmem S256x128 .f32) (harg14 : arg14.IsWhole) (arg15 : Memref sig .tc .vmem S256x128 .f32) (harg15 : arg15.IsWhole) (arg16 : Memref sig .tc .vmem S256x128 .f32) (harg16 : arg16.IsWhole) (arg17 : Memref sig .tc .vmem S256x128 .f32) (harg17 : arg17.IsWhole) (arg18 : Memref sig .tc .vmem S256x128 .f32) (harg18 : arg18.IsWhole) (arg19 : Memref sig .tc .vmem S256x128 .f32) (harg19 : arg19.IsWhole) (arg20 : Memref sig .tc .vmem S256x128 .f32) (harg20 : arg20.IsWhole) (hc0 : ¬cond0 i) (hc1 : ¬cond1 i) (hc2 : ¬cond2 i) (hc3 : cond3 i) (hc4 : cond4 i)
    (d1 : Vec F S256x6144 .fp8e4m3) (d2 : Vec F S256x6144 .fp8e4m3) (d3 : Vec F S256x1 .f32) (d4 : Vec F S1 .f32) (d5 : Vec F S256x6144 .i8) (d6 : Vec F S256x768 .fp8e4m3) (d7 : Vec F S256x1280 .fp8e5m2) (d8 : Vec F S256x1280 .fp8e5m2) (d9 : Vec F S2x128 .f32) (d10 : Vec F S2x128 .f32) (d11 : Vec F S2x128 .f32) (d12 : Vec F S2x128 .f32) (d13 : Vec F S256x32000 .f32) (d14 : Vec F S256x128 .f32) (d15 : Vec F S256x128 .f32) (d16 : Vec F S256x128 .f32) (d17 : Vec F S256x128 .f32) (d18 : Vec F S256x128 .f32) (d19 : Vec F S256x128 .f32) (d20 : Vec F S256x128 .f32) :
    Σ' (L7 : List (View.Piece (Elt F) S256x1280 .fp8e5m2)), Σ' (L8 : List (View.Piece (Elt F) S256x1280 .fp8e5m2)), Σ' (L10 : List (View.Piece (Elt F) S2x128 .f32)), Σ' (L12 : List (View.Piece (Elt F) S2x128 .f32)), Σ' (L19 : List (View.Piece (Elt F) S256x128 .f32)), { L20 : List (View.Piece (Elt F) S256x128 .f32) //
      ∀ (E : Set ℕ) (K : PUnit → sProp 𝕄),
        iprop(owns (c : Thread nD τ) arg1 fullShare d1 ∗ owns (c : Thread nD τ) arg2 fullShare d2 ∗ owns (c : Thread nD τ) arg3 fullShare d3 ∗ owns (c : Thread nD τ) arg4 fullShare d4 ∗ owns (c : Thread nD τ) arg5 fullShare d5 ∗ owns (c : Thread nD τ) arg6 fullShare d6 ∗ owns (c : Thread nD τ) arg7 fullShare d7 ∗ owns (c : Thread nD τ) arg8 fullShare d8 ∗ owns (c : Thread nD τ) arg9 fullShare d9 ∗ owns (c : Thread nD τ) arg10 fullShare d10 ∗ owns (c : Thread nD τ) arg11 fullShare d11 ∗ owns (c : Thread nD τ) arg12 fullShare d12 ∗ owns (c : Thread nD τ) arg13 fullShare d13 ∗ owns (c : Thread nD τ) arg14 fullShare d14 ∗ owns (c : Thread nD τ) arg15 fullShare d15 ∗ owns (c : Thread nD τ) arg16 fullShare d16 ∗ owns (c : Thread nD τ) arg17 fullShare d17 ∗ owns (c : Thread nD τ) arg18 fullShare d18 ∗ owns (c : Thread nD τ) arg19 fullShare d19 ∗ owns (c : Thread nD τ) arg20 fullShare d20
            ∗ (iprop(owns (c : Thread nD τ) arg1 fullShare d1 ∗ owns (c : Thread nD τ) arg2 fullShare d2 ∗ owns (c : Thread nD τ) arg3 fullShare d3 ∗ owns (c : Thread nD τ) arg4 fullShare d4 ∗ owns (c : Thread nD τ) arg5 fullShare d5 ∗ owns (c : Thread nD τ) arg6 fullShare d6 ∗ (arg7.view.loc (c : Thread nD τ) ↦[arg7.view.set]{fullShare} arg7.view.writes (Elt F) (harg7.unread d7) L7) ∗ (arg8.view.loc (c : Thread nD τ) ↦[arg8.view.set]{fullShare} arg8.view.writes (Elt F) (harg8.unread d8) L8) ∗ owns (c : Thread nD τ) arg9 fullShare d9 ∗ (arg10.view.loc (c : Thread nD τ) ↦[arg10.view.set]{fullShare} arg10.view.writes (Elt F) (harg10.unread d10) L10) ∗ owns (c : Thread nD τ) arg11 fullShare d11 ∗ (arg12.view.loc (c : Thread nD τ) ↦[arg12.view.set]{fullShare} arg12.view.writes (Elt F) (harg12.unread d12) L12) ∗ owns (c : Thread nD τ) arg13 fullShare d13 ∗ owns (c : Thread nD τ) arg14 fullShare d14 ∗ owns (c : Thread nD τ) arg15 fullShare d15 ∗ owns (c : Thread nD τ) arg16 fullShare d16 ∗ owns (c : Thread nD τ) arg17 fullShare d17 ∗ owns (c : Thread nD τ) arg18 fullShare d18 ∗ (arg19.view.loc (c : Thread nD τ) ↦[arg19.view.set]{fullShare} arg19.view.writes (Elt F) (harg19.unread d19) L19) ∗ (arg20.view.loc (c : Thread nD τ) ↦[arg20.view.set]{fullShare} arg20.view.writes (Elt F) (harg20.unread d20) L20)) -∗ K ⟨⟩))
          ⊢ wp frame (wpE (defs₀ (F := F)) Variants.none c none) E (cc0_nvfp4_logit_store i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K } := by
  refine ⟨?_, ?_, ?_, ?_, ?_, ?_, fun E K => ?run⟩
  case run =>
    simp only [cc0_nvfp4_logit_store_eq_skeleton]; unfold cc0_nvfp4_logit_store_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton]
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14; obtain rfl := harg15.eq_unread hf15; obtain rfl := harg16.eq_unread hf16; obtain rfl := harg17.eq_unread hf17; obtain rfl := harg18.eq_unread hf18; obtain rfl := harg19.eq_unread hf19; obtain rfl := harg20.eq_unread hf20
    sl_exec (disch := first | sl_exact hc0 | sl_exact hc1 | sl_exact hc2 | sl_exact hc3 | sl_exact hc4)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexact H7
    isplitl [H8]
    · iexact H8
    isplitl [H9]
    · iexists _; isplitr; · ipureintro; exact harg9.read_unread _
      iexact H9
    isplitl [H10]
    · iexact H10
    isplitl [H11]
    · iexists _; isplitr; · ipureintro; exact harg11.read_unread _
      iexact H11
    isplitl [H12]
    · iexact H12
    isplitl [H13]
    · iexists _; isplitr; · ipureintro; exact harg13.read_unread _
      iexact H13
    isplitl [H14]
    · iexists _; isplitr; · ipureintro; exact harg14.read_unread _
      iexact H14
    isplitl [H15]
    · iexists _; isplitr; · ipureintro; exact harg15.read_unread _
      iexact H15
    isplitl [H16]
    · iexists _; isplitr; · ipureintro; exact harg16.read_unread _
      iexact H16
    isplitl [H17]
    · iexists _; isplitr; · ipureintro; exact harg17.read_unread _
      iexact H17
    isplitl [H18]
    · iexists _; isplitr; · ipureintro; exact harg18.read_unread _
      iexact H18
    isplitl [H19]
    · iexact H19
    iexact H20

end Cert.KernelIdeal.Body

end
-- ==== Proof.KernelIdealFrame.lean ====
/- The frame: the body run at every point of the grid with nothing said of what it computes, and from it that the program
   runs to the end, leaves its arguments as they were and every semaphore counter at zero.

   The six outputs and the eight scratch buffers are only ever held "at some contents", so the five runs of the body
   (first point, vocabulary tile, point 125, output tile, last point) are used through one lemma, `weaken`. -/
module

public import Idealize.ShloMosaic.Lib.Pipeline.FrameBody
public import Idealize.ShloMosaic.Lib.Ring
public import Idealize.ShloMosaic.Lib.Tactic
public import proofs.«01_k».proof.Proof.KernelIdealRunE

@[expose] public section

set_option maxRecDepth 16384

noncomputable section

namespace Cert.KernelIdeal.Body

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A buffer held at written contents is held at some contents. -/
theorem wrote (c : Dev nD) {sp : Space} {s : Shape} {e : EltTy} (b : Memref sig .tc sp s e) (f) :
    (b.view.loc (c : Thread nD τ) ↦[b.view.set]{fullShare} f : sProp 𝕄) ⊢ iprop(∃ d, owns (c : Thread nD τ) b fullShare d) := by
  unfold owns
  iintro H
  iexists _; iexists f; isplitr; · ipureintro; rfl
  iexact H

/-- A buffer held at known contents is held at some contents. -/
theorem kept (c : Dev nD) {sp : Space} {s : Shape} {e : EltTy} (b : Memref sig .tc sp s e) (d : Vec F s e) :
    (owns (c : Thread nD τ) b fullShare d : sProp 𝕄) ⊢ iprop(∃ d, owns (c : Thread nD τ) b fullShare d) := by
  iintro H; iexists d; iexact H

/-- What a body run keeps of the buffers when nothing is said of what it computes: the inputs as they were, the outputs and
    the scratch buffers at some contents. -/
abbrev kept20 (c : Dev nD) (t : Fin cfg0.N) (d0 : Vec F S256x6144 .fp8e4m3) (d1 : Vec F S256x6144 .fp8e4m3) (d2 : Vec F S256x1 .f32) (d3 : Vec F S1 .f32) (d4 : Vec F S256x6144 .i8) (d5 : Vec F S256x768 .fp8e4m3) : sProp 𝕄 :=
  iprop(owns (c : Thread nD τ) (ms0 t) fullShare d0 ∗ owns (c : Thread nD τ) (ms1 t) fullShare d1 ∗ owns (c : Thread nD τ) (ms2 t) fullShare d2 ∗ owns (c : Thread nD τ) (ms3 t) fullShare d3 ∗ owns (c : Thread nD τ) (ms4 t) fullShare d4 ∗ owns (c : Thread nD τ) (ms5 t) fullShare d5 ∗ (∃ d, owns (c : Thread nD τ) (ms6 t) fullShare d) ∗ (∃ d, owns (c : Thread nD τ) (ms7 t) fullShare d) ∗ (∃ d, owns (c : Thread nD τ) (ms8 t) fullShare d) ∗ (∃ d, owns (c : Thread nD τ) (ms9 t) fullShare d) ∗ (∃ d, owns (c : Thread nD τ) (ms10 t) fullShare d) ∗ (∃ d, owns (c : Thread nD τ) (ms11 t) fullShare d) ∗ (∃ d, owns (c : Thread nD τ) (sc0) fullShare d) ∗ (∃ d, owns (c : Thread nD τ) (sc1) fullShare d) ∗ (∃ d, owns (c : Thread nD τ) (sc2) fullShare d) ∗ (∃ d, owns (c : Thread nD τ) (sc3) fullShare d) ∗ (∃ d, owns (c : Thread nD τ) (sc4) fullShare d) ∗ (∃ d, owns (c : Thread nD τ) (sc5) fullShare d) ∗ (∃ d, owns (c : Thread nD τ) (sc6) fullShare d) ∗ (∃ d, owns (c : Thread nD τ) (sc7) fullShare d))

/-- A run of the body, its written buffers forgotten. -/
theorem weaken (c : Dev nD) (t : Fin cfg0.N) (d0 : Vec F S256x6144 .fp8e4m3) (d1 : Vec F S256x6144 .fp8e4m3) (d2 : Vec F S256x1 .f32) (d3 : Vec F S1 .f32) (d4 : Vec F S256x6144 .i8) (d5 : Vec F S256x768 .fp8e4m3) (d6 : Vec F S256x1280 .fp8e5m2) (d7 : Vec F S256x1280 .fp8e5m2) (d8 : Vec F S2x128 .f32) (d9 : Vec F S2x128 .f32) (d10 : Vec F S2x128 .f32) (d11 : Vec F S2x128 .f32) (d12 : Vec F S256x32000 .f32) (d13 : Vec F S256x128 .f32) (d14 : Vec F S256x128 .f32) (d15 : Vec F S256x128 .f32) (d16 : Vec F S256x128 .f32) (d17 : Vec F S256x128 .f32) (d18 : Vec F S256x128 .f32) (d19 : Vec F S256x128 .f32) (W6 W7 W8 W9 W10 W11 W12 W13 W14 W15 W16 W17 W18 W19 : sProp 𝕄)
    (h6 : W6 ⊢ iprop(∃ d, owns (c : Thread nD τ) (ms6 t) fullShare d)) (h7 : W7 ⊢ iprop(∃ d, owns (c : Thread nD τ) (ms7 t) fullShare d)) (h8 : W8 ⊢ iprop(∃ d, owns (c : Thread nD τ) (ms8 t) fullShare d)) (h9 : W9 ⊢ iprop(∃ d, owns (c : Thread nD τ) (ms9 t) fullShare d)) (h10 : W10 ⊢ iprop(∃ d, owns (c : Thread nD τ) (ms10 t) fullShare d)) (h11 : W11 ⊢ iprop(∃ d, owns (c : Thread nD τ) (ms11 t) fullShare d)) (h12 : W12 ⊢ iprop(∃ d, owns (c : Thread nD τ) (sc0) fullShare d)) (h13 : W13 ⊢ iprop(∃ d, owns (c : Thread nD τ) (sc1) fullShare d)) (h14 : W14 ⊢ iprop(∃ d, owns (c : Thread nD τ) (sc2) fullShare d)) (h15 : W15 ⊢ iprop(∃ d, owns (c : Thread nD τ) (sc3) fullShare d)) (h16 : W16 ⊢ iprop(∃ d, owns (c : Thread nD τ) (sc4) fullShare d)) (h17 : W17 ⊢ iprop(∃ d, owns (c : Thread nD τ) (sc5) fullShare d)) (h18 : W18 ⊢ iprop(∃ d, owns (c : Thread nD τ) (sc6) fullShare d)) (h19 : W19 ⊢ iprop(∃ d, owns (c : Thread nD τ) (sc7) fullShare d))
    (run : ∀ (E : Set ℕ) (K : PUnit → sProp 𝕄), iprop(owns (c : Thread nD τ) (ms0 t) fullShare d0 ∗ owns (c : Thread nD τ) (ms1 t) fullShare d1 ∗ owns (c : Thread nD τ) (ms2 t) fullShare d2 ∗ owns (c : Thread nD τ) (ms3 t) fullShare d3 ∗ owns (c : Thread nD τ) (ms4 t) fullShare d4 ∗ owns (c : Thread nD τ) (ms5 t) fullShare d5 ∗ owns (c : Thread nD τ) (ms6 t) fullShare d6 ∗ owns (c : Thread nD τ) (ms7 t) fullShare d7 ∗ owns (c : Thread nD τ) (ms8 t) fullShare d8 ∗ owns (c : Thread nD τ) (ms9 t) fullShare d9 ∗ owns (c : Thread nD τ) (ms10 t) fullShare d10 ∗ owns (c : Thread nD τ) (ms11 t) fullShare d11 ∗ owns (c : Thread nD τ) (sc0) fullShare d12 ∗ owns (c : Thread nD τ) (sc1) fullShare d13 ∗ owns (c : Thread nD τ) (sc2) fullShare d14 ∗ owns (c : Thread nD τ) (sc3) fullShare d15 ∗ owns (c : Thread nD τ) (sc4) fullShare d16 ∗ owns (c : Thread nD τ) (sc5) fullShare d17 ∗ owns (c : Thread nD τ) (sc6) fullShare d18 ∗ owns (c : Thread nD τ) (sc7) fullShare d19
      ∗ (iprop(owns (c : Thread nD τ) (ms0 t) fullShare d0 ∗ owns (c : Thread nD τ) (ms1 t) fullShare d1 ∗ owns (c : Thread nD τ) (ms2 t) fullShare d2 ∗ owns (c : Thread nD τ) (ms3 t) fullShare d3 ∗ owns (c : Thread nD τ) (ms4 t) fullShare d4 ∗ owns (c : Thread nD τ) (ms5 t) fullShare d5 ∗ W6 ∗ W7 ∗ W8 ∗ W9 ∗ W10 ∗ W11 ∗ W12 ∗ W13 ∗ W14 ∗ W15 ∗ W16 ∗ W17 ∗ W18 ∗ W19) -∗ K ⟨⟩)) ⊢ wp frame (wpE (defs₀ (F := F)) Variants.none c none) E (bodyAt0 t) K) :
    iprop(owns (c : Thread nD τ) (ms0 t) fullShare d0 ∗ owns (c : Thread nD τ) (ms1 t) fullShare d1 ∗ owns (c : Thread nD τ) (ms2 t) fullShare d2 ∗ owns (c : Thread nD τ) (ms3 t) fullShare d3 ∗ owns (c : Thread nD τ) (ms4 t) fullShare d4 ∗ owns (c : Thread nD τ) (ms5 t) fullShare d5 ∗ owns (c : Thread nD τ) (ms6 t) fullShare d6 ∗ owns (c : Thread nD τ) (ms7 t) fullShare d7 ∗ owns (c : Thread nD τ) (ms8 t) fullShare d8 ∗ owns (c : Thread nD τ) (ms9 t) fullShare d9 ∗ owns (c : Thread nD τ) (ms10 t) fullShare d10 ∗ owns (c : Thread nD τ) (ms11 t) fullShare d11 ∗ owns (c : Thread nD τ) (sc0) fullShare d12 ∗ owns (c : Thread nD τ) (sc1) fullShare d13 ∗ owns (c : Thread nD τ) (sc2) fullShare d14 ∗ owns (c : Thread nD τ) (sc3) fullShare d15 ∗ owns (c : Thread nD τ) (sc4) fullShare d16 ∗ owns (c : Thread nD τ) (sc5) fullShare d17 ∗ owns (c : Thread nD τ) (sc6) fullShare d18 ∗ owns (c : Thread nD τ) (sc7) fullShare d19) ⊢ wp frame (wpE (defs₀ (F := F)) Variants.none c none) Set.univ (bodyAt0 t) (fun _ => kept20 c t d0 d1 d2 d3 d4 d5) := by
  refine BIBase.Entails.trans ?_ (run Set.univ _)
  iintro ⟨H0, H1, H2, H3, H4, H5, H6, H7, H8, H9, H10, H11, H12, H13, H14, H15, H16, H17, H18, H19⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  iintro ⟨H0, H1, H2, H3, H4, H5, H6, H7, H8, H9, H10, H11, H12, H13, H14, H15, H16, H17, H18, H19⟩
  isplitl [H0]; · iexact H0
  isplitl [H1]; · iexact H1
  isplitl [H2]; · iexact H2
  isplitl [H3]; · iexact H3
  isplitl [H4]; · iexact H4
  isplitl [H5]; · iexact H5
  isplitl [H6]; · iapply h6; iexact H6
  isplitl [H7]; · iapply h7; iexact H7
  isplitl [H8]; · iapply h8; iexact H8
  isplitl [H9]; · iapply h9; iexact H9
  isplitl [H10]; · iapply h10; iexact H10
  isplitl [H11]; · iapply h11; iexact H11
  isplitl [H12]; · iapply h12; iexact H12
  isplitl [H13]; · iapply h13; iexact H13
  isplitl [H14]; · iapply h14; iexact H14
  isplitl [H15]; · iapply h15; iexact H15
  isplitl [H16]; · iapply h16; iexact H16
  isplitl [H17]; · iapply h17; iexact H17
  isplitl [H18]; · iapply h18; iexact H18
  iapply h19; iexact H19

set_option maxHeartbeats 4000000 in
/-- The body at any point, from any contents: one of the five runs. -/
theorem body_kept (c : Dev nD) (t : Fin cfg0.N) (d0 : Vec F S256x6144 .fp8e4m3) (d1 : Vec F S256x6144 .fp8e4m3) (d2 : Vec F S256x1 .f32) (d3 : Vec F S1 .f32) (d4 : Vec F S256x6144 .i8) (d5 : Vec F S256x768 .fp8e4m3) (d6 : Vec F S256x1280 .fp8e5m2) (d7 : Vec F S256x1280 .fp8e5m2) (d8 : Vec F S2x128 .f32) (d9 : Vec F S2x128 .f32) (d10 : Vec F S2x128 .f32) (d11 : Vec F S2x128 .f32) (d12 : Vec F S256x32000 .f32) (d13 : Vec F S256x128 .f32) (d14 : Vec F S256x128 .f32) (d15 : Vec F S256x128 .f32) (d16 : Vec F S256x128 .f32) (d17 : Vec F S256x128 .f32) (d18 : Vec F S256x128 .f32) (d19 : Vec F S256x128 .f32) :
    iprop(owns (c : Thread nD τ) (ms0 t) fullShare d0 ∗ owns (c : Thread nD τ) (ms1 t) fullShare d1 ∗ owns (c : Thread nD τ) (ms2 t) fullShare d2 ∗ owns (c : Thread nD τ) (ms3 t) fullShare d3 ∗ owns (c : Thread nD τ) (ms4 t) fullShare d4 ∗ owns (c : Thread nD τ) (ms5 t) fullShare d5 ∗ owns (c : Thread nD τ) (ms6 t) fullShare d6 ∗ owns (c : Thread nD τ) (ms7 t) fullShare d7 ∗ owns (c : Thread nD τ) (ms8 t) fullShare d8 ∗ owns (c : Thread nD τ) (ms9 t) fullShare d9 ∗ owns (c : Thread nD τ) (ms10 t) fullShare d10 ∗ owns (c : Thread nD τ) (ms11 t) fullShare d11 ∗ owns (c : Thread nD τ) (sc0) fullShare d12 ∗ owns (c : Thread nD τ) (sc1) fullShare d13 ∗ owns (c : Thread nD τ) (sc2) fullShare d14 ∗ owns (c : Thread nD τ) (sc3) fullShare d15 ∗ owns (c : Thread nD τ) (sc4) fullShare d16 ∗ owns (c : Thread nD τ) (sc5) fullShare d17 ∗ owns (c : Thread nD τ) (sc6) fullShare d18 ∗ owns (c : Thread nD τ) (sc7) fullShare d19) ⊢ wp frame (wpE (defs₀ (F := F)) Variants.none c none) Set.univ (bodyAt0 t) (fun _ => kept20 c t d0 d1 d2 d3 d4 d5) := by
  have hN := lt150 t
  by_cases hA : t.val = 0
  · refine weaken c t d0 d1 d2 d3 d4 d5 d6 d7 d8 d9 d10 d11 d12 d13 d14 d15 d16 d17 d18 d19 _ _ _ _ _ _ _ _ _ _ _ _ _ _ ?_ ?_ ?_ ?_ ?_ ?_ ?_ ?_ ?_ ?_ ?_ ?_ ?_ ?_
      (runA c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) sc0 (Memref.isWhole_whole _) sc1 (Memref.isWhole_whole _) sc2 (Memref.isWhole_whole _) sc3 (Memref.isWhole_whole _) sc4 (Memref.isWhole_whole _) sc5 (Memref.isWhole_whole _) sc6 (Memref.isWhole_whole _) sc7 (Memref.isWhole_whole _) ((hcond0 t).mpr (by omega)) ((hcond1 t).mpr (by omega)) (fun h => absurd ((hcond2 t).mp h) (by omega)) (fun h => absurd ((hcond3 t).mp h) (by omega)) (fun h => absurd ((hcond4 t).mp h) (by omega)) d0 d1 d2 d3 d4 d5 d6 d7 d8 d9 d10 d11 d12 d13 d14 d15 d16 d17 d18 d19).2.2.2.2
    · exact kept c _ _
    · exact kept c _ _
    · exact kept c _ _
    · exact kept c _ _
    · exact kept c _ _
    · exact kept c _ _
    · exact wrote c _ _
    · exact wrote c _ _
    · exact wrote c _ _
    · exact wrote c _ _
    · exact kept c _ _
    · exact kept c _ _
    · exact kept c _ _
    · exact kept c _ _
  by_cases hB : t.val < 125
  · refine weaken c t d0 d1 d2 d3 d4 d5 d6 d7 d8 d9 d10 d11 d12 d13 d14 d15 d16 d17 d18 d19 _ _ _ _ _ _ _ _ _ _ _ _ _ _ ?_ ?_ ?_ ?_ ?_ ?_ ?_ ?_ ?_ ?_ ?_ ?_ ?_ ?_
      (runB c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) sc0 (Memref.isWhole_whole _) sc1 (Memref.isWhole_whole _) sc2 (Memref.isWhole_whole _) sc3 (Memref.isWhole_whole _) sc4 (Memref.isWhole_whole _) sc5 (Memref.isWhole_whole _) sc6 (Memref.isWhole_whole _) sc7 (Memref.isWhole_whole _) (fun h => absurd ((hcond0 t).mp h) (by omega)) ((hcond1 t).mpr (by omega)) (fun h => absurd ((hcond2 t).mp h) (by omega)) (fun h => absurd ((hcond3 t).mp h) (by omega)) (fun h => absurd ((hcond4 t).mp h) (by omega)) d0 d1 d2 d3 d4 d5 d6 d7 d8 d9 d10 d11 d12 d13 d14 d15 d16 d17 d18 d19).2.2.2.2
    · exact kept c _ _
    · exact kept c _ _
    · exact kept c _ _
    · exact kept c _ _
    · exact kept c _ _
    · exact kept c _ _
    · exact wrote c _ _
    · exact wrote c _ _
    · exact wrote c _ _
    · exact wrote c _ _
    · exact kept c _ _
    · exact kept c _ _
    · exact kept c _ _
    · exact kept c _ _
  by_cases hC : t.val = 125
  · refine weaken c t d0 d1 d2 d3 d4 d5 d6 d7 d8 d9 d10 d11 d12 d13 d14 d15 d16 d17 d18 d19 _ _ _ _ _ _ _ _ _ _ _ _ _ _ ?_ ?_ ?_ ?_ ?_ ?_ ?_ ?_ ?_ ?_ ?_ ?_ ?_ ?_
      (runC c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) sc0 (Memref.isWhole_whole _) sc1 (Memref.isWhole_whole _) sc2 (Memref.isWhole_whole _) sc3 (Memref.isWhole_whole _) sc4 (Memref.isWhole_whole _) sc5 (Memref.isWhole_whole _) sc6 (Memref.isWhole_whole _) sc7 (Memref.isWhole_whole _) (fun h => absurd ((hcond0 t).mp h) (by omega)) (fun h => absurd ((hcond1 t).mp h) (by omega)) ((hcond2 t).mpr (by omega)) ((hcond3 t).mpr (by omega)) (fun h => absurd ((hcond4 t).mp h) (by omega)) d0 d1 d2 d3 d4 d5 d6 d7 d8 d9 d10 d11 d12 d13 d14 d15 d16 d17 d18 d19).2.2.2.2.2.2.2.2
    · exact wrote c _ _
    · exact wrote c _ _
    · exact wrote c _ _
    · exact kept c _ _
    · exact wrote c _ _
    · exact kept c _ _
    · exact kept c _ _
    · exact kept c _ _
    · exact kept c _ _
    · exact kept c _ _
    · exact wrote c _ _
    · exact wrote c _ _
    · exact wrote c _ _
    · exact wrote c _ _
  by_cases hE : t.val ≠ 149
  · refine weaken c t d0 d1 d2 d3 d4 d5 d6 d7 d8 d9 d10 d11 d12 d13 d14 d15 d16 d17 d18 d19 _ _ _ _ _ _ _ _ _ _ _ _ _ _ ?_ ?_ ?_ ?_ ?_ ?_ ?_ ?_ ?_ ?_ ?_ ?_ ?_ ?_
      (runD c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) sc0 (Memref.isWhole_whole _) sc1 (Memref.isWhole_whole _) sc2 (Memref.isWhole_whole _) sc3 (Memref.isWhole_whole _) sc4 (Memref.isWhole_whole _) sc5 (Memref.isWhole_whole _) sc6 (Memref.isWhole_whole _) sc7 (Memref.isWhole_whole _) (fun h => absurd ((hcond0 t).mp h) (by omega)) (fun h => absurd ((hcond1 t).mp h) (by omega)) (fun h => absurd ((hcond2 t).mp h) (by omega)) ((hcond3 t).mpr (by omega)) (fun h => absurd ((hcond4 t).mp h) (by omega)) d0 d1 d2 d3 d4 d5 d6 d7 d8 d9 d10 d11 d12 d13 d14 d15 d16 d17 d18 d19).2.2.2.2
    · exact wrote c _ _
    · exact wrote c _ _
    · exact kept c _ _
    · exact kept c _ _
    · exact kept c _ _
    · exact kept c _ _
    · exact kept c _ _
    · exact kept c _ _
    · exact kept c _ _
    · exact kept c _ _
    · exact kept c _ _
    · exact kept c _ _
    · exact wrote c _ _
    · exact wrote c _ _
  · refine weaken c t d0 d1 d2 d3 d4 d5 d6 d7 d8 d9 d10 d11 d12 d13 d14 d15 d16 d17 d18 d19 _ _ _ _ _ _ _ _ _ _ _ _ _ _ ?_ ?_ ?_ ?_ ?_ ?_ ?_ ?_ ?_ ?_ ?_ ?_ ?_ ?_
      (runE c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) sc0 (Memref.isWhole_whole _) sc1 (Memref.isWhole_whole _) sc2 (Memref.isWhole_whole _) sc3 (Memref.isWhole_whole _) sc4 (Memref.isWhole_whole _) sc5 (Memref.isWhole_whole _) sc6 (Memref.isWhole_whole _) sc7 (Memref.isWhole_whole _) (fun h => absurd ((hcond0 t).mp h) (by omega)) (fun h => absurd ((hcond1 t).mp h) (by omega)) (fun h => absurd ((hcond2 t).mp h) (by omega)) ((hcond3 t).mpr (by omega)) ((hcond4 t).mpr (by omega)) d0 d1 d2 d3 d4 d5 d6 d7 d8 d9 d10 d11 d12 d13 d14 d15 d16 d17 d18 d19).2.2.2.2.2.2
    · exact wrote c _ _
    · exact wrote c _ _
    · exact kept c _ _
    · exact wrote c _ _
    · exact kept c _ _
    · exact wrote c _ _
    · exact kept c _ _
    · exact kept c _ _
    · exact kept c _ _
    · exact kept c _ _
    · exact kept c _ _
    · exact kept c _ _
    · exact wrote c _ _
    · exact wrote c _ _

/-! ## The pipeline's proof data -/

/-- The outputs, of which nothing is said. -/
def forgets : Fin 12 → Bool := fun w => w.val == 6 || w.val == 7 || w.val == 8 || w.val == 9 || w.val == 10 || w.val == 11

/-- The proof data: inputs at their blocks, outputs unnamed, the scratch buffers at some contents throughout. -/
def fdats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, h⟩ => Pipeline.Dat.unnamed (cfg := cfg0) ⟨6, h⟩ t
    | ⟨7, h⟩ => Pipeline.Dat.unnamed (cfg := cfg0) ⟨7, h⟩ t
    | ⟨8, h⟩ => Pipeline.Dat.unnamed (cfg := cfg0) ⟨8, h⟩ t
    | ⟨9, h⟩ => Pipeline.Dat.unnamed (cfg := cfg0) ⟨9, h⟩ t
    | ⟨10, h⟩ => Pipeline.Dat.unnamed (cfg := cfg0) ⟨10, h⟩ t
    | ⟨11, h⟩ => Pipeline.Dat.unnamed (cfg := cfg0) ⟨11, h⟩ t
  Φ _ := Pipeline.ΦA spec0 c
  q _ := fullShare
  owed _ := 0

theorem fA_eq (c : Dev nD) (w : Fin cfg0.W) : (fdats m 0 c).A w = V m c (Pipeline.arrRef spec0 w) := by
  dsimp only [fdats]
theorem fafter0 (c : Dev nD) (t : Fin cfg0.N) : (fdats m 0 c).after 0 t = iblk m c 0 t := by dsimp only [fdats]
theorem fbefore0 (c : Dev nD) (t : Fin cfg0.N) (d) : (fdats m 0 c).before 0 t d = iblk m c 0 t :=
  before0_0_of m (fdats m 0 c) (fA_eq m c 0) (fafter0 m c) t d
theorem fleaves0 (c : Dev nD) (t : Fin cfg0.N) :
    (fdats m 0 c).leavesExact 0 t = owns (c : Thread nD τ) (ms0 t) fullShare (iblk m c 0 t) := by
  unfold Dat.leavesExact
  rw [show cfg0.idle 0 (grid0.coords t) = false from rfl, fafter0]
theorem fafter1 (c : Dev nD) (t : Fin cfg0.N) : (fdats m 0 c).after 1 t = iblk m c 1 t := by dsimp only [fdats]
theorem fbefore1 (c : Dev nD) (t : Fin cfg0.N) (d) : (fdats m 0 c).before 1 t d = iblk m c 1 t :=
  before0_1_of m (fdats m 0 c) (fA_eq m c 1) (fafter1 m c) t d
theorem fleaves1 (c : Dev nD) (t : Fin cfg0.N) :
    (fdats m 0 c).leavesExact 1 t = owns (c : Thread nD τ) (ms1 t) fullShare (iblk m c 1 t) := by
  unfold Dat.leavesExact
  rw [show cfg0.idle 1 (grid0.coords t) = false from rfl, fafter1]
theorem fafter2 (c : Dev nD) (t : Fin cfg0.N) : (fdats m 0 c).after 2 t = iblk m c 2 t := by dsimp only [fdats]
theorem fbefore2 (c : Dev nD) (t : Fin cfg0.N) (d) : (fdats m 0 c).before 2 t d = iblk m c 2 t :=
  before0_2_of m (fdats m 0 c) (fA_eq m c 2) (fafter2 m c) t d
theorem fleaves2 (c : Dev nD) (t : Fin cfg0.N) :
    (fdats m 0 c).leavesExact 2 t = owns (c : Thread nD τ) (ms2 t) fullShare (iblk m c 2 t) := by
  unfold Dat.leavesExact
  rw [show cfg0.idle 2 (grid0.coords t) = false from rfl, fafter2]
theorem fafter3 (c : Dev nD) (t : Fin cfg0.N) : (fdats m 0 c).after 3 t = iblk m c 3 t := by dsimp only [fdats]
theorem fbefore3 (c : Dev nD) (t : Fin cfg0.N) (d) : (fdats m 0 c).before 3 t d = iblk m c 3 t :=
  before0_3_of m (fdats m 0 c) (fA_eq m c 3) (fafter3 m c) t d
theorem fleaves3 (c : Dev nD) (t : Fin cfg0.N) :
    (fdats m 0 c).leavesExact 3 t = owns (c : Thread nD τ) (ms3 t) fullShare (iblk m c 3 t) := by
  unfold Dat.leavesExact
  rw [show cfg0.idle 3 (grid0.coords t) = false from rfl, fafter3]
theorem fafter4 (c : Dev nD) (t : Fin cfg0.N) : (fdats m 0 c).after 4 t = iblk m c 4 t := by dsimp only [fdats]
theorem fbefore4 (c : Dev nD) (t : Fin cfg0.N) (d) : (fdats m 0 c).before 4 t d = iblk m c 4 t :=
  before0_4_of m (fdats m 0 c) (fA_eq m c 4) (fafter4 m c) t d
theorem fleaves4 (c : Dev nD) (t : Fin cfg0.N) :
    (fdats m 0 c).leavesExact 4 t = owns (c : Thread nD τ) (ms4 t) fullShare (iblk m c 4 t) := by
  unfold Dat.leavesExact
  rw [show cfg0.idle 4 (grid0.coords t) = false from rfl, fafter4]
theorem fafter5 (c : Dev nD) (t : Fin cfg0.N) : (fdats m 0 c).after 5 t = iblk m c 5 t := by dsimp only [fdats]
theorem fbefore5 (c : Dev nD) (t : Fin cfg0.N) (d) : (fdats m 0 c).before 5 t d = iblk m c 5 t :=
  before0_5_of m (fdats m 0 c) (fA_eq m c 5) (fafter5 m c) t d
theorem fleaves5 (c : Dev nD) (t : Fin cfg0.N) :
    (fdats m 0 c).leavesExact 5 t = owns (c : Thread nD τ) (ms5 t) fullShare (iblk m c 5 t) := by
  unfold Dat.leavesExact
  rw [show cfg0.idle 5 (grid0.coords t) = false from rfl, fafter5]

/-- What the body is called with at a point, -/
def bodyPre (c : Dev nD) (t : Fin cfg0.N) : sProp 𝕄 :=
  iprop((fdats m 0 c).Φ t.castSucc ∗ (fdats m 0 c).owesAt () t.castSucc
    ∗ (∃ d, owns (c : Thread nD τ) (ms0 t) fullShare ((fdats m 0 c).before 0 t d)) ∗ (∃ d, owns (c : Thread nD τ) (ms1 t) fullShare ((fdats m 0 c).before 1 t d)) ∗ (∃ d, owns (c : Thread nD τ) (ms2 t) fullShare ((fdats m 0 c).before 2 t d)) ∗ (∃ d, owns (c : Thread nD τ) (ms3 t) fullShare ((fdats m 0 c).before 3 t d)) ∗ (∃ d, owns (c : Thread nD τ) (ms4 t) fullShare ((fdats m 0 c).before 4 t d)) ∗ (∃ d, owns (c : Thread nD τ) (ms5 t) fullShare ((fdats m 0 c).before 5 t d)) ∗ (∃ d, owns (c : Thread nD τ) (ms6 t) fullShare d) ∗ (∃ d, owns (c : Thread nD τ) (ms7 t) fullShare d) ∗ (∃ d, owns (c : Thread nD τ) (ms8 t) fullShare d) ∗ (∃ d, owns (c : Thread nD τ) (ms9 t) fullShare d) ∗ (∃ d, owns (c : Thread nD τ) (ms10 t) fullShare d) ∗ (∃ d, owns (c : Thread nD τ) (ms11 t) fullShare d))

/-- and what it returns. -/
def bodyPost (c : Dev nD) (t : Fin cfg0.N) : sProp 𝕄 :=
  iprop((fdats m 0 c).Φ t.succ ∗ (fdats m 0 c).owesAt () t.succ
    ∗ (fdats m 0 c).leavesExact 0 t ∗ (fdats m 0 c).leavesExact 1 t ∗ (fdats m 0 c).leavesExact 2 t ∗ (fdats m 0 c).leavesExact 3 t ∗ (fdats m 0 c).leavesExact 4 t ∗ (fdats m 0 c).leavesExact 5 t ∗ (∃ d, owns (c : Thread nD τ) (ms6 t) fullShare d) ∗ (∃ d, owns (c : Thread nD τ) (ms7 t) fullShare d) ∗ (∃ d, owns (c : Thread nD τ) (ms8 t) fullShare d) ∗ (∃ d, owns (c : Thread nD τ) (ms9 t) fullShare d) ∗ (∃ d, owns (c : Thread nD τ) (ms10 t) fullShare d) ∗ (∃ d, owns (c : Thread nD τ) (ms11 t) fullShare d))

theorem sound_body (c : Dev nD) (t : Fin cfg0.N) :
    bodyPre m c t ⊢ wp frame (wpE (defs₀ (F := F)) Variants.none c none) Set.univ (bodyAt0 t) (fun _ => bodyPost m c t) := by
  unfold bodyPre bodyPost
  simp only [fbefore0, fbefore1, fbefore2, fbefore3, fbefore4, fbefore5, fleaves0, fleaves1, fleaves2, fleaves3, fleaves4, fleaves5]
  rw [show (fdats m 0 c).owesAt () t.succ = (fdats m 0 c).owesAt () t.castSucc from rfl]
  rw [show (fdats m 0 c).Φ t.succ = Pipeline.ΦA spec0 c from rfl, show (fdats m 0 c).Φ t.castSucc = Pipeline.ΦA spec0 c from rfl, PhiA_eq]
  iintro ⟨⟨⟨⟨%s0, S0⟩, ⟨%s1, S1⟩, ⟨%s2, S2⟩, ⟨%s3, S3⟩, ⟨%s4, S4⟩, ⟨%s5, S5⟩, ⟨%s6, S6⟩, ⟨%s7, S7⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  ihave Hwp := body_kept c t (iblk m c 0 t) (iblk m c 1 t) (iblk m c 2 t) (iblk m c 3 t) (iblk m c 4 t) (iblk m c 5 t) d6 d7 d8 d9 d10 d11 s0 s1 s2 s3 s4 s5 s6 s7 $$ [H0 H1 H2 H3 H4 H5 H6 H7 H8 H9 H10 H11 S0 S1 S2 S3 S4 S5 S6 S7]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [S0]; · iexact S0
    isplitl [S1]; · iexact S1
    isplitl [S2]; · iexact S2
    isplitl [S3]; · iexact S3
    isplitl [S4]; · iexact S4
    isplitl [S5]; · iexact S5
    isplitl [S6]; · iexact S6
    iexact S7
  iapply wp_wand $$ Hwp
  iintro %u ⟨H0, H1, H2, H3, H4, H5, H6, H7, H8, H9, H10, H11, S0, S1, S2, S3, S4, S5, S6, S7⟩
  isplitl [S0 S1 S2 S3 S4 S5 S6 S7 Hg]
  · isplitl [S0 S1 S2 S3 S4 S5 S6 S7]
    · isplitl [S0]; · iexact S0
      isplitl [S1]; · iexact S1
      isplitl [S2]; · iexact S2
      isplitl [S3]; · iexact S3
      isplitl [S4]; · iexact S4
      isplitl [S5]; · iexact S5
      isplitl [S6]; · iexact S6
      iexact S7
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

/-- The body table's row at a point is the body. -/
theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (fdats (F := F) m 0 c) (defs₀ (F := F)) Variants.none () Set.univ forgets := fun t => by
  rw [bigSep_W0, bigSep_W0, defs₀_row]
  exact triple_restated (sound_body m c t) rfl .rfl fun _ => .rfl

/-! ## The run and the frame -/

-- the implicit arguments of `θ_run_frame_track_forget` are found by unifying its conclusion with this one
set_option backward.isDefEq.respectTransparency.types false in
theorem run_main : θ_run defs (onTc (τ := τ) (main (F := F))) (s₀ m ρ)
    (fun r => (Pipeline.RDat.FramePost (cfgs 0) (fun c => (fdats m 0 c).toRForget forgets) (V m)) r ∧ r.2.sem = fun _ => 0) :=
  Pipeline.θ_run_frame_track_forget (Q' := _) cfgs (fdats m) (0 : Fin 1) launch0 defs₀ Variants.none forgets m ρ main
    (hbody := fun c => (body_obligation m c).loose) (hshare := fun c => (fdats m 0 c).share_full fun _ => rfl)
    (howed := fun _ _ => rfl) (V := V m) (hmain := hmain m Variants.none) (hA := fA_eq m)
    (hin := fun _ => .rfl) (hout := fun _ => .rfl)

/-- A run that leaves every input array as the launch found it leaves the arguments as they were. -/
theorem args_of (rdat : (c : Dev nD) → Pipeline.RDat τ (Elt F) Unit ℕ (UR sig nD τ) ℕ (cfgs 0) c)
    (hA : ∀ c w, (rdat c).A w = V m c (Pipeline.arrRef spec0 w)) (r : _)
    (h : Pipeline.RDat.FramePost (cfgs 0) rdat (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  ⟨((h c).2 main_arg0 (Pipeline.mem_restRefs_of main_arg0 (by decide) (by decide))).trans (V_main_arg0 m c),
    ((h c).2 main_arg1 (Pipeline.mem_restRefs_of main_arg1 (by decide) (by decide))).trans (V_main_arg1 m c),
    (Pipeline.RDat.FramePost.arr_in h c 4 rfl).trans ((hA c 4).trans (V_main_arg2 m c)),
    (Pipeline.RDat.FramePost.arr_in h c 5 rfl).trans ((hA c 5).trans (V_main_arg3 m c)),
    (Pipeline.RDat.FramePost.arr_in h c 3 rfl).trans ((hA c 3).trans (V_main_arg4 m c))⟩

/-- The frame: the program runs to the end, its arguments end unchanged, every semaphore counter ends at zero. -/
theorem frame_main : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun r h => ⟨args_of m (fun c => (fdats m 0 c).toRForget forgets) (fA_eq m) r h.1, h.2⟩) (run_main m ρ)

end Cert.KernelIdeal.Body

end
-- ==== Proof.TileRuns.lean ====
/- What the runs of the body at a vocabulary tile store, with the payloads put into one form: six chunks of the two products,
   the tile of logits, and the running maximum and sums. -/
module

public import proofs.«01_k».proof.Proof.KernelIdealRunE

@[expose] public section

set_option maxRecDepth 16384

noncomputable section

namespace Cert.KernelIdeal.Body

open Cert.KernelIdeal.Gen
open Idealize.ShloMosaic Idealize.ShloMosaic.TcCoe Idealize.ShloMosaic.Tactic
open Idealize.ShloMosaic.Pipeline (Dat Cfg Window BodyObligation cellOf)

variable {F : FTy → Type} [FloatOps F]

/-- Lane `8 l + b` of the result is lane `l + j` of the scales: one of the eight spreads of a chunk's scales over its columns. -/
def gath (s : Vec F S256x128 .fp8e4m3) (j : BitVec 32) : FVec F S256x128 .f32 :=
  k0_pay22 (k0_pay18 s) (addi (shrsi (iota .tc S256x128 32 [1] iota_S256x128_d1_w32) (broadcast S256x128 3#32)) (broadcast S256x128 j)) (broadcast S256x128 0#32)

/-- A chunk's scales, one per column. -/
def scl (s : Vec F S256x128 .fp8e4m3) : FVec F S256x1024 .bf16 :=
  truncf .bf16 (concatenate S256x1024 1 [⟨S256x128, gath s 0#32⟩, ⟨S256x128, gath s 16#32⟩, ⟨S256x128, gath s 32#32⟩, ⟨S256x128, gath s 48#32⟩, ⟨S256x128, gath s 64#32⟩, ⟨S256x128, gath s 80#32⟩, ⟨S256x128, gath s 96#32⟩, ⟨S256x128, gath s 112#32⟩] concatenates_S256x128_S256x128_S256x128_S256x128_S256x128_S256x128_S256x128_S256x128_S256x1024_d1) bitsLt_bf16_f32

/-- Words of four codes each, read as 8-bit floats. -/
def codes (v : IVec S64x1024 32) : FVec F S256x1024 .bf16 :=
  extf .bf16 (bitcastToFloat .fp8e4m3 (bitcast S256x1024 8 v bitcasts_S64x1024_w32_S256x1024_w8) : FVec F S256x1024 .fp8e4m3) bitsLt_fp8e4m3_bf16

/-- One chunk of a product: the activations' columns against the decoded and scaled weights. -/
def prodStep (acc : FVec F S256x256 .f32) (x : Vec F S256x1024 .fp8e4m3) (v : IVec S64x1024 32) (s : Vec F S256x128 .fp8e4m3) : FVec F S256x256 .f32 :=
  addf acc (matmul dot_S256x1024_S256x1024_S256x256_1_1_0_0_n_n none (extf .bf16 (shapeCast S256x1024 x shapeCasts_S256x1024_S256x1024) bitsLt_fp8e4m3_bf16) (mulf (codes v) (scl s)) (constant S256x256 .f32 0x00000000#32))

/-- The chunk's columns of the activations and weights, -/
abbrev cR (c : ℕ) (h : ∀ a, (![0, c] : Fin 2 → ℕ) a + S256x1024.size a ≤ S256x6144.size a) : Rect S256x6144 := Rect.unit ![0, c] S256x1024.size h
/-- and of the scales. -/
abbrev sR (c : ℕ) (h : ∀ a, (![0, c] : Fin 2 → ℕ) a + S256x128.size a ≤ S256x768.size a) : Rect S256x768 := Rect.unit ![0, c] S256x128.size h

/-- The product over the even weights, -/
def accE (X1 : Vec F S256x6144 .fp8e4m3) (X5 : Vec F S256x6144 .i8) (X6 : Vec F S256x768 .fp8e4m3) : FVec F S256x256 .f32 :=
  (prodStep (prodStep (prodStep (prodStep (prodStep (prodStep k0_pay13 (View.ld X1 (cR 0 inb_S256x6144_S256x1024_0_0)) (k0_pay16 (View.ld X5 (cR 0 inb_S256x6144_S256x1024_0_0))) (View.ld X6 (sR 0 inb_S256x768_S256x128_0_0))) (View.ld X1 (cR 1024 inb_S256x6144_S256x1024_0_1024)) (k0_pay16 (View.ld X5 (cR 1024 inb_S256x6144_S256x1024_0_1024))) (View.ld X6 (sR 128 inb_S256x768_S256x128_0_128))) (View.ld X1 (cR 2048 inb_S256x6144_S256x1024_0_2048)) (k0_pay16 (View.ld X5 (cR 2048 inb_S256x6144_S256x1024_0_2048))) (View.ld X6 (sR 256 inb_S256x768_S256x128_0_256))) (View.ld X1 (cR 3072 inb_S256x6144_S256x1024_0_3072)) (k0_pay16 (View.ld X5 (cR 3072 inb_S256x6144_S256x1024_0_3072))) (View.ld X6 (sR 384 inb_S256x768_S256x128_0_384))) (View.ld X1 (cR 4096 inb_S256x6144_S256x1024_0_4096)) (k0_pay16 (View.ld X5 (cR 4096 inb_S256x6144_S256x1024_0_4096))) (View.ld X6 (sR 512 inb_S256x768_S256x128_0_512))) (View.ld X1 (cR 5120 inb_S256x6144_S256x1024_0_5120)) (k0_pay16 (View.ld X5 (cR 5120 inb_S256x6144_S256x1024_0_5120))) (View.ld X6 (sR 640 inb_S256x768_S256x128_0_640)))
/-- and over the odd ones. -/
def accO (X2 : Vec F S256x6144 .fp8e4m3) (X5 : Vec F S256x6144 .i8) (X6 : Vec F S256x768 .fp8e4m3) : FVec F S256x256 .f32 :=
  (prodStep (prodStep (prodStep (prodStep (prodStep (prodStep k0_pay14 (View.ld X2 (cR 0 inb_S256x6144_S256x1024_0_0)) (k0_pay17 (View.ld X5 (cR 0 inb_S256x6144_S256x1024_0_0))) (View.ld X6 (sR 0 inb_S256x768_S256x128_0_0))) (View.ld X2 (cR 1024 inb_S256x6144_S256x1024_0_1024)) (k0_pay17 (View.ld X5 (cR 1024 inb_S256x6144_S256x1024_0_1024))) (View.ld X6 (sR 128 inb_S256x768_S256x128_0_128))) (View.ld X2 (cR 2048 inb_S256x6144_S256x1024_0_2048)) (k0_pay17 (View.ld X5 (cR 2048 inb_S256x6144_S256x1024_0_2048))) (View.ld X6 (sR 256 inb_S256x768_S256x128_0_256))) (View.ld X2 (cR 3072 inb_S256x6144_S256x1024_0_3072)) (k0_pay17 (View.ld X5 (cR 3072 inb_S256x6144_S256x1024_0_3072))) (View.ld X6 (sR 384 inb_S256x768_S256x128_0_384))) (View.ld X2 (cR 4096 inb_S256x6144_S256x1024_0_4096)) (k0_pay17 (View.ld X5 (cR 4096 inb_S256x6144_S256x1024_0_4096))) (View.ld X6 (sR 512 inb_S256x768_S256x128_0_512))) (View.ld X2 (cR 5120 inb_S256x6144_S256x1024_0_5120)) (k0_pay17 (View.ld X5 (cR 5120 inb_S256x6144_S256x1024_0_5120))) (View.ld X6 (sR 640 inb_S256x768_S256x128_0_640)))

/-- A tile of logits. -/
def zTile (X1 X2 : Vec F S256x6144 .fp8e4m3) (X3 : Vec F S256x1 .f32) (g : Elt F .f32) (X5 : Vec F S256x6144 .i8) (X6 : Vec F S256x768 .fp8e4m3) : FVec F S256x256 .f32 :=
  mulf (mulf (addf (accE X1 X5 X6) (accO X2 X5 X6)) (broadcastTo S256x256 (mulf (shapeCast S256x1 (View.ld X3 (Rect.unit ![0, 0] S256x1.size inb_S256x1_S256x1_0_0)) shapeCasts_S256x1_S256x1) (broadcast S256x1 (Scalar.ofBits .f32 0x42800000#32))) broadcasts_S256x1_S256x256)) (broadcast S256x256 g)

/-- The running maximum of a lane after a tile, -/
def mNew (Z : FVec F S256x256 .f32) (m : FVec F S256x128 .f32) : FVec F S256x128 .f32 :=
  maximumf m (maximumf (extractStridedSlice S256x128 ![0, 0] Z slices_S256x256_o0_0_S256x128) (extractStridedSlice S256x128 ![0, 128] Z slices_S256x256_o0_128_S256x128))
/-- the running sum of exponentials, -/
def s1New (Z : FVec F S256x256 .f32) (m s1 : FVec F S256x128 .f32) : FVec F S256x128 .f32 :=
  k0_pay122 Z (mNew Z m) (subf m (mNew Z m)) (Scalar.ofBits .f32 0x3F000000#32) s1
/-- and the running sum of exponentials at half the logits. -/
def s2New (Z : FVec F S256x256 .f32) (m s2 : FVec F S256x128 .f32) : FVec F S256x128 .f32 :=
  k0_pay120 Z (mNew Z m) (subf m (mNew Z m)) (Scalar.ofBits .f32 0x3F000000#32) s2

/-- The whole of a lane buffer. -/
abbrev fullR : Rect S256x128 := Rect.unit ![0, 0] S256x128.size inb_S256x128_S256x128_0_0

set_option maxHeartbeats 4000000 in
theorem runA_z (c : Dev nD) (i : grid0.Coords) (arg1 : Memref sig .tc .vmem S256x6144 .fp8e4m3) (harg1 : arg1.IsWhole) (arg2 : Memref sig .tc .vmem S256x6144 .fp8e4m3) (harg2 : arg2.IsWhole) (arg3 : Memref sig .tc .vmem S256x1 .f32) (harg3 : arg3.IsWhole) (arg4 : Memref sig .tc .smem S1 .f32) (harg4 : arg4.IsWhole) (arg5 : Memref sig .tc .vmem S256x6144 .i8) (harg5 : arg5.IsWhole) (arg6 : Memref sig .tc .vmem S256x768 .fp8e4m3) (harg6 : arg6.IsWhole) (arg7 : Memref sig .tc .vmem S256x1280 .fp8e5m2) (harg7 : arg7.IsWhole) (arg8 : Memref sig .tc .vmem S256x1280 .fp8e5m2) (harg8 : arg8.IsWhole) (arg9 : Memref sig .tc .vmem S2x128 .f32) (harg9 : arg9.IsWhole) (arg10 : Memref sig .tc .vmem S2x128 .f32) (harg10 : arg10.IsWhole) (arg11 : Memref sig .tc .vmem S2x128 .f32) (harg11 : arg11.IsWhole) (arg12 : Memref sig .tc .vmem S2x128 .f32) (harg12 : arg12.IsWhole) (arg13 : Memref sig .tc .vmem S256x32000 .f32) (harg13 : arg13.IsWhole) (arg14 : Memref sig .tc .vmem S256x128 .f32) (harg14 : arg14.IsWhole) (arg15 : Memref sig .tc .vmem S256x128 .f32) (harg15 : arg15.IsWhole) (arg16 : Memref sig .tc .vmem S256x128 .f32) (harg16 : arg16.IsWhole) (arg17 : Memref sig .tc .vmem S256x128 .f32) (harg17 : arg17.IsWhole) (arg18 : Memref sig .tc .vmem S256x128 .f32) (harg18 : arg18.IsWhole) (arg19 : Memref sig .tc .vmem S256x128 .f32) (harg19 : arg19.IsWhole) (arg20 : Memref sig .tc .vmem S256x128 .f32) (harg20 : arg20.IsWhole) (hc0 : cond0 i) (hc1 : cond1 i) (hc2 : ¬cond2 i) (hc3 : ¬cond3 i) (hc4 : ¬cond4 i) (d1 : Vec F S256x6144 .fp8e4m3) (d2 : Vec F S256x6144 .fp8e4m3) (d3 : Vec F S256x1 .f32) (d4 : Vec F S1 .f32) (d5 : Vec F S256x6144 .i8) (d6 : Vec F S256x768 .fp8e4m3) (d7 : Vec F S256x1280 .fp8e5m2) (d8 : Vec F S256x1280 .fp8e5m2) (d9 : Vec F S2x128 .f32) (d10 : Vec F S2x128 .f32) (d11 : Vec F S2x128 .f32) (d12 : Vec F S2x128 .f32) (d13 : Vec F S256x32000 .f32) (d14 : Vec F S256x128 .f32) (d15 : Vec F S256x128 .f32) (d16 : Vec F S256x128 .f32) (d17 : Vec F S256x128 .f32) (d18 : Vec F S256x128 .f32) (d19 : Vec F S256x128 .f32) (d20 : Vec F S256x128 .f32) :
    ∃ h, (runA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 hc2 hc3 hc4 d1 d2 d3 d4 d5 d6 d7 d8 d9 d10 d11 d12 d13 d14 d15 d16 d17 d18 d19 d20).1 = [⟨Rect.unit (k0_off1 i) S256x256.size h, shapeCast S256x256 (zTile (arg1.view.read (Elt F) (harg1.unread d1)) (arg2.view.read (Elt F) (harg2.unread d2)) (arg3.view.read (Elt F) (harg3.unread d3)) (arg4.view.readAt (Elt F) (Rect.unit ![0] S1.size inb_S1_S1_0).toLoadRect (harg4.unread d4) (Shape.Idx.first (by decide))) (arg5.view.read (Elt F) (harg5.unread d5)) (arg6.view.read (Elt F) (harg6.unread d6))) shapeCasts_S256x256_S256x256⟩] := by
  unfold runA; dsimp only; sl_unfold_words
  exact ⟨_, rfl⟩

set_option maxHeartbeats 4000000 in
theorem runA_m (c : Dev nD) (i : grid0.Coords) (arg1 : Memref sig .tc .vmem S256x6144 .fp8e4m3) (harg1 : arg1.IsWhole) (arg2 : Memref sig .tc .vmem S256x6144 .fp8e4m3) (harg2 : arg2.IsWhole) (arg3 : Memref sig .tc .vmem S256x1 .f32) (harg3 : arg3.IsWhole) (arg4 : Memref sig .tc .smem S1 .f32) (harg4 : arg4.IsWhole) (arg5 : Memref sig .tc .vmem S256x6144 .i8) (harg5 : arg5.IsWhole) (arg6 : Memref sig .tc .vmem S256x768 .fp8e4m3) (harg6 : arg6.IsWhole) (arg7 : Memref sig .tc .vmem S256x1280 .fp8e5m2) (harg7 : arg7.IsWhole) (arg8 : Memref sig .tc .vmem S256x1280 .fp8e5m2) (harg8 : arg8.IsWhole) (arg9 : Memref sig .tc .vmem S2x128 .f32) (harg9 : arg9.IsWhole) (arg10 : Memref sig .tc .vmem S2x128 .f32) (harg10 : arg10.IsWhole) (arg11 : Memref sig .tc .vmem S2x128 .f32) (harg11 : arg11.IsWhole) (arg12 : Memref sig .tc .vmem S2x128 .f32) (harg12 : arg12.IsWhole) (arg13 : Memref sig .tc .vmem S256x32000 .f32) (harg13 : arg13.IsWhole) (arg14 : Memref sig .tc .vmem S256x128 .f32) (harg14 : arg14.IsWhole) (arg15 : Memref sig .tc .vmem S256x128 .f32) (harg15 : arg15.IsWhole) (arg16 : Memref sig .tc .vmem S256x128 .f32) (harg16 : arg16.IsWhole) (arg17 : Memref sig .tc .vmem S256x128 .f32) (harg17 : arg17.IsWhole) (arg18 : Memref sig .tc .vmem S256x128 .f32) (harg18 : arg18.IsWhole) (arg19 : Memref sig .tc .vmem S256x128 .f32) (harg19 : arg19.IsWhole) (arg20 : Memref sig .tc .vmem S256x128 .f32) (harg20 : arg20.IsWhole) (hc0 : cond0 i) (hc1 : cond1 i) (hc2 : ¬cond2 i) (hc3 : ¬cond3 i) (hc4 : ¬cond4 i) (d1 : Vec F S256x6144 .fp8e4m3) (d2 : Vec F S256x6144 .fp8e4m3) (d3 : Vec F S256x1 .f32) (d4 : Vec F S1 .f32) (d5 : Vec F S256x6144 .i8) (d6 : Vec F S256x768 .fp8e4m3) (d7 : Vec F S256x1280 .fp8e5m2) (d8 : Vec F S256x1280 .fp8e5m2) (d9 : Vec F S2x128 .f32) (d10 : Vec F S2x128 .f32) (d11 : Vec F S2x128 .f32) (d12 : Vec F S2x128 .f32) (d13 : Vec F S256x32000 .f32) (d14 : Vec F S256x128 .f32) (d15 : Vec F S256x128 .f32) (d16 : Vec F S256x128 .f32) (d17 : Vec F S256x128 .f32) (d18 : Vec F S256x128 .f32) (d19 : Vec F S256x128 .f32) (d20 : Vec F S256x128 .f32) :
    (runA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 hc2 hc3 hc4 d1 d2 d3 d4 d5 d6 d7 d8 d9 d10 d11 d12 d13 d14 d15 d16 d17 d18 d19 d20).2.1 = ⟨fullR, shapeCast S256x128 (mNew (zTile (arg1.view.read (Elt F) (harg1.unread d1)) (arg2.view.read (Elt F) (harg2.unread d2)) (arg3.view.read (Elt F) (harg3.unread d3)) (arg4.view.readAt (Elt F) (Rect.unit ![0] S1.size inb_S1_S1_0).toLoadRect (harg4.unread d4) (Shape.Idx.first (by decide))) (arg5.view.read (Elt F) (harg5.unread d5)) (arg6.view.read (Elt F) (harg6.unread d6))) (View.readCov (Val := Elt F) arg14.view [⟨fullR, k0_pay1⟩] fullR.toLoadRect)) shapeCasts_S256x128_S256x128⟩ :: [⟨fullR, k0_pay1⟩] := by
  unfold runA; dsimp only; sl_unfold_words
  exact rfl

set_option maxHeartbeats 4000000 in
theorem runA_s1 (c : Dev nD) (i : grid0.Coords) (arg1 : Memref sig .tc .vmem S256x6144 .fp8e4m3) (harg1 : arg1.IsWhole) (arg2 : Memref sig .tc .vmem S256x6144 .fp8e4m3) (harg2 : arg2.IsWhole) (arg3 : Memref sig .tc .vmem S256x1 .f32) (harg3 : arg3.IsWhole) (arg4 : Memref sig .tc .smem S1 .f32) (harg4 : arg4.IsWhole) (arg5 : Memref sig .tc .vmem S256x6144 .i8) (harg5 : arg5.IsWhole) (arg6 : Memref sig .tc .vmem S256x768 .fp8e4m3) (harg6 : arg6.IsWhole) (arg7 : Memref sig .tc .vmem S256x1280 .fp8e5m2) (harg7 : arg7.IsWhole) (arg8 : Memref sig .tc .vmem S256x1280 .fp8e5m2) (harg8 : arg8.IsWhole) (arg9 : Memref sig .tc .vmem S2x128 .f32) (harg9 : arg9.IsWhole) (arg10 : Memref sig .tc .vmem S2x128 .f32) (harg10 : arg10.IsWhole) (arg11 : Memref sig .tc .vmem S2x128 .f32) (harg11 : arg11.IsWhole) (arg12 : Memref sig .tc .vmem S2x128 .f32) (harg12 : arg12.IsWhole) (arg13 : Memref sig .tc .vmem S256x32000 .f32) (harg13 : arg13.IsWhole) (arg14 : Memref sig .tc .vmem S256x128 .f32) (harg14 : arg14.IsWhole) (arg15 : Memref sig .tc .vmem S256x128 .f32) (harg15 : arg15.IsWhole) (arg16 : Memref sig .tc .vmem S256x128 .f32) (harg16 : arg16.IsWhole) (arg17 : Memref sig .tc .vmem S256x128 .f32) (harg17 : arg17.IsWhole) (arg18 : Memref sig .tc .vmem S256x128 .f32) (harg18 : arg18.IsWhole) (arg19 : Memref sig .tc .vmem S256x128 .f32) (harg19 : arg19.IsWhole) (arg20 : Memref sig .tc .vmem S256x128 .f32) (harg20 : arg20.IsWhole) (hc0 : cond0 i) (hc1 : cond1 i) (hc2 : ¬cond2 i) (hc3 : ¬cond3 i) (hc4 : ¬cond4 i) (d1 : Vec F S256x6144 .fp8e4m3) (d2 : Vec F S256x6144 .fp8e4m3) (d3 : Vec F S256x1 .f32) (d4 : Vec F S1 .f32) (d5 : Vec F S256x6144 .i8) (d6 : Vec F S256x768 .fp8e4m3) (d7 : Vec F S256x1280 .fp8e5m2) (d8 : Vec F S256x1280 .fp8e5m2) (d9 : Vec F S2x128 .f32) (d10 : Vec F S2x128 .f32) (d11 : Vec F S2x128 .f32) (d12 : Vec F S2x128 .f32) (d13 : Vec F S256x32000 .f32) (d14 : Vec F S256x128 .f32) (d15 : Vec F S256x128 .f32) (d16 : Vec F S256x128 .f32) (d17 : Vec F S256x128 .f32) (d18 : Vec F S256x128 .f32) (d19 : Vec F S256x128 .f32) (d20 : Vec F S256x128 .f32) :
    (runA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 hc2 hc3 hc4 d1 d2 d3 d4 d5 d6 d7 d8 d9 d10 d11 d12 d13 d14 d15 d16 d17 d18 d19 d20).2.2.1 = ⟨fullR, s1New (zTile (arg1.view.read (Elt F) (harg1.unread d1)) (arg2.view.read (Elt F) (harg2.unread d2)) (arg3.view.read (Elt F) (harg3.unread d3)) (arg4.view.readAt (Elt F) (Rect.unit ![0] S1.size inb_S1_S1_0).toLoadRect (harg4.unread d4) (Shape.Idx.first (by decide))) (arg5.view.read (Elt F) (harg5.unread d5)) (arg6.view.read (Elt F) (harg6.unread d6))) (View.readCov (Val := Elt F) arg14.view [⟨fullR, k0_pay1⟩] fullR.toLoadRect) (View.readCov (Val := Elt F) arg15.view [⟨fullR, k0_pay2⟩] fullR.toLoadRect)⟩ :: [⟨fullR, k0_pay2⟩] := by
  unfold runA; dsimp only; sl_unfold_words
  exact rfl

set_option maxHeartbeats 4000000 in
theorem runA_s2 (c : Dev nD) (i : grid0.Coords) (arg1 : Memref sig .tc .vmem S256x6144 .fp8e4m3) (harg1 : arg1.IsWhole) (arg2 : Memref sig .tc .vmem S256x6144 .fp8e4m3) (harg2 : arg2.IsWhole) (arg3 : Memref sig .tc .vmem S256x1 .f32) (harg3 : arg3.IsWhole) (arg4 : Memref sig .tc .smem S1 .f32) (harg4 : arg4.IsWhole) (arg5 : Memref sig .tc .vmem S256x6144 .i8) (harg5 : arg5.IsWhole) (arg6 : Memref sig .tc .vmem S256x768 .fp8e4m3) (harg6 : arg6.IsWhole) (arg7 : Memref sig .tc .vmem S256x1280 .fp8e5m2) (harg7 : arg7.IsWhole) (arg8 : Memref sig .tc .vmem S256x1280 .fp8e5m2) (harg8 : arg8.IsWhole) (arg9 : Memref sig .tc .vmem S2x128 .f32) (harg9 : arg9.IsWhole) (arg10 : Memref sig .tc .vmem S2x128 .f32) (harg10 : arg10.IsWhole) (arg11 : Memref sig .tc .vmem S2x128 .f32) (harg11 : arg11.IsWhole) (arg12 : Memref sig .tc .vmem S2x128 .f32) (harg12 : arg12.IsWhole) (arg13 : Memref sig .tc .vmem S256x32000 .f32) (harg13 : arg13.IsWhole) (arg14 : Memref sig .tc .vmem S256x128 .f32) (harg14 : arg14.IsWhole) (arg15 : Memref sig .tc .vmem S256x128 .f32) (harg15 : arg15.IsWhole) (arg16 : Memref sig .tc .vmem S256x128 .f32) (harg16 : arg16.IsWhole) (arg17 : Memref sig .tc .vmem S256x128 .f32) (harg17 : arg17.IsWhole) (arg18 : Memref sig .tc .vmem S256x128 .f32) (harg18 : arg18.IsWhole) (arg19 : Memref sig .tc .vmem S256x128 .f32) (harg19 : arg19.IsWhole) (arg20 : Memref sig .tc .vmem S256x128 .f32) (harg20 : arg20.IsWhole) (hc0 : cond0 i) (hc1 : cond1 i) (hc2 : ¬cond2 i) (hc3 : ¬cond3 i) (hc4 : ¬cond4 i) (d1 : Vec F S256x6144 .fp8e4m3) (d2 : Vec F S256x6144 .fp8e4m3) (d3 : Vec F S256x1 .f32) (d4 : Vec F S1 .f32) (d5 : Vec F S256x6144 .i8) (d6 : Vec F S256x768 .fp8e4m3) (d7 : Vec F S256x1280 .fp8e5m2) (d8 : Vec F S256x1280 .fp8e5m2) (d9 : Vec F S2x128 .f32) (d10 : Vec F S2x128 .f32) (d11 : Vec F S2x128 .f32) (d12 : Vec F S2x128 .f32) (d13 : Vec F S256x32000 .f32) (d14 : Vec F S256x128 .f32) (d15 : Vec F S256x128 .f32) (d16 : Vec F S256x128 .f32) (d17 : Vec F S256x128 .f32) (d18 : Vec F S256x128 .f32) (d19 : Vec F S256x128 .f32) (d20 : Vec F S256x128 .f32) :
    (runA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 hc2 hc3 hc4 d1 d2 d3 d4 d5 d6 d7 d8 d9 d10 d11 d12 d13 d14 d15 d16 d17 d18 d19 d20).2.2.2.1 = ⟨fullR, shapeCast S256x128 (s2New (zTile (arg1.view.read (Elt F) (harg1.unread d1)) (arg2.view.read (Elt F) (harg2.unread d2)) (arg3.view.read (Elt F) (harg3.unread d3)) (arg4.view.readAt (Elt F) (Rect.unit ![0] S1.size inb_S1_S1_0).toLoadRect (harg4.unread d4) (Shape.Idx.first (by decide))) (arg5.view.read (Elt F) (harg5.unread d5)) (arg6.view.read (Elt F) (harg6.unread d6))) (View.readCov (Val := Elt F) arg14.view [⟨fullR, k0_pay1⟩] fullR.toLoadRect) (View.readCov (Val := Elt F) arg16.view [⟨fullR, k0_pay3⟩] fullR.toLoadRect)) shapeCasts_S256x128_S256x128⟩ :: [⟨fullR, k0_pay3⟩] := by
  unfold runA; dsimp only; sl_unfold_words
  exact rfl

set_option maxHeartbeats 4000000 in
theorem runB_z (c : Dev nD) (i : grid0.Coords) (arg1 : Memref sig .tc .vmem S256x6144 .fp8e4m3) (harg1 : arg1.IsWhole) (arg2 : Memref sig .tc .vmem S256x6144 .fp8e4m3) (harg2 : arg2.IsWhole) (arg3 : Memref sig .tc .vmem S256x1 .f32) (harg3 : arg3.IsWhole) (arg4 : Memref sig .tc .smem S1 .f32) (harg4 : arg4.IsWhole) (arg5 : Memref sig .tc .vmem S256x6144 .i8) (harg5 : arg5.IsWhole) (arg6 : Memref sig .tc .vmem S256x768 .fp8e4m3) (harg6 : arg6.IsWhole) (arg7 : Memref sig .tc .vmem S256x1280 .fp8e5m2) (harg7 : arg7.IsWhole) (arg8 : Memref sig .tc .vmem S256x1280 .fp8e5m2) (harg8 : arg8.IsWhole) (arg9 : Memref sig .tc .vmem S2x128 .f32) (harg9 : arg9.IsWhole) (arg10 : Memref sig .tc .vmem S2x128 .f32) (harg10 : arg10.IsWhole) (arg11 : Memref sig .tc .vmem S2x128 .f32) (harg11 : arg11.IsWhole) (arg12 : Memref sig .tc .vmem S2x128 .f32) (harg12 : arg12.IsWhole) (arg13 : Memref sig .tc .vmem S256x32000 .f32) (harg13 : arg13.IsWhole) (arg14 : Memref sig .tc .vmem S256x128 .f32) (harg14 : arg14.IsWhole) (arg15 : Memref sig .tc .vmem S256x128 .f32) (harg15 : arg15.IsWhole) (arg16 : Memref sig .tc .vmem S256x128 .f32) (harg16 : arg16.IsWhole) (arg17 : Memref sig .tc .vmem S256x128 .f32) (harg17 : arg17.IsWhole) (arg18 : Memref sig .tc .vmem S256x128 .f32) (harg18 : arg18.IsWhole) (arg19 : Memref sig .tc .vmem S256x128 .f32) (harg19 : arg19.IsWhole) (arg20 : Memref sig .tc .vmem S256x128 .f32) (harg20 : arg20.IsWhole) (hc0 : ¬cond0 i) (hc1 : cond1 i) (hc2 : ¬cond2 i) (hc3 : ¬cond3 i) (hc4 : ¬cond4 i) (d1 : Vec F S256x6144 .fp8e4m3) (d2 : Vec F S256x6144 .fp8e4m3) (d3 : Vec F S256x1 .f32) (d4 : Vec F S1 .f32) (d5 : Vec F S256x6144 .i8) (d6 : Vec F S256x768 .fp8e4m3) (d7 : Vec F S256x1280 .fp8e5m2) (d8 : Vec F S256x1280 .fp8e5m2) (d9 : Vec F S2x128 .f32) (d10 : Vec F S2x128 .f32) (d11 : Vec F S2x128 .f32) (d12 : Vec F S2x128 .f32) (d13 : Vec F S256x32000 .f32) (d14 : Vec F S256x128 .f32) (d15 : Vec F S256x128 .f32) (d16 : Vec F S256x128 .f32) (d17 : Vec F S256x128 .f32) (d18 : Vec F S256x128 .f32) (d19 : Vec F S256x128 .f32) (d20 : Vec F S256x128 .f32) :
    ∃ h, (runB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 hc2 hc3 hc4 d1 d2 d3 d4 d5 d6 d7 d8 d9 d10 d11 d12 d13 d14 d15 d16 d17 d18 d19 d20).1 = [⟨Rect.unit (k0_off1 i) S256x256.size h, shapeCast S256x256 (zTile (arg1.view.read (Elt F) (harg1.unread d1)) (arg2.view.read (Elt F) (harg2.unread d2)) (arg3.view.read (Elt F) (harg3.unread d3)) (arg4.view.readAt (Elt F) (Rect.unit ![0] S1.size inb_S1_S1_0).toLoadRect (harg4.unread d4) (Shape.Idx.first (by decide))) (arg5.view.read (Elt F) (harg5.unread d5)) (arg6.view.read (Elt F) (harg6.unread d6))) shapeCasts_S256x256_S256x256⟩] := by
  unfold runB; dsimp only; sl_unfold_words
  exact ⟨_, rfl⟩

set_option maxHeartbeats 4000000 in
theorem runB_m (c : Dev nD) (i : grid0.Coords) (arg1 : Memref sig .tc .vmem S256x6144 .fp8e4m3) (harg1 : arg1.IsWhole) (arg2 : Memref sig .tc .vmem S256x6144 .fp8e4m3) (harg2 : arg2.IsWhole) (arg3 : Memref sig .tc .vmem S256x1 .f32) (harg3 : arg3.IsWhole) (arg4 : Memref sig .tc .smem S1 .f32) (harg4 : arg4.IsWhole) (arg5 : Memref sig .tc .vmem S256x6144 .i8) (harg5 : arg5.IsWhole) (arg6 : Memref sig .tc .vmem S256x768 .fp8e4m3) (harg6 : arg6.IsWhole) (arg7 : Memref sig .tc .vmem S256x1280 .fp8e5m2) (harg7 : arg7.IsWhole) (arg8 : Memref sig .tc .vmem S256x1280 .fp8e5m2) (harg8 : arg8.IsWhole) (arg9 : Memref sig .tc .vmem S2x128 .f32) (harg9 : arg9.IsWhole) (arg10 : Memref sig .tc .vmem S2x128 .f32) (harg10 : arg10.IsWhole) (arg11 : Memref sig .tc .vmem S2x128 .f32) (harg11 : arg11.IsWhole) (arg12 : Memref sig .tc .vmem S2x128 .f32) (harg12 : arg12.IsWhole) (arg13 : Memref sig .tc .vmem S256x32000 .f32) (harg13 : arg13.IsWhole) (arg14 : Memref sig .tc .vmem S256x128 .f32) (harg14 : arg14.IsWhole) (arg15 : Memref sig .tc .vmem S256x128 .f32) (harg15 : arg15.IsWhole) (arg16 : Memref sig .tc .vmem S256x128 .f32) (harg16 : arg16.IsWhole) (arg17 : Memref sig .tc .vmem S256x128 .f32) (harg17 : arg17.IsWhole) (arg18 : Memref sig .tc .vmem S256x128 .f32) (harg18 : arg18.IsWhole) (arg19 : Memref sig .tc .vmem S256x128 .f32) (harg19 : arg19.IsWhole) (arg20 : Memref sig .tc .vmem S256x128 .f32) (harg20 : arg20.IsWhole) (hc0 : ¬cond0 i) (hc1 : cond1 i) (hc2 : ¬cond2 i) (hc3 : ¬cond3 i) (hc4 : ¬cond4 i) (d1 : Vec F S256x6144 .fp8e4m3) (d2 : Vec F S256x6144 .fp8e4m3) (d3 : Vec F S256x1 .f32) (d4 : Vec F S1 .f32) (d5 : Vec F S256x6144 .i8) (d6 : Vec F S256x768 .fp8e4m3) (d7 : Vec F S256x1280 .fp8e5m2) (d8 : Vec F S256x1280 .fp8e5m2) (d9 : Vec F S2x128 .f32) (d10 : Vec F S2x128 .f32) (d11 : Vec F S2x128 .f32) (d12 : Vec F S2x128 .f32) (d13 : Vec F S256x32000 .f32) (d14 : Vec F S256x128 .f32) (d15 : Vec F S256x128 .f32) (d16 : Vec F S256x128 .f32) (d17 : Vec F S256x128 .f32) (d18 : Vec F S256x128 .f32) (d19 : Vec F S256x128 .f32) (d20 : Vec F S256x128 .f32) :
    (runB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 hc2 hc3 hc4 d1 d2 d3 d4 d5 d6 d7 d8 d9 d10 d11 d12 d13 d14 d15 d16 d17 d18 d19 d20).2.1 = ⟨fullR, shapeCast S256x128 (mNew (zTile (arg1.view.read (Elt F) (harg1.unread d1)) (arg2.view.read (Elt F) (harg2.unread d2)) (arg3.view.read (Elt F) (harg3.unread d3)) (arg4.view.readAt (Elt F) (Rect.unit ![0] S1.size inb_S1_S1_0).toLoadRect (harg4.unread d4) (Shape.Idx.first (by decide))) (arg5.view.read (Elt F) (harg5.unread d5)) (arg6.view.read (Elt F) (harg6.unread d6))) (View.ld (arg14.view.read (Elt F) (harg14.unread d14)) fullR)) shapeCasts_S256x128_S256x128⟩ :: [] := by
  unfold runB; dsimp only; sl_unfold_words
  exact rfl

set_option maxHeartbeats 4000000 in
theorem runB_s1 (c : Dev nD) (i : grid0.Coords) (arg1 : Memref sig .tc .vmem S256x6144 .fp8e4m3) (harg1 : arg1.IsWhole) (arg2 : Memref sig .tc .vmem S256x6144 .fp8e4m3) (harg2 : arg2.IsWhole) (arg3 : Memref sig .tc .vmem S256x1 .f32) (harg3 : arg3.IsWhole) (arg4 : Memref sig .tc .smem S1 .f32) (harg4 : arg4.IsWhole) (arg5 : Memref sig .tc .vmem S256x6144 .i8) (harg5 : arg5.IsWhole) (arg6 : Memref sig .tc .vmem S256x768 .fp8e4m3) (harg6 : arg6.IsWhole) (arg7 : Memref sig .tc .vmem S256x1280 .fp8e5m2) (harg7 : arg7.IsWhole) (arg8 : Memref sig .tc .vmem S256x1280 .fp8e5m2) (harg8 : arg8.IsWhole) (arg9 : Memref sig .tc .vmem S2x128 .f32) (harg9 : arg9.IsWhole) (arg10 : Memref sig .tc .vmem S2x128 .f32) (harg10 : arg10.IsWhole) (arg11 : Memref sig .tc .vmem S2x128 .f32) (harg11 : arg11.IsWhole) (arg12 : Memref sig .tc .vmem S2x128 .f32) (harg12 : arg12.IsWhole) (arg13 : Memref sig .tc .vmem S256x32000 .f32) (harg13 : arg13.IsWhole) (arg14 : Memref sig .tc .vmem S256x128 .f32) (harg14 : arg14.IsWhole) (arg15 : Memref sig .tc .vmem S256x128 .f32) (harg15 : arg15.IsWhole) (arg16 : Memref sig .tc .vmem S256x128 .f32) (harg16 : arg16.IsWhole) (arg17 : Memref sig .tc .vmem S256x128 .f32) (harg17 : arg17.IsWhole) (arg18 : Memref sig .tc .vmem S256x128 .f32) (harg18 : arg18.IsWhole) (arg19 : Memref sig .tc .vmem S256x128 .f32) (harg19 : arg19.IsWhole) (arg20 : Memref sig .tc .vmem S256x128 .f32) (harg20 : arg20.IsWhole) (hc0 : ¬cond0 i) (hc1 : cond1 i) (hc2 : ¬cond2 i) (hc3 : ¬cond3 i) (hc4 : ¬cond4 i) (d1 : Vec F S256x6144 .fp8e4m3) (d2 : Vec F S256x6144 .fp8e4m3) (d3 : Vec F S256x1 .f32) (d4 : Vec F S1 .f32) (d5 : Vec F S256x6144 .i8) (d6 : Vec F S256x768 .fp8e4m3) (d7 : Vec F S256x1280 .fp8e5m2) (d8 : Vec F S256x1280 .fp8e5m2) (d9 : Vec F S2x128 .f32) (d10 : Vec F S2x128 .f32) (d11 : Vec F S2x128 .f32) (d12 : Vec F S2x128 .f32) (d13 : Vec F S256x32000 .f32) (d14 : Vec F S256x128 .f32) (d15 : Vec F S256x128 .f32) (d16 : Vec F S256x128 .f32) (d17 : Vec F S256x128 .f32) (d18 : Vec F S256x128 .f32) (d19 : Vec F S256x128 .f32) (d20 : Vec F S256x128 .f32) :
    (runB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 hc2 hc3 hc4 d1 d2 d3 d4 d5 d6 d7 d8 d9 d10 d11 d12 d13 d14 d15 d16 d17 d18 d19 d20).2.2.1 = ⟨fullR, s1New (zTile (arg1.view.read (Elt F) (harg1.unread d1)) (arg2.view.read (Elt F) (harg2.unread d2)) (arg3.view.read (Elt F) (harg3.unread d3)) (arg4.view.readAt (Elt F) (Rect.unit ![0] S1.size inb_S1_S1_0).toLoadRect (harg4.unread d4) (Shape.Idx.first (by decide))) (arg5.view.read (Elt F) (harg5.unread d5)) (arg6.view.read (Elt F) (harg6.unread d6))) (View.ld (arg14.view.read (Elt F) (harg14.unread d14)) fullR) (View.ld (arg15.view.read (Elt F) (harg15.unread d15)) fullR)⟩ :: [] := by
  unfold runB; dsimp only; sl_unfold_words
  exact rfl

set_option maxHeartbeats 4000000 in
theorem runB_s2 (c : Dev nD) (i : grid0.Coords) (arg1 : Memref sig .tc .vmem S256x6144 .fp8e4m3) (harg1 : arg1.IsWhole) (arg2 : Memref sig .tc .vmem S256x6144 .fp8e4m3) (harg2 : arg2.IsWhole) (arg3 : Memref sig .tc .vmem S256x1 .f32) (harg3 : arg3.IsWhole) (arg4 : Memref sig .tc .smem S1 .f32) (harg4 : arg4.IsWhole) (arg5 : Memref sig .tc .vmem S256x6144 .i8) (harg5 : arg5.IsWhole) (arg6 : Memref sig .tc .vmem S256x768 .fp8e4m3) (harg6 : arg6.IsWhole) (arg7 : Memref sig .tc .vmem S256x1280 .fp8e5m2) (harg7 : arg7.IsWhole) (arg8 : Memref sig .tc .vmem S256x1280 .fp8e5m2) (harg8 : arg8.IsWhole) (arg9 : Memref sig .tc .vmem S2x128 .f32) (harg9 : arg9.IsWhole) (arg10 : Memref sig .tc .vmem S2x128 .f32) (harg10 : arg10.IsWhole) (arg11 : Memref sig .tc .vmem S2x128 .f32) (harg11 : arg11.IsWhole) (arg12 : Memref sig .tc .vmem S2x128 .f32) (harg12 : arg12.IsWhole) (arg13 : Memref sig .tc .vmem S256x32000 .f32) (harg13 : arg13.IsWhole) (arg14 : Memref sig .tc .vmem S256x128 .f32) (harg14 : arg14.IsWhole) (arg15 : Memref sig .tc .vmem S256x128 .f32) (harg15 : arg15.IsWhole) (arg16 : Memref sig .tc .vmem S256x128 .f32) (harg16 : arg16.IsWhole) (arg17 : Memref sig .tc .vmem S256x128 .f32) (harg17 : arg17.IsWhole) (arg18 : Memref sig .tc .vmem S256x128 .f32) (harg18 : arg18.IsWhole) (arg19 : Memref sig .tc .vmem S256x128 .f32) (harg19 : arg19.IsWhole) (arg20 : Memref sig .tc .vmem S256x128 .f32) (harg20 : arg20.IsWhole) (hc0 : ¬cond0 i) (hc1 : cond1 i) (hc2 : ¬cond2 i) (hc3 : ¬cond3 i) (hc4 : ¬cond4 i) (d1 : Vec F S256x6144 .fp8e4m3) (d2 : Vec F S256x6144 .fp8e4m3) (d3 : Vec F S256x1 .f32) (d4 : Vec F S1 .f32) (d5 : Vec F S256x6144 .i8) (d6 : Vec F S256x768 .fp8e4m3) (d7 : Vec F S256x1280 .fp8e5m2) (d8 : Vec F S256x1280 .fp8e5m2) (d9 : Vec F S2x128 .f32) (d10 : Vec F S2x128 .f32) (d11 : Vec F S2x128 .f32) (d12 : Vec F S2x128 .f32) (d13 : Vec F S256x32000 .f32) (d14 : Vec F S256x128 .f32) (d15 : Vec F S256x128 .f32) (d16 : Vec F S256x128 .f32) (d17 : Vec F S256x128 .f32) (d18 : Vec F S256x128 .f32) (d19 : Vec F S256x128 .f32) (d20 : Vec F S256x128 .f32) :
    (runB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 hc2 hc3 hc4 d1 d2 d3 d4 d5 d6 d7 d8 d9 d10 d11 d12 d13 d14 d15 d16 d17 d18 d19 d20).2.2.2.1 = ⟨fullR, shapeCast S256x128 (s2New (zTile (arg1.view.read (Elt F) (harg1.unread d1)) (arg2.view.read (Elt F) (harg2.unread d2)) (arg3.view.read (Elt F) (harg3.unread d3)) (arg4.view.readAt (Elt F) (Rect.unit ![0] S1.size inb_S1_S1_0).toLoadRect (harg4.unread d4) (Shape.Idx.first (by decide))) (arg5.view.read (Elt F) (harg5.unread d5)) (arg6.view.read (Elt F) (harg6.unread d6))) (View.ld (arg14.view.read (Elt F) (harg14.unread d14)) fullR) (View.ld (arg16.view.read (Elt F) (harg16.unread d16)) fullR)) shapeCasts_S256x128_S256x128⟩ :: [] := by
  unfold runB; dsimp only; sl_unfold_words
  exact rfl

end Cert.KernelIdeal.Body

end
-- ==== Proof.Spec.lean ====
module

public import Idealize.ShloMosaic.PureOps.Ideal

@[expose] public section

/-!
  The mathematics of the online log-sum-exp, over `EReal`, with no program in it.

  A row of logits may hold `⊤` or `⊥`. One number and one proposition describe what a set of logits adds to
  the row: the sum `W` of the real weights `e^z`, and whether some logit is `⊤`. `LaneOK` says what the running
  maximum and the running sums of one lane are for such a set, and `lseOf` is the log-sum-exp both programs give.
-/

noncomputable section
namespace Cert.Spec

open Idealize.ShloMosaic

/-- One half. -/
def hf : EReal := ((1/2 : ℝ) : EReal)

/-- The weight `e^x` of a logit as a real number: zero at `⊥` (and at `⊤`, where it is not used). -/
def w (x : EReal) : ℝ := (Ideal.exp x).toReal

theorem ofBits_half : Ideal.ofBits .f32 0x3F000000#32 = hf := by
  simp [hf, Ideal.ofBits, Ideal.ieee, -EReal.coe_mul]; norm_num

theorem ofBits_ninf : Ideal.ofBits .f32 0xFF800000#32 = ⊥ := by
  simp [Ideal.ofBits, Ideal.ieee, -EReal.coe_mul]

theorem log_zero : Ideal.log 0 = ⊥ := by rw [← EReal.coe_zero, Ideal.log_coe]; simp

theorem w_nonneg (x : EReal) : 0 ≤ w x := by
  induction x with
  | bot => simp [w]
  | coe r => simpa [w] using (Real.exp_pos r).le
  | top => simp [w]

theorem exp_sub {x : EReal} (hx : x ≠ ⊤) (μ : ℝ) : Ideal.exp (x - (μ : EReal)) = ((w x * Real.exp (-μ) : ℝ) : EReal) := by
  induction x with
  | bot => simp [w]
  | coe r => rw [← EReal.coe_sub, Ideal.exp_coe, w, Ideal.exp_coe, EReal.toReal_coe, ← Real.exp_add, sub_eq_add_neg]
  | top => exact absurd rfl hx

theorem bot_hf : (⊥ : EReal) * hf = ⊥ := EReal.bot_mul_coe_of_pos (by norm_num)
theorem top_hf : (⊤ : EReal) * hf = ⊤ := EReal.top_mul_coe_of_pos (by norm_num)

theorem hf_top {x : EReal} : x * hf = ⊤ ↔ x = ⊤ := by
  induction x with
  | bot => simp [bot_hf]
  | coe r => simp [hf, ← EReal.coe_mul]
  | top => simp [top_hf]

theorem exp_half_sub {x : EReal} (hx : x ≠ ⊤) (μ : ℝ) :
    Ideal.exp ((x - (μ : EReal)) * hf) = ((w (x * hf) * Real.exp (-(μ/2)) : ℝ) : EReal) := by
  induction x with
  | bot => simp [w, bot_hf]
  | coe r =>
    rw [hf, ← EReal.coe_sub, ← EReal.coe_mul, ← EReal.coe_mul, Ideal.exp_coe, w, Ideal.exp_coe, EReal.toReal_coe,
      ← Real.exp_add]
    congr 2; ring
  | top => exact absurd rfl hx

theorem w_half_sq {x : EReal} (hx : x ≠ ⊤) : w (x * hf) * w (x * hf) = w x := by
  induction x with
  | bot => simp [w, bot_hf]
  | coe r =>
    rw [hf, ← EReal.coe_mul, w, Ideal.exp_coe, EReal.toReal_coe, ← Real.exp_add, w, Ideal.exp_coe, EReal.toReal_coe]
    congr 1; ring
  | top => exact absurd rfl hx

/-- What one lane holds for a set of logits of which `T` says that one of them is `⊤`, and whose weights add up
    to `W`, at half temperature to `W2`. -/
def LaneOK (T : Prop) (W W2 : ℝ) (m s1 s2 : EReal) : Prop :=
  (T ∧ m = ⊤ ∧ s1 = 0 ∧ s2 = 0) ∨
  (¬ T ∧ ∃ μ : ℝ, m = μ ∧ s1 = ((W * Real.exp (-μ) : ℝ) : EReal) ∧ s2 = ((W2 * Real.exp (-(μ/2)) : ℝ) : EReal))

theorem laneOK_init : LaneOK False 0 0 (Ideal.ofBits .f32 0xFF61B1E6#32) 0 0 := by
  refine .inr ⟨id, ?_⟩
  have : ∃ μ : ℝ, Ideal.ofBits .f32 0xFF61B1E6#32 = μ := by
    simp [Ideal.ofBits, Ideal.ieee, -EReal.coe_mul]
    exact ⟨_, (EReal.coe_neg _).symm⟩
  obtain ⟨μ, h⟩ := this
  exact ⟨μ, h, by simp, by simp⟩

/-- Two more logits into one lane. -/
theorem LaneOK.step {T : Prop} {W W2 : ℝ} {m s1 s2 : EReal} (h : LaneOK T W W2 m s1 s2) (z0 z1 : EReal) :
    LaneOK (T ∨ z0 = ⊤ ∨ z1 = ⊤) (W + w z0 + w z1) (W2 + w (z0 * hf) + w (z1 * hf)) (max m (max z0 z1))
      (s1 * (Ideal.exp ((m - max m (max z0 z1)) * hf) * Ideal.exp ((m - max m (max z0 z1)) * hf))
        + Ideal.exp ((z0 - max m (max z0 z1)) * hf) * Ideal.exp ((z0 - max m (max z0 z1)) * hf)
        + Ideal.exp ((z1 - max m (max z0 z1)) * hf) * Ideal.exp ((z1 - max m (max z0 z1)) * hf))
      (s2 * Ideal.exp ((m - max m (max z0 z1)) * hf)
        + Ideal.exp ((z0 - max m (max z0 z1)) * hf) + Ideal.exp ((z1 - max m (max z0 z1)) * hf)) := by
  by_cases hT : T ∨ z0 = ⊤ ∨ z1 = ⊤
  · have hm : max m (max z0 z1) = ⊤ := by
      rcases hT with hT | hT | hT
      · rcases h with ⟨-, rfl, -, -⟩ | ⟨h, -⟩
        · simp
        · exact absurd hT h
      · simp [hT]
      · simp [hT]
    have he : ∀ x : EReal, Ideal.exp ((x - ⊤) * hf) = 0 := fun x => by
      have : x - ⊤ = ⊥ := by rw [sub_eq_add_neg]; simp
      rw [this, bot_hf, Ideal.exp_bot]
    rw [hm]
    refine .inl ⟨hT, rfl, ?_, ?_⟩ <;> simp only [he] <;> simp
  · have hT' := hT
    push Not at hT
    obtain ⟨h0, h1, h2⟩ := hT
    rcases h with ⟨h, -⟩ | ⟨-, μ, rfl, rfl, rfl⟩
    · exact absurd h h0
    have hν : ∃ ν : ℝ, max (μ : EReal) (max z0 z1) = ν := by
      have hb : max (μ : EReal) (max z0 z1) ≠ ⊥ := fun h => by
        have := le_max_left (μ : EReal) (max z0 z1)
        rw [h] at this
        exact EReal.coe_ne_bot μ (le_bot_iff.1 this)
      have ht : max (μ : EReal) (max z0 z1) ≠ ⊤ := by
        rcases max_choice (μ : EReal) (max z0 z1) with h | h
        · rw [h]; exact EReal.coe_ne_top μ
        · rw [h]
          rcases max_choice z0 z1 with h | h <;> rw [h] <;> assumption
      exact ⟨_, (EReal.coe_toReal ht hb).symm⟩
    obtain ⟨ν, hν⟩ := hν
    rw [hν]
    refine .inr ⟨hT', ν, rfl, ?_, ?_⟩
    · rw [exp_half_sub h1, exp_half_sub h2, exp_half_sub (EReal.coe_ne_top μ)]
      simp only [← EReal.coe_mul, ← EReal.coe_add]
      congr 1
      rw [← w_half_sq h1, ← w_half_sq h2]
      have e1 : Real.exp (-ν) = Real.exp (-(ν/2)) * Real.exp (-(ν/2)) := by rw [← Real.exp_add]; congr 1; ring
      have e2 : Real.exp (-μ) * (w ((μ : EReal) * hf) * w ((μ : EReal) * hf)) = 1 := by
        rw [w_half_sq (EReal.coe_ne_top μ), w, Ideal.exp_coe, EReal.toReal_coe, ← Real.exp_add]; simp
      rw [e1]
      linear_combination (W * Real.exp (-(ν/2)) * Real.exp (-(ν/2))) * e2
    · rw [exp_half_sub h1, exp_half_sub h2, exp_half_sub (EReal.coe_ne_top μ)]
      simp only [← EReal.coe_mul, ← EReal.coe_add]
      congr 1
      have e2 : Real.exp (-(μ/2)) * w ((μ : EReal) * hf) = 1 := by
        rw [w, hf, ← EReal.coe_mul, Ideal.exp_coe, EReal.toReal_coe, ← Real.exp_add]
        rw [show -(μ/2) + μ * (1/2) = 0 by ring, Real.exp_zero]
      linear_combination (W2 * Real.exp (-(ν/2))) * e2

/-- The log-sum-exp of a row: `⊥` when a logit is `⊤`, else the logarithm of the sum of the weights. -/
def lseOf (T : Prop) (W : ℝ) : EReal := open Classical in if T then ⊥ else Ideal.log (W : EReal)

theorem log_shift (μ W : ℝ) : (μ : EReal) + Ideal.log ((W * Real.exp (-μ) : ℝ) : EReal) = Ideal.log (W : EReal) := by
  rw [Ideal.log_coe, Ideal.log_coe]
  have hp := Real.exp_pos (-μ)
  by_cases h : W ≤ 0
  · rw [if_pos h, if_pos (mul_nonpos_of_nonpos_of_nonneg h hp.le)]; simp
  · rw [if_neg h, if_neg (not_le.2 (mul_pos (not_le.1 h) hp)), ← EReal.coe_add,
      Real.log_mul (not_le.1 h).ne' hp.ne', Real.log_exp]
    congr 1; ring

theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem fold_max_top {ι : Type*} [Fintype ι] {f : ι → EReal} (h : ∃ i, f i = ⊤) :
    Finset.univ.fold max ⊥ f = ⊤ := by
  obtain ⟨i, h⟩ := h
  exact top_le_iff.1 ((Finset.le_fold_max ⊤).2 (.inr ⟨i, Finset.mem_univ i, h.ge⟩))

theorem fold_max_ne_top {ι : Type*} [Fintype ι] {f : ι → EReal} (h : ¬ ∃ i, f i = ⊤) :
    Finset.univ.fold max ⊥ f ≠ ⊤ := fun e =>
  h (by
    rcases (Finset.le_fold_max (⊤ : EReal)).1 e.ge with h | ⟨i, -, hi⟩
    · exact absurd h (by simp)
    · exact ⟨i, top_le_iff.1 hi⟩)

theorem fold_max_bot {ι : Type*} [Fintype ι] {f : ι → EReal} (h : Finset.univ.fold max ⊥ f = ⊥) (i : ι) : f i = ⊥ :=
  le_bot_iff.1 (h ▸ (Finset.le_fold_max (f i)).2 (.inr ⟨i, Finset.mem_univ i, le_rfl⟩))

/-- The plain log-sum-exp, as maximum plus logarithm of a sum of shifted exponentials, is `lseOf`. -/
theorem lse_plain {ι : Type*} [Fintype ι] (f : ι → EReal) :
    Finset.univ.fold max ⊥ f + Ideal.log (∑ i, Ideal.exp (f i - Finset.univ.fold max ⊥ f)) =
      lseOf (∃ i, f i = ⊤) (∑ i, w (f i)) := by
  unfold lseOf
  by_cases hT : ∃ i, f i = ⊤
  · rw [if_pos hT, fold_max_top hT]
    have : ∀ x : EReal, x - ⊤ = ⊥ := fun x => by rw [sub_eq_add_neg]; simp
    simp [this, log_zero]
  · rw [if_neg hT]
    have hne : ∀ i, f i ≠ ⊤ := fun i h => hT ⟨i, h⟩
    by_cases hb : Finset.univ.fold max ⊥ f = ⊥
    · rw [hb]
      have hf := fold_max_bot hb
      simp [hf, w, log_zero]
    · obtain ⟨μ, hμ⟩ : ∃ μ : ℝ, Finset.univ.fold max ⊥ f = μ := ⟨_, (EReal.coe_toReal (fold_max_ne_top hT) hb).symm⟩
      rw [hμ]
      have : ∀ i, Ideal.exp (f i - (μ : EReal)) = ((w (f i) * Real.exp (-μ) : ℝ) : EReal) := fun i => exp_sub (hne i) μ
      simp only [this]
      rw [← coe_sum, ← Finset.sum_mul, log_shift]

/-- The lanes together. -/
theorem lanes_real {ι : Type*} [Fintype ι] [Nonempty ι] {T : ι → Prop} {W W2 : ι → ℝ} {m s1 s2 : ι → EReal}
    (h : ∀ l, LaneOK (T l) (W l) (W2 l) (m l) (s1 l) (s2 l)) :
    ((∃ l, T l) ∧ Finset.univ.fold max ⊥ m = ⊤) ∨
    ((¬ ∃ l, T l) ∧ ∃ μ : ℝ, Finset.univ.fold max ⊥ m = μ) := by
  by_cases hT : ∃ l, T l
  · refine .inl ⟨hT, fold_max_top ?_⟩
    obtain ⟨l, hl⟩ := hT
    rcases h l with ⟨-, hm, -⟩ | ⟨hn, -⟩
    · exact ⟨l, hm⟩
    · exact absurd hl hn
  · refine .inr ⟨hT, ?_⟩
    have hm : ∀ l, ∃ μ : ℝ, m l = μ := fun l => by
      rcases h l with ⟨ht, -⟩ | ⟨-, μ, hm, -⟩
      · exact absurd ⟨l, ht⟩ hT
      · exact ⟨μ, hm⟩
    have ht : Finset.univ.fold max ⊥ m ≠ ⊤ := fold_max_ne_top fun ⟨l, hl⟩ => by
      obtain ⟨μ, hμ⟩ := hm l
      rw [hμ] at hl; exact EReal.coe_ne_top μ hl
    have hb : Finset.univ.fold max ⊥ m ≠ ⊥ := fun e => by
      obtain ⟨l⟩ := ‹Nonempty ι›
      obtain ⟨μ, hμ⟩ := hm l
      have := fold_max_bot e l
      rw [hμ] at this; exact EReal.coe_ne_bot μ this
    exact ⟨_, (EReal.coe_toReal ht hb).symm⟩

theorem lanes_lse {ι : Type*} [Fintype ι] [Nonempty ι] {T : ι → Prop} {W W2 : ι → ℝ} {m s1 s2 : ι → EReal}
    (h : ∀ l, LaneOK (T l) (W l) (W2 l) (m l) (s1 l) (s2 l)) :
    Finset.univ.fold max ⊥ m + Ideal.log (∑ l, s1 l * (Ideal.exp ((m l - Finset.univ.fold max ⊥ m) * hf)
        * Ideal.exp ((m l - Finset.univ.fold max ⊥ m) * hf))) = lseOf (∃ l, T l) (∑ l, W l) := by
  unfold lseOf
  rcases lanes_real h with ⟨hT, hm⟩ | ⟨hT, μ, hm⟩
  · rw [if_pos hT, hm]
    have : ∀ x : EReal, x - ⊤ = ⊥ := fun x => by rw [sub_eq_add_neg]; simp
    simp [this, bot_hf, log_zero]
  · rw [if_neg hT, hm]
    have : ∀ l, s1 l * (Ideal.exp ((m l - (μ : EReal)) * hf) * Ideal.exp ((m l - (μ : EReal)) * hf))
        = ((W l * Real.exp (-μ) : ℝ) : EReal) := fun l => by
      rcases h l with ⟨ht, -⟩ | ⟨-, ν, hν, h1, -⟩
      · exact absurd ⟨l, ht⟩ hT
      rw [h1, hν, exp_half_sub (EReal.coe_ne_top ν)]
      simp only [← EReal.coe_mul]
      congr 1
      have e1 : Real.exp (-μ) = Real.exp (-(μ/2)) * Real.exp (-(μ/2)) := by rw [← Real.exp_add]; congr 1; ring
      have e2 : Real.exp (-ν) * (w ((ν : EReal) * hf) * w ((ν : EReal) * hf)) = 1 := by
        rw [w_half_sq (EReal.coe_ne_top ν), w, Ideal.exp_coe, EReal.toReal_coe, ← Real.exp_add]; simp
      rw [e1]
      linear_combination (W l * Real.exp (-(μ/2)) * Real.exp (-(μ/2))) * e2
    simp only [this]
    rw [← coe_sum, ← Finset.sum_mul, log_shift]

theorem lanes_lset {ι : Type*} [Fintype ι] [Nonempty ι] {T : ι → Prop} {W W2 : ι → ℝ} {m s1 s2 : ι → EReal}
    (h : ∀ l, LaneOK (T l) (W l) (W2 l) (m l) (s1 l) (s2 l)) :
    Finset.univ.fold max ⊥ m * hf + Ideal.log (∑ l, s2 l * Ideal.exp ((m l - Finset.univ.fold max ⊥ m) * hf))
      = lseOf (∃ l, T l) (∑ l, W2 l) := by
  unfold lseOf
  rcases lanes_real h with ⟨hT, hm⟩ | ⟨hT, μ, hm⟩
  · rw [if_pos hT, hm]
    have : ∀ x : EReal, x - ⊤ = ⊥ := fun x => by rw [sub_eq_add_neg]; simp
    simp [this, bot_hf, log_zero]
  · rw [if_neg hT, hm]
    have : ∀ l, s2 l * Ideal.exp ((m l - (μ : EReal)) * hf) = ((W2 l * Real.exp (-(μ/2)) : ℝ) : EReal) := fun l => by
      rcases h l with ⟨ht, -⟩ | ⟨-, ν, hν, -, h2⟩
      · exact absurd ⟨l, ht⟩ hT
      rw [h2, hν, exp_half_sub (EReal.coe_ne_top ν)]
      simp only [← EReal.coe_mul]
      congr 1
      have e2 : Real.exp (-(ν/2)) * w ((ν : EReal) * hf) = 1 := by
        rw [w, hf, ← EReal.coe_mul, Ideal.exp_coe, EReal.toReal_coe, ← Real.exp_add]
        rw [show -(ν/2) + ν * (1/2) = 0 by ring, Real.exp_zero]
      linear_combination (W2 l * Real.exp (-(μ/2))) * e2
    simp only [this]
    rw [← coe_sum, ← Finset.sum_mul]
    have := log_shift (μ/2) (∑ l, W2 l)
    rw [← this, hf, ← EReal.coe_mul]
    congr 2; ring

end Cert.Spec
end
-- ==== Proof.Logits.lean ====
module

public import proofs.«01_k».proof.Proof.Spec
public import Idealize.ShloMosaic.PureOps

@[expose] public section

/-!
  The logits and the six results as functions of the launch arrays, with no program in them. Both programs are
  proved to compute these.
-/

noncomputable section
namespace Cert.Spec

open Idealize.ShloMosaic

/-- The value of a four-bit float, from a word whose low four bits hold its code: sign, two exponent bits and one
    mantissa bit. -/
def val4 (n : BitVec 32) : EReal :=
  Scalar.select (IntOp.cmpi .ne (IntOp.andi n 8#32) 0#32)
    (-Scalar.select (IntOp.cmpi .ne (IntOp.andi n 4#32) 0#32)
      (Scalar.select (IntOp.cmpi .ne (IntOp.andi n 2#32) 0#32)
        (Scalar.select (IntOp.cmpi .ne (IntOp.andi n 1#32) 0#32)
          (Ideal.ofBits FTy.bf16 16576#16) (Ideal.ofBits FTy.bf16 16512#16))
        (Scalar.select (IntOp.cmpi .ne (IntOp.andi n 1#32) 0#32)
          (Ideal.ofBits FTy.bf16 16448#16) (Ideal.ofBits FTy.bf16 16384#16)))
      (Scalar.select (IntOp.cmpi .ne (IntOp.andi n 2#32) 0#32)
        (Scalar.select (IntOp.cmpi .ne (IntOp.andi n 1#32) 0#32) (Ideal.ofBits FTy.bf16 16320#16) 1)
        (Scalar.select (IntOp.cmpi .ne (IntOp.andi n 1#32) 0#32) (Ideal.ofBits FTy.bf16 16128#16) 0)))
    (Scalar.select (IntOp.cmpi .ne (IntOp.andi n 4#32) 0#32)
      (Scalar.select (IntOp.cmpi .ne (IntOp.andi n 2#32) 0#32)
        (Scalar.select (IntOp.cmpi .ne (IntOp.andi n 1#32) 0#32)
          (Ideal.ofBits FTy.bf16 16576#16) (Ideal.ofBits FTy.bf16 16512#16))
        (Scalar.select (IntOp.cmpi .ne (IntOp.andi n 1#32) 0#32)
          (Ideal.ofBits FTy.bf16 16448#16) (Ideal.ofBits FTy.bf16 16384#16)))
      (Scalar.select (IntOp.cmpi .ne (IntOp.andi n 2#32) 0#32)
        (Scalar.select (IntOp.cmpi .ne (IntOp.andi n 1#32) 0#32) (Ideal.ofBits FTy.bf16 16320#16) 1)
        (Scalar.select (IntOp.cmpi .ne (IntOp.andi n 1#32) 0#32) (Ideal.ofBits FTy.bf16 16128#16) 0)))

/-- The weight in the low half of a byte. -/
def lo4 (b : BitVec 8) : EReal := val4 (IntOp.andi (BitVec.setWidth 32 b) 15#32)
/-- The weight in the high half of a byte. -/
def hi4 (b : BitVec 8) : EReal := val4 (IntOp.shrsi .host (BitVec.setWidth 32 b) 4#32)

/-- The launch arrays, as functions of indices: the even and the odd columns of the tokens, the tokens' scales,
    the global scale, the weight bytes, and the scales of the weights' groups of eight bytes. -/
structure Args where
  xe : Fin 256 → Fin 6144 → EReal
  xo : Fin 256 → Fin 6144 → EReal
  xs : Fin 256 → EReal
  g : EReal
  wb : Fin 32000 → Fin 6144 → BitVec 8
  sc : Fin 32000 → Fin 768 → EReal

/-- The logit of row `r` and vocabulary entry `v`. -/
def logit (A : Args) (r : Fin 256) (v : Fin 32000) : EReal :=
  ((∑ x : Fin 6144, A.xe r x * (lo4 (A.wb v x) * A.sc v ⟨x.val / 8, by omega⟩))
    + ∑ x : Fin 6144, A.xo r x * (hi4 (A.wb v x) * A.sc v ⟨x.val / 8, by omega⟩)) * A.xs r * A.g

/-- The log-sum-exp of row `r`. -/
def lse (L : Fin 256 → Fin 32000 → EReal) (r : Fin 256) : EReal := lseOf (∃ v, L r v = ⊤) (∑ v, w (L r v))
/-- The log-sum-exp of row `r` at half temperature. -/
def lseT (L : Fin 256 → Fin 32000 → EReal) (r : Fin 256) : EReal := lseOf (∃ v, L r v = ⊤) (∑ v, w (L r v * hf))
/-- A log-probability, floored. -/
def floored (z l : EReal) : EReal := max (z - l) (Ideal.ofBits .f32 0xC2700000#32)
def code (L : Fin 256 → Fin 32000 → EReal) (r : Fin 256) (v : Fin 32000) : EReal := floored (L r v) (lse L r)
def codeT (L : Fin 256 → Fin 32000 → EReal) (r : Fin 256) (v : Fin 32000) : EReal := floored (L r v * hf) (lseT L r)
/-- The error of a probability against its stored code. -/
def dev (x : EReal) : EReal := FloatOps.absf (F := Ideal) (φ := .f32) (Ideal.exp x - Ideal.exp x)
def errR (L : Fin 256 → Fin 32000 → EReal) (r : Fin 256) : EReal := Finset.univ.fold max ⊥ fun v => dev (code L r v)
def errT (L : Fin 256 → Fin 32000 → EReal) (r : Fin 256) : EReal := Finset.univ.fold max ⊥ fun v => dev (codeT L r v)

theorem dev_nonneg (x : EReal) : 0 ≤ dev x := by
  show 0 ≤ max (Ideal.exp x - Ideal.exp x) (-(Ideal.exp x - Ideal.exp x))
  rcases le_total 0 (Ideal.exp x - Ideal.exp x) with h | h
  · exact le_max_of_le_left h
  · exact le_max_of_le_right (by simpa using EReal.neg_le_neg_iff.2 h)

theorem ofBits_two (x : EReal) : Ideal.div x (Ideal.ofBits .f32 0x40000000#32) = x * hf := by
  have : Ideal.ofBits .f32 0x40000000#32 = ((2 : ℝ) : EReal) := by
    simp [Ideal.ofBits, Ideal.ieee, -EReal.coe_mul]; norm_num
  rw [this, Ideal.div_coe (by norm_num), hf]

end Cert.Spec
end
-- ==== Proof.Decode.lean ====
module

public import proofs.«01_k».proof.Proof.Logits
public import Idealize.ShloMosaic.Lib.BitcastFour

@[expose] public section

/-!
  The decoding of the four-bit weights. The kernel moves the four bits of a code into the sign, the low exponent
  bits and the top mantissa bit of an 8-bit float, whose value is the weight's over 64.
-/

noncomputable section
namespace Cert.Spec

open Idealize.ShloMosaic

/-- A four-bit code moved into an 8-bit float. -/
def mv (n : BitVec 4) : BitVec 8 := ((n.setWidth 8 &&& 7#8) <<< 2) ||| ((n.setWidth 8 &&& 8#8) <<< 4)
/-- The low code of a byte, moved. -/
def mvLo (b : BitVec 8) : BitVec 8 := ((b &&& 7#8) <<< 2) ||| ((b &&& 8#8) <<< 4)
/-- The high code of a byte, moved. -/
def mvHi (b : BitVec 8) : BitVec 8 := ((b.sshiftRight 2) &&& 0x1C#8) ||| (b &&& 0x80#8)

theorem mvLo_eq : ∀ b : BitVec 8, mvLo b = mv (b.setWidth 4) := by decide +kernel
theorem mvHi_eq : ∀ b : BitVec 8, mvHi b = mv ((b >>> 4).setWidth 4) := by decide +kernel
theorem lo_word : ∀ b : BitVec 8, IntOp.andi (BitVec.setWidth 32 b) 15#32 = (b.setWidth 4).setWidth 32 := by decide +kernel
theorem hi_word : ∀ b : BitVec 8, IntOp.shrsi .host (BitVec.setWidth 32 b) 4#32 = ((b >>> 4).setWidth 4).setWidth 32 := by
  decide +kernel

theorem select_true {α : Type} (a b : α) : Scalar.select 1#1 a b = a := rfl
theorem select_false {α : Type} (a b : α) : Scalar.select 0#1 a b = b := rfl

theorem val4_cases (n : BitVec 4) : Ideal.ofBits .fp8e4m3 (mv n) * ((64 : ℝ) : EReal) = val4 (n.setWidth 32) := by
  have e1 : Ideal.ofBits .bf16 16576#16 = ((6 : ℝ) : EReal) := by simp [Ideal.ofBits, Ideal.ieee, -EReal.coe_mul]; norm_num
  have e2 : Ideal.ofBits .bf16 16512#16 = ((4 : ℝ) : EReal) := by simp [Ideal.ofBits, Ideal.ieee, -EReal.coe_mul]; norm_num
  have e3 : Ideal.ofBits .bf16 16448#16 = ((3 : ℝ) : EReal) := by simp [Ideal.ofBits, Ideal.ieee, -EReal.coe_mul]; norm_num
  have e4 : Ideal.ofBits .bf16 16384#16 = ((2 : ℝ) : EReal) := by simp [Ideal.ofBits, Ideal.ieee, -EReal.coe_mul]; norm_num
  have e5 : Ideal.ofBits .bf16 16320#16 = ((3/2 : ℝ) : EReal) := by simp [Ideal.ofBits, Ideal.ieee, -EReal.coe_mul]; norm_num
  have e6 : Ideal.ofBits .bf16 16128#16 = ((1/2 : ℝ) : EReal) := by simp [Ideal.ofBits, Ideal.ieee, -EReal.coe_mul]; norm_num
  have key : ∀ k : Fin (2 ^ 4), Ideal.ofBits .fp8e4m3 (mv (BitVec.ofFin k : BitVec 4)) * ((64 : ℝ) : EReal) = val4 ((BitVec.ofFin k : BitVec 4).setWidth 32) := by
    intro k
    unfold val4
    rw [e1, e2, e3, e4, e5, e6]
    fin_cases k <;>
      simp [Ideal.ofBits, Ideal.e4m3fn, mv, Scalar.select, IntOp.cmpi, IntOp.andi, -EReal.coe_mul] <;>
      (rw [← EReal.coe_mul]; norm_num)
  exact key n.toFin

theorem lo_value (b : BitVec 8) : Ideal.ofBits .fp8e4m3 (mvLo b) * ((64 : ℝ) : EReal) = lo4 b := by
  rw [mvLo_eq, val4_cases, lo4, lo_word]
theorem hi_value (b : BitVec 8) : Ideal.ofBits .fp8e4m3 (mvHi b) * ((64 : ℝ) : EReal) = hi4 b := by
  rw [mvHi_eq, val4_cases, hi4, hi_word]

/-- The low codes of a word's four bytes, moved together. -/
def wordLo (W : BitVec 32) : BitVec 32 :=
  IntOp.ori (IntOp.shli .vector (IntOp.andi W 117901063#32) 2#32) (IntOp.shli .vector (IntOp.andi W 134744072#32) 4#32)
/-- The high codes of a word's four bytes, moved together. -/
def wordHi (W : BitVec 32) : BitVec 32 :=
  IntOp.ori (IntOp.andi (IntOp.shrsi .vector W 2#32) 471604252#32) (IntOp.andi W 2155905152#32)

theorem wordLo_bit (W : BitVec 32) (b : BitVec 8) (p : ℕ) (hp : p < 4) (hW : ∀ i < 8, W.getLsbD (8 * p + i) = b.getLsbD i)
    (i : ℕ) (hi : i < 8) : (wordLo W).getLsbD (8 * p + i) = (mvLo b).getLsbD i := by
  have h0 := hW 0 (by omega); have h1 := hW 1 (by omega); have h2 := hW 2 (by omega); have h3 := hW 3 (by omega)
  have h4 := hW 4 (by omega); have h5 := hW 5 (by omega); have h6 := hW 6 (by omega); have h7 := hW 7 (by omega)
  clear hW
  interval_cases p <;> interval_cases i <;>
    simp_all [wordLo, mvLo, IntOp.ori, IntOp.shli, IntOp.andi]

theorem wordHi_bit (W : BitVec 32) (b : BitVec 8) (p : ℕ) (hp : p < 4) (hW : ∀ i < 8, W.getLsbD (8 * p + i) = b.getLsbD i)
    (i : ℕ) (hi : i < 8) : (wordHi W).getLsbD (8 * p + i) = (mvHi b).getLsbD i := by
  have h0 := hW 0 (by omega); have h1 := hW 1 (by omega); have h2 := hW 2 (by omega); have h3 := hW 3 (by omega)
  have h4 := hW 4 (by omega); have h5 := hW 5 (by omega); have h6 := hW 6 (by omega); have h7 := hW 7 (by omega)
  clear hW
  interval_cases p <;> interval_cases i <;>
    simp_all [wordHi, mvHi, IntOp.ori, IntOp.shrsi, IntOp.andi, BitVec.getElem_sshiftRight]

/-- At rank 2, a word read as four bytes: bit `i` of byte row `a` is bit `8 p + i` of word row `q`, where `a` is `4 q + p`. -/
theorem bitcast_32_8_ix2 {R r n : Nat} (x : (⟨2, ![r, n]⟩ : Shape).Idx → BitVec 32)
    (h : (⟨2, ![r, n]⟩ : Shape).Bitcasts 32 ⟨2, ![R, n]⟩ 8) (a : Fin R) (l : Fin n) (q : Fin r) (p : ℕ) (hp : p < 4)
    (ha : a.val = 4 * q.val + p) (i : ℕ) (hi : i < 8) :
    (bitcast ⟨2, ![R, n]⟩ 8 x h (ValueIdx.ix2 a l)).getLsbD i = (x (ValueIdx.ix2 q l)).getLsbD (8 * p + i) := by
  have hr : (⟨2, ![R, n]⟩ : Shape).row (ValueIdx.ix2 a l) = a.val := rfl
  have h1 : (a.val * 8 + i) / 32 = q.val := by omega
  have h2 : (a.val * 8 + i) % 32 = 8 * p + i := by omega
  rw [bitcast_getLsbD x h _ i hi (by decide)]
  simp only [hr, h2]
  congr 2
  funext c
  match c with
  | ⟨0, _⟩ => exact Fin.ext ((h.srcIdx_row _ _ _ ⟨0, Nat.zero_lt_two⟩ rfl).trans h1)
  | ⟨1, _⟩ => exact Fin.ext (h.srcIdx_other _ _ _ ⟨1, Nat.one_lt_two⟩ (by show ¬ 1 + 2 = 2; omega))

end Cert.Spec
end
-- ==== Proof.TileAt.lean ====
/- The tile of logits, element by element. -/
module

public import proofs.«01_k».proof.Proof.TileRuns
public import proofs.«01_k».proof.Proof.Decode
public import Idealize.ShloMosaic.Lib.Pointwise
public import Idealize.ShloMosaic.Lib.Pipeline.ValueKit

@[expose] public section

set_option maxRecDepth 16384

noncomputable section

namespace Cert.KernelIdeal.Body

open Cert.KernelIdeal.Gen Cert.Spec
open Idealize.ShloMosaic Idealize.ShloMosaic.TcCoe Idealize.ShloMosaic.Tactic

/-- The lane a spread of the scales reads. -/
theorem lane_index : ∀ q : Fin 8, ∀ l : Fin 128,
    (Scalar.select (IntOp.cmpi .slt (IntOp.addi (IntOp.shrsi .vector (BitVec.ofNat 32 l.val) 3#32) (BitVec.ofNat 32 (16 * q.val))) 0#32)
      (IntOp.addi (IntOp.addi (IntOp.shrsi .vector (BitVec.ofNat 32 l.val) 3#32) (BitVec.ofNat 32 (16 * q.val))) 128#32)
      (IntOp.addi (IntOp.shrsi .vector (BitVec.ofNat 32 l.val) 3#32) (BitVec.ofNat 32 (16 * q.val)))).toNat % 128 = l.val / 8 + 16 * q.val := by
  decide +kernel

theorem gath_at (s : Vec Ideal S256x128 .fp8e4m3) (q : Fin 8) (r : Fin 256) (l : Fin 128) :
    gath s (BitVec.ofNat 32 (16 * q.val)) (ix2 r l) = s (ix2 r ⟨l.val / 8 + 16 * q.val, by omega⟩) := by
  unfold gath k0_pay22 k0_pay18
  pointwise
  exact congrArg (fun z : Fin 128 => s (ix2 r z)) (Fin.ext (lane_index q l))

theorem gath_of (s : Vec Ideal S256x128 .fp8e4m3) (q : ℕ) (hq : q < 8) (j : BitVec 32) (hj : j = BitVec.ofNat 32 (16 * q)) (r : Fin 256)
    (l : Fin 128) (k : Fin 1024) (hk : k.val = l.val + 128 * q) :
    gath s j (ix2 r l) = s (ix2 r ⟨k.val / 8, by omega⟩) := by
  rw [hj]; refine (gath_at s ⟨q, hq⟩ r l).trans ?_
  exact congrArg (fun z : Fin 128 => s (ix2 r z)) (Fin.ext (by show l.val / 8 + 16 * q = k.val / 8; omega))

attribute [local irreducible] gath in
/-- Column `k` of a chunk has the scale of its group of eight. -/
theorem scl_at (s : Vec Ideal S256x128 .fp8e4m3) (r : Fin 256) (k : Fin 1024) :
    scl s (ix2 r k) = s (ix2 r ⟨k.val / 8, by omega⟩) := by
  unfold scl
  pointwise
  split_ifs
  all_goals first
    | (refine gath_of s 0 (by omega) 0#32 rfl _ _ k ?_; dsimp only; omega)
    | (refine gath_of s 1 (by omega) 16#32 rfl _ _ k ?_; dsimp only; omega)
    | (refine gath_of s 2 (by omega) 32#32 rfl _ _ k ?_; dsimp only; omega)
    | (refine gath_of s 3 (by omega) 48#32 rfl _ _ k ?_; dsimp only; omega)
    | (refine gath_of s 4 (by omega) 64#32 rfl _ _ k ?_; dsimp only; omega)
    | (refine gath_of s 5 (by omega) 80#32 rfl _ _ k ?_; dsimp only; omega)
    | (refine gath_of s 6 (by omega) 96#32 rfl _ _ k ?_; dsimp only; omega)
    | (refine gath_of s 7 (by omega) 112#32 rfl _ _ k ?_; dsimp only; omega)

theorem pay16_at (X : Vec Ideal S256x1024 .i8) (q : Fin 64) (l : Fin 1024) :
    k0_pay16 X (ix2 q l) = wordLo (bitcast S64x1024 32 X bitcasts_S256x1024_w8_S64x1024_w32 (ix2 q l)) := by
  unfold k0_pay16 k0_pay15 wordLo
  pointwise
theorem pay17_at (X : Vec Ideal S256x1024 .i8) (q : Fin 64) (l : Fin 1024) :
    k0_pay17 X (ix2 q l) = wordHi (bitcast S64x1024 32 X bitcasts_S256x1024_w8_S64x1024_w32 (ix2 q l)) := by
  unfold k0_pay17 k0_pay15 wordHi
  pointwise

theorem word_byte (X : Vec Ideal S256x1024 .i8) (a : Fin 256) (q : Fin 64) (p : ℕ) (hp : p < 4) (ha : a.val = 4 * q.val + p) (l : Fin 1024)
    (i : ℕ) (hi : i < 8) :
    (bitcast S64x1024 32 X bitcasts_S256x1024_w8_S64x1024_w32 (ix2 q l)).getLsbD (8 * p + i) = (X (ix2 a l) : BitVec 8).getLsbD i := by
  have h := bitcast_8_32_getLsbD_ix2 (X : (⟨2, ![256, 1024]⟩ : Shape).Idx → BitVec 8) bitcasts_S256x1024_w8_S64x1024_w32 q l (8 * p + i) (by omega) a (by omega)
  rw [show (8 * p + i) % 8 = i by omega] at h
  exact h

/-- The bytes of the words of low codes, -/
theorem lo_byte (X : Vec Ideal S256x1024 .i8) (a : Fin 256) (l : Fin 1024) :
    (bitcast S256x1024 8 (k0_pay16 X) bitcasts_S64x1024_w32_S256x1024_w8 (ix2 a l)) = mvLo (X (ix2 a l)) := by
  refine BitVec.eq_of_getLsbD_eq fun i hi => ?_
  refine (bitcast_32_8_ix2 (k0_pay16 X) bitcasts_S64x1024_w32_S256x1024_w8 a l ⟨a.val / 4, by omega⟩ (a.val % 4) (by omega) (by dsimp; omega) i hi).trans ?_
  rw [show (k0_pay16 X) (ValueIdx.ix2 (⟨a.val / 4, by omega⟩ : Fin 64) l) = _ from pay16_at X _ l]
  exact wordLo_bit _ _ _ (by omega) (fun j hj => word_byte X a _ _ (by omega) (by dsimp; omega) l j hj) i hi
/-- and of the high ones. -/
theorem hi_byte (X : Vec Ideal S256x1024 .i8) (a : Fin 256) (l : Fin 1024) :
    (bitcast S256x1024 8 (k0_pay17 X) bitcasts_S64x1024_w32_S256x1024_w8 (ix2 a l)) = mvHi (X (ix2 a l)) := by
  refine BitVec.eq_of_getLsbD_eq fun i hi => ?_
  refine (bitcast_32_8_ix2 (k0_pay17 X) bitcasts_S64x1024_w32_S256x1024_w8 a l ⟨a.val / 4, by omega⟩ (a.val % 4) (by omega) (by dsimp; omega) i hi).trans ?_
  rw [show (k0_pay17 X) (ValueIdx.ix2 (⟨a.val / 4, by omega⟩ : Fin 64) l) = _ from pay17_at X _ l]
  exact wordHi_bit _ _ _ (by omega) (fun j hj => word_byte X a _ _ (by omega) (by dsimp; omega) l j hj) i hi

theorem codes_lo (X : Vec Ideal S256x1024 .i8) (a : Fin 256) (l : Fin 1024) :
    (codes (F := Ideal) (k0_pay16 X) (ix2 a l) : EReal) = Ideal.ofBits .fp8e4m3 (mvLo (X (ix2 a l))) := by
  rw [← lo_byte]; unfold codes; pointwise
theorem codes_hi (X : Vec Ideal S256x1024 .i8) (a : Fin 256) (l : Fin 1024) :
    (codes (F := Ideal) (k0_pay17 X) (ix2 a l) : EReal) = Ideal.ofBits .fp8e4m3 (mvHi (X (ix2 a l))) := by
  rw [← hi_byte]; unfold codes; pointwise

theorem prodStep_at (acc : FVec Ideal S256x256 .f32) (x : Vec Ideal S256x1024 .fp8e4m3) (v : IVec S64x1024 32) (s : Vec Ideal S256x128 .fp8e4m3)
    (r k : Fin 256) : (prodStep acc x v s (ix2 r k) : EReal) = (acc (ix2 r k) : EReal) + ∑ y : Fin 1024, (x (ix2 r y) : EReal) * ((codes (F := Ideal) v (ix2 k y) : EReal) * (scl s (ix2 k y) : EReal)) := by
  unfold prodStep; pointwise

theorem ld_c {α : EltTy} (X : Vec Ideal S256x6144 α) (c : ℕ) (h) (r : Fin 256) (y : Fin 1024) (hc : c + 1024 ≤ 6144) :
    View.ld X (cR c h) (ix2 r y) = X (ix2 r ⟨c + y.val, by omega⟩) := by
  refine congrArg X (funext fun a => Fin.ext ?_)
  match a with
  | 0 => exact (Rect.idx_unit_val _ _ _ _ _).trans (Nat.zero_add _)
  | 1 => exact Rect.idx_unit_val _ _ _ _ _
theorem ld_s {α : EltTy} (X : Vec Ideal S256x768 α) (c : ℕ) (h) (r : Fin 256) (y : Fin 128) (hc : c + 128 ≤ 768) :
    View.ld X (sR c h) (ix2 r y) = X (ix2 r ⟨c + y.val, by omega⟩) := by
  refine congrArg X (funext fun a => Fin.ext ?_)
  match a with
  | 0 => exact (Rect.idx_unit_val _ _ _ _ _).trans (Nat.zero_add _)
  | 1 => exact Rect.idx_unit_val _ _ _ _ _

/-- A sum in six chunks. -/
theorem sum_six (f : Fin 6144 → EReal) :
    (∑ x, f x) = 0 + (∑ y : Fin 1024, f ⟨0 + y.val, by omega⟩) + (∑ y : Fin 1024, f ⟨1024 + y.val, by omega⟩) + (∑ y : Fin 1024, f ⟨2048 + y.val, by omega⟩)
      + (∑ y : Fin 1024, f ⟨3072 + y.val, by omega⟩) + (∑ y : Fin 1024, f ⟨4096 + y.val, by omega⟩) + (∑ y : Fin 1024, f ⟨5120 + y.val, by omega⟩) := by
  have e : ∀ (c : Fin 6) (o : ℕ) (ho : o = 1024 * c.val), (∑ y : Fin 1024, f (finProdFinEquiv (c, y))) = ∑ y : Fin 1024, f ⟨o + y.val, by omega⟩ := by
    intro c o ho
    refine Finset.sum_congr rfl fun y _ => congrArg f (Fin.ext ?_)
    show y.val + 1024 * c.val = o + y.val
    omega
  rw [← (finProdFinEquiv (m := 6) (n := 1024)).sum_comp f, Fintype.sum_prod_type, Fin.sum_univ_six, e 0 0 rfl, e 1 1024 rfl, e 2 2048 rfl,
    e 3 3072 rfl, e 4 4096 rfl, e 5 5120 rfl, zero_add]

/-- One chunk's sum, from the whole arrays. -/
theorem chunk_lo (X1 : Vec Ideal S256x6144 .fp8e4m3) (X5 : Vec Ideal S256x6144 .i8) (X6 : Vec Ideal S256x768 .fp8e4m3) (c s : ℕ) (h h5 h6)
    (hc : c + 1024 ≤ 6144) (hs : c = 8 * s) (r v : Fin 256) :
    (∑ y : Fin 1024, (View.ld X1 (cR c h) (ix2 r y) : EReal) * ((codes (F := Ideal) (k0_pay16 (View.ld X5 (cR c h5))) (ix2 v y) : EReal) * (scl (View.ld X6 (sR s h6)) (ix2 v y) : EReal)))
      = ∑ y : Fin 1024, X1 (ix2 r ⟨c + y.val, by omega⟩) * (Ideal.ofBits .fp8e4m3 (mvLo (X5 (ix2 v ⟨c + y.val, by omega⟩))) * X6 (ix2 v ⟨(⟨c + y.val, by omega⟩ : Fin 6144).val / 8, by dsimp only; omega⟩)) := by
  refine Finset.sum_congr rfl fun y _ => ?_
  rw [codes_lo, scl_at, ld_c X1 c h r y hc, ld_c X5 c h5 v y hc, ld_s X6 s h6 v _ (by omega)]
  have h8 : (⟨s + y.val / 8, by omega⟩ : Fin 768) = ⟨(⟨c + y.val, by omega⟩ : Fin 6144).val / 8, by dsimp only; omega⟩ := Fin.ext (by dsimp only; omega)
  rw [h8]
theorem chunk_hi (X1 : Vec Ideal S256x6144 .fp8e4m3) (X5 : Vec Ideal S256x6144 .i8) (X6 : Vec Ideal S256x768 .fp8e4m3) (c s : ℕ) (h h5 h6)
    (hc : c + 1024 ≤ 6144) (hs : c = 8 * s) (r v : Fin 256) :
    (∑ y : Fin 1024, (View.ld X1 (cR c h) (ix2 r y) : EReal) * ((codes (F := Ideal) (k0_pay17 (View.ld X5 (cR c h5))) (ix2 v y) : EReal) * (scl (View.ld X6 (sR s h6)) (ix2 v y) : EReal)))
      = ∑ y : Fin 1024, X1 (ix2 r ⟨c + y.val, by omega⟩) * (Ideal.ofBits .fp8e4m3 (mvHi (X5 (ix2 v ⟨c + y.val, by omega⟩))) * X6 (ix2 v ⟨(⟨c + y.val, by omega⟩ : Fin 6144).val / 8, by dsimp only; omega⟩)) := by
  refine Finset.sum_congr rfl fun y _ => ?_
  rw [codes_hi, scl_at, ld_c X1 c h r y hc, ld_c X5 c h5 v y hc, ld_s X6 s h6 v _ (by omega)]
  have h8 : (⟨s + y.val / 8, by omega⟩ : Fin 768) = ⟨(⟨c + y.val, by omega⟩ : Fin 6144).val / 8, by dsimp only; omega⟩ := Fin.ext (by dsimp only; omega)
  rw [h8]

theorem accE_at (X1 : Vec Ideal S256x6144 .fp8e4m3) (X5 : Vec Ideal S256x6144 .i8) (X6 : Vec Ideal S256x768 .fp8e4m3) (r v : Fin 256) :
    accE X1 X5 X6 (ix2 r v) = ∑ x : Fin 6144, X1 (ix2 r x) * (Ideal.ofBits .fp8e4m3 (mvLo (X5 (ix2 v x))) * X6 (ix2 v ⟨x.val / 8, by omega⟩)) := by
  have h0 : k0_pay13 (F := Ideal) (ix2 r v) = 0 := by unfold k0_pay13; pointwise
  unfold accE
  simp only [prodStep_at, h0]
  rw [chunk_lo X1 X5 X6 0 0 _ _ _ (by omega) (by omega), chunk_lo X1 X5 X6 1024 128 _ _ _ (by omega) (by omega),
    chunk_lo X1 X5 X6 2048 256 _ _ _ (by omega) (by omega), chunk_lo X1 X5 X6 3072 384 _ _ _ (by omega) (by omega),
    chunk_lo X1 X5 X6 4096 512 _ _ _ (by omega) (by omega), chunk_lo X1 X5 X6 5120 640 _ _ _ (by omega) (by omega)]
  rw [sum_six (fun x : Fin 6144 => X1 (ix2 r x) * (Ideal.ofBits .fp8e4m3 (mvLo (X5 (ix2 v x))) * X6 (ix2 v ⟨x.val / 8, by omega⟩)))]
theorem accO_at (X2 : Vec Ideal S256x6144 .fp8e4m3) (X5 : Vec Ideal S256x6144 .i8) (X6 : Vec Ideal S256x768 .fp8e4m3) (r v : Fin 256) :
    accO X2 X5 X6 (ix2 r v) = ∑ x : Fin 6144, X2 (ix2 r x) * (Ideal.ofBits .fp8e4m3 (mvHi (X5 (ix2 v x))) * X6 (ix2 v ⟨x.val / 8, by omega⟩)) := by
  have h0 : k0_pay14 (F := Ideal) (ix2 r v) = 0 := by unfold k0_pay14; pointwise
  unfold accO
  simp only [prodStep_at, h0]
  rw [chunk_hi X2 X5 X6 0 0 _ _ _ (by omega) (by omega), chunk_hi X2 X5 X6 1024 128 _ _ _ (by omega) (by omega),
    chunk_hi X2 X5 X6 2048 256 _ _ _ (by omega) (by omega), chunk_hi X2 X5 X6 3072 384 _ _ _ (by omega) (by omega),
    chunk_hi X2 X5 X6 4096 512 _ _ _ (by omega) (by omega), chunk_hi X2 X5 X6 5120 640 _ _ _ (by omega) (by omega)]
  rw [sum_six (fun x : Fin 6144 => X2 (ix2 r x) * (Ideal.ofBits .fp8e4m3 (mvHi (X5 (ix2 v x))) * X6 (ix2 v ⟨x.val / 8, by omega⟩)))]

/-- A finite positive factor goes into a sum. -/
theorem sum_mul_64 {n : ℕ} (f : Fin n → EReal) : (∑ x, f x) * ((64 : ℝ) : EReal) = ∑ x, f x * ((64 : ℝ) : EReal) := by
  have h : ∀ s : Finset (Fin n), (∑ x ∈ s, f x) * ((64 : ℝ) : EReal) = ∑ x ∈ s, f x * ((64 : ℝ) : EReal) := by
    intro s
    induction s using Finset.induction_on with
    | empty => simp
    | insert a s ha ih =>
      rw [Finset.sum_insert ha, Finset.sum_insert ha, ← ih]
      exact EReal.right_distrib_of_nonneg_of_ne_top (by exact_mod_cast (by norm_num : (0 : ℝ) ≤ 64)) (EReal.coe_ne_top _) _ _
  exact h _

theorem ofBits_64 : Ideal.ofBits .f32 0x42800000#32 = ((64 : ℝ) : EReal) := by
  simp [Ideal.ofBits, Ideal.ieee, -EReal.coe_mul]; norm_num

/-- **The tile of logits**, element by element: the products over the weights' values, times the row's scale and the global one. -/
theorem zTile_at (X1 X2 : Vec Ideal S256x6144 .fp8e4m3) (X3 : Vec Ideal S256x1 .f32) (g : Elt Ideal .f32) (X5 : Vec Ideal S256x6144 .i8)
    (X6 : Vec Ideal S256x768 .fp8e4m3) (r v : Fin 256) :
    zTile X1 X2 X3 g X5 X6 (ix2 r v) = ((∑ x : Fin 6144, X1 (ix2 r x) * (lo4 (X5 (ix2 v x)) * X6 (ix2 v ⟨x.val / 8, by omega⟩)))
      + ∑ x : Fin 6144, X2 (ix2 r x) * (hi4 (X5 (ix2 v x)) * X6 (ix2 v ⟨x.val / 8, by omega⟩))) * X3 (ix2 r 0) * g := by
  have h1 : (∑ x : Fin 6144, X1 (ix2 r x) * (lo4 (X5 (ix2 v x)) * X6 (ix2 v ⟨x.val / 8, by omega⟩))) = accE X1 X5 X6 (ix2 r v) * ((64 : ℝ) : EReal) := by
    rw [accE_at, sum_mul_64]
    refine Finset.sum_congr rfl fun x _ => ?_
    rw [← lo_value]; ac_rfl
  have h2 : (∑ x : Fin 6144, X2 (ix2 r x) * (hi4 (X5 (ix2 v x)) * X6 (ix2 v ⟨x.val / 8, by omega⟩))) = accO X2 X5 X6 (ix2 r v) * ((64 : ℝ) : EReal) := by
    rw [accO_at, sum_mul_64]
    refine Finset.sum_congr rfl fun x _ => ?_
    rw [← hi_value]; ac_rfl
  rw [h1, h2, ← EReal.right_distrib_of_nonneg_of_ne_top (by exact_mod_cast (by norm_num : (0 : ℝ) ≤ 64)) (EReal.coe_ne_top _), ← ofBits_64]
  unfold zTile
  rw [View.ld_unit_zero (by funext a; fin_cases a <;> rfl)]
  pointwise
  ac_rfl

end Cert.KernelIdeal.Body
end
-- ==== Proof.OutRuns.lean ====
/- What the runs of the body at an output tile store: the codes in blocks of 32 rows by 128 columns, the running maxima of the
   errors in blocks of 32 rows, and at point 125 the log-sum-exps, at the last point the errors. -/
module

public import proofs.«01_k».proof.Proof.TileRuns

@[expose] public section

set_option maxRecDepth 16384

noncomputable section

namespace Cert.KernelIdeal.Body

open Cert.KernelIdeal.Gen
open Idealize.ShloMosaic Idealize.ShloMosaic.TcCoe Idealize.ShloMosaic.Tactic
open Idealize.ShloMosaic.Pipeline (Dat Cfg Window BodyObligation cellOf)

variable {F : FTy → Type} [FloatOps F]

/-- Rows `32 r` to `32 r + 31` of a lane buffer. -/
abbrev rowR (r : Fin 8) : Rect S256x128 := Rect.unit ![32 * r.val, 0] S32x128.size (by
  intro a; have := r.isLt; match a with | 0 => show 32 * r.val + 32 ≤ 256; omega | 1 => show 0 + 128 ≤ 128; omega)
/-- The block of an output tile at rows `32 r` and columns `128 j`. -/
abbrev blkR (r : Fin 8) (j : Fin 10) : Rect S256x1280 := Rect.unit ![32 * r.val, 128 * j.val] S32x128.size (by
  intro a; have := r.isLt; have := j.isLt
  match a with | 0 => show 32 * r.val + 32 ≤ 256; omega | 1 => show 128 * j.val + 128 ≤ 1280; omega)
/-- Where the block's logits stand in the logits buffer. -/
def zoff (i : grid0.Coords) (r : Fin 8) (j : Fin 10) : Fin 2 → ℕ :=
  ![32 * r.val, (Scalar.indexCast (Scalar.addi (Scalar.muli (Scalar.subi (BitVec.ofNat 32 (i 0).val) 125#32) 1280#32) (BitVec.ofNat 32 (128 * j.val))) : Index).toNat]
/-- That the blocks lie in the buffer. -/
abbrev ZIn (i : grid0.Coords) : Prop := ∀ r j, ∀ a, zoff i r j a + S32x128.size a ≤ S256x32000.size a

/-- The block rows and columns, in the order of the stores' list. -/
abbrev rows8 : List (Fin 8) := [7, 6, 5, 4, 3, 2, 1, 0]
abbrev cols10 : List (Fin 10) := [9, 8, 7, 6, 5, 4, 3, 2, 1, 0]

/-- An output tile's codes, -/
def codeP (q : Vec F S32x128 .f32 → Vec F S32x128 .f32 → FVec F S32x128 .fp8e5m2) (l : Fin 8 → Vec F S32x128 .f32) (z : Fin 8 → Fin 10 → Vec F S32x128 .f32) : List (View.Piece (Elt F) S256x1280 .fp8e5m2) :=
  rows8.flatMap fun r => cols10.map fun j => ⟨blkR r j, q (l r) (z r j)⟩
/-- a block row's running maximum of the errors, -/
def errRow (q : Vec F S32x128 .f32 → Vec F S32x128 .f32 → Vec F S32x128 .f32 → FVec F S32x128 .f32) (l e : Vec F S32x128 .f32) (z : Fin 10 → Vec F S32x128 .f32) : FVec F S32x128 .f32 :=
  q l (q l (q l (q l (q l (q l (q l (q l (q l (q l e (z 0)) (z 1)) (z 2)) (z 3)) (z 4)) (z 5)) (z 6)) (z 7)) (z 8)) (z 9)
/-- the running maxima, the first `n` block rows stored, when the buffer's own contents are read, -/
def errP (q : Vec F S32x128 .f32 → Vec F S32x128 .f32 → Vec F S32x128 .f32 → FVec F S32x128 .f32) (l e : Fin 8 → Vec F S32x128 .f32) (z : Fin 8 → Fin 10 → Vec F S32x128 .f32) : List (View.Piece (Elt F) S256x128 .f32) :=
  rows8.map fun r => ⟨rowR r, shapeCast S32x128 (errRow q (l r) (e r) (z r)) shapeCasts_S32x128_S32x128⟩
/-- and over a fill of the buffer. -/
def errFill (v : View sig .tc .vmem S256x128 .f32) (X : Vec F S256x128 .f32) (q : Vec F S32x128 .f32 → Vec F S32x128 .f32 → Vec F S32x128 .f32 → FVec F S32x128 .f32) (l : Fin 8 → Vec F S32x128 .f32) (z : Fin 8 → Fin 10 → Vec F S32x128 .f32) : List (Fin 8) → List (View.Piece (Elt F) S256x128 .f32)
  | [] => [⟨fullR, X⟩]
  | r :: rs => ⟨rowR r, shapeCast S32x128 (errRow q (l r) (View.readCov (Val := Elt F) v (errFill v X q l z rs) (rowR r).toLoadRect) (z r)) shapeCasts_S32x128_S32x128⟩ :: errFill v X q l z rs

/-- The whole of a row buffer. -/
abbrev full2 : Rect S2x128 := Rect.unit ![0, 0] S2x128.size inb_S2x128_S2x128_0_0

set_option maxHeartbeats 8000000 in
theorem runC_c1 (c : Dev nD) (i : grid0.Coords) (arg1 : Memref sig .tc .vmem S256x6144 .fp8e4m3) (harg1 : arg1.IsWhole) (arg2 : Memref sig .tc .vmem S256x6144 .fp8e4m3) (harg2 : arg2.IsWhole) (arg3 : Memref sig .tc .vmem S256x1 .f32) (harg3 : arg3.IsWhole) (arg4 : Memref sig .tc .smem S1 .f32) (harg4 : arg4.IsWhole) (arg5 : Memref sig .tc .vmem S256x6144 .i8) (harg5 : arg5.IsWhole) (arg6 : Memref sig .tc .vmem S256x768 .fp8e4m3) (harg6 : arg6.IsWhole) (arg7 : Memref sig .tc .vmem S256x1280 .fp8e5m2) (harg7 : arg7.IsWhole) (arg8 : Memref sig .tc .vmem S256x1280 .fp8e5m2) (harg8 : arg8.IsWhole) (arg9 : Memref sig .tc .vmem S2x128 .f32) (harg9 : arg9.IsWhole) (arg10 : Memref sig .tc .vmem S2x128 .f32) (harg10 : arg10.IsWhole) (arg11 : Memref sig .tc .vmem S2x128 .f32) (harg11 : arg11.IsWhole) (arg12 : Memref sig .tc .vmem S2x128 .f32) (harg12 : arg12.IsWhole) (arg13 : Memref sig .tc .vmem S256x32000 .f32) (harg13 : arg13.IsWhole) (arg14 : Memref sig .tc .vmem S256x128 .f32) (harg14 : arg14.IsWhole) (arg15 : Memref sig .tc .vmem S256x128 .f32) (harg15 : arg15.IsWhole) (arg16 : Memref sig .tc .vmem S256x128 .f32) (harg16 : arg16.IsWhole) (arg17 : Memref sig .tc .vmem S256x128 .f32) (harg17 : arg17.IsWhole) (arg18 : Memref sig .tc .vmem S256x128 .f32) (harg18 : arg18.IsWhole) (arg19 : Memref sig .tc .vmem S256x128 .f32) (harg19 : arg19.IsWhole) (arg20 : Memref sig .tc .vmem S256x128 .f32) (harg20 : arg20.IsWhole) (hc0 : ¬cond0 i) (hc1 : ¬cond1 i) (hc2 : cond2 i) (hc3 : cond3 i) (hc4 : ¬cond4 i) (d1 : Vec F S256x6144 .fp8e4m3) (d2 : Vec F S256x6144 .fp8e4m3) (d3 : Vec F S256x1 .f32) (d4 : Vec F S1 .f32) (d5 : Vec F S256x6144 .i8) (d6 : Vec F S256x768 .fp8e4m3) (d7 : Vec F S256x1280 .fp8e5m2) (d8 : Vec F S256x1280 .fp8e5m2) (d9 : Vec F S2x128 .f32) (d10 : Vec F S2x128 .f32) (d11 : Vec F S2x128 .f32) (d12 : Vec F S2x128 .f32) (d13 : Vec F S256x32000 .f32) (d14 : Vec F S256x128 .f32) (d15 : Vec F S256x128 .f32) (d16 : Vec F S256x128 .f32) (d17 : Vec F S256x128 .f32) (d18 : Vec F S256x128 .f32) (d19 : Vec F S256x128 .f32) (d20 : Vec F S256x128 .f32) (hz : ZIn i) :
    (runC c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 hc2 hc3 hc4 d1 d2 d3 d4 d5 d6 d7 d8 d9 d10 d11 d12 d13 d14 d15 d16 d17 d18 d19 d20).1 = codeP k0_pay132 (fun r => View.readCov (Val := Elt F) arg17.view [⟨fullR, k0_pay127 (View.ld (arg14.view.read (Elt F) (harg14.unread d14)) fullR) (View.ld (arg15.view.read (Elt F) (harg15.unread d15)) fullR)⟩] (rowR r).toLoadRect) (fun r j => View.ld (arg13.view.read (Elt F) (harg13.unread d13)) (Rect.unit (zoff i r j) S32x128.size (hz r j))) := by
  unfold runC; dsimp only; sl_unfold_words
  sl_kernel_rfl

set_option maxHeartbeats 8000000 in
theorem runC_c2 (c : Dev nD) (i : grid0.Coords) (arg1 : Memref sig .tc .vmem S256x6144 .fp8e4m3) (harg1 : arg1.IsWhole) (arg2 : Memref sig .tc .vmem S256x6144 .fp8e4m3) (harg2 : arg2.IsWhole) (arg3 : Memref sig .tc .vmem S256x1 .f32) (harg3 : arg3.IsWhole) (arg4 : Memref sig .tc .smem S1 .f32) (harg4 : arg4.IsWhole) (arg5 : Memref sig .tc .vmem S256x6144 .i8) (harg5 : arg5.IsWhole) (arg6 : Memref sig .tc .vmem S256x768 .fp8e4m3) (harg6 : arg6.IsWhole) (arg7 : Memref sig .tc .vmem S256x1280 .fp8e5m2) (harg7 : arg7.IsWhole) (arg8 : Memref sig .tc .vmem S256x1280 .fp8e5m2) (harg8 : arg8.IsWhole) (arg9 : Memref sig .tc .vmem S2x128 .f32) (harg9 : arg9.IsWhole) (arg10 : Memref sig .tc .vmem S2x128 .f32) (harg10 : arg10.IsWhole) (arg11 : Memref sig .tc .vmem S2x128 .f32) (harg11 : arg11.IsWhole) (arg12 : Memref sig .tc .vmem S2x128 .f32) (harg12 : arg12.IsWhole) (arg13 : Memref sig .tc .vmem S256x32000 .f32) (harg13 : arg13.IsWhole) (arg14 : Memref sig .tc .vmem S256x128 .f32) (harg14 : arg14.IsWhole) (arg15 : Memref sig .tc .vmem S256x128 .f32) (harg15 : arg15.IsWhole) (arg16 : Memref sig .tc .vmem S256x128 .f32) (harg16 : arg16.IsWhole) (arg17 : Memref sig .tc .vmem S256x128 .f32) (harg17 : arg17.IsWhole) (arg18 : Memref sig .tc .vmem S256x128 .f32) (harg18 : arg18.IsWhole) (arg19 : Memref sig .tc .vmem S256x128 .f32) (harg19 : arg19.IsWhole) (arg20 : Memref sig .tc .vmem S256x128 .f32) (harg20 : arg20.IsWhole) (hc0 : ¬cond0 i) (hc1 : ¬cond1 i) (hc2 : cond2 i) (hc3 : cond3 i) (hc4 : ¬cond4 i) (d1 : Vec F S256x6144 .fp8e4m3) (d2 : Vec F S256x6144 .fp8e4m3) (d3 : Vec F S256x1 .f32) (d4 : Vec F S1 .f32) (d5 : Vec F S256x6144 .i8) (d6 : Vec F S256x768 .fp8e4m3) (d7 : Vec F S256x1280 .fp8e5m2) (d8 : Vec F S256x1280 .fp8e5m2) (d9 : Vec F S2x128 .f32) (d10 : Vec F S2x128 .f32) (d11 : Vec F S2x128 .f32) (d12 : Vec F S2x128 .f32) (d13 : Vec F S256x32000 .f32) (d14 : Vec F S256x128 .f32) (d15 : Vec F S256x128 .f32) (d16 : Vec F S256x128 .f32) (d17 : Vec F S256x128 .f32) (d18 : Vec F S256x128 .f32) (d19 : Vec F S256x128 .f32) (d20 : Vec F S256x128 .f32) (hz : ZIn i) :
    (runC c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 hc2 hc3 hc4 d1 d2 d3 d4 d5 d6 d7 d8 d9 d10 d11 d12 d13 d14 d15 d16 d17 d18 d19 d20).2.1 = codeP k0_pay134 (fun r => View.readCov (Val := Elt F) arg18.view [⟨fullR, k0_pay128 (View.ld (arg14.view.read (Elt F) (harg14.unread d14)) fullR) (View.ld (arg16.view.read (Elt F) (harg16.unread d16)) fullR)⟩] (rowR r).toLoadRect) (fun r j => View.ld (arg13.view.read (Elt F) (harg13.unread d13)) (Rect.unit (zoff i r j) S32x128.size (hz r j))) := by
  unfold runC; dsimp only; sl_unfold_words
  sl_kernel_rfl

set_option maxHeartbeats 8000000 in
theorem runC_e1 (c : Dev nD) (i : grid0.Coords) (arg1 : Memref sig .tc .vmem S256x6144 .fp8e4m3) (harg1 : arg1.IsWhole) (arg2 : Memref sig .tc .vmem S256x6144 .fp8e4m3) (harg2 : arg2.IsWhole) (arg3 : Memref sig .tc .vmem S256x1 .f32) (harg3 : arg3.IsWhole) (arg4 : Memref sig .tc .smem S1 .f32) (harg4 : arg4.IsWhole) (arg5 : Memref sig .tc .vmem S256x6144 .i8) (harg5 : arg5.IsWhole) (arg6 : Memref sig .tc .vmem S256x768 .fp8e4m3) (harg6 : arg6.IsWhole) (arg7 : Memref sig .tc .vmem S256x1280 .fp8e5m2) (harg7 : arg7.IsWhole) (arg8 : Memref sig .tc .vmem S256x1280 .fp8e5m2) (harg8 : arg8.IsWhole) (arg9 : Memref sig .tc .vmem S2x128 .f32) (harg9 : arg9.IsWhole) (arg10 : Memref sig .tc .vmem S2x128 .f32) (harg10 : arg10.IsWhole) (arg11 : Memref sig .tc .vmem S2x128 .f32) (harg11 : arg11.IsWhole) (arg12 : Memref sig .tc .vmem S2x128 .f32) (harg12 : arg12.IsWhole) (arg13 : Memref sig .tc .vmem S256x32000 .f32) (harg13 : arg13.IsWhole) (arg14 : Memref sig .tc .vmem S256x128 .f32) (harg14 : arg14.IsWhole) (arg15 : Memref sig .tc .vmem S256x128 .f32) (harg15 : arg15.IsWhole) (arg16 : Memref sig .tc .vmem S256x128 .f32) (harg16 : arg16.IsWhole) (arg17 : Memref sig .tc .vmem S256x128 .f32) (harg17 : arg17.IsWhole) (arg18 : Memref sig .tc .vmem S256x128 .f32) (harg18 : arg18.IsWhole) (arg19 : Memref sig .tc .vmem S256x128 .f32) (harg19 : arg19.IsWhole) (arg20 : Memref sig .tc .vmem S256x128 .f32) (harg20 : arg20.IsWhole) (hc0 : ¬cond0 i) (hc1 : ¬cond1 i) (hc2 : cond2 i) (hc3 : cond3 i) (hc4 : ¬cond4 i) (d1 : Vec F S256x6144 .fp8e4m3) (d2 : Vec F S256x6144 .fp8e4m3) (d3 : Vec F S256x1 .f32) (d4 : Vec F S1 .f32) (d5 : Vec F S256x6144 .i8) (d6 : Vec F S256x768 .fp8e4m3) (d7 : Vec F S256x1280 .fp8e5m2) (d8 : Vec F S256x1280 .fp8e5m2) (d9 : Vec F S2x128 .f32) (d10 : Vec F S2x128 .f32) (d11 : Vec F S2x128 .f32) (d12 : Vec F S2x128 .f32) (d13 : Vec F S256x32000 .f32) (d14 : Vec F S256x128 .f32) (d15 : Vec F S256x128 .f32) (d16 : Vec F S256x128 .f32) (d17 : Vec F S256x128 .f32) (d18 : Vec F S256x128 .f32) (d19 : Vec F S256x128 .f32) (d20 : Vec F S256x128 .f32) (hz : ZIn i) :
    (runC c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 hc2 hc3 hc4 d1 d2 d3 d4 d5 d6 d7 d8 d9 d10 d11 d12 d13 d14 d15 d16 d17 d18 d19 d20).2.2.2.2.2.2.1 = errFill arg19.view k0_pay7 k0_pay135 (fun r => View.readCov (Val := Elt F) arg17.view [⟨fullR, k0_pay127 (View.ld (arg14.view.read (Elt F) (harg14.unread d14)) fullR) (View.ld (arg15.view.read (Elt F) (harg15.unread d15)) fullR)⟩] (rowR r).toLoadRect) (fun r j => View.ld (arg13.view.read (Elt F) (harg13.unread d13)) (Rect.unit (zoff i r j) S32x128.size (hz r j))) rows8 := by
  unfold runC; dsimp only; sl_unfold_words
  sl_kernel_rfl

set_option maxHeartbeats 8000000 in
theorem runC_e2 (c : Dev nD) (i : grid0.Coords) (arg1 : Memref sig .tc .vmem S256x6144 .fp8e4m3) (harg1 : arg1.IsWhole) (arg2 : Memref sig .tc .vmem S256x6144 .fp8e4m3) (harg2 : arg2.IsWhole) (arg3 : Memref sig .tc .vmem S256x1 .f32) (harg3 : arg3.IsWhole) (arg4 : Memref sig .tc .smem S1 .f32) (harg4 : arg4.IsWhole) (arg5 : Memref sig .tc .vmem S256x6144 .i8) (harg5 : arg5.IsWhole) (arg6 : Memref sig .tc .vmem S256x768 .fp8e4m3) (harg6 : arg6.IsWhole) (arg7 : Memref sig .tc .vmem S256x1280 .fp8e5m2) (harg7 : arg7.IsWhole) (arg8 : Memref sig .tc .vmem S256x1280 .fp8e5m2) (harg8 : arg8.IsWhole) (arg9 : Memref sig .tc .vmem S2x128 .f32) (harg9 : arg9.IsWhole) (arg10 : Memref sig .tc .vmem S2x128 .f32) (harg10 : arg10.IsWhole) (arg11 : Memref sig .tc .vmem S2x128 .f32) (harg11 : arg11.IsWhole) (arg12 : Memref sig .tc .vmem S2x128 .f32) (harg12 : arg12.IsWhole) (arg13 : Memref sig .tc .vmem S256x32000 .f32) (harg13 : arg13.IsWhole) (arg14 : Memref sig .tc .vmem S256x128 .f32) (harg14 : arg14.IsWhole) (arg15 : Memref sig .tc .vmem S256x128 .f32) (harg15 : arg15.IsWhole) (arg16 : Memref sig .tc .vmem S256x128 .f32) (harg16 : arg16.IsWhole) (arg17 : Memref sig .tc .vmem S256x128 .f32) (harg17 : arg17.IsWhole) (arg18 : Memref sig .tc .vmem S256x128 .f32) (harg18 : arg18.IsWhole) (arg19 : Memref sig .tc .vmem S256x128 .f32) (harg19 : arg19.IsWhole) (arg20 : Memref sig .tc .vmem S256x128 .f32) (harg20 : arg20.IsWhole) (hc0 : ¬cond0 i) (hc1 : ¬cond1 i) (hc2 : cond2 i) (hc3 : cond3 i) (hc4 : ¬cond4 i) (d1 : Vec F S256x6144 .fp8e4m3) (d2 : Vec F S256x6144 .fp8e4m3) (d3 : Vec F S256x1 .f32) (d4 : Vec F S1 .f32) (d5 : Vec F S256x6144 .i8) (d6 : Vec F S256x768 .fp8e4m3) (d7 : Vec F S256x1280 .fp8e5m2) (d8 : Vec F S256x1280 .fp8e5m2) (d9 : Vec F S2x128 .f32) (d10 : Vec F S2x128 .f32) (d11 : Vec F S2x128 .f32) (d12 : Vec F S2x128 .f32) (d13 : Vec F S256x32000 .f32) (d14 : Vec F S256x128 .f32) (d15 : Vec F S256x128 .f32) (d16 : Vec F S256x128 .f32) (d17 : Vec F S256x128 .f32) (d18 : Vec F S256x128 .f32) (d19 : Vec F S256x128 .f32) (d20 : Vec F S256x128 .f32) (hz : ZIn i) :
    (runC c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 hc2 hc3 hc4 d1 d2 d3 d4 d5 d6 d7 d8 d9 d10 d11 d12 d13 d14 d15 d16 d17 d18 d19 d20).2.2.2.2.2.2.2.1 = errFill arg20.view k0_pay8 k0_pay136 (fun r => View.readCov (Val := Elt F) arg18.view [⟨fullR, k0_pay128 (View.ld (arg14.view.read (Elt F) (harg14.unread d14)) fullR) (View.ld (arg16.view.read (Elt F) (harg16.unread d16)) fullR)⟩] (rowR r).toLoadRect) (fun r j => View.ld (arg13.view.read (Elt F) (harg13.unread d13)) (Rect.unit (zoff i r j) S32x128.size (hz r j))) rows8 := by
  unfold runC; dsimp only; sl_unfold_words
  sl_kernel_rfl

set_option maxHeartbeats 8000000 in
theorem runC_l1 (c : Dev nD) (i : grid0.Coords) (arg1 : Memref sig .tc .vmem S256x6144 .fp8e4m3) (harg1 : arg1.IsWhole) (arg2 : Memref sig .tc .vmem S256x6144 .fp8e4m3) (harg2 : arg2.IsWhole) (arg3 : Memref sig .tc .vmem S256x1 .f32) (harg3 : arg3.IsWhole) (arg4 : Memref sig .tc .smem S1 .f32) (harg4 : arg4.IsWhole) (arg5 : Memref sig .tc .vmem S256x6144 .i8) (harg5 : arg5.IsWhole) (arg6 : Memref sig .tc .vmem S256x768 .fp8e4m3) (harg6 : arg6.IsWhole) (arg7 : Memref sig .tc .vmem S256x1280 .fp8e5m2) (harg7 : arg7.IsWhole) (arg8 : Memref sig .tc .vmem S256x1280 .fp8e5m2) (harg8 : arg8.IsWhole) (arg9 : Memref sig .tc .vmem S2x128 .f32) (harg9 : arg9.IsWhole) (arg10 : Memref sig .tc .vmem S2x128 .f32) (harg10 : arg10.IsWhole) (arg11 : Memref sig .tc .vmem S2x128 .f32) (harg11 : arg11.IsWhole) (arg12 : Memref sig .tc .vmem S2x128 .f32) (harg12 : arg12.IsWhole) (arg13 : Memref sig .tc .vmem S256x32000 .f32) (harg13 : arg13.IsWhole) (arg14 : Memref sig .tc .vmem S256x128 .f32) (harg14 : arg14.IsWhole) (arg15 : Memref sig .tc .vmem S256x128 .f32) (harg15 : arg15.IsWhole) (arg16 : Memref sig .tc .vmem S256x128 .f32) (harg16 : arg16.IsWhole) (arg17 : Memref sig .tc .vmem S256x128 .f32) (harg17 : arg17.IsWhole) (arg18 : Memref sig .tc .vmem S256x128 .f32) (harg18 : arg18.IsWhole) (arg19 : Memref sig .tc .vmem S256x128 .f32) (harg19 : arg19.IsWhole) (arg20 : Memref sig .tc .vmem S256x128 .f32) (harg20 : arg20.IsWhole) (hc0 : ¬cond0 i) (hc1 : ¬cond1 i) (hc2 : cond2 i) (hc3 : cond3 i) (hc4 : ¬cond4 i) (d1 : Vec F S256x6144 .fp8e4m3) (d2 : Vec F S256x6144 .fp8e4m3) (d3 : Vec F S256x1 .f32) (d4 : Vec F S1 .f32) (d5 : Vec F S256x6144 .i8) (d6 : Vec F S256x768 .fp8e4m3) (d7 : Vec F S256x1280 .fp8e5m2) (d8 : Vec F S256x1280 .fp8e5m2) (d9 : Vec F S2x128 .f32) (d10 : Vec F S2x128 .f32) (d11 : Vec F S2x128 .f32) (d12 : Vec F S2x128 .f32) (d13 : Vec F S256x32000 .f32) (d14 : Vec F S256x128 .f32) (d15 : Vec F S256x128 .f32) (d16 : Vec F S256x128 .f32) (d17 : Vec F S256x128 .f32) (d18 : Vec F S256x128 .f32) (d19 : Vec F S256x128 .f32) (d20 : Vec F S256x128 .f32) (hz : ZIn i) :
    (runC c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 hc2 hc3 hc4 d1 d2 d3 d4 d5 d6 d7 d8 d9 d10 d11 d12 d13 d14 d15 d16 d17 d18 d19 d20).2.2.2.2.1 = [⟨fullR, k0_pay127 (View.ld (arg14.view.read (Elt F) (harg14.unread d14)) fullR) (View.ld (arg15.view.read (Elt F) (harg15.unread d15)) fullR)⟩] := by
  unfold runC; dsimp only; sl_unfold_words
  sl_kernel_rfl

set_option maxHeartbeats 8000000 in
theorem runC_l2 (c : Dev nD) (i : grid0.Coords) (arg1 : Memref sig .tc .vmem S256x6144 .fp8e4m3) (harg1 : arg1.IsWhole) (arg2 : Memref sig .tc .vmem S256x6144 .fp8e4m3) (harg2 : arg2.IsWhole) (arg3 : Memref sig .tc .vmem S256x1 .f32) (harg3 : arg3.IsWhole) (arg4 : Memref sig .tc .smem S1 .f32) (harg4 : arg4.IsWhole) (arg5 : Memref sig .tc .vmem S256x6144 .i8) (harg5 : arg5.IsWhole) (arg6 : Memref sig .tc .vmem S256x768 .fp8e4m3) (harg6 : arg6.IsWhole) (arg7 : Memref sig .tc .vmem S256x1280 .fp8e5m2) (harg7 : arg7.IsWhole) (arg8 : Memref sig .tc .vmem S256x1280 .fp8e5m2) (harg8 : arg8.IsWhole) (arg9 : Memref sig .tc .vmem S2x128 .f32) (harg9 : arg9.IsWhole) (arg10 : Memref sig .tc .vmem S2x128 .f32) (harg10 : arg10.IsWhole) (arg11 : Memref sig .tc .vmem S2x128 .f32) (harg11 : arg11.IsWhole) (arg12 : Memref sig .tc .vmem S2x128 .f32) (harg12 : arg12.IsWhole) (arg13 : Memref sig .tc .vmem S256x32000 .f32) (harg13 : arg13.IsWhole) (arg14 : Memref sig .tc .vmem S256x128 .f32) (harg14 : arg14.IsWhole) (arg15 : Memref sig .tc .vmem S256x128 .f32) (harg15 : arg15.IsWhole) (arg16 : Memref sig .tc .vmem S256x128 .f32) (harg16 : arg16.IsWhole) (arg17 : Memref sig .tc .vmem S256x128 .f32) (harg17 : arg17.IsWhole) (arg18 : Memref sig .tc .vmem S256x128 .f32) (harg18 : arg18.IsWhole) (arg19 : Memref sig .tc .vmem S256x128 .f32) (harg19 : arg19.IsWhole) (arg20 : Memref sig .tc .vmem S256x128 .f32) (harg20 : arg20.IsWhole) (hc0 : ¬cond0 i) (hc1 : ¬cond1 i) (hc2 : cond2 i) (hc3 : cond3 i) (hc4 : ¬cond4 i) (d1 : Vec F S256x6144 .fp8e4m3) (d2 : Vec F S256x6144 .fp8e4m3) (d3 : Vec F S256x1 .f32) (d4 : Vec F S1 .f32) (d5 : Vec F S256x6144 .i8) (d6 : Vec F S256x768 .fp8e4m3) (d7 : Vec F S256x1280 .fp8e5m2) (d8 : Vec F S256x1280 .fp8e5m2) (d9 : Vec F S2x128 .f32) (d10 : Vec F S2x128 .f32) (d11 : Vec F S2x128 .f32) (d12 : Vec F S2x128 .f32) (d13 : Vec F S256x32000 .f32) (d14 : Vec F S256x128 .f32) (d15 : Vec F S256x128 .f32) (d16 : Vec F S256x128 .f32) (d17 : Vec F S256x128 .f32) (d18 : Vec F S256x128 .f32) (d19 : Vec F S256x128 .f32) (d20 : Vec F S256x128 .f32) (hz : ZIn i) :
    (runC c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 hc2 hc3 hc4 d1 d2 d3 d4 d5 d6 d7 d8 d9 d10 d11 d12 d13 d14 d15 d16 d17 d18 d19 d20).2.2.2.2.2.1 = [⟨fullR, k0_pay128 (View.ld (arg14.view.read (Elt F) (harg14.unread d14)) fullR) (View.ld (arg16.view.read (Elt F) (harg16.unread d16)) fullR)⟩] := by
  unfold runC; dsimp only; sl_unfold_words
  sl_kernel_rfl

set_option maxHeartbeats 8000000 in
theorem runC_lse (c : Dev nD) (i : grid0.Coords) (arg1 : Memref sig .tc .vmem S256x6144 .fp8e4m3) (harg1 : arg1.IsWhole) (arg2 : Memref sig .tc .vmem S256x6144 .fp8e4m3) (harg2 : arg2.IsWhole) (arg3 : Memref sig .tc .vmem S256x1 .f32) (harg3 : arg3.IsWhole) (arg4 : Memref sig .tc .smem S1 .f32) (harg4 : arg4.IsWhole) (arg5 : Memref sig .tc .vmem S256x6144 .i8) (harg5 : arg5.IsWhole) (arg6 : Memref sig .tc .vmem S256x768 .fp8e4m3) (harg6 : arg6.IsWhole) (arg7 : Memref sig .tc .vmem S256x1280 .fp8e5m2) (harg7 : arg7.IsWhole) (arg8 : Memref sig .tc .vmem S256x1280 .fp8e5m2) (harg8 : arg8.IsWhole) (arg9 : Memref sig .tc .vmem S2x128 .f32) (harg9 : arg9.IsWhole) (arg10 : Memref sig .tc .vmem S2x128 .f32) (harg10 : arg10.IsWhole) (arg11 : Memref sig .tc .vmem S2x128 .f32) (harg11 : arg11.IsWhole) (arg12 : Memref sig .tc .vmem S2x128 .f32) (harg12 : arg12.IsWhole) (arg13 : Memref sig .tc .vmem S256x32000 .f32) (harg13 : arg13.IsWhole) (arg14 : Memref sig .tc .vmem S256x128 .f32) (harg14 : arg14.IsWhole) (arg15 : Memref sig .tc .vmem S256x128 .f32) (harg15 : arg15.IsWhole) (arg16 : Memref sig .tc .vmem S256x128 .f32) (harg16 : arg16.IsWhole) (arg17 : Memref sig .tc .vmem S256x128 .f32) (harg17 : arg17.IsWhole) (arg18 : Memref sig .tc .vmem S256x128 .f32) (harg18 : arg18.IsWhole) (arg19 : Memref sig .tc .vmem S256x128 .f32) (harg19 : arg19.IsWhole) (arg20 : Memref sig .tc .vmem S256x128 .f32) (harg20 : arg20.IsWhole) (hc0 : ¬cond0 i) (hc1 : ¬cond1 i) (hc2 : cond2 i) (hc3 : cond3 i) (hc4 : ¬cond4 i) (d1 : Vec F S256x6144 .fp8e4m3) (d2 : Vec F S256x6144 .fp8e4m3) (d3 : Vec F S256x1 .f32) (d4 : Vec F S1 .f32) (d5 : Vec F S256x6144 .i8) (d6 : Vec F S256x768 .fp8e4m3) (d7 : Vec F S256x1280 .fp8e5m2) (d8 : Vec F S256x1280 .fp8e5m2) (d9 : Vec F S2x128 .f32) (d10 : Vec F S2x128 .f32) (d11 : Vec F S2x128 .f32) (d12 : Vec F S2x128 .f32) (d13 : Vec F S256x32000 .f32) (d14 : Vec F S256x128 .f32) (d15 : Vec F S256x128 .f32) (d16 : Vec F S256x128 .f32) (d17 : Vec F S256x128 .f32) (d18 : Vec F S256x128 .f32) (d19 : Vec F S256x128 .f32) (d20 : Vec F S256x128 .f32) (hz : ZIn i) :
    (runC c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 hc2 hc3 hc4 d1 d2 d3 d4 d5 d6 d7 d8 d9 d10 d11 d12 d13 d14 d15 d16 d17 d18 d19 d20).2.2.1 = [⟨full2, k0_pay5 (k0_pay129 (View.ld (arg14.view.read (Elt F) (harg14.unread d14)) fullR) (View.ld (arg15.view.read (Elt F) (harg15.unread d15)) fullR)) (k0_pay130 (View.ld (arg14.view.read (Elt F) (harg14.unread d14)) fullR) (View.ld (arg15.view.read (Elt F) (harg15.unread d15)) fullR))⟩] := by
  unfold runC; dsimp only; sl_unfold_words
  sl_kernel_rfl

set_option maxHeartbeats 8000000 in
theorem runC_lset (c : Dev nD) (i : grid0.Coords) (arg1 : Memref sig .tc .vmem S256x6144 .fp8e4m3) (harg1 : arg1.IsWhole) (arg2 : Memref sig .tc .vmem S256x6144 .fp8e4m3) (harg2 : arg2.IsWhole) (arg3 : Memref sig .tc .vmem S256x1 .f32) (harg3 : arg3.IsWhole) (arg4 : Memref sig .tc .smem S1 .f32) (harg4 : arg4.IsWhole) (arg5 : Memref sig .tc .vmem S256x6144 .i8) (harg5 : arg5.IsWhole) (arg6 : Memref sig .tc .vmem S256x768 .fp8e4m3) (harg6 : arg6.IsWhole) (arg7 : Memref sig .tc .vmem S256x1280 .fp8e5m2) (harg7 : arg7.IsWhole) (arg8 : Memref sig .tc .vmem S256x1280 .fp8e5m2) (harg8 : arg8.IsWhole) (arg9 : Memref sig .tc .vmem S2x128 .f32) (harg9 : arg9.IsWhole) (arg10 : Memref sig .tc .vmem S2x128 .f32) (harg10 : arg10.IsWhole) (arg11 : Memref sig .tc .vmem S2x128 .f32) (harg11 : arg11.IsWhole) (arg12 : Memref sig .tc .vmem S2x128 .f32) (harg12 : arg12.IsWhole) (arg13 : Memref sig .tc .vmem S256x32000 .f32) (harg13 : arg13.IsWhole) (arg14 : Memref sig .tc .vmem S256x128 .f32) (harg14 : arg14.IsWhole) (arg15 : Memref sig .tc .vmem S256x128 .f32) (harg15 : arg15.IsWhole) (arg16 : Memref sig .tc .vmem S256x128 .f32) (harg16 : arg16.IsWhole) (arg17 : Memref sig .tc .vmem S256x128 .f32) (harg17 : arg17.IsWhole) (arg18 : Memref sig .tc .vmem S256x128 .f32) (harg18 : arg18.IsWhole) (arg19 : Memref sig .tc .vmem S256x128 .f32) (harg19 : arg19.IsWhole) (arg20 : Memref sig .tc .vmem S256x128 .f32) (harg20 : arg20.IsWhole) (hc0 : ¬cond0 i) (hc1 : ¬cond1 i) (hc2 : cond2 i) (hc3 : cond3 i) (hc4 : ¬cond4 i) (d1 : Vec F S256x6144 .fp8e4m3) (d2 : Vec F S256x6144 .fp8e4m3) (d3 : Vec F S256x1 .f32) (d4 : Vec F S1 .f32) (d5 : Vec F S256x6144 .i8) (d6 : Vec F S256x768 .fp8e4m3) (d7 : Vec F S256x1280 .fp8e5m2) (d8 : Vec F S256x1280 .fp8e5m2) (d9 : Vec F S2x128 .f32) (d10 : Vec F S2x128 .f32) (d11 : Vec F S2x128 .f32) (d12 : Vec F S2x128 .f32) (d13 : Vec F S256x32000 .f32) (d14 : Vec F S256x128 .f32) (d15 : Vec F S256x128 .f32) (d16 : Vec F S256x128 .f32) (d17 : Vec F S256x128 .f32) (d18 : Vec F S256x128 .f32) (d19 : Vec F S256x128 .f32) (d20 : Vec F S256x128 .f32) (hz : ZIn i) :
    (runC c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 hc2 hc3 hc4 d1 d2 d3 d4 d5 d6 d7 d8 d9 d10 d11 d12 d13 d14 d15 d16 d17 d18 d19 d20).2.2.2.1 = [⟨full2, k0_pay6 (k0_pay126 (View.ld (arg14.view.read (Elt F) (harg14.unread d14)) fullR) (View.ld (arg16.view.read (Elt F) (harg16.unread d16)) fullR))⟩] := by
  unfold runC; dsimp only; sl_unfold_words
  sl_kernel_rfl

set_option maxHeartbeats 8000000 in
theorem runD_c1 (c : Dev nD) (i : grid0.Coords) (arg1 : Memref sig .tc .vmem S256x6144 .fp8e4m3) (harg1 : arg1.IsWhole) (arg2 : Memref sig .tc .vmem S256x6144 .fp8e4m3) (harg2 : arg2.IsWhole) (arg3 : Memref sig .tc .vmem S256x1 .f32) (harg3 : arg3.IsWhole) (arg4 : Memref sig .tc .smem S1 .f32) (harg4 : arg4.IsWhole) (arg5 : Memref sig .tc .vmem S256x6144 .i8) (harg5 : arg5.IsWhole) (arg6 : Memref sig .tc .vmem S256x768 .fp8e4m3) (harg6 : arg6.IsWhole) (arg7 : Memref sig .tc .vmem S256x1280 .fp8e5m2) (harg7 : arg7.IsWhole) (arg8 : Memref sig .tc .vmem S256x1280 .fp8e5m2) (harg8 : arg8.IsWhole) (arg9 : Memref sig .tc .vmem S2x128 .f32) (harg9 : arg9.IsWhole) (arg10 : Memref sig .tc .vmem S2x128 .f32) (harg10 : arg10.IsWhole) (arg11 : Memref sig .tc .vmem S2x128 .f32) (harg11 : arg11.IsWhole) (arg12 : Memref sig .tc .vmem S2x128 .f32) (harg12 : arg12.IsWhole) (arg13 : Memref sig .tc .vmem S256x32000 .f32) (harg13 : arg13.IsWhole) (arg14 : Memref sig .tc .vmem S256x128 .f32) (harg14 : arg14.IsWhole) (arg15 : Memref sig .tc .vmem S256x128 .f32) (harg15 : arg15.IsWhole) (arg16 : Memref sig .tc .vmem S256x128 .f32) (harg16 : arg16.IsWhole) (arg17 : Memref sig .tc .vmem S256x128 .f32) (harg17 : arg17.IsWhole) (arg18 : Memref sig .tc .vmem S256x128 .f32) (harg18 : arg18.IsWhole) (arg19 : Memref sig .tc .vmem S256x128 .f32) (harg19 : arg19.IsWhole) (arg20 : Memref sig .tc .vmem S256x128 .f32) (harg20 : arg20.IsWhole) (hc0 : ¬cond0 i) (hc1 : ¬cond1 i) (hc2 : ¬cond2 i) (hc3 : cond3 i) (hc4 : ¬cond4 i) (d1 : Vec F S256x6144 .fp8e4m3) (d2 : Vec F S256x6144 .fp8e4m3) (d3 : Vec F S256x1 .f32) (d4 : Vec F S1 .f32) (d5 : Vec F S256x6144 .i8) (d6 : Vec F S256x768 .fp8e4m3) (d7 : Vec F S256x1280 .fp8e5m2) (d8 : Vec F S256x1280 .fp8e5m2) (d9 : Vec F S2x128 .f32) (d10 : Vec F S2x128 .f32) (d11 : Vec F S2x128 .f32) (d12 : Vec F S2x128 .f32) (d13 : Vec F S256x32000 .f32) (d14 : Vec F S256x128 .f32) (d15 : Vec F S256x128 .f32) (d16 : Vec F S256x128 .f32) (d17 : Vec F S256x128 .f32) (d18 : Vec F S256x128 .f32) (d19 : Vec F S256x128 .f32) (d20 : Vec F S256x128 .f32) (hz : ZIn i) :
    (runD c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 hc2 hc3 hc4 d1 d2 d3 d4 d5 d6 d7 d8 d9 d10 d11 d12 d13 d14 d15 d16 d17 d18 d19 d20).1 = codeP k0_pay132 (fun r => View.ld (arg17.view.read (Elt F) (harg17.unread d17)) (rowR r)) (fun r j => View.ld (arg13.view.read (Elt F) (harg13.unread d13)) (Rect.unit (zoff i r j) S32x128.size (hz r j))) := by
  unfold runD; dsimp only; sl_unfold_words
  sl_kernel_rfl

set_option maxHeartbeats 8000000 in
theorem runD_c2 (c : Dev nD) (i : grid0.Coords) (arg1 : Memref sig .tc .vmem S256x6144 .fp8e4m3) (harg1 : arg1.IsWhole) (arg2 : Memref sig .tc .vmem S256x6144 .fp8e4m3) (harg2 : arg2.IsWhole) (arg3 : Memref sig .tc .vmem S256x1 .f32) (harg3 : arg3.IsWhole) (arg4 : Memref sig .tc .smem S1 .f32) (harg4 : arg4.IsWhole) (arg5 : Memref sig .tc .vmem S256x6144 .i8) (harg5 : arg5.IsWhole) (arg6 : Memref sig .tc .vmem S256x768 .fp8e4m3) (harg6 : arg6.IsWhole) (arg7 : Memref sig .tc .vmem S256x1280 .fp8e5m2) (harg7 : arg7.IsWhole) (arg8 : Memref sig .tc .vmem S256x1280 .fp8e5m2) (harg8 : arg8.IsWhole) (arg9 : Memref sig .tc .vmem S2x128 .f32) (harg9 : arg9.IsWhole) (arg10 : Memref sig .tc .vmem S2x128 .f32) (harg10 : arg10.IsWhole) (arg11 : Memref sig .tc .vmem S2x128 .f32) (harg11 : arg11.IsWhole) (arg12 : Memref sig .tc .vmem S2x128 .f32) (harg12 : arg12.IsWhole) (arg13 : Memref sig .tc .vmem S256x32000 .f32) (harg13 : arg13.IsWhole) (arg14 : Memref sig .tc .vmem S256x128 .f32) (harg14 : arg14.IsWhole) (arg15 : Memref sig .tc .vmem S256x128 .f32) (harg15 : arg15.IsWhole) (arg16 : Memref sig .tc .vmem S256x128 .f32) (harg16 : arg16.IsWhole) (arg17 : Memref sig .tc .vmem S256x128 .f32) (harg17 : arg17.IsWhole) (arg18 : Memref sig .tc .vmem S256x128 .f32) (harg18 : arg18.IsWhole) (arg19 : Memref sig .tc .vmem S256x128 .f32) (harg19 : arg19.IsWhole) (arg20 : Memref sig .tc .vmem S256x128 .f32) (harg20 : arg20.IsWhole) (hc0 : ¬cond0 i) (hc1 : ¬cond1 i) (hc2 : ¬cond2 i) (hc3 : cond3 i) (hc4 : ¬cond4 i) (d1 : Vec F S256x6144 .fp8e4m3) (d2 : Vec F S256x6144 .fp8e4m3) (d3 : Vec F S256x1 .f32) (d4 : Vec F S1 .f32) (d5 : Vec F S256x6144 .i8) (d6 : Vec F S256x768 .fp8e4m3) (d7 : Vec F S256x1280 .fp8e5m2) (d8 : Vec F S256x1280 .fp8e5m2) (d9 : Vec F S2x128 .f32) (d10 : Vec F S2x128 .f32) (d11 : Vec F S2x128 .f32) (d12 : Vec F S2x128 .f32) (d13 : Vec F S256x32000 .f32) (d14 : Vec F S256x128 .f32) (d15 : Vec F S256x128 .f32) (d16 : Vec F S256x128 .f32) (d17 : Vec F S256x128 .f32) (d18 : Vec F S256x128 .f32) (d19 : Vec F S256x128 .f32) (d20 : Vec F S256x128 .f32) (hz : ZIn i) :
    (runD c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 hc2 hc3 hc4 d1 d2 d3 d4 d5 d6 d7 d8 d9 d10 d11 d12 d13 d14 d15 d16 d17 d18 d19 d20).2.1 = codeP k0_pay134 (fun r => View.ld (arg18.view.read (Elt F) (harg18.unread d18)) (rowR r)) (fun r j => View.ld (arg13.view.read (Elt F) (harg13.unread d13)) (Rect.unit (zoff i r j) S32x128.size (hz r j))) := by
  unfold runD; dsimp only; sl_unfold_words
  sl_kernel_rfl

set_option maxHeartbeats 8000000 in
theorem runD_e1 (c : Dev nD) (i : grid0.Coords) (arg1 : Memref sig .tc .vmem S256x6144 .fp8e4m3) (harg1 : arg1.IsWhole) (arg2 : Memref sig .tc .vmem S256x6144 .fp8e4m3) (harg2 : arg2.IsWhole) (arg3 : Memref sig .tc .vmem S256x1 .f32) (harg3 : arg3.IsWhole) (arg4 : Memref sig .tc .smem S1 .f32) (harg4 : arg4.IsWhole) (arg5 : Memref sig .tc .vmem S256x6144 .i8) (harg5 : arg5.IsWhole) (arg6 : Memref sig .tc .vmem S256x768 .fp8e4m3) (harg6 : arg6.IsWhole) (arg7 : Memref sig .tc .vmem S256x1280 .fp8e5m2) (harg7 : arg7.IsWhole) (arg8 : Memref sig .tc .vmem S256x1280 .fp8e5m2) (harg8 : arg8.IsWhole) (arg9 : Memref sig .tc .vmem S2x128 .f32) (harg9 : arg9.IsWhole) (arg10 : Memref sig .tc .vmem S2x128 .f32) (harg10 : arg10.IsWhole) (arg11 : Memref sig .tc .vmem S2x128 .f32) (harg11 : arg11.IsWhole) (arg12 : Memref sig .tc .vmem S2x128 .f32) (harg12 : arg12.IsWhole) (arg13 : Memref sig .tc .vmem S256x32000 .f32) (harg13 : arg13.IsWhole) (arg14 : Memref sig .tc .vmem S256x128 .f32) (harg14 : arg14.IsWhole) (arg15 : Memref sig .tc .vmem S256x128 .f32) (harg15 : arg15.IsWhole) (arg16 : Memref sig .tc .vmem S256x128 .f32) (harg16 : arg16.IsWhole) (arg17 : Memref sig .tc .vmem S256x128 .f32) (harg17 : arg17.IsWhole) (arg18 : Memref sig .tc .vmem S256x128 .f32) (harg18 : arg18.IsWhole) (arg19 : Memref sig .tc .vmem S256x128 .f32) (harg19 : arg19.IsWhole) (arg20 : Memref sig .tc .vmem S256x128 .f32) (harg20 : arg20.IsWhole) (hc0 : ¬cond0 i) (hc1 : ¬cond1 i) (hc2 : ¬cond2 i) (hc3 : cond3 i) (hc4 : ¬cond4 i) (d1 : Vec F S256x6144 .fp8e4m3) (d2 : Vec F S256x6144 .fp8e4m3) (d3 : Vec F S256x1 .f32) (d4 : Vec F S1 .f32) (d5 : Vec F S256x6144 .i8) (d6 : Vec F S256x768 .fp8e4m3) (d7 : Vec F S256x1280 .fp8e5m2) (d8 : Vec F S256x1280 .fp8e5m2) (d9 : Vec F S2x128 .f32) (d10 : Vec F S2x128 .f32) (d11 : Vec F S2x128 .f32) (d12 : Vec F S2x128 .f32) (d13 : Vec F S256x32000 .f32) (d14 : Vec F S256x128 .f32) (d15 : Vec F S256x128 .f32) (d16 : Vec F S256x128 .f32) (d17 : Vec F S256x128 .f32) (d18 : Vec F S256x128 .f32) (d19 : Vec F S256x128 .f32) (d20 : Vec F S256x128 .f32) (hz : ZIn i) :
    (runD c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 hc2 hc3 hc4 d1 d2 d3 d4 d5 d6 d7 d8 d9 d10 d11 d12 d13 d14 d15 d16 d17 d18 d19 d20).2.2.1 = errP k0_pay135 (fun r => View.ld (arg17.view.read (Elt F) (harg17.unread d17)) (rowR r)) (fun r => View.ld (arg19.view.read (Elt F) (harg19.unread d19)) (rowR r)) (fun r j => View.ld (arg13.view.read (Elt F) (harg13.unread d13)) (Rect.unit (zoff i r j) S32x128.size (hz r j))) := by
  unfold runD; dsimp only; sl_unfold_words
  sl_kernel_rfl

set_option maxHeartbeats 8000000 in
theorem runD_e2 (c : Dev nD) (i : grid0.Coords) (arg1 : Memref sig .tc .vmem S256x6144 .fp8e4m3) (harg1 : arg1.IsWhole) (arg2 : Memref sig .tc .vmem S256x6144 .fp8e4m3) (harg2 : arg2.IsWhole) (arg3 : Memref sig .tc .vmem S256x1 .f32) (harg3 : arg3.IsWhole) (arg4 : Memref sig .tc .smem S1 .f32) (harg4 : arg4.IsWhole) (arg5 : Memref sig .tc .vmem S256x6144 .i8) (harg5 : arg5.IsWhole) (arg6 : Memref sig .tc .vmem S256x768 .fp8e4m3) (harg6 : arg6.IsWhole) (arg7 : Memref sig .tc .vmem S256x1280 .fp8e5m2) (harg7 : arg7.IsWhole) (arg8 : Memref sig .tc .vmem S256x1280 .fp8e5m2) (harg8 : arg8.IsWhole) (arg9 : Memref sig .tc .vmem S2x128 .f32) (harg9 : arg9.IsWhole) (arg10 : Memref sig .tc .vmem S2x128 .f32) (harg10 : arg10.IsWhole) (arg11 : Memref sig .tc .vmem S2x128 .f32) (harg11 : arg11.IsWhole) (arg12 : Memref sig .tc .vmem S2x128 .f32) (harg12 : arg12.IsWhole) (arg13 : Memref sig .tc .vmem S256x32000 .f32) (harg13 : arg13.IsWhole) (arg14 : Memref sig .tc .vmem S256x128 .f32) (harg14 : arg14.IsWhole) (arg15 : Memref sig .tc .vmem S256x128 .f32) (harg15 : arg15.IsWhole) (arg16 : Memref sig .tc .vmem S256x128 .f32) (harg16 : arg16.IsWhole) (arg17 : Memref sig .tc .vmem S256x128 .f32) (harg17 : arg17.IsWhole) (arg18 : Memref sig .tc .vmem S256x128 .f32) (harg18 : arg18.IsWhole) (arg19 : Memref sig .tc .vmem S256x128 .f32) (harg19 : arg19.IsWhole) (arg20 : Memref sig .tc .vmem S256x128 .f32) (harg20 : arg20.IsWhole) (hc0 : ¬cond0 i) (hc1 : ¬cond1 i) (hc2 : ¬cond2 i) (hc3 : cond3 i) (hc4 : ¬cond4 i) (d1 : Vec F S256x6144 .fp8e4m3) (d2 : Vec F S256x6144 .fp8e4m3) (d3 : Vec F S256x1 .f32) (d4 : Vec F S1 .f32) (d5 : Vec F S256x6144 .i8) (d6 : Vec F S256x768 .fp8e4m3) (d7 : Vec F S256x1280 .fp8e5m2) (d8 : Vec F S256x1280 .fp8e5m2) (d9 : Vec F S2x128 .f32) (d10 : Vec F S2x128 .f32) (d11 : Vec F S2x128 .f32) (d12 : Vec F S2x128 .f32) (d13 : Vec F S256x32000 .f32) (d14 : Vec F S256x128 .f32) (d15 : Vec F S256x128 .f32) (d16 : Vec F S256x128 .f32) (d17 : Vec F S256x128 .f32) (d18 : Vec F S256x128 .f32) (d19 : Vec F S256x128 .f32) (d20 : Vec F S256x128 .f32) (hz : ZIn i) :
    (runD c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 hc2 hc3 hc4 d1 d2 d3 d4 d5 d6 d7 d8 d9 d10 d11 d12 d13 d14 d15 d16 d17 d18 d19 d20).2.2.2.1 = errP k0_pay136 (fun r => View.ld (arg18.view.read (Elt F) (harg18.unread d18)) (rowR r)) (fun r => View.ld (arg20.view.read (Elt F) (harg20.unread d20)) (rowR r)) (fun r j => View.ld (arg13.view.read (Elt F) (harg13.unread d13)) (Rect.unit (zoff i r j) S32x128.size (hz r j))) := by
  unfold runD; dsimp only; sl_unfold_words
  sl_kernel_rfl

set_option maxHeartbeats 8000000 in
theorem runE_c1 (c : Dev nD) (i : grid0.Coords) (arg1 : Memref sig .tc .vmem S256x6144 .fp8e4m3) (harg1 : arg1.IsWhole) (arg2 : Memref sig .tc .vmem S256x6144 .fp8e4m3) (harg2 : arg2.IsWhole) (arg3 : Memref sig .tc .vmem S256x1 .f32) (harg3 : arg3.IsWhole) (arg4 : Memref sig .tc .smem S1 .f32) (harg4 : arg4.IsWhole) (arg5 : Memref sig .tc .vmem S256x6144 .i8) (harg5 : arg5.IsWhole) (arg6 : Memref sig .tc .vmem S256x768 .fp8e4m3) (harg6 : arg6.IsWhole) (arg7 : Memref sig .tc .vmem S256x1280 .fp8e5m2) (harg7 : arg7.IsWhole) (arg8 : Memref sig .tc .vmem S256x1280 .fp8e5m2) (harg8 : arg8.IsWhole) (arg9 : Memref sig .tc .vmem S2x128 .f32) (harg9 : arg9.IsWhole) (arg10 : Memref sig .tc .vmem S2x128 .f32) (harg10 : arg10.IsWhole) (arg11 : Memref sig .tc .vmem S2x128 .f32) (harg11 : arg11.IsWhole) (arg12 : Memref sig .tc .vmem S2x128 .f32) (harg12 : arg12.IsWhole) (arg13 : Memref sig .tc .vmem S256x32000 .f32) (harg13 : arg13.IsWhole) (arg14 : Memref sig .tc .vmem S256x128 .f32) (harg14 : arg14.IsWhole) (arg15 : Memref sig .tc .vmem S256x128 .f32) (harg15 : arg15.IsWhole) (arg16 : Memref sig .tc .vmem S256x128 .f32) (harg16 : arg16.IsWhole) (arg17 : Memref sig .tc .vmem S256x128 .f32) (harg17 : arg17.IsWhole) (arg18 : Memref sig .tc .vmem S256x128 .f32) (harg18 : arg18.IsWhole) (arg19 : Memref sig .tc .vmem S256x128 .f32) (harg19 : arg19.IsWhole) (arg20 : Memref sig .tc .vmem S256x128 .f32) (harg20 : arg20.IsWhole) (hc0 : ¬cond0 i) (hc1 : ¬cond1 i) (hc2 : ¬cond2 i) (hc3 : cond3 i) (hc4 : cond4 i) (d1 : Vec F S256x6144 .fp8e4m3) (d2 : Vec F S256x6144 .fp8e4m3) (d3 : Vec F S256x1 .f32) (d4 : Vec F S1 .f32) (d5 : Vec F S256x6144 .i8) (d6 : Vec F S256x768 .fp8e4m3) (d7 : Vec F S256x1280 .fp8e5m2) (d8 : Vec F S256x1280 .fp8e5m2) (d9 : Vec F S2x128 .f32) (d10 : Vec F S2x128 .f32) (d11 : Vec F S2x128 .f32) (d12 : Vec F S2x128 .f32) (d13 : Vec F S256x32000 .f32) (d14 : Vec F S256x128 .f32) (d15 : Vec F S256x128 .f32) (d16 : Vec F S256x128 .f32) (d17 : Vec F S256x128 .f32) (d18 : Vec F S256x128 .f32) (d19 : Vec F S256x128 .f32) (d20 : Vec F S256x128 .f32) (hz : ZIn i) :
    (runE c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 hc2 hc3 hc4 d1 d2 d3 d4 d5 d6 d7 d8 d9 d10 d11 d12 d13 d14 d15 d16 d17 d18 d19 d20).1 = codeP k0_pay132 (fun r => View.ld (arg17.view.read (Elt F) (harg17.unread d17)) (rowR r)) (fun r j => View.ld (arg13.view.read (Elt F) (harg13.unread d13)) (Rect.unit (zoff i r j) S32x128.size (hz r j))) := by
  unfold runE; dsimp only; sl_unfold_words
  sl_kernel_rfl

set_option maxHeartbeats 8000000 in
theorem runE_c2 (c : Dev nD) (i : grid0.Coords) (arg1 : Memref sig .tc .vmem S256x6144 .fp8e4m3) (harg1 : arg1.IsWhole) (arg2 : Memref sig .tc .vmem S256x6144 .fp8e4m3) (harg2 : arg2.IsWhole) (arg3 : Memref sig .tc .vmem S256x1 .f32) (harg3 : arg3.IsWhole) (arg4 : Memref sig .tc .smem S1 .f32) (harg4 : arg4.IsWhole) (arg5 : Memref sig .tc .vmem S256x6144 .i8) (harg5 : arg5.IsWhole) (arg6 : Memref sig .tc .vmem S256x768 .fp8e4m3) (harg6 : arg6.IsWhole) (arg7 : Memref sig .tc .vmem S256x1280 .fp8e5m2) (harg7 : arg7.IsWhole) (arg8 : Memref sig .tc .vmem S256x1280 .fp8e5m2) (harg8 : arg8.IsWhole) (arg9 : Memref sig .tc .vmem S2x128 .f32) (harg9 : arg9.IsWhole) (arg10 : Memref sig .tc .vmem S2x128 .f32) (harg10 : arg10.IsWhole) (arg11 : Memref sig .tc .vmem S2x128 .f32) (harg11 : arg11.IsWhole) (arg12 : Memref sig .tc .vmem S2x128 .f32) (harg12 : arg12.IsWhole) (arg13 : Memref sig .tc .vmem S256x32000 .f32) (harg13 : arg13.IsWhole) (arg14 : Memref sig .tc .vmem S256x128 .f32) (harg14 : arg14.IsWhole) (arg15 : Memref sig .tc .vmem S256x128 .f32) (harg15 : arg15.IsWhole) (arg16 : Memref sig .tc .vmem S256x128 .f32) (harg16 : arg16.IsWhole) (arg17 : Memref sig .tc .vmem S256x128 .f32) (harg17 : arg17.IsWhole) (arg18 : Memref sig .tc .vmem S256x128 .f32) (harg18 : arg18.IsWhole) (arg19 : Memref sig .tc .vmem S256x128 .f32) (harg19 : arg19.IsWhole) (arg20 : Memref sig .tc .vmem S256x128 .f32) (harg20 : arg20.IsWhole) (hc0 : ¬cond0 i) (hc1 : ¬cond1 i) (hc2 : ¬cond2 i) (hc3 : cond3 i) (hc4 : cond4 i) (d1 : Vec F S256x6144 .fp8e4m3) (d2 : Vec F S256x6144 .fp8e4m3) (d3 : Vec F S256x1 .f32) (d4 : Vec F S1 .f32) (d5 : Vec F S256x6144 .i8) (d6 : Vec F S256x768 .fp8e4m3) (d7 : Vec F S256x1280 .fp8e5m2) (d8 : Vec F S256x1280 .fp8e5m2) (d9 : Vec F S2x128 .f32) (d10 : Vec F S2x128 .f32) (d11 : Vec F S2x128 .f32) (d12 : Vec F S2x128 .f32) (d13 : Vec F S256x32000 .f32) (d14 : Vec F S256x128 .f32) (d15 : Vec F S256x128 .f32) (d16 : Vec F S256x128 .f32) (d17 : Vec F S256x128 .f32) (d18 : Vec F S256x128 .f32) (d19 : Vec F S256x128 .f32) (d20 : Vec F S256x128 .f32) (hz : ZIn i) :
    (runE c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 hc2 hc3 hc4 d1 d2 d3 d4 d5 d6 d7 d8 d9 d10 d11 d12 d13 d14 d15 d16 d17 d18 d19 d20).2.1 = codeP k0_pay134 (fun r => View.ld (arg18.view.read (Elt F) (harg18.unread d18)) (rowR r)) (fun r j => View.ld (arg13.view.read (Elt F) (harg13.unread d13)) (Rect.unit (zoff i r j) S32x128.size (hz r j))) := by
  unfold runE; dsimp only; sl_unfold_words
  sl_kernel_rfl

set_option maxHeartbeats 8000000 in
theorem runE_e1 (c : Dev nD) (i : grid0.Coords) (arg1 : Memref sig .tc .vmem S256x6144 .fp8e4m3) (harg1 : arg1.IsWhole) (arg2 : Memref sig .tc .vmem S256x6144 .fp8e4m3) (harg2 : arg2.IsWhole) (arg3 : Memref sig .tc .vmem S256x1 .f32) (harg3 : arg3.IsWhole) (arg4 : Memref sig .tc .smem S1 .f32) (harg4 : arg4.IsWhole) (arg5 : Memref sig .tc .vmem S256x6144 .i8) (harg5 : arg5.IsWhole) (arg6 : Memref sig .tc .vmem S256x768 .fp8e4m3) (harg6 : arg6.IsWhole) (arg7 : Memref sig .tc .vmem S256x1280 .fp8e5m2) (harg7 : arg7.IsWhole) (arg8 : Memref sig .tc .vmem S256x1280 .fp8e5m2) (harg8 : arg8.IsWhole) (arg9 : Memref sig .tc .vmem S2x128 .f32) (harg9 : arg9.IsWhole) (arg10 : Memref sig .tc .vmem S2x128 .f32) (harg10 : arg10.IsWhole) (arg11 : Memref sig .tc .vmem S2x128 .f32) (harg11 : arg11.IsWhole) (arg12 : Memref sig .tc .vmem S2x128 .f32) (harg12 : arg12.IsWhole) (arg13 : Memref sig .tc .vmem S256x32000 .f32) (harg13 : arg13.IsWhole) (arg14 : Memref sig .tc .vmem S256x128 .f32) (harg14 : arg14.IsWhole) (arg15 : Memref sig .tc .vmem S256x128 .f32) (harg15 : arg15.IsWhole) (arg16 : Memref sig .tc .vmem S256x128 .f32) (harg16 : arg16.IsWhole) (arg17 : Memref sig .tc .vmem S256x128 .f32) (harg17 : arg17.IsWhole) (arg18 : Memref sig .tc .vmem S256x128 .f32) (harg18 : arg18.IsWhole) (arg19 : Memref sig .tc .vmem S256x128 .f32) (harg19 : arg19.IsWhole) (arg20 : Memref sig .tc .vmem S256x128 .f32) (harg20 : arg20.IsWhole) (hc0 : ¬cond0 i) (hc1 : ¬cond1 i) (hc2 : ¬cond2 i) (hc3 : cond3 i) (hc4 : cond4 i) (d1 : Vec F S256x6144 .fp8e4m3) (d2 : Vec F S256x6144 .fp8e4m3) (d3 : Vec F S256x1 .f32) (d4 : Vec F S1 .f32) (d5 : Vec F S256x6144 .i8) (d6 : Vec F S256x768 .fp8e4m3) (d7 : Vec F S256x1280 .fp8e5m2) (d8 : Vec F S256x1280 .fp8e5m2) (d9 : Vec F S2x128 .f32) (d10 : Vec F S2x128 .f32) (d11 : Vec F S2x128 .f32) (d12 : Vec F S2x128 .f32) (d13 : Vec F S256x32000 .f32) (d14 : Vec F S256x128 .f32) (d15 : Vec F S256x128 .f32) (d16 : Vec F S256x128 .f32) (d17 : Vec F S256x128 .f32) (d18 : Vec F S256x128 .f32) (d19 : Vec F S256x128 .f32) (d20 : Vec F S256x128 .f32) (hz : ZIn i) :
    (runE c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 hc2 hc3 hc4 d1 d2 d3 d4 d5 d6 d7 d8 d9 d10 d11 d12 d13 d14 d15 d16 d17 d18 d19 d20).2.2.2.2.1 = errP k0_pay135 (fun r => View.ld (arg17.view.read (Elt F) (harg17.unread d17)) (rowR r)) (fun r => View.ld (arg19.view.read (Elt F) (harg19.unread d19)) (rowR r)) (fun r j => View.ld (arg13.view.read (Elt F) (harg13.unread d13)) (Rect.unit (zoff i r j) S32x128.size (hz r j))) := by
  unfold runE; dsimp only; sl_unfold_words
  sl_kernel_rfl

set_option maxHeartbeats 8000000 in
theorem runE_e2 (c : Dev nD) (i : grid0.Coords) (arg1 : Memref sig .tc .vmem S256x6144 .fp8e4m3) (harg1 : arg1.IsWhole) (arg2 : Memref sig .tc .vmem S256x6144 .fp8e4m3) (harg2 : arg2.IsWhole) (arg3 : Memref sig .tc .vmem S256x1 .f32) (harg3 : arg3.IsWhole) (arg4 : Memref sig .tc .smem S1 .f32) (harg4 : arg4.IsWhole) (arg5 : Memref sig .tc .vmem S256x6144 .i8) (harg5 : arg5.IsWhole) (arg6 : Memref sig .tc .vmem S256x768 .fp8e4m3) (harg6 : arg6.IsWhole) (arg7 : Memref sig .tc .vmem S256x1280 .fp8e5m2) (harg7 : arg7.IsWhole) (arg8 : Memref sig .tc .vmem S256x1280 .fp8e5m2) (harg8 : arg8.IsWhole) (arg9 : Memref sig .tc .vmem S2x128 .f32) (harg9 : arg9.IsWhole) (arg10 : Memref sig .tc .vmem S2x128 .f32) (harg10 : arg10.IsWhole) (arg11 : Memref sig .tc .vmem S2x128 .f32) (harg11 : arg11.IsWhole) (arg12 : Memref sig .tc .vmem S2x128 .f32) (harg12 : arg12.IsWhole) (arg13 : Memref sig .tc .vmem S256x32000 .f32) (harg13 : arg13.IsWhole) (arg14 : Memref sig .tc .vmem S256x128 .f32) (harg14 : arg14.IsWhole) (arg15 : Memref sig .tc .vmem S256x128 .f32) (harg15 : arg15.IsWhole) (arg16 : Memref sig .tc .vmem S256x128 .f32) (harg16 : arg16.IsWhole) (arg17 : Memref sig .tc .vmem S256x128 .f32) (harg17 : arg17.IsWhole) (arg18 : Memref sig .tc .vmem S256x128 .f32) (harg18 : arg18.IsWhole) (arg19 : Memref sig .tc .vmem S256x128 .f32) (harg19 : arg19.IsWhole) (arg20 : Memref sig .tc .vmem S256x128 .f32) (harg20 : arg20.IsWhole) (hc0 : ¬cond0 i) (hc1 : ¬cond1 i) (hc2 : ¬cond2 i) (hc3 : cond3 i) (hc4 : cond4 i) (d1 : Vec F S256x6144 .fp8e4m3) (d2 : Vec F S256x6144 .fp8e4m3) (d3 : Vec F S256x1 .f32) (d4 : Vec F S1 .f32) (d5 : Vec F S256x6144 .i8) (d6 : Vec F S256x768 .fp8e4m3) (d7 : Vec F S256x1280 .fp8e5m2) (d8 : Vec F S256x1280 .fp8e5m2) (d9 : Vec F S2x128 .f32) (d10 : Vec F S2x128 .f32) (d11 : Vec F S2x128 .f32) (d12 : Vec F S2x128 .f32) (d13 : Vec F S256x32000 .f32) (d14 : Vec F S256x128 .f32) (d15 : Vec F S256x128 .f32) (d16 : Vec F S256x128 .f32) (d17 : Vec F S256x128 .f32) (d18 : Vec F S256x128 .f32) (d19 : Vec F S256x128 .f32) (d20 : Vec F S256x128 .f32) (hz : ZIn i) :
    (runE c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 hc2 hc3 hc4 d1 d2 d3 d4 d5 d6 d7 d8 d9 d10 d11 d12 d13 d14 d15 d16 d17 d18 d19 d20).2.2.2.2.2.1 = errP k0_pay136 (fun r => View.ld (arg18.view.read (Elt F) (harg18.unread d18)) (rowR r)) (fun r => View.ld (arg20.view.read (Elt F) (harg20.unread d20)) (rowR r)) (fun r j => View.ld (arg13.view.read (Elt F) (harg13.unread d13)) (Rect.unit (zoff i r j) S32x128.size (hz r j))) := by
  unfold runE; dsimp only; sl_unfold_words
  sl_kernel_rfl

set_option maxHeartbeats 8000000 in
theorem runE_err (c : Dev nD) (i : grid0.Coords) (arg1 : Memref sig .tc .vmem S256x6144 .fp8e4m3) (harg1 : arg1.IsWhole) (arg2 : Memref sig .tc .vmem S256x6144 .fp8e4m3) (harg2 : arg2.IsWhole) (arg3 : Memref sig .tc .vmem S256x1 .f32) (harg3 : arg3.IsWhole) (arg4 : Memref sig .tc .smem S1 .f32) (harg4 : arg4.IsWhole) (arg5 : Memref sig .tc .vmem S256x6144 .i8) (harg5 : arg5.IsWhole) (arg6 : Memref sig .tc .vmem S256x768 .fp8e4m3) (harg6 : arg6.IsWhole) (arg7 : Memref sig .tc .vmem S256x1280 .fp8e5m2) (harg7 : arg7.IsWhole) (arg8 : Memref sig .tc .vmem S256x1280 .fp8e5m2) (harg8 : arg8.IsWhole) (arg9 : Memref sig .tc .vmem S2x128 .f32) (harg9 : arg9.IsWhole) (arg10 : Memref sig .tc .vmem S2x128 .f32) (harg10 : arg10.IsWhole) (arg11 : Memref sig .tc .vmem S2x128 .f32) (harg11 : arg11.IsWhole) (arg12 : Memref sig .tc .vmem S2x128 .f32) (harg12 : arg12.IsWhole) (arg13 : Memref sig .tc .vmem S256x32000 .f32) (harg13 : arg13.IsWhole) (arg14 : Memref sig .tc .vmem S256x128 .f32) (harg14 : arg14.IsWhole) (arg15 : Memref sig .tc .vmem S256x128 .f32) (harg15 : arg15.IsWhole) (arg16 : Memref sig .tc .vmem S256x128 .f32) (harg16 : arg16.IsWhole) (arg17 : Memref sig .tc .vmem S256x128 .f32) (harg17 : arg17.IsWhole) (arg18 : Memref sig .tc .vmem S256x128 .f32) (harg18 : arg18.IsWhole) (arg19 : Memref sig .tc .vmem S256x128 .f32) (harg19 : arg19.IsWhole) (arg20 : Memref sig .tc .vmem S256x128 .f32) (harg20 : arg20.IsWhole) (hc0 : ¬cond0 i) (hc1 : ¬cond1 i) (hc2 : ¬cond2 i) (hc3 : cond3 i) (hc4 : cond4 i) (d1 : Vec F S256x6144 .fp8e4m3) (d2 : Vec F S256x6144 .fp8e4m3) (d3 : Vec F S256x1 .f32) (d4 : Vec F S1 .f32) (d5 : Vec F S256x6144 .i8) (d6 : Vec F S256x768 .fp8e4m3) (d7 : Vec F S256x1280 .fp8e5m2) (d8 : Vec F S256x1280 .fp8e5m2) (d9 : Vec F S2x128 .f32) (d10 : Vec F S2x128 .f32) (d11 : Vec F S2x128 .f32) (d12 : Vec F S2x128 .f32) (d13 : Vec F S256x32000 .f32) (d14 : Vec F S256x128 .f32) (d15 : Vec F S256x128 .f32) (d16 : Vec F S256x128 .f32) (d17 : Vec F S256x128 .f32) (d18 : Vec F S256x128 .f32) (d19 : Vec F S256x128 .f32) (d20 : Vec F S256x128 .f32) (hz : ZIn i) :
    (runE c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 hc2 hc3 hc4 d1 d2 d3 d4 d5 d6 d7 d8 d9 d10 d11 d12 d13 d14 d15 d16 d17 d18 d19 d20).2.2.1 = [⟨full2, k0_pay11 (View.readCov (Val := Elt F) arg19.view (errP k0_pay135 (fun r => View.ld (arg17.view.read (Elt F) (harg17.unread d17)) (rowR r)) (fun r => View.ld (arg19.view.read (Elt F) (harg19.unread d19)) (rowR r)) (fun r j => View.ld (arg13.view.read (Elt F) (harg13.unread d13)) (Rect.unit (zoff i r j) S32x128.size (hz r j)))) fullR.toLoadRect)⟩] := by
  unfold runE; dsimp only; sl_unfold_words
  sl_kernel_rfl

set_option maxHeartbeats 8000000 in
theorem runE_errt (c : Dev nD) (i : grid0.Coords) (arg1 : Memref sig .tc .vmem S256x6144 .fp8e4m3) (harg1 : arg1.IsWhole) (arg2 : Memref sig .tc .vmem S256x6144 .fp8e4m3) (harg2 : arg2.IsWhole) (arg3 : Memref sig .tc .vmem S256x1 .f32) (harg3 : arg3.IsWhole) (arg4 : Memref sig .tc .smem S1 .f32) (harg4 : arg4.IsWhole) (arg5 : Memref sig .tc .vmem S256x6144 .i8) (harg5 : arg5.IsWhole) (arg6 : Memref sig .tc .vmem S256x768 .fp8e4m3) (harg6 : arg6.IsWhole) (arg7 : Memref sig .tc .vmem S256x1280 .fp8e5m2) (harg7 : arg7.IsWhole) (arg8 : Memref sig .tc .vmem S256x1280 .fp8e5m2) (harg8 : arg8.IsWhole) (arg9 : Memref sig .tc .vmem S2x128 .f32) (harg9 : arg9.IsWhole) (arg10 : Memref sig .tc .vmem S2x128 .f32) (harg10 : arg10.IsWhole) (arg11 : Memref sig .tc .vmem S2x128 .f32) (harg11 : arg11.IsWhole) (arg12 : Memref sig .tc .vmem S2x128 .f32) (harg12 : arg12.IsWhole) (arg13 : Memref sig .tc .vmem S256x32000 .f32) (harg13 : arg13.IsWhole) (arg14 : Memref sig .tc .vmem S256x128 .f32) (harg14 : arg14.IsWhole) (arg15 : Memref sig .tc .vmem S256x128 .f32) (harg15 : arg15.IsWhole) (arg16 : Memref sig .tc .vmem S256x128 .f32) (harg16 : arg16.IsWhole) (arg17 : Memref sig .tc .vmem S256x128 .f32) (harg17 : arg17.IsWhole) (arg18 : Memref sig .tc .vmem S256x128 .f32) (harg18 : arg18.IsWhole) (arg19 : Memref sig .tc .vmem S256x128 .f32) (harg19 : arg19.IsWhole) (arg20 : Memref sig .tc .vmem S256x128 .f32) (harg20 : arg20.IsWhole) (hc0 : ¬cond0 i) (hc1 : ¬cond1 i) (hc2 : ¬cond2 i) (hc3 : cond3 i) (hc4 : cond4 i) (d1 : Vec F S256x6144 .fp8e4m3) (d2 : Vec F S256x6144 .fp8e4m3) (d3 : Vec F S256x1 .f32) (d4 : Vec F S1 .f32) (d5 : Vec F S256x6144 .i8) (d6 : Vec F S256x768 .fp8e4m3) (d7 : Vec F S256x1280 .fp8e5m2) (d8 : Vec F S256x1280 .fp8e5m2) (d9 : Vec F S2x128 .f32) (d10 : Vec F S2x128 .f32) (d11 : Vec F S2x128 .f32) (d12 : Vec F S2x128 .f32) (d13 : Vec F S256x32000 .f32) (d14 : Vec F S256x128 .f32) (d15 : Vec F S256x128 .f32) (d16 : Vec F S256x128 .f32) (d17 : Vec F S256x128 .f32) (d18 : Vec F S256x128 .f32) (d19 : Vec F S256x128 .f32) (d20 : Vec F S256x128 .f32) (hz : ZIn i) :
    (runE c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 hc2 hc3 hc4 d1 d2 d3 d4 d5 d6 d7 d8 d9 d10 d11 d12 d13 d14 d15 d16 d17 d18 d19 d20).2.2.2.1 = [⟨full2, k0_pay12 (View.readCov (Val := Elt F) arg20.view (errP k0_pay136 (fun r => View.ld (arg18.view.read (Elt F) (harg18.unread d18)) (rowR r)) (fun r => View.ld (arg20.view.read (Elt F) (harg20.unread d20)) (rowR r)) (fun r j => View.ld (arg13.view.read (Elt F) (harg13.unread d13)) (Rect.unit (zoff i r j) S32x128.size (hz r j)))) fullR.toLoadRect)⟩] := by
  unfold runE; dsimp only; sl_unfold_words
  sl_kernel_rfl

end Cert.KernelIdeal.Body

end
-- ==== Proof.Lanes.lean ====
/- A row split into lanes: lane `l` takes the entries that stand at `l` in a block of 128. What 125 tiles of two blocks leave
   in the lanes, put together, is what the row is. -/
module

public import proofs.«01_k».proof.Proof.Logits

@[expose] public section

noncomputable section
namespace Cert.Spec

open Idealize.ShloMosaic

/-- Entry `k` of a row. -/
def entry (f : Fin 32000 → EReal) (k : ℕ) : EReal := if h : k < 32000 then f ⟨k, h⟩ else 0

theorem entry_of (f : Fin 32000 → EReal) (k : ℕ) (v : Fin 32000) (h : k = v.val) : entry f k = f v := by
  subst h; exact dif_pos v.isLt

/-- Whether lane `l` has met `⊤` in the first `n` tiles, -/
def laneT (f : ℕ → EReal) (l : ℕ) : ℕ → Prop
  | 0 => False
  | n + 1 => laneT f l n ∨ f (256 * n + l) = ⊤ ∨ f (256 * n + (128 + l)) = ⊤
/-- the sum of the lane's entries, -/
def laneS (g : ℕ → ℝ) (l : ℕ) : ℕ → ℝ
  | 0 => 0
  | n + 1 => laneS g l n + g (256 * n + l) + g (256 * n + (128 + l))
/-- and the maximum, from zero, of the lane's entries in the first `n` blocks. -/
def laneE (f : ℕ → EReal) (l : ℕ) : ℕ → EReal
  | 0 => 0
  | n + 1 => max (laneE f l n) (f (128 * n + l))

theorem laneT_iff (f : ℕ → EReal) (l n : ℕ) :
    laneT f l n ↔ ∃ i < n, f (256 * i + l) = ⊤ ∨ f (256 * i + (128 + l)) = ⊤ := by
  induction n with
  | zero => simp [laneT]
  | succ n ih =>
    rw [laneT, ih]
    constructor
    · rintro (⟨i, hi, h⟩ | h)
      · exact ⟨i, by omega, h⟩
      · exact ⟨n, by omega, h⟩
    · rintro ⟨i, hi, h⟩
      rcases Nat.lt_succ_iff_lt_or_eq.1 hi with hi | rfl
      · exact .inl ⟨i, hi, h⟩
      · exact .inr h

theorem lanes_T (f : Fin 32000 → EReal) : (∃ l : Fin 128, laneT (entry f) l.val 125) ↔ ∃ v, f v = ⊤ := by
  constructor
  · rintro ⟨l, h⟩
    obtain ⟨i, hi, h | h⟩ := (laneT_iff _ _ _).1 h
    · exact ⟨⟨256 * i + l.val, by omega⟩, by rwa [entry_of f _ ⟨256 * i + l.val, by omega⟩ rfl] at h⟩
    · exact ⟨⟨256 * i + (128 + l.val), by omega⟩, by rwa [entry_of f _ ⟨256 * i + (128 + l.val), by omega⟩ rfl] at h⟩
  · rintro ⟨v, h⟩
    refine ⟨⟨v.val % 128, by omega⟩, (laneT_iff _ _ _).2 ⟨v.val / 256, by omega, ?_⟩⟩
    dsimp only
    rcases Nat.lt_or_ge (v.val % 256) 128 with hv | hv
    · left; rw [entry_of f _ v (by omega), h]
    · right; rw [entry_of f _ v (by omega), h]

theorem lanes_S_range (g : ℕ → ℝ) (n : ℕ) : (∑ l : Fin 128, laneS g l.val n) = ∑ k ∈ Finset.range (256 * n), g k := by
  induction n with
  | zero => simp [laneS]
  | succ n ih =>
    have h256 : 256 * (n + 1) = 256 * n + (128 + 128) := by omega
    rw [h256, Finset.sum_range_add, Finset.sum_range_add _ 128 128, ← ih, Finset.sum_range, Finset.sum_range]
    simp only [laneS, Finset.sum_add_distrib]
    ring

theorem lanes_S (g : EReal → ℝ) (f : Fin 32000 → EReal) : (∑ l : Fin 128, laneS (fun k => g (entry f k)) l.val 125) = ∑ v, g (f v) := by
  have e : (256 * 125 : ℕ) = 32000 := by norm_num
  rw [lanes_S_range, e, Finset.sum_range]
  exact Finset.sum_congr rfl fun v _ => by rw [entry_of f _ v rfl]

theorem laneE_le (f : ℕ → EReal) (l n : ℕ) (M : EReal) (h0 : 0 ≤ M) (h : ∀ i < n, f (128 * i + l) ≤ M) : laneE f l n ≤ M := by
  induction n with
  | zero => exact h0
  | succ n ih => exact max_le (ih fun i hi => h i (by omega)) (h n (by omega))

theorem le_laneE (f : ℕ → EReal) (l n i : ℕ) (hi : i < n) : f (128 * i + l) ≤ laneE f l n := by
  induction n with
  | zero => omega
  | succ n ih =>
    rcases Nat.lt_succ_iff_lt_or_eq.1 hi with hi | rfl
    · exact (ih hi).trans (le_max_left _ _)
    · exact le_max_right _ _

theorem lanes_E (f : Fin 32000 → EReal) (h0 : ∀ v, 0 ≤ f v) :
    (Finset.univ.fold max ⊥ fun l : Fin 128 => laneE (entry f) l.val 250) = Finset.univ.fold max ⊥ f := by
  apply le_antisymm
  · refine (Finset.fold_max_le _).2 ⟨bot_le, fun l _ => laneE_le _ _ _ _ ?_ fun i hi => ?_⟩
    · exact (Finset.le_fold_max _).2 (.inr ⟨⟨0, by omega⟩, Finset.mem_univ _, h0 _⟩)
    · exact (Finset.le_fold_max _).2 (.inr ⟨⟨128 * i + l.val, by omega⟩, Finset.mem_univ _, le_of_eq (entry_of f _ _ rfl)⟩)
  · refine (Finset.fold_max_le _).2 ⟨bot_le, fun v _ => (Finset.le_fold_max _).2 (.inr ⟨⟨v.val % 128, by omega⟩, Finset.mem_univ _, ?_⟩)⟩
    have := le_laneE (entry f) (v.val % 128) 250 (v.val / 128) (by omega)
    rwa [entry_of f _ v (by omega)] at this

end Cert.Spec
end
-- ==== Proof.Steps.lean ====
/- What a point of the grid does to the contents of the scratch buffers and of the output blocks, in terms of the row's logits. -/
module

public import proofs.«01_k».proof.Proof.TileAt
public import proofs.«01_k».proof.Proof.OutRuns
public import proofs.«01_k».proof.Proof.Lanes
public import Idealize.ShloMosaic.Lib.Writes

@[expose] public section

set_option maxRecDepth 16384

noncomputable section

namespace Cert.KernelIdeal.Body

open Cert.KernelIdeal.Gen Cert.Spec
open Idealize.ShloMosaic Idealize.ShloMosaic.TcCoe Idealize.ShloMosaic.Tactic

/-! ## Stores read back -/

theorem zeros2 : (![0, 0] : Fin 2 → ℕ) = fun _ => 0 := by funext a; fin_cases a <;> rfl

/-- A store over the whole of a buffer leaves its payload. -/
theorem store_full (b : Memref sig .tc .vmem S256x128 .f32) (f) (P : Vec Ideal S256x128 .f32) (L : List (View.Piece (Elt Ideal) S256x128 .f32)) :
    b.view.read (Elt Ideal) (b.view.writes (Elt Ideal) f (⟨fullR, P⟩ :: L)) = P := by
  funext y
  refine View.read_writes_cons_hit _ _ fullR P L y y ?_
  refine funext fun a => Fin.ext ?_
  match a with
  | 0 => exact (Rect.idx_unit_val _ _ _ _ _).trans (Nat.zero_add _)
  | 1 => exact (Rect.idx_unit_val _ _ _ _ _).trans (Nat.zero_add _)
theorem store_full2 (b : Memref sig .tc .vmem S2x128 .f32) (f) (P : Vec Ideal S2x128 .f32) :
    b.view.read (Elt Ideal) (b.view.writes (Elt Ideal) f [⟨full2, P⟩]) = P := by
  funext y
  refine View.read_writes_cons_hit _ _ full2 P [] y y ?_
  refine funext fun a => Fin.ext ?_
  match a with
  | 0 => exact (Rect.idx_unit_val _ _ _ _ _).trans (Nat.zero_add _)
  | 1 => exact (Rect.idx_unit_val _ _ _ _ _).trans (Nat.zero_add _)

theorem ld_full (X : Vec Ideal S256x128 .f32) : View.ld X fullR = X := View.ld_unit_zero zeros2 _ X

/-- A load through a unit rectangle of rank two. -/
theorem unit_idx {n0 n1 s0 s1 : ℕ} (off : Fin 2 → ℕ) (o0 o1 : ℕ) (ho : off = ![o0, o1]) (h) (i : Fin s0) (j : Fin s1) (h0 : o0 + s0 ≤ n0) (h1 : o1 + s1 ≤ n1) :
    (Rect.unit (s := ⟨2, ![n0, n1]⟩) off ![s0, s1] h).idx (ix2 i j) = ix2 (⟨o0 + i.val, by omega⟩ : Fin n0) (⟨o1 + j.val, by omega⟩ : Fin n1) := by
  subst ho
  refine funext fun a => Fin.ext ?_
  match a with
  | 0 => exact Rect.idx_unit_val _ _ _ _ _
  | 1 => exact Rect.idx_unit_val _ _ _ _ _

/-- A tile of logits stored at its columns. -/
theorem store_z (b : Memref sig .tc .vmem S256x32000 .f32) (hb : b.IsWhole) (d : Vec Ideal S256x32000 .f32) (off : Fin 2 → ℕ) (n : ℕ) (hn : n < 125)
    (hoff : off = ![0, 256 * n]) (h : ∀ a, off a + S256x256.size a ≤ S256x32000.size a) (Z : Vec Ideal S256x256 .f32) (r : Fin 256) (k : Fin 32000) :
    b.view.read (Elt Ideal) (b.view.writes (Elt Ideal) (hb.unread d) [⟨Rect.unit off S256x256.size h, Z⟩]) (ix2 r k)
      = if hk : 256 * n ≤ k.val ∧ k.val < 256 * n + 256 then Z (ix2 r ⟨k.val - 256 * n, by omega⟩) else d (ix2 r k) := by
  by_cases hk : 256 * n ≤ k.val ∧ k.val < 256 * n + 256
  · rw [dif_pos hk]
    refine View.read_writes_cons_hit _ _ (Rect.unit (s := S256x32000) off S256x256.size h) Z [] (ix2 r ⟨k.val - 256 * n, by omega⟩) (ix2 r k) ?_
    refine (unit_idx off 0 (256 * n) hoff h r _ (by omega) (by omega)).trans ?_
    congr 1 <;> exact Fin.ext (by dsimp only; omega)
  · rw [dif_neg hk]
    refine (View.read_writes_cons_miss_of_axis _ _ _ [] (ix2 r k) 1 (256 * n) 256 (by subst hoff; rfl) rfl rfl ?_).trans ?_
    · show k.val < 256 * n ∨ 256 * n + 256 ≤ k.val; omega
    · exact congrFun (hb.read_unread d) _

/-! ## The vocabulary tiles -/

/-- The logits buffer after `n` tiles. -/
def ZOk (L : Fin 256 → Fin 32000 → EReal) (n : ℕ) (d : Vec Ideal S256x32000 .f32) : Prop :=
  ∀ (r : Fin 256) (v : Fin 32000), v.val < 256 * n → d (ix2 r v) = L r v
/-- The lanes after `n` tiles. -/
def LanesOk (L : Fin 256 → Fin 32000 → EReal) (n : ℕ) (m s1 s2 : Vec Ideal S256x128 .f32) : Prop :=
  ∀ (r : Fin 256) (l : Fin 128), LaneOK (laneT (entry (L r)) l.val n) (laneS (fun k => w (entry (L r) k)) l.val n)
    (laneS (fun k => w (entry (L r) k * hf)) l.val n) (m (ix2 r l)) (s1 (ix2 r l)) (s2 (ix2 r l))
/-- A tile of the logits. -/
def TileOk (L : Fin 256 → Fin 32000 → EReal) (n : ℕ) (Z : FVec Ideal S256x256 .f32) : Prop :=
  ∀ (r v : Fin 256) (k : Fin 32000), k.val = 256 * n + v.val → Z (ix2 r v) = L r k

theorem ZOk.step {L : Fin 256 → Fin 32000 → EReal} {n : ℕ} {d : Vec Ideal S256x32000 .f32} (hd : ZOk L n d) (hn : n < 125)
    (b : Memref sig .tc .vmem S256x32000 .f32) (hb : b.IsWhole) (off : Fin 2 → ℕ) (hoff : off = ![0, 256 * n]) (h : ∀ a, off a + S256x256.size a ≤ S256x32000.size a) (Z : FVec Ideal S256x256 .f32) (hZ : TileOk L n Z) :
    ZOk L (n + 1) (b.view.read (Elt Ideal) (b.view.writes (Elt Ideal) (hb.unread d) [⟨Rect.unit off S256x256.size h, shapeCast S256x256 Z shapeCasts_S256x256_S256x256⟩])) := by
  intro r v hv
  rw [store_z b hb d off n hn hoff, shapeCast_self]
  split_ifs with hk
  · exact hZ r _ v (by dsimp only; omega)
  · exact hd r v (by omega)

theorem lanes_init (L : Fin 256 → Fin 32000 → EReal) : LanesOk L 0 (k0_pay1 (F := Ideal)) (k0_pay2 (F := Ideal)) (k0_pay3 (F := Ideal)) := by
  intro r l
  have h1 : k0_pay1 (F := Ideal) (ix2 r l) = Ideal.ofBits .f32 0xFF61B1E6#32 := by unfold k0_pay1; pointwise
  have h2 : k0_pay2 (F := Ideal) (ix2 r l) = 0 := by unfold k0_pay2; pointwise
  have h3 : k0_pay3 (F := Ideal) (ix2 r l) = 0 := by unfold k0_pay3; pointwise
  rw [h1, h2, h3]
  exact laneOK_init

theorem mNew_at (Z : FVec Ideal S256x256 .f32) (m : FVec Ideal S256x128 .f32) (r : Fin 256) (l : Fin 128) :
    mNew Z m (ix2 r l) = max (m (ix2 r l)) (max (Z (ix2 r ⟨l.val, by omega⟩)) (Z (ix2 r ⟨128 + l.val, by omega⟩))) := by
  unfold mNew; pointwise

theorem s1New_at (Z : FVec Ideal S256x256 .f32) (m s1 : FVec Ideal S256x128 .f32) (r : Fin 256) (l : Fin 128) (M z0 z1 : EReal)
    (hM : mNew Z m (ix2 r l) = M) (h0 : Z (ix2 r ⟨l.val, by omega⟩) = z0) (h1 : Z (ix2 r ⟨128 + l.val, by omega⟩) = z1) :
    (s1New Z m s1 (ix2 r l) : EReal) = s1 (ix2 r l) * (Ideal.exp ((m (ix2 r l) - M) * hf) * Ideal.exp ((m (ix2 r l) - M) * hf))
      + Ideal.exp ((z0 - M) * hf) * Ideal.exp ((z0 - M) * hf) + Ideal.exp ((z1 - M) * hf) * Ideal.exp ((z1 - M) * hf) := by
  subst hM h0 h1
  rw [← ofBits_half, mNew_at]; unfold s1New k0_pay122 k0_pay117 k0_pay118 k0_pay119 mNew; pointwise
theorem s2New_at (Z : FVec Ideal S256x256 .f32) (m s2 : FVec Ideal S256x128 .f32) (r : Fin 256) (l : Fin 128) (M z0 z1 : EReal)
    (hM : mNew Z m (ix2 r l) = M) (h0 : Z (ix2 r ⟨l.val, by omega⟩) = z0) (h1 : Z (ix2 r ⟨128 + l.val, by omega⟩) = z1) :
    (s2New Z m s2 (ix2 r l) : EReal) = s2 (ix2 r l) * Ideal.exp ((m (ix2 r l) - M) * hf)
      + Ideal.exp ((z0 - M) * hf) + Ideal.exp ((z1 - M) * hf) := by
  subst hM h0 h1
  rw [← ofBits_half, mNew_at]; unfold s2New k0_pay120 k0_pay119 k0_pay118 k0_pay117 mNew; pointwise

theorem LanesOk.step {L : Fin 256 → Fin 32000 → EReal} {n : ℕ} {m s1 s2 : Vec Ideal S256x128 .f32} (h : LanesOk L n m s1 s2) (hn : n < 125)
    (Z : FVec Ideal S256x256 .f32) (hZ : TileOk L n Z) : LanesOk L (n + 1) (mNew Z m) (s1New Z m s1) (s2New Z m s2) := by
  intro r l
  have e0 : Z (ix2 r ⟨l.val, by omega⟩) = entry (L r) (256 * n + l.val) := by
    rw [entry_of (L r) _ ⟨256 * n + l.val, by omega⟩ rfl]; exact hZ _ _ _ rfl
  have e1 : Z (ix2 r ⟨128 + l.val, by omega⟩) = entry (L r) (256 * n + (128 + l.val)) := by
    rw [entry_of (L r) _ ⟨256 * n + (128 + l.val), by omega⟩ rfl]; exact hZ _ _ _ rfl
  have h1 := (h r l).step (entry (L r) (256 * n + l.val)) (entry (L r) (256 * n + (128 + l.val)))
  have hm := mNew_at Z m r l
  rw [e0, e1] at hm
  rw [s1New_at Z m s1 r l _ _ _ hm e0 e1, s2New_at Z m s2 r l _ _ _ hm e0 e1, hm]
  exact h1

/-! ## Point 125 -/

theorem lse_lane {L : Fin 256 → Fin 32000 → EReal} {m s1 s2 : Vec Ideal S256x128 .f32} (h : LanesOk L 125 m s1 s2) (r : Fin 256) :
    k0_pay125 m s1 (ix2 r 0) = lse L r := by
  unfold k0_pay125 k0_pay124 k0_pay123
  pointwise
  rw [ofBits_half, ofBits_ninf]
  have := lanes_lse (h r)
  rw [lanes_S w (L r)] at this
  unfold lse
  rw [show (∃ v, L r v = ⊤) = (∃ l : Fin 128, laneT (entry (L r)) l.val 125) from propext (lanes_T (L r)).symm, ← this]
theorem lset_lane {L : Fin 256 → Fin 32000 → EReal} {m s1 s2 : Vec Ideal S256x128 .f32} (h : LanesOk L 125 m s1 s2) (r : Fin 256) :
    k0_pay126 m s2 (ix2 r 0) = lseT L r := by
  unfold k0_pay126 k0_pay124 k0_pay123
  pointwise
  rw [ofBits_half, ofBits_ninf]
  have := lanes_lset (h r)
  rw [lanes_S (fun x => w (x * hf)) (L r)] at this
  unfold lseT
  rw [show (∃ v, L r v = ⊤) = (∃ l : Fin 128, laneT (entry (L r)) l.val 125) from propext (lanes_T (L r)).symm, ← this]

theorem pay127_at (m s1 : Vec Ideal S256x128 .f32) (r : Fin 256) (k : Fin 128) : k0_pay127 m s1 (ix2 r k) = k0_pay125 m s1 (ix2 r 0) := by
  unfold k0_pay127; pointwise
theorem pay128_at (m s2 : Vec Ideal S256x128 .f32) (r : Fin 256) (k : Fin 128) : k0_pay128 m s2 (ix2 r k) = k0_pay126 m s2 (ix2 r 0) := by
  unfold k0_pay128; pointwise

/-- Row `128 i + j`, as a row buffer holds it. -/
def rowOf (i : Fin 2) (j : Fin 128) : Fin 256 := ⟨i.val * 128 + j.val, by omega⟩

theorem pay5_at (m s1 : Vec Ideal S256x128 .f32) (i : Fin 2) (j : Fin 128) :
    k0_pay5 (k0_pay129 m s1) (k0_pay130 m s1) (ix2 i j) = k0_pay125 m s1 (ix2 (rowOf i j) 0) := by
  unfold k0_pay5 k0_pay129 k0_pay130
  pointwise
  split_ifs with h
  · refine congrArg (fun z : Fin 256 => k0_pay125 m s1 (ix2 z (0 : Fin 1))) (Fin.ext ?_); unfold rowOf; dsimp only; omega
  · refine congrArg (fun z : Fin 256 => k0_pay125 m s1 (ix2 z (0 : Fin 1))) (Fin.ext ?_); unfold rowOf; dsimp only; omega
theorem pay6_at (v : FVec Ideal S256x1 .f32) (i : Fin 2) (j : Fin 128) : k0_pay6 v (ix2 i j) = v (ix2 (rowOf i j) 0) := by
  unfold k0_pay6
  pointwise
  split_ifs with h
  · refine congrArg (fun z : Fin 256 => v (ix2 z (0 : Fin 1))) (Fin.ext ?_); unfold rowOf; dsimp only; omega
  · refine congrArg (fun z : Fin 256 => v (ix2 z (0 : Fin 1))) (Fin.ext ?_); unfold rowOf; dsimp only; omega
theorem pay11_at (v : Vec Ideal S256x128 .f32) (i : Fin 2) (j : Fin 128) :
    k0_pay11 v (ix2 i j) = Finset.univ.fold max ⊥ fun l : Fin 128 => (v (ix2 (rowOf i j) l) : EReal) := by
  unfold k0_pay11
  pointwise
  rw [ofBits_ninf]
  split_ifs with h
  · refine congrArg (fun z : Fin 256 => Finset.univ.fold max ⊥ fun l : Fin 128 => (v (ix2 z l) : EReal)) (Fin.ext ?_); unfold rowOf; dsimp only; omega
  · refine congrArg (fun z : Fin 256 => Finset.univ.fold max ⊥ fun l : Fin 128 => (v (ix2 z l) : EReal)) (Fin.ext ?_); unfold rowOf; dsimp only; omega
theorem pay12_at (v : Vec Ideal S256x128 .f32) (i : Fin 2) (j : Fin 128) :
    k0_pay12 v (ix2 i j) = Finset.univ.fold max ⊥ fun l : Fin 128 => (v (ix2 (rowOf i j) l) : EReal) := by
  unfold k0_pay12
  pointwise
  rw [ofBits_ninf]
  split_ifs with h
  · refine congrArg (fun z : Fin 256 => Finset.univ.fold max ⊥ fun l : Fin 128 => (v (ix2 z l) : EReal)) (Fin.ext ?_); unfold rowOf; dsimp only; omega
  · refine congrArg (fun z : Fin 256 => Finset.univ.fold max ⊥ fun l : Fin 128 => (v (ix2 z l) : EReal)) (Fin.ext ?_); unfold rowOf; dsimp only; omega

/-! ## The output tiles -/

theorem pay132_at (l z : Vec Ideal S32x128 .f32) (a : Fin 32) (b : Fin 128) : k0_pay132 l z (ix2 a b) = floored (z (ix2 a b)) (l (ix2 a b)) := by
  unfold k0_pay132 k0_pay131 floored; pointwise
theorem pay134_at (l z : Vec Ideal S32x128 .f32) (a : Fin 32) (b : Fin 128) : k0_pay134 l z (ix2 a b) = floored (z (ix2 a b) * hf) (l (ix2 a b)) := by
  rw [← ofBits_half]; unfold k0_pay134 k0_pay133 floored; pointwise
theorem pay135_at (l e z : Vec Ideal S32x128 .f32) (a : Fin 32) (b : Fin 128) :
    k0_pay135 l e z (ix2 a b) = max (e (ix2 a b)) (dev (floored (z (ix2 a b)) (l (ix2 a b)))) := by
  unfold k0_pay135 k0_pay132 k0_pay131 dev floored; pointwise
theorem pay136_at (l e z : Vec Ideal S32x128 .f32) (a : Fin 32) (b : Fin 128) :
    k0_pay136 l e z (ix2 a b) = max (e (ix2 a b)) (dev (floored (z (ix2 a b) * hf) (l (ix2 a b)))) := by
  rw [← ofBits_half]; unfold k0_pay136 k0_pay134 k0_pay133 dev floored; pointwise

end Cert.KernelIdeal.Body
end
-- ==== Proof.Outs.lean ====
/- The output tiles: the codes and the running maxima of the errors that a point stores, read back index by index. -/
module

public import proofs.«01_k».proof.Proof.Steps
public import Idealize.ShloMosaic.Lib.Pipeline.ReadBack

@[expose] public section

set_option maxRecDepth 16384

noncomputable section

namespace Cert.KernelIdeal.Body

open Cert.KernelIdeal.Gen Cert.Spec
open Idealize.ShloMosaic Idealize.ShloMosaic.TcCoe Idealize.ShloMosaic.Tactic

/-! ## Where a point's tile stands -/

theorem zcol : ∀ (n : Fin 150) (j : Fin 10), 125 ≤ n.val →
    (Scalar.indexCast (Scalar.addi (Scalar.muli (Scalar.subi (BitVec.ofNat 32 n.val) 125#32) 1280#32) (BitVec.ofNat 32 (128 * j.val))) : Index).toNat
      = 1280 * (n.val - 125) + 128 * j.val := by decide +kernel

theorem zoff_eq (t : Fin cfg0.N) (ht : 125 ≤ t.val) (r : Fin 8) (j : Fin 10) :
    zoff (grid0.coords t) r j = ![32 * r.val, 1280 * (t.val - 125) + 128 * j.val] := by
  have h := zcol ⟨t.val, lt150 t⟩ j ht
  unfold zoff
  rw [show ((grid0.coords t) 0).val = t.val from coord0 t]
  exact congrArg (fun k => ![32 * r.val, k]) h

theorem zin (t : Fin cfg0.N) (ht : 125 ≤ t.val) : ZIn (grid0.coords t) := by
  intro r j a
  have h := lt150 t
  rw [zoff_eq t ht r j]
  match a with
  | 0 => show 32 * r.val + 32 ≤ 256; omega
  | 1 => show 1280 * (t.val - 125) + 128 * j.val + 128 ≤ 32000; omega

theorem off1col : ∀ n : Fin 125, (Scalar.indexCast (Scalar.muli (BitVec.ofNat 32 n.val) 256#32) : Index).toNat = 256 * n.val := by decide +kernel

theorem off1_eq (t : Fin cfg0.N) (ht : t.val < 125) : k0_off1 (grid0.coords t) = ![0, 256 * t.val] := by
  have h := off1col ⟨t.val, ht⟩
  unfold k0_off1
  dsimp only
  rw [show ((grid0.coords t) 0).val = t.val from coord0 t]
  exact congrArg (fun k => ![0, k]) h

/-! ## Loads of blocks -/

theorem ld_row (X : Vec Ideal S256x128 .f32) (r : Fin 8) (a : Fin 32) (b : Fin 128) :
    View.ld X (rowR r) (ix2 a b) = X (ix2 (⟨32 * r.val + a.val, by omega⟩ : Fin 256) b) := by
  refine congrArg X ((unit_idx ![32 * r.val, 0] (32 * r.val) 0 rfl _ a b (by omega) (by omega)).trans ?_)
  exact congrArg (ix2 _) (Fin.ext (Nat.zero_add _))

theorem ld_blk (X : Vec Ideal S256x32000 .f32) (off : Fin 2 → ℕ) (o0 o1 : ℕ) (ho : off = ![o0, o1])
    (h : ∀ a, off a + S32x128.size a ≤ S256x32000.size a) (h0 : o0 + 32 ≤ 256) (h1 : o1 + 128 ≤ 32000) (a : Fin 32) (b : Fin 128) :
    View.ld X (Rect.unit off S32x128.size h) (ix2 a b) = X (ix2 (⟨o0 + a.val, by omega⟩ : Fin 256) (⟨o1 + b.val, by omega⟩ : Fin 32000)) :=
  congrArg X (unit_idx off o0 o1 ho _ a b h0 h1)

/-! ## The codes -/

theorem mem_blk (i : Fin 256) (y : Fin 1280) : ix2 i y ∈ (blkR ⟨i.val / 32, by omega⟩ ⟨y.val / 128, by omega⟩).set :=
  (blkR ⟨i.val / 32, by omega⟩ ⟨y.val / 128, by omega⟩).mem_set.mpr fun a => match a with
    | 0 => ⟨i.val % 32, Nat.mod_lt _ (by decide), by show i.val = 32 * (i.val / 32) + 1 * (i.val % 32); omega⟩
    | 1 => ⟨y.val % 128, Nat.mod_lt _ (by decide), by show y.val = 128 * (y.val / 128) + 1 * (y.val % 128); omega⟩

theorem mem_rows8 : ∀ r : Fin 8, r ∈ rows8 := by decide
theorem mem_cols10 : ∀ j : Fin 10, j ∈ cols10 := by decide

/-- A tile's codes, read back: every entry the code of its logit and its row's log-sum-exp. -/
theorem codes_out (v : View sig .tc .vmem S256x1280 .fp8e5m2) (f) (q : Vec Ideal S32x128 .f32 → Vec Ideal S32x128 .f32 → FVec Ideal S32x128 .fp8e5m2)
    (fn : EReal → EReal → EReal) (hq : ∀ l z (a : Fin 32) (b : Fin 128), (q l z (ix2 a b) : EReal) = fn (z (ix2 a b)) (l (ix2 a b)))
    (l : Fin 8 → Vec Ideal S32x128 .f32) (z : Fin 8 → Fin 10 → Vec Ideal S32x128 .f32) (ℓ : Fin 256 → EReal) (Lg : Fin 256 → Fin 1280 → EReal)
    (hl : ∀ r (a : Fin 32) (b : Fin 128), l r (ix2 a b) = ℓ ⟨32 * r.val + a.val, by omega⟩)
    (hz : ∀ r j (a : Fin 32) (b : Fin 128), z r j (ix2 a b) = Lg ⟨32 * r.val + a.val, by omega⟩ ⟨128 * j.val + b.val, by omega⟩)
    (i : Fin 256) (y : Fin 1280) : (v.read (Elt Ideal) (v.writes (Elt Ideal) f (codeP q l z)) (ix2 i y) : EReal) = fn (Lg i y) (ℓ i) := by
  refine View.read_writes_apply_of_pieces v f (fun x : S256x1280.Idx => (fn (Lg (x 0) (x 1)) (ℓ (x 0)) : EReal)) (codeP q l z) ?_ (ix2 i y)
    ⟨_, List.mem_flatMap.mpr ⟨_, mem_rows8 _, List.mem_map.mpr ⟨_, mem_cols10 _, rfl⟩⟩, mem_blk i y⟩
  intro p hp x
  obtain ⟨r, _, hp⟩ := List.mem_flatMap.mp hp
  obtain ⟨j, _, rfl⟩ := List.mem_map.mp hp
  obtain ⟨a, b, rfl⟩ : ∃ (a : Fin 32) (b : Fin 128), x = ix2 a b := ⟨x 0, x 1, eq_ix2 x⟩
  have e : (blkR r j).emb (ix2 a b) = ix2 (⟨32 * r.val + a.val, by omega⟩ : Fin 256) (⟨128 * j.val + b.val, by omega⟩ : Fin 1280) :=
    unit_idx ![32 * r.val, 128 * j.val] (32 * r.val) (128 * j.val) rfl _ a b (by omega) (by omega)
  rw [e]
  show (q (l r) (z r j) (ix2 a b) : EReal) = _
  rw [hq, hl, hz]
  rfl

/-! ## The errors -/

theorem errRow_at (q : Vec Ideal S32x128 .f32 → Vec Ideal S32x128 .f32 → Vec Ideal S32x128 .f32 → FVec Ideal S32x128 .f32)
    (g : EReal → EReal → EReal) (hq : ∀ l e z (a : Fin 32) (b : Fin 128), (q l e z (ix2 a b) : EReal) = max (e (ix2 a b)) (g (z (ix2 a b)) (l (ix2 a b))))
    (l e : Vec Ideal S32x128 .f32) (z : Fin 10 → Vec Ideal S32x128 .f32) (a : Fin 32) (b : Fin 128) (fE : ℕ → EReal) (k : ℕ)
    (he : e (ix2 a b) = laneE fE b.val (10 * k)) (hz : ∀ j : Fin 10, g (z j (ix2 a b)) (l (ix2 a b)) = fE (128 * (10 * k + j.val) + b.val)) :
    (errRow q l e z (ix2 a b) : EReal) = laneE fE b.val (10 * (k + 1)) := by
  unfold errRow
  simp only [hq, hz, he]
  rfl

theorem mem_row (i : Fin 256) (b : Fin 128) : ix2 i b ∈ (rowR ⟨i.val / 32, by omega⟩).set :=
  (rowR ⟨i.val / 32, by omega⟩).mem_set.mpr fun a => match a with
    | 0 => ⟨i.val % 32, Nat.mod_lt _ (by decide), by show i.val = 32 * (i.val / 32) + 1 * (i.val % 32); omega⟩
    | 1 => ⟨b.val, b.isLt, by show b.val = 0 + 1 * b.val; omega⟩

/-- The running maxima of the errors, read back. -/
theorem errs_out (v : View sig .tc .vmem S256x128 .f32) (f) (q : Vec Ideal S32x128 .f32 → Vec Ideal S32x128 .f32 → Vec Ideal S32x128 .f32 → FVec Ideal S32x128 .f32)
    (g : EReal → EReal → EReal) (hq : ∀ l e z (a : Fin 32) (b : Fin 128), (q l e z (ix2 a b) : EReal) = max (e (ix2 a b)) (g (z (ix2 a b)) (l (ix2 a b))))
    (l e : Fin 8 → Vec Ideal S32x128 .f32) (z : Fin 8 → Fin 10 → Vec Ideal S32x128 .f32) (fE : Fin 256 → ℕ → EReal) (k : ℕ)
    (he : ∀ r (a : Fin 32) (b : Fin 128), e r (ix2 a b) = laneE (fE ⟨32 * r.val + a.val, by omega⟩) b.val (10 * k))
    (hz : ∀ r (j : Fin 10) (a : Fin 32) (b : Fin 128), g (z r j (ix2 a b)) (l r (ix2 a b)) = fE ⟨32 * r.val + a.val, by omega⟩ (128 * (10 * k + j.val) + b.val))
    (i : Fin 256) (b : Fin 128) : (v.read (Elt Ideal) (v.writes (Elt Ideal) f (errP q l e z)) (ix2 i b) : EReal) = laneE (fE i) b.val (10 * (k + 1)) := by
  refine View.read_writes_apply_of_pieces v f (fun x : S256x128.Idx => (laneE (fE (x 0)) (x 1).val (10 * (k + 1)) : EReal)) (errP q l e z) ?_ (ix2 i b)
    ⟨_, List.mem_map.mpr ⟨_, mem_rows8 _, rfl⟩, mem_row i b⟩
  intro p hp x
  obtain ⟨r, _, rfl⟩ := List.mem_map.mp hp
  obtain ⟨a, b, rfl⟩ : ∃ (a : Fin 32) (b : Fin 128), x = ix2 a b := ⟨x 0, x 1, eq_ix2 x⟩
  have ex : (rowR r).emb (ix2 a b) = ix2 (⟨32 * r.val + a.val, by omega⟩ : Fin 256) b :=
    (unit_idx ![32 * r.val, 0] (32 * r.val) 0 rfl _ a b (by omega) (by omega)).trans (congrArg (ix2 _) (Fin.ext (Nat.zero_add _)))
  rw [ex]
  show (shapeCast S32x128 (errRow q (l r) (e r) (z r)) shapeCasts_S32x128_S32x128 (ix2 a b) : EReal) = _
  rw [shapeCast_self]
  exact errRow_at q g hq (l r) (e r) (z r) a b _ k (he r a b) fun j => hz r j a b

theorem row_disj : ∀ r r' : Fin 8, r ≠ r' → LoadRect.disj (rowR r') (rowR r).toLoadRect = true := by decide

/-- A row not stored yet is read from the fill. -/
theorem fill_row (v : View sig .tc .vmem S256x128 .f32) (X : Vec Ideal S256x128 .f32) (q) (l : Fin 8 → Vec Ideal S32x128 .f32)
    (z : Fin 8 → Fin 10 → Vec Ideal S32x128 .f32) (r : Fin 8) (rs : List (Fin 8)) (h : r ∉ rs) :
    View.readCov (Val := Elt Ideal) v (errFill v X q l z rs) (rowR r).toLoadRect = View.ld X (rowR r) := by
  induction rs with
  | nil => exact View.readCov_fill v _ X [] (rowR r) (by decide)
  | cons r' rs ih =>
    unfold errFill
    rw [View.readCov_skip v _ _ _ _ (row_disj r r' fun e => h (by rw [e]; exact List.mem_cons_self))]
    exact ih fun e => h (List.mem_cons_of_mem _ e)

/-- Over a fill, the stores are those of the fill's own rows. -/
theorem errFill_eq (v : View sig .tc .vmem S256x128 .f32) (X : Vec Ideal S256x128 .f32) (q) (l : Fin 8 → Vec Ideal S32x128 .f32)
    (z : Fin 8 → Fin 10 → Vec Ideal S32x128 .f32) (rs : List (Fin 8)) (h : rs.Nodup) :
    errFill v X q l z rs = (rs.map fun r => (⟨rowR r, shapeCast S32x128 (errRow q (l r) (View.ld X (rowR r)) (z r)) shapeCasts_S32x128_S32x128⟩ : View.Piece (Elt Ideal) S256x128 .f32)) ++ [⟨fullR, X⟩] := by
  induction rs with
  | nil => rfl
  | cons r rs ih =>
    unfold errFill
    rw [fill_row v X q l z r rs (List.nodup_cons.mp h).1, ih (List.nodup_cons.mp h).2]
    rfl

theorem errFill_out (v : View sig .tc .vmem S256x128 .f32) (f) (X : Vec Ideal S256x128 .f32) (hX : ∀ i b, X (ix2 i b) = (0 : EReal)) (q : Vec Ideal S32x128 .f32 → Vec Ideal S32x128 .f32 → Vec Ideal S32x128 .f32 → FVec Ideal S32x128 .f32)
    (g : EReal → EReal → EReal) (hq : ∀ l e z (a : Fin 32) (b : Fin 128), (q l e z (ix2 a b) : EReal) = max (e (ix2 a b)) (g (z (ix2 a b)) (l (ix2 a b))))
    (l : Fin 8 → Vec Ideal S32x128 .f32) (z : Fin 8 → Fin 10 → Vec Ideal S32x128 .f32) (fE : Fin 256 → ℕ → EReal)
    (hz : ∀ r (j : Fin 10) (a : Fin 32) (b : Fin 128), g (z r j (ix2 a b)) (l r (ix2 a b)) = fE ⟨32 * r.val + a.val, by omega⟩ (128 * (10 * 0 + j.val) + b.val))
    (i : Fin 256) (b : Fin 128) : (v.read (Elt Ideal) (v.writes (Elt Ideal) f (errFill v X q l z rows8)) (ix2 i b) : EReal) = laneE (fE i) b.val (10 * (0 + 1)) := by
  rw [errFill_eq v X q l z rows8 (by decide), View.writes_append]
  refine errs_out v _ q g hq l (fun r => View.ld X (rowR r)) z fE 0 (fun r a b => ?_) hz i b
  rw [ld_row]; exact hX _ _

theorem pay7_at (i : Fin 256) (b : Fin 128) : (k0_pay7 (F := Ideal) (ix2 i b) : EReal) = 0 := by unfold k0_pay7; pointwise
theorem pay8_at (i : Fin 256) (b : Fin 128) : (k0_pay8 (F := Ideal) (ix2 i b) : EReal) = 0 := by unfold k0_pay8; pointwise

end Cert.KernelIdeal.Body
end
-- ==== Proof.KernelSide.lean ====
/- The kernel's launch arrays as functions of indices, and the blocks its body is given at a point. -/
module

public import proofs.«01_k».proof.Proof.Steps
public import Idealize.ShloMosaic.Lib.Pipeline.Value
public import Idealize.ShloMosaic.Lib.Pipeline.ValueKit
public import Idealize.ShloMosaic.Lib.StableHlo.ReadAt

@[expose] public section

set_option maxRecDepth 16384

noncomputable section

namespace Cert.KernelIdeal.Body

open Cert.KernelIdeal Cert.KernelIdeal.Gen Cert.Spec
open Idealize.ShloMosaic Idealize.ShloMosaic.TcCoe Idealize.ShloMosaic.Tactic

variable (m : (ℓ : Loc nD τ sig) → Buf (Elt Ideal) ℓ) (c : Dev nD)

/-- The launch arrays as functions of indices. -/
def args : Args where
  xe i j := m (c, Proc.tc.devRef main_arg0) (ix3 (⟨i.val / 128, by omega⟩ : Fin 2) (⟨i.val % 128, by omega⟩ : Fin 128) (⟨2 * j.val, by omega⟩ : Fin 12288))
  xo i j := m (c, Proc.tc.devRef main_arg0) (ix3 (⟨i.val / 128, by omega⟩ : Fin 2) (⟨i.val % 128, by omega⟩ : Fin 128) (⟨1 + 2 * j.val, by omega⟩ : Fin 12288))
  xs i := m (c, Proc.tc.devRef main_arg1) (ix2 (⟨i.val / 128, by omega⟩ : Fin 2) (⟨i.val % 128, by omega⟩ : Fin 128))
  g := m (c, Proc.tc.devRef main_arg4) (ix1 (0 : Fin 1))
  wb v j := m (c, Proc.tc.devRef main_arg2) (ix2 v j)
  sc v j := m (c, Proc.tc.devRef main_arg3) (ix2 v j)

theorem V_v1 (i : Fin 256) (j : Fin 6144) : V m c main_v1 (ix2 i j) = (args m c).xe i j := by
  unfold V args
  after_reads_at
theorem V_v2 (i : Fin 256) (j : Fin 6144) : V m c main_v2 (ix2 i j) = (args m c).xo i j := by
  unfold V args
  after_reads_at
theorem V_v3 (i : Fin 256) : V m c main_v3 (ix2 i (0 : Fin 1)) = (args m c).xs i := by
  unfold V args
  after_reads_at

theorem idx : ∀ t : Fin cfg0.N, win0_0.index t = ![0, 0] ∧ win0_1.index t = ![0, 0] ∧ win0_2.index t = ![0, 0]
    ∧ win0_3.index t = ![0] :=
  (by decide +kernel : ∀ t : Fin grid0.N, win0_0.index t = ![0, 0] ∧ win0_1.index t = ![0, 0] ∧ win0_2.index t = ![0, 0]
    ∧ win0_3.index t = ![0])
theorem idxW : ∀ t : Fin cfg0.N, t.val < 125 → win0_4.index t = ![t.val, 0] ∧ win0_5.index t = ![t.val, 0] :=
  (by decide +kernel : ∀ t : Fin grid0.N, t.val < 125 → win0_4.index t = ![t.val, 0] ∧ win0_5.index t = ![t.val, 0])

theorem blk0 (t : Fin cfg0.N) (i : Fin 256) (j : Fin 6144) : iblk m c 0 t (ix2 i j) = (args m c).xe i j := by
  have : iblk m c 0 t (ix2 i j) = V m c main_v1 (ix2 i j) := by blk_ext [iblk, idx t]
  exact this.trans (V_v1 m c i j)
theorem blk1 (t : Fin cfg0.N) (i : Fin 256) (j : Fin 6144) : iblk m c 1 t (ix2 i j) = (args m c).xo i j := by
  have : iblk m c 1 t (ix2 i j) = V m c main_v2 (ix2 i j) := by blk_ext [iblk, idx t]
  exact this.trans (V_v2 m c i j)
theorem blk2 (t : Fin cfg0.N) (i : Fin 256) : iblk m c 2 t (ix2 i (0 : Fin 1)) = (args m c).xs i := by
  have : iblk m c 2 t (ix2 i (0 : Fin 1)) = V m c main_v3 (ix2 i (0 : Fin 1)) := by blk_ext [iblk, idx t]
  exact this.trans (V_v3 m c i)
theorem blk3 (t : Fin cfg0.N) : iblk m c 3 t (ix1 (0 : Fin 1)) = (args m c).g := by
  have : iblk m c 3 t (ix1 (0 : Fin 1)) = V m c main_arg4 (ix1 (0 : Fin 1)) := by blk_ext [iblk, idx t]
  exact this.trans (congrFun (V_main_arg4 m c) _)
theorem blk4 (t : Fin cfg0.N) (ht : t.val < 125) (i : Fin 256) (j : Fin 6144) (v : Fin 32000) (hv : v.val = 256 * t.val + i.val) :
    iblk m c 4 t (ix2 i j) = (args m c).wb v j := by
  have : iblk m c 4 t (ix2 i j) = V m c main_arg2 (ix2 v j) := by blk_ext [iblk, idxW t ht]
  exact this.trans (congrFun (V_main_arg2 m c) _)
theorem blk5 (t : Fin cfg0.N) (ht : t.val < 125) (i : Fin 256) (j : Fin 768) (v : Fin 32000) (hv : v.val = 256 * t.val + i.val) :
    iblk m c 5 t (ix2 i j) = (args m c).sc v j := by
  have : iblk m c 5 t (ix2 i j) = V m c main_arg3 (ix2 v j) := by blk_ext [iblk, idxW t ht]
  exact this.trans (congrFun (V_main_arg3 m c) _)

/-- The global scale, as the body loads it. -/
theorem g_at (b : Memref sig .tc .smem S1 .f32) (hb : b.IsWhole) (d : Vec Ideal S1 .f32) :
    b.view.readAt (Elt Ideal) (Rect.unit ![0] S1.size inb_S1_S1_0).toLoadRect (hb.unread d) (Shape.Idx.first (by decide)) = d (ix1 (0 : Fin 1)) := by
  show b.view.read (Elt Ideal) (hb.unread d) _ = _
  rw [hb.read_unread]
  exact congrArg d (funext fun a => match a with | 0 => Subsingleton.elim (α := Fin 1) _ _)

/-- A point's tile of logits. -/
theorem tile_ok (t : Fin cfg0.N) (ht : t.val < 125) : TileOk (logit (args m c)) t.val
    (zTile (iblk m c 0 t) (iblk m c 1 t) (iblk m c 2 t) (iblk m c 3 t (ix1 (0 : Fin 1))) (iblk m c 4 t) (iblk m c 5 t)) := by
  intro r v k hk
  refine (zTile_at _ _ _ _ _ _ r v).trans ?_
  unfold logit
  simp only [blk0, blk1, blk2, blk3, fun j => blk4 m c t ht v j k hk, fun j => blk5 m c t ht v j k hk]

end Cert.KernelIdeal.Body
end
-- ==== Proof.Facts.lean ====
/- What holds of the scratch buffers before each point of the grid, and that each kind of point carries it on and writes the
   outputs it should. -/
module

public import proofs.«01_k».proof.Proof.Outs
public import proofs.«01_k».proof.Proof.KernelSide

@[expose] public section

set_option maxRecDepth 16384

noncomputable section

namespace Cert.KernelIdeal.Body

open Cert.KernelIdeal.Gen Cert.Spec
open Idealize.ShloMosaic Idealize.ShloMosaic.TcCoe Idealize.ShloMosaic.Tactic

/-- Every row of a lane buffer at the row's value. -/
def RowsOk (f : Fin 256 → EReal) (d : Vec Ideal S256x128 .f32) : Prop := ∀ (i : Fin 256) (b : Fin 128), d (ix2 i b) = f i
/-- The running maxima of the errors of the codes `cf` after `n` columns of every lane. -/
def ErrsOk (cf : Fin 256 → Fin 32000 → EReal) (n : ℕ) (d : Vec Ideal S256x128 .f32) : Prop :=
  ∀ (i : Fin 256) (b : Fin 128), d (ix2 i b) = laneE (entry fun v => dev (cf i v)) b.val n

/-- The scratch buffers before point `n`. -/
structure Inv (L : Fin 256 → Fin 32000 → EReal) (n : ℕ) (z : Vec Ideal S256x32000 .f32) (mx s1 s2 l1 l2 e1 e2 : Vec Ideal S256x128 .f32) : Prop where
  z : ZOk L (min n 125) z
  lanes : n ≠ 0 → LanesOk L (min n 125) mx s1 s2
  l1 : 125 < n → RowsOk (lse L) l1
  l2 : 125 < n → RowsOk (lseT L) l2
  e1 : 125 < n → ErrsOk (code L) (10 * (n - 125)) e1
  e2 : 125 < n → ErrsOk (codeT L) (10 * (n - 125)) e2

/-- The output tile `k` of the codes `cf`. -/
def codeV (cf : Fin 256 → Fin 32000 → EReal) (k : ℕ) : Vec Ideal S256x1280 .fp8e5m2 :=
  fun i => (cf (i 0) ⟨(1280 * k + (i 1).val) % 32000, Nat.mod_lt _ (by decide)⟩ : EReal)
/-- A row buffer of the rows' values. -/
def rowV (f : Fin 256 → EReal) : Vec Ideal S2x128 .f32 := fun i => (f (rowOf (i 0) (i 1)) : EReal)

/-- The output blocks after point `n`, from what they held. -/
structure OutsOk (L : Fin 256 → Fin 32000 → EReal) (n : ℕ) (d6 d7 : Vec Ideal S256x1280 .fp8e5m2) (d8 d9 d10 d11 : Vec Ideal S2x128 .f32)
    (e6 e7 : Vec Ideal S256x1280 .fp8e5m2) (e8 e9 e10 e11 : Vec Ideal S2x128 .f32) : Prop where
  c1 : e6 = if n < 125 then d6 else codeV (code L) (n - 125)
  c2 : e7 = if n < 125 then d7 else codeV (codeT L) (n - 125)
  l1 : e8 = if n = 125 then rowV (lse L) else d8
  r1 : e9 = if n = 149 then rowV (errR L) else d9
  l2 : e10 = if n = 125 then rowV (lseT L) else d10
  r2 : e11 = if n = 149 then rowV (errT L) else d11

theorem OutsOk.tile {L : Fin 256 → Fin 32000 → EReal} {n : ℕ} (hn : n < 125) (d6 d7 d8 d9 d10 d11) : OutsOk L n d6 d7 d8 d9 d10 d11 d6 d7 d8 d9 d10 d11 :=
  ⟨by rw [if_pos hn], by rw [if_pos hn], by rw [if_neg (by omega)], by rw [if_neg (by omega)], by rw [if_neg (by omega)], by rw [if_neg (by omega)]⟩

/-! ## A vocabulary tile -/

theorem readCov_full (b : Memref sig .tc .vmem S256x128 .f32) (P : Vec Ideal S256x128 .f32) :
    View.readCov (Val := Elt Ideal) b.view [⟨fullR, P⟩] fullR.toLoadRect = P :=
  (View.readCov_fill b.view _ P [] fullR (by decide)).trans (ld_full P)
theorem readCov_row (b : Memref sig .tc .vmem S256x128 .f32) (P : Vec Ideal S256x128 .f32) (r : Fin 8) :
    View.readCov (Val := Elt Ideal) b.view [⟨fullR, P⟩] (rowR r).toLoadRect = View.ld P (rowR r) :=
  View.readCov_fill b.view _ P [] (rowR r) (by decide)

/-- A vocabulary tile's stores carry the invariant on. -/
theorem inv_tile {L : Fin 256 → Fin 32000 → EReal} {n : ℕ} (hn : n < 125) (off : Fin 2 → ℕ) (hoff : off = ![0, 256 * n])
    (b0 : Memref sig .tc .vmem S256x32000 .f32) (hb0 : b0.IsWhole) (b1 b2 b3 : Memref sig .tc .vmem S256x128 .f32)
    {d : Vec Ideal S256x32000 .f32} {mx s1 s2 : Vec Ideal S256x128 .f32} {Z : FVec Ideal S256x256 .f32} (hZ : TileOk L n Z) (hd : ZOk L n d) (hl : LanesOk L n mx s1 s2)
    (f1 f2 f3) (L0 : List (View.Piece (Elt Ideal) S256x32000 .f32)) (L1 L2 L3 r1 r2 r3 : List (View.Piece (Elt Ideal) S256x128 .f32))
    (e0 : ∃ h, L0 = [⟨Rect.unit (s := S256x32000) off S256x256.size h, shapeCast S256x256 Z shapeCasts_S256x256_S256x256⟩])
    (e1 : L1 = ⟨fullR, shapeCast S256x128 (mNew Z mx) shapeCasts_S256x128_S256x128⟩ :: r1)
    (e2 : L2 = ⟨fullR, s1New Z mx s1⟩ :: r2)
    (e3 : L3 = ⟨fullR, shapeCast S256x128 (s2New Z mx s2) shapeCasts_S256x128_S256x128⟩ :: r3) (l1 l2 x1 x2 : Vec Ideal S256x128 .f32) :
    Inv L (n + 1) (b0.view.read (Elt Ideal) (b0.view.writes (Elt Ideal) (hb0.unread d) L0)) (b1.view.read (Elt Ideal) (b1.view.writes (Elt Ideal) f1 L1))
      (b2.view.read (Elt Ideal) (b2.view.writes (Elt Ideal) f2 L2)) (b3.view.read (Elt Ideal) (b3.view.writes (Elt Ideal) f3 L3)) l1 l2 x1 x2 := by
  obtain ⟨h, rfl⟩ := e0
  subst e1 e2 e3
  have hm : min (n + 1) 125 = n + 1 := by omega
  refine ⟨?_, fun _ => ?_, fun h => absurd h (by omega), fun h => absurd h (by omega), fun h => absurd h (by omega), fun h => absurd h (by omega)⟩
  · rw [hm]; exact hd.step hn b0 hb0 off hoff h Z hZ
  · rw [hm, store_full, store_full, store_full, shapeCast_self, shapeCast_self]
    exact hl.step hn Z hZ

/-! ## An output tile -/

/-- The codes of tile `t - 125`. -/
theorem codes_tile {L : Fin 256 → Fin 32000 → EReal} (t : Fin cfg0.N) (ht : 125 ≤ t.val) (b : Memref sig .tc .vmem S256x1280 .fp8e5m2) (f)
    (q : Vec Ideal S32x128 .f32 → Vec Ideal S32x128 .f32 → FVec Ideal S32x128 .fp8e5m2)
    (fn : EReal → EReal → EReal) (hq : ∀ l z (a : Fin 32) (b : Fin 128), (q l z (ix2 a b) : EReal) = fn (z (ix2 a b)) (l (ix2 a b)))
    (l : Fin 8 → Vec Ideal S32x128 .f32) (ℓ : Fin 256 → EReal) (hl : ∀ r (a : Fin 32) (b : Fin 128), l r (ix2 a b) = ℓ ⟨32 * r.val + a.val, by omega⟩)
    (D : Vec Ideal S256x32000 .f32) (hD : ZOk L 125 D) (hz : ZIn (grid0.coords t)) :
    b.view.read (Elt Ideal) (b.view.writes (Elt Ideal) f (codeP q l fun r j => View.ld D (Rect.unit (zoff (grid0.coords t) r j) S32x128.size (hz r j))))
      = codeV (fun r v => fn (L r v) (ℓ r)) (t.val - 125) := by
  have hN := lt150 t
  funext x
  obtain ⟨i, y, rfl⟩ : ∃ (i : Fin 256) (y : Fin 1280), x = ix2 i y := ⟨x 0, x 1, eq_ix2 x⟩
  refine (codes_out b.view f q fn hq l _ ℓ (fun i y => L i ⟨1280 * (t.val - 125) + y.val, by omega⟩) hl (fun r j a b => ?_) i y).trans ?_
  · rw [ld_blk D _ _ _ (zoff_eq t ht r j) (hz r j) (by omega) (by omega)]
    refine (hD _ _ (by dsimp only; omega)).trans ?_
    exact congrArg (L _) (Fin.ext (by dsimp only; omega))
  · show fn (L i _) (ℓ i) = fn (L i _) (ℓ i)
    congr 2
    exact Fin.ext (by show 1280 * (t.val - 125) + y.val = (1280 * (t.val - 125) + y.val) % 32000; omega)

/-- The logits of tile `t - 125`, entry by entry. -/
theorem errs_z {L : Fin 256 → Fin 32000 → EReal} (t : Fin cfg0.N) (ht : 125 ≤ t.val) (fn : EReal → EReal → EReal)
    (l : Fin 8 → Vec Ideal S32x128 .f32) (ℓ : Fin 256 → EReal) (hl : ∀ r (a : Fin 32) (b : Fin 128), l r (ix2 a b) = ℓ ⟨32 * r.val + a.val, by omega⟩)
    (D : Vec Ideal S256x32000 .f32) (hD : ZOk L 125 D) (hz : ZIn (grid0.coords t)) (r : Fin 8) (j : Fin 10) (a : Fin 32) (b : Fin 128) :
    dev (fn (View.ld D (Rect.unit (zoff (grid0.coords t) r j) S32x128.size (hz r j)) (ix2 a b)) (l r (ix2 a b)))
      = entry (fun v => dev (fn (L ⟨32 * r.val + a.val, by omega⟩ v) (ℓ ⟨32 * r.val + a.val, by omega⟩))) (128 * (10 * (t.val - 125) + j.val) + b.val) := by
  have hN := lt150 t
  rw [ld_blk D _ _ _ (zoff_eq t ht r j) (hz r j) (by omega) (by omega), hl,
    entry_of _ _ (⟨1280 * (t.val - 125) + 128 * j.val + b.val, by omega⟩ : Fin 32000) (by dsimp only; omega)]
  rw [hD _ _ (by dsimp only; omega)]

theorem errs_tile {L : Fin 256 → Fin 32000 → EReal} (t : Fin cfg0.N) (ht : 125 ≤ t.val) (b : Memref sig .tc .vmem S256x128 .f32) (f)
    (q : Vec Ideal S32x128 .f32 → Vec Ideal S32x128 .f32 → Vec Ideal S32x128 .f32 → FVec Ideal S32x128 .f32) (fn : EReal → EReal → EReal)
    (hq : ∀ l e z (a : Fin 32) (b : Fin 128), (q l e z (ix2 a b) : EReal) = max (e (ix2 a b)) (dev (fn (z (ix2 a b)) (l (ix2 a b)))))
    (l : Fin 8 → Vec Ideal S32x128 .f32) (ℓ : Fin 256 → EReal) (hl : ∀ r (a : Fin 32) (b : Fin 128), l r (ix2 a b) = ℓ ⟨32 * r.val + a.val, by omega⟩)
    (E : Vec Ideal S256x128 .f32) (hE : ErrsOk (fun r v => fn (L r v) (ℓ r)) (10 * (t.val - 125)) E)
    (D : Vec Ideal S256x32000 .f32) (hD : ZOk L 125 D) (hz : ZIn (grid0.coords t)) :
    ErrsOk (fun r v => fn (L r v) (ℓ r)) (10 * (t.val + 1 - 125)) (b.view.read (Elt Ideal) (b.view.writes (Elt Ideal) f
      (errP q l (fun r => View.ld E (rowR r)) fun r j => View.ld D (Rect.unit (zoff (grid0.coords t) r j) S32x128.size (hz r j))))) := by
  intro i b'
  rw [show t.val + 1 - 125 = t.val - 125 + 1 by omega]
  exact errs_out b.view f q (fun z l => dev (fn z l)) hq l _ _ (fun i => entry fun v => dev (fn (L i v) (ℓ i))) (t.val - 125)
    (fun r a b => (ld_row E r a b).trans (hE _ _)) (errs_z t ht fn l ℓ hl D hD hz) i b'

theorem errs_first {L : Fin 256 → Fin 32000 → EReal} (t : Fin cfg0.N) (ht : t.val = 125) (b : Memref sig .tc .vmem S256x128 .f32) (f)
    (X : Vec Ideal S256x128 .f32) (hX : ∀ i b, X (ix2 i b) = (0 : EReal))
    (q : Vec Ideal S32x128 .f32 → Vec Ideal S32x128 .f32 → Vec Ideal S32x128 .f32 → FVec Ideal S32x128 .f32) (fn : EReal → EReal → EReal)
    (hq : ∀ l e z (a : Fin 32) (b : Fin 128), (q l e z (ix2 a b) : EReal) = max (e (ix2 a b)) (dev (fn (z (ix2 a b)) (l (ix2 a b)))))
    (l : Fin 8 → Vec Ideal S32x128 .f32) (ℓ : Fin 256 → EReal) (hl : ∀ r (a : Fin 32) (b : Fin 128), l r (ix2 a b) = ℓ ⟨32 * r.val + a.val, by omega⟩)
    (D : Vec Ideal S256x32000 .f32) (hD : ZOk L 125 D) (hz : ZIn (grid0.coords t)) :
    ErrsOk (fun r v => fn (L r v) (ℓ r)) (10 * (t.val + 1 - 125)) (b.view.read (Elt Ideal) (b.view.writes (Elt Ideal) f
      (errFill b.view X q l (fun r j => View.ld D (Rect.unit (zoff (grid0.coords t) r j) S32x128.size (hz r j))) rows8))) := by
  intro i b'
  rw [show t.val + 1 - 125 = 0 + 1 by omega]
  refine errFill_out b.view f X hX q (fun z l => dev (fn z l)) hq l _ (fun i => entry fun v => dev (fn (L i v) (ℓ i))) (fun r j a b => ?_) i b'
  refine (errs_z t (by omega) fn l ℓ hl D hD hz r j a b).trans ?_
  rw [show t.val - 125 = 0 by omega]

/-! ## The row outputs -/

theorem rows_ext {f : Fin 256 → EReal} {X : Vec Ideal S2x128 .f32} (h : ∀ (i : Fin 2) (j : Fin 128), X (ix2 i j) = f (rowOf i j)) : X = rowV f := by
  funext x
  obtain ⟨i, j, rfl⟩ : ∃ (i : Fin 2) (j : Fin 128), x = ix2 i j := ⟨x 0, x 1, eq_ix2 x⟩
  exact h i j

theorem err_max {cf : Fin 256 → Fin 32000 → EReal} {E : Vec Ideal S256x128 .f32} (hE : ErrsOk cf 250 E) (i : Fin 256) :
    (Finset.univ.fold max ⊥ fun l : Fin 128 => (E (ix2 i l) : EReal)) = Finset.univ.fold max ⊥ fun v => dev (cf i v) := by
  have e : (fun l : Fin 128 => (E (ix2 i l) : EReal)) = fun l : Fin 128 => laneE (entry fun v => dev (cf i v)) l.val 250 := funext fun l => hE i l
  rw [e, lanes_E _ fun v => dev_nonneg _]

end Cert.KernelIdeal.Body
end
-- ==== Proof.ValBase.lean ====
/- The body run at every point of the grid, from scratch buffers that satisfy the invariant: what it leaves in the output blocks and
   that the invariant holds again. -/
module

public import proofs.«01_k».proof.Proof.Facts
public import Idealize.ShloMosaic.Lib.Pipeline.FrameBody
public import Idealize.ShloMosaic.Lib.Tactic

@[expose] public section

set_option maxRecDepth 16384

noncomputable section

namespace Cert.KernelIdeal.Body

open Cert.KernelIdeal.Gen Cert.Spec
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

local notation "𝕄" => MT nD τ sig Unit (Elt Ideal) ℕ (UR sig nD τ) ℕ

/-- A buffer held at written contents is held at what they read as. -/
theorem wroteV (c : Dev nD) {sp : Space} {s : Shape} {e : EltTy} (b : Memref sig .tc sp s e) (f) :
    (b.view.loc (c : Thread nD τ) ↦[b.view.set]{fullShare} f : sProp 𝕄) ⊢ owns (c : Thread nD τ) b fullShare (b.view.read (Elt Ideal) f) := by
  unfold owns
  iintro H
  iexists f; isplitr; · ipureintro; rfl
  iexact H

/-- The twenty buffers of a point at their contents. -/
abbrev held20 (c : Dev nD) (t : Fin cfg0.N) (d0 : Vec Ideal S256x6144 .fp8e4m3) (d1 : Vec Ideal S256x6144 .fp8e4m3) (d2 : Vec Ideal S256x1 .f32) (d3 : Vec Ideal S1 .f32) (d4 : Vec Ideal S256x6144 .i8) (d5 : Vec Ideal S256x768 .fp8e4m3) (d6 : Vec Ideal S256x1280 .fp8e5m2) (d7 : Vec Ideal S256x1280 .fp8e5m2) (d8 : Vec Ideal S2x128 .f32) (d9 : Vec Ideal S2x128 .f32) (d10 : Vec Ideal S2x128 .f32) (d11 : Vec Ideal S2x128 .f32) (d12 : Vec Ideal S256x32000 .f32) (d13 : Vec Ideal S256x128 .f32) (d14 : Vec Ideal S256x128 .f32) (d15 : Vec Ideal S256x128 .f32) (d16 : Vec Ideal S256x128 .f32) (d17 : Vec Ideal S256x128 .f32) (d18 : Vec Ideal S256x128 .f32) (d19 : Vec Ideal S256x128 .f32) : sProp 𝕄 :=
  iprop(owns (c : Thread nD τ) (ms0 t) fullShare d0 ∗ owns (c : Thread nD τ) (ms1 t) fullShare d1 ∗ owns (c : Thread nD τ) (ms2 t) fullShare d2 ∗ owns (c : Thread nD τ) (ms3 t) fullShare d3 ∗ owns (c : Thread nD τ) (ms4 t) fullShare d4 ∗ owns (c : Thread nD τ) (ms5 t) fullShare d5 ∗ owns (c : Thread nD τ) (ms6 t) fullShare d6 ∗ owns (c : Thread nD τ) (ms7 t) fullShare d7 ∗ owns (c : Thread nD τ) (ms8 t) fullShare d8 ∗ owns (c : Thread nD τ) (ms9 t) fullShare d9 ∗ owns (c : Thread nD τ) (ms10 t) fullShare d10 ∗ owns (c : Thread nD τ) (ms11 t) fullShare d11 ∗ owns (c : Thread nD τ) sc0 fullShare d12 ∗ owns (c : Thread nD τ) sc1 fullShare d13 ∗ owns (c : Thread nD τ) sc2 fullShare d14 ∗ owns (c : Thread nD τ) sc3 fullShare d15 ∗ owns (c : Thread nD τ) sc4 fullShare d16 ∗ owns (c : Thread nD τ) sc5 fullShare d17 ∗ owns (c : Thread nD τ) sc6 fullShare d18 ∗ owns (c : Thread nD τ) sc7 fullShare d19)

/-- A run of the body, its buffers named. -/
theorem nameV (c : Dev nD) (t : Fin cfg0.N) (P : Vec Ideal S256x1280 .fp8e5m2 → Vec Ideal S256x1280 .fp8e5m2 → Vec Ideal S2x128 .f32 → Vec Ideal S2x128 .f32 → Vec Ideal S2x128 .f32 → Vec Ideal S2x128 .f32 → Vec Ideal S256x32000 .f32 → Vec Ideal S256x128 .f32 → Vec Ideal S256x128 .f32 → Vec Ideal S256x128 .f32 → Vec Ideal S256x128 .f32 → Vec Ideal S256x128 .f32 → Vec Ideal S256x128 .f32 → Vec Ideal S256x128 .f32 → Prop)
    (d0 : Vec Ideal S256x6144 .fp8e4m3) (d1 : Vec Ideal S256x6144 .fp8e4m3) (d2 : Vec Ideal S256x1 .f32) (d3 : Vec Ideal S1 .f32) (d4 : Vec Ideal S256x6144 .i8) (d5 : Vec Ideal S256x768 .fp8e4m3) (d6 : Vec Ideal S256x1280 .fp8e5m2) (d7 : Vec Ideal S256x1280 .fp8e5m2) (d8 : Vec Ideal S2x128 .f32) (d9 : Vec Ideal S2x128 .f32) (d10 : Vec Ideal S2x128 .f32) (d11 : Vec Ideal S2x128 .f32) (d12 : Vec Ideal S256x32000 .f32) (d13 : Vec Ideal S256x128 .f32) (d14 : Vec Ideal S256x128 .f32) (d15 : Vec Ideal S256x128 .f32) (d16 : Vec Ideal S256x128 .f32) (d17 : Vec Ideal S256x128 .f32) (d18 : Vec Ideal S256x128 .f32) (d19 : Vec Ideal S256x128 .f32) (W6 W7 W8 W9 W10 W11 W12 W13 W14 W15 W16 W17 W18 W19 : sProp 𝕄) (e6 : Vec Ideal S256x1280 .fp8e5m2) (e7 : Vec Ideal S256x1280 .fp8e5m2) (e8 : Vec Ideal S2x128 .f32) (e9 : Vec Ideal S2x128 .f32) (e10 : Vec Ideal S2x128 .f32) (e11 : Vec Ideal S2x128 .f32) (e12 : Vec Ideal S256x32000 .f32) (e13 : Vec Ideal S256x128 .f32) (e14 : Vec Ideal S256x128 .f32) (e15 : Vec Ideal S256x128 .f32) (e16 : Vec Ideal S256x128 .f32) (e17 : Vec Ideal S256x128 .f32) (e18 : Vec Ideal S256x128 .f32) (e19 : Vec Ideal S256x128 .f32)
    (h6 : W6 ⊢ owns (c : Thread nD τ) (ms6 t) fullShare e6) (h7 : W7 ⊢ owns (c : Thread nD τ) (ms7 t) fullShare e7) (h8 : W8 ⊢ owns (c : Thread nD τ) (ms8 t) fullShare e8) (h9 : W9 ⊢ owns (c : Thread nD τ) (ms9 t) fullShare e9) (h10 : W10 ⊢ owns (c : Thread nD τ) (ms10 t) fullShare e10) (h11 : W11 ⊢ owns (c : Thread nD τ) (ms11 t) fullShare e11) (h12 : W12 ⊢ owns (c : Thread nD τ) sc0 fullShare e12) (h13 : W13 ⊢ owns (c : Thread nD τ) sc1 fullShare e13) (h14 : W14 ⊢ owns (c : Thread nD τ) sc2 fullShare e14) (h15 : W15 ⊢ owns (c : Thread nD τ) sc3 fullShare e15) (h16 : W16 ⊢ owns (c : Thread nD τ) sc4 fullShare e16) (h17 : W17 ⊢ owns (c : Thread nD τ) sc5 fullShare e17) (h18 : W18 ⊢ owns (c : Thread nD τ) sc6 fullShare e18) (h19 : W19 ⊢ owns (c : Thread nD τ) sc7 fullShare e19)
    (run : ∀ (E : Set ℕ) (K : PUnit → sProp 𝕄), iprop(owns (c : Thread nD τ) (ms0 t) fullShare d0 ∗ owns (c : Thread nD τ) (ms1 t) fullShare d1 ∗ owns (c : Thread nD τ) (ms2 t) fullShare d2 ∗ owns (c : Thread nD τ) (ms3 t) fullShare d3 ∗ owns (c : Thread nD τ) (ms4 t) fullShare d4 ∗ owns (c : Thread nD τ) (ms5 t) fullShare d5 ∗ owns (c : Thread nD τ) (ms6 t) fullShare d6 ∗ owns (c : Thread nD τ) (ms7 t) fullShare d7 ∗ owns (c : Thread nD τ) (ms8 t) fullShare d8 ∗ owns (c : Thread nD τ) (ms9 t) fullShare d9 ∗ owns (c : Thread nD τ) (ms10 t) fullShare d10 ∗ owns (c : Thread nD τ) (ms11 t) fullShare d11 ∗ owns (c : Thread nD τ) sc0 fullShare d12 ∗ owns (c : Thread nD τ) sc1 fullShare d13 ∗ owns (c : Thread nD τ) sc2 fullShare d14 ∗ owns (c : Thread nD τ) sc3 fullShare d15 ∗ owns (c : Thread nD τ) sc4 fullShare d16 ∗ owns (c : Thread nD τ) sc5 fullShare d17 ∗ owns (c : Thread nD τ) sc6 fullShare d18 ∗ owns (c : Thread nD τ) sc7 fullShare d19
      ∗ (iprop(owns (c : Thread nD τ) (ms0 t) fullShare d0 ∗ owns (c : Thread nD τ) (ms1 t) fullShare d1 ∗ owns (c : Thread nD τ) (ms2 t) fullShare d2 ∗ owns (c : Thread nD τ) (ms3 t) fullShare d3 ∗ owns (c : Thread nD τ) (ms4 t) fullShare d4 ∗ owns (c : Thread nD τ) (ms5 t) fullShare d5 ∗ W6 ∗ W7 ∗ W8 ∗ W9 ∗ W10 ∗ W11 ∗ W12 ∗ W13 ∗ W14 ∗ W15 ∗ W16 ∗ W17 ∗ W18 ∗ W19) -∗ K ⟨⟩)) ⊢ wp frame (wpE (defs₀ (F := Ideal)) Variants.none c none) E (bodyAt0 t) K)
    (hP : P e6 e7 e8 e9 e10 e11 e12 e13 e14 e15 e16 e17 e18 e19) :
    held20 c t d0 d1 d2 d3 d4 d5 d6 d7 d8 d9 d10 d11 d12 d13 d14 d15 d16 d17 d18 d19 ⊢ wp frame (wpE (defs₀ (F := Ideal)) Variants.none c none) Set.univ (bodyAt0 t)
      (fun _ => iprop(∃ e6 e7 e8 e9 e10 e11 e12 e13 e14 e15 e16 e17 e18 e19, ⌜P e6 e7 e8 e9 e10 e11 e12 e13 e14 e15 e16 e17 e18 e19⌝ ∗ held20 c t d0 d1 d2 d3 d4 d5 e6 e7 e8 e9 e10 e11 e12 e13 e14 e15 e16 e17 e18 e19)) := by
  refine BIBase.Entails.trans ?_ (run Set.univ _)
  iintro ⟨H0, H1, H2, H3, H4, H5, H6, H7, H8, H9, H10, H11, H12, H13, H14, H15, H16, H17, H18, H19⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  iintro ⟨H0, H1, H2, H3, H4, H5, H6, H7, H8, H9, H10, H11, H12, H13, H14, H15, H16, H17, H18, H19⟩
  iexists e6
  iexists e7
  iexists e8
  iexists e9
  iexists e10
  iexists e11
  iexists e12
  iexists e13
  iexists e14
  iexists e15
  iexists e16
  iexists e17
  iexists e18
  iexists e19
  isplitr; · ipureintro; exact hP
  isplitl [H0]; · iexact H0
  isplitl [H1]; · iexact H1
  isplitl [H2]; · iexact H2
  isplitl [H3]; · iexact H3
  isplitl [H4]; · iexact H4
  isplitl [H5]; · iexact H5
  isplitl [H6]; · iapply h6; iexact H6
  isplitl [H7]; · iapply h7; iexact H7
  isplitl [H8]; · iapply h8; iexact H8
  isplitl [H9]; · iapply h9; iexact H9
  isplitl [H10]; · iapply h10; iexact H10
  isplitl [H11]; · iapply h11; iexact H11
  isplitl [H12]; · iapply h12; iexact H12
  isplitl [H13]; · iapply h13; iexact H13
  isplitl [H14]; · iapply h14; iexact H14
  isplitl [H15]; · iapply h15; iexact H15
  isplitl [H16]; · iapply h16; iexact H16
  isplitl [H17]; · iapply h17; iexact H17
  isplitl [H18]; · iapply h18; iexact H18
  iapply h19; iexact H19

theorem rows127 {L : Fin 256 → Fin 32000 → EReal} {X Y d e g : Vec Ideal S256x128 .f32} (hX : X = d) (hY : Y = e) (h : LanesOk L 125 d e g) :
    RowsOk (lse L) (k0_pay127 (View.ld X fullR) (View.ld Y fullR)) := by
  subst hX hY
  rw [ld_full, ld_full]
  exact fun i b => (pay127_at _ _ i b).trans (lse_lane h i)
theorem rows128 {L : Fin 256 → Fin 32000 → EReal} {X Y d e g : Vec Ideal S256x128 .f32} (hX : X = d) (hY : Y = g) (h : LanesOk L 125 d e g) :
    RowsOk (lseT L) (k0_pay128 (View.ld X fullR) (View.ld Y fullR)) := by
  subst hX hY
  rw [ld_full, ld_full]
  exact fun i b => (pay128_at _ _ i b).trans (lset_lane h i)
theorem lse_row {L : Fin 256 → Fin 32000 → EReal} {X Y d e g : Vec Ideal S256x128 .f32} (hX : X = d) (hY : Y = e) (h : LanesOk L 125 d e g) :
    k0_pay5 (k0_pay129 (View.ld X fullR) (View.ld Y fullR)) (k0_pay130 (View.ld X fullR) (View.ld Y fullR)) = rowV (lse L) := by
  subst hX hY
  rw [ld_full, ld_full]
  exact rows_ext fun i j => (pay5_at _ _ i j).trans (lse_lane h _)
theorem lset_row {L : Fin 256 → Fin 32000 → EReal} {X Y d e g : Vec Ideal S256x128 .f32} (hX : X = d) (hY : Y = g) (h : LanesOk L 125 d e g) :
    k0_pay6 (k0_pay126 (View.ld X fullR) (View.ld Y fullR)) = rowV (lseT L) := by
  subst hX hY
  rw [ld_full, ld_full]
  exact rows_ext fun i j => (pay6_at _ i j).trans (lset_lane h _)
theorem readCov_rows {f : Fin 256 → EReal} (b : Memref sig .tc .vmem S256x128 .f32) (P : Vec Ideal S256x128 .f32) (h : RowsOk f P) (r : Fin 8) (a : Fin 32) (k : Fin 128) :
    View.readCov (Val := Elt Ideal) b.view [⟨fullR, P⟩] (rowR r).toLoadRect (ix2 a k) = f ⟨32 * r.val + a.val, by omega⟩ :=
  (congrFun (readCov_row b P r) (ix2 a k)).trans ((ld_row P r a k).trans (h _ _))
theorem ld_rows {f : Fin 256 → EReal} {X d : Vec Ideal S256x128 .f32} (hX : X = d) (h : RowsOk f d) (r : Fin 8) (a : Fin 32) (k : Fin 128) :
    View.ld X (rowR r) (ix2 a k) = f ⟨32 * r.val + a.val, by omega⟩ := by
  subst hX
  exact (ld_row X r a k).trans (h _ _)

theorem readCov_all (b : Memref sig .tc .vmem S256x128 .f32) (P : List (View.Piece (Elt Ideal) S256x128 .f32)) :
    View.readCov (Val := Elt Ideal) b.view P fullR.toLoadRect = b.view.read (Elt Ideal) (b.view.writes (Elt Ideal) b.view.junk P) :=
  ld_full _

end Cert.KernelIdeal.Body
end
-- ==== Proof.ValA.lean ====
/- The body run at a point, its buffers named: the vocabulary tiles. -/
module

public import proofs.«01_k».proof.Proof.ValBase
public import Idealize.ShloMosaic.Lib.Pipeline.FrameBody
public import Idealize.ShloMosaic.Lib.Tactic

@[expose] public section

set_option maxRecDepth 16384

noncomputable section

namespace Cert.KernelIdeal.Body

open Cert.KernelIdeal.Gen Cert.Spec
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

local notation "𝕄" => MT nD τ sig Unit (Elt Ideal) ℕ (UR sig nD τ) ℕ

theorem tile_conv {L : Fin 256 → Fin 32000 → EReal} {n : ℕ} {X1 X2 d1 d2 : Vec Ideal S256x6144 .fp8e4m3} {X3 d3 : Vec Ideal S256x1 .f32} {G g : Elt Ideal .f32}
    {X5 d5 : Vec Ideal S256x6144 .i8} {X6 d6 : Vec Ideal S256x768 .fp8e4m3} (h1 : X1 = d1) (h2 : X2 = d2) (h3 : X3 = d3) (hg : G = g) (h5 : X5 = d5) (h6 : X6 = d6)
    (h : TileOk L n (zTile d1 d2 d3 g d5 d6)) : TileOk L n (zTile X1 X2 X3 G X5 X6) := by
  subst h1 h2 h3 hg h5 h6
  exact h
theorem lanes_conv {L : Fin 256 → Fin 32000 → EReal} {n : ℕ} {X Y W d e g : Vec Ideal S256x128 .f32} (hX : X = d) (hY : Y = e) (hW : W = g) (h : LanesOk L n d e g) :
    LanesOk L n (View.ld X fullR) (View.ld Y fullR) (View.ld W fullR) := by
  subst hX hY hW
  rwa [ld_full, ld_full, ld_full]
theorem lanes_first (L : Fin 256 → Fin 32000 → EReal) {n : ℕ} (hn : n = 0) (b1 b2 b3 : Memref sig .tc .vmem S256x128 .f32) :
    LanesOk L n (View.readCov (Val := Elt Ideal) b1.view [⟨fullR, k0_pay1 (F := Ideal)⟩] fullR.toLoadRect)
      (View.readCov (Val := Elt Ideal) b2.view [⟨fullR, k0_pay2 (F := Ideal)⟩] fullR.toLoadRect)
      (View.readCov (Val := Elt Ideal) b3.view [⟨fullR, k0_pay3 (F := Ideal)⟩] fullR.toLoadRect) := by
  subst hn
  rw [readCov_full, readCov_full, readCov_full]
  exact lanes_init L

set_option maxHeartbeats 4000000 in
/-- The first point. -/
theorem valA (L : Fin 256 → Fin 32000 → EReal) (c : Dev nD) (t : Fin cfg0.N) (d0 : Vec Ideal S256x6144 .fp8e4m3) (d1 : Vec Ideal S256x6144 .fp8e4m3) (d2 : Vec Ideal S256x1 .f32) (d3 : Vec Ideal S1 .f32) (d4 : Vec Ideal S256x6144 .i8) (d5 : Vec Ideal S256x768 .fp8e4m3) (d6 : Vec Ideal S256x1280 .fp8e5m2) (d7 : Vec Ideal S256x1280 .fp8e5m2) (d8 : Vec Ideal S2x128 .f32) (d9 : Vec Ideal S2x128 .f32) (d10 : Vec Ideal S2x128 .f32) (d11 : Vec Ideal S2x128 .f32) (d12 : Vec Ideal S256x32000 .f32) (d13 : Vec Ideal S256x128 .f32) (d14 : Vec Ideal S256x128 .f32) (d15 : Vec Ideal S256x128 .f32) (d16 : Vec Ideal S256x128 .f32) (d17 : Vec Ideal S256x128 .f32) (d18 : Vec Ideal S256x128 .f32) (d19 : Vec Ideal S256x128 .f32)
    (ht : t.val = 0) (hT : t.val < 125 → TileOk L t.val (zTile d0 d1 d2 (d3 (ix1 (0 : Fin 1))) d4 d5)) (hI : Inv L t.val d12 d13 d14 d15 d16 d17 d18 d19) :
    held20 c t d0 d1 d2 d3 d4 d5 d6 d7 d8 d9 d10 d11 d12 d13 d14 d15 d16 d17 d18 d19 ⊢ wp frame (wpE (defs₀ (F := Ideal)) Variants.none c none) Set.univ (bodyAt0 t)
      (fun _ => iprop(∃ e6 e7 e8 e9 e10 e11 e12 e13 e14 e15 e16 e17 e18 e19, ⌜OutsOk L t.val d6 d7 d8 d9 d10 d11 e6 e7 e8 e9 e10 e11 ∧ Inv L (t.val + 1) e12 e13 e14 e15 e16 e17 e18 e19⌝ ∗ held20 c t d0 d1 d2 d3 d4 d5 e6 e7 e8 e9 e10 e11 e12 e13 e14 e15 e16 e17 e18 e19)) := by
  have h0 : cond0 (grid0.coords t) := (hcond0 t).mpr (by omega)
  have h1 : cond1 (grid0.coords t) := (hcond1 t).mpr (by omega)
  have h2 : ¬cond2 (grid0.coords t) := fun h => absurd ((hcond2 t).mp h) (by omega)
  have h3 : ¬cond3 (grid0.coords t) := fun h => absurd ((hcond3 t).mp h) (by omega)
  have h4 : ¬cond4 (grid0.coords t) := fun h => absurd ((hcond4 t).mp h) (by omega)
  have hn : t.val < 125 := by omega
  have hm : min t.val 125 = t.val := by omega
  have hd := hI.z
  rw [hm] at hd
  have hZ := hT hn
  refine nameV c t (fun e6 e7 e8 e9 e10 e11 e12 e13 e14 e15 e16 e17 e18 e19 => OutsOk L t.val d6 d7 d8 d9 d10 d11 e6 e7 e8 e9 e10 e11 ∧ Inv L (t.val + 1) e12 e13 e14 e15 e16 e17 e18 e19) d0 d1 d2 d3 d4 d5 d6 d7 d8 d9 d10 d11 d12 d13 d14 d15 d16 d17 d18 d19 _ _ _ _ _ _ _ _ _ _ _ _ _ _ _ _ _ _ _ _ _ _ _ _ _ _ _ _
    .rfl .rfl .rfl .rfl .rfl .rfl (wroteV c _ _) (wroteV c _ _) (wroteV c _ _) (wroteV c _ _) .rfl .rfl .rfl .rfl
    (runA c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) sc0 (Memref.isWhole_whole _) sc1 (Memref.isWhole_whole _) sc2 (Memref.isWhole_whole _) sc3 (Memref.isWhole_whole _) sc4 (Memref.isWhole_whole _) sc5 (Memref.isWhole_whole _) sc6 (Memref.isWhole_whole _) sc7 (Memref.isWhole_whole _) h0 h1 h2 h3 h4 d0 d1 d2 d3 d4 d5 d6 d7 d8 d9 d10 d11 d12 d13 d14 d15 d16 d17 d18 d19).2.2.2.2 ?_
  exact ⟨OutsOk.tile hn _ _ _ _ _ _, inv_tile hn _ (off1_eq t hn) sc0 (Memref.isWhole_whole _) sc1 sc2 sc3
    (tile_conv (Memref.IsWhole.read_unread _ _) (Memref.IsWhole.read_unread _ _) (Memref.IsWhole.read_unread _ _) (g_at _ _ _) (Memref.IsWhole.read_unread _ _) (Memref.IsWhole.read_unread _ _) hZ) hd (lanes_first L ht sc1 sc2 sc3) _ _ _ _ _ _ _ _ _ _
    (runA_z c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) sc0 (Memref.isWhole_whole _) sc1 (Memref.isWhole_whole _) sc2 (Memref.isWhole_whole _) sc3 (Memref.isWhole_whole _) sc4 (Memref.isWhole_whole _) sc5 (Memref.isWhole_whole _) sc6 (Memref.isWhole_whole _) sc7 (Memref.isWhole_whole _) h0 h1 h2 h3 h4 d0 d1 d2 d3 d4 d5 d6 d7 d8 d9 d10 d11 d12 d13 d14 d15 d16 d17 d18 d19)
    (runA_m c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) sc0 (Memref.isWhole_whole _) sc1 (Memref.isWhole_whole _) sc2 (Memref.isWhole_whole _) sc3 (Memref.isWhole_whole _) sc4 (Memref.isWhole_whole _) sc5 (Memref.isWhole_whole _) sc6 (Memref.isWhole_whole _) sc7 (Memref.isWhole_whole _) h0 h1 h2 h3 h4 d0 d1 d2 d3 d4 d5 d6 d7 d8 d9 d10 d11 d12 d13 d14 d15 d16 d17 d18 d19)
    (runA_s1 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) sc0 (Memref.isWhole_whole _) sc1 (Memref.isWhole_whole _) sc2 (Memref.isWhole_whole _) sc3 (Memref.isWhole_whole _) sc4 (Memref.isWhole_whole _) sc5 (Memref.isWhole_whole _) sc6 (Memref.isWhole_whole _) sc7 (Memref.isWhole_whole _) h0 h1 h2 h3 h4 d0 d1 d2 d3 d4 d5 d6 d7 d8 d9 d10 d11 d12 d13 d14 d15 d16 d17 d18 d19)
    (runA_s2 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) sc0 (Memref.isWhole_whole _) sc1 (Memref.isWhole_whole _) sc2 (Memref.isWhole_whole _) sc3 (Memref.isWhole_whole _) sc4 (Memref.isWhole_whole _) sc5 (Memref.isWhole_whole _) sc6 (Memref.isWhole_whole _) sc7 (Memref.isWhole_whole _) h0 h1 h2 h3 h4 d0 d1 d2 d3 d4 d5 d6 d7 d8 d9 d10 d11 d12 d13 d14 d15 d16 d17 d18 d19) _ _ _ _⟩

set_option maxHeartbeats 4000000 in
/-- A vocabulary tile. -/
theorem valB (L : Fin 256 → Fin 32000 → EReal) (c : Dev nD) (t : Fin cfg0.N) (d0 : Vec Ideal S256x6144 .fp8e4m3) (d1 : Vec Ideal S256x6144 .fp8e4m3) (d2 : Vec Ideal S256x1 .f32) (d3 : Vec Ideal S1 .f32) (d4 : Vec Ideal S256x6144 .i8) (d5 : Vec Ideal S256x768 .fp8e4m3) (d6 : Vec Ideal S256x1280 .fp8e5m2) (d7 : Vec Ideal S256x1280 .fp8e5m2) (d8 : Vec Ideal S2x128 .f32) (d9 : Vec Ideal S2x128 .f32) (d10 : Vec Ideal S2x128 .f32) (d11 : Vec Ideal S2x128 .f32) (d12 : Vec Ideal S256x32000 .f32) (d13 : Vec Ideal S256x128 .f32) (d14 : Vec Ideal S256x128 .f32) (d15 : Vec Ideal S256x128 .f32) (d16 : Vec Ideal S256x128 .f32) (d17 : Vec Ideal S256x128 .f32) (d18 : Vec Ideal S256x128 .f32) (d19 : Vec Ideal S256x128 .f32)
    (ht : t.val ≠ 0 ∧ t.val < 125) (hT : t.val < 125 → TileOk L t.val (zTile d0 d1 d2 (d3 (ix1 (0 : Fin 1))) d4 d5)) (hI : Inv L t.val d12 d13 d14 d15 d16 d17 d18 d19) :
    held20 c t d0 d1 d2 d3 d4 d5 d6 d7 d8 d9 d10 d11 d12 d13 d14 d15 d16 d17 d18 d19 ⊢ wp frame (wpE (defs₀ (F := Ideal)) Variants.none c none) Set.univ (bodyAt0 t)
      (fun _ => iprop(∃ e6 e7 e8 e9 e10 e11 e12 e13 e14 e15 e16 e17 e18 e19, ⌜OutsOk L t.val d6 d7 d8 d9 d10 d11 e6 e7 e8 e9 e10 e11 ∧ Inv L (t.val + 1) e12 e13 e14 e15 e16 e17 e18 e19⌝ ∗ held20 c t d0 d1 d2 d3 d4 d5 e6 e7 e8 e9 e10 e11 e12 e13 e14 e15 e16 e17 e18 e19)) := by
  have h0 : ¬cond0 (grid0.coords t) := fun h => absurd ((hcond0 t).mp h) (by omega)
  have h1 : cond1 (grid0.coords t) := (hcond1 t).mpr (by omega)
  have h2 : ¬cond2 (grid0.coords t) := fun h => absurd ((hcond2 t).mp h) (by omega)
  have h3 : ¬cond3 (grid0.coords t) := fun h => absurd ((hcond3 t).mp h) (by omega)
  have h4 : ¬cond4 (grid0.coords t) := fun h => absurd ((hcond4 t).mp h) (by omega)
  have hn : t.val < 125 := by omega
  have hm : min t.val 125 = t.val := by omega
  have hd := hI.z
  rw [hm] at hd
  have hl := hI.lanes ht.1
  rw [hm] at hl
  have hZ := hT hn
  refine nameV c t (fun e6 e7 e8 e9 e10 e11 e12 e13 e14 e15 e16 e17 e18 e19 => OutsOk L t.val d6 d7 d8 d9 d10 d11 e6 e7 e8 e9 e10 e11 ∧ Inv L (t.val + 1) e12 e13 e14 e15 e16 e17 e18 e19) d0 d1 d2 d3 d4 d5 d6 d7 d8 d9 d10 d11 d12 d13 d14 d15 d16 d17 d18 d19 _ _ _ _ _ _ _ _ _ _ _ _ _ _ _ _ _ _ _ _ _ _ _ _ _ _ _ _
    .rfl .rfl .rfl .rfl .rfl .rfl (wroteV c _ _) (wroteV c _ _) (wroteV c _ _) (wroteV c _ _) .rfl .rfl .rfl .rfl
    (runB c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) sc0 (Memref.isWhole_whole _) sc1 (Memref.isWhole_whole _) sc2 (Memref.isWhole_whole _) sc3 (Memref.isWhole_whole _) sc4 (Memref.isWhole_whole _) sc5 (Memref.isWhole_whole _) sc6 (Memref.isWhole_whole _) sc7 (Memref.isWhole_whole _) h0 h1 h2 h3 h4 d0 d1 d2 d3 d4 d5 d6 d7 d8 d9 d10 d11 d12 d13 d14 d15 d16 d17 d18 d19).2.2.2.2 ?_
  exact ⟨OutsOk.tile hn _ _ _ _ _ _, inv_tile hn _ (off1_eq t hn) sc0 (Memref.isWhole_whole _) sc1 sc2 sc3
    (tile_conv (Memref.IsWhole.read_unread _ _) (Memref.IsWhole.read_unread _ _) (Memref.IsWhole.read_unread _ _) (g_at _ _ _) (Memref.IsWhole.read_unread _ _) (Memref.IsWhole.read_unread _ _) hZ) hd (lanes_conv (Memref.IsWhole.read_unread _ _) (Memref.IsWhole.read_unread _ _) (Memref.IsWhole.read_unread _ _) hl) _ _ _ _ _ _ _ _ _ _
    (runB_z c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) sc0 (Memref.isWhole_whole _) sc1 (Memref.isWhole_whole _) sc2 (Memref.isWhole_whole _) sc3 (Memref.isWhole_whole _) sc4 (Memref.isWhole_whole _) sc5 (Memref.isWhole_whole _) sc6 (Memref.isWhole_whole _) sc7 (Memref.isWhole_whole _) h0 h1 h2 h3 h4 d0 d1 d2 d3 d4 d5 d6 d7 d8 d9 d10 d11 d12 d13 d14 d15 d16 d17 d18 d19)
    (runB_m c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) sc0 (Memref.isWhole_whole _) sc1 (Memref.isWhole_whole _) sc2 (Memref.isWhole_whole _) sc3 (Memref.isWhole_whole _) sc4 (Memref.isWhole_whole _) sc5 (Memref.isWhole_whole _) sc6 (Memref.isWhole_whole _) sc7 (Memref.isWhole_whole _) h0 h1 h2 h3 h4 d0 d1 d2 d3 d4 d5 d6 d7 d8 d9 d10 d11 d12 d13 d14 d15 d16 d17 d18 d19)
    (runB_s1 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) sc0 (Memref.isWhole_whole _) sc1 (Memref.isWhole_whole _) sc2 (Memref.isWhole_whole _) sc3 (Memref.isWhole_whole _) sc4 (Memref.isWhole_whole _) sc5 (Memref.isWhole_whole _) sc6 (Memref.isWhole_whole _) sc7 (Memref.isWhole_whole _) h0 h1 h2 h3 h4 d0 d1 d2 d3 d4 d5 d6 d7 d8 d9 d10 d11 d12 d13 d14 d15 d16 d17 d18 d19)
    (runB_s2 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) sc0 (Memref.isWhole_whole _) sc1 (Memref.isWhole_whole _) sc2 (Memref.isWhole_whole _) sc3 (Memref.isWhole_whole _) sc4 (Memref.isWhole_whole _) sc5 (Memref.isWhole_whole _) sc6 (Memref.isWhole_whole _) sc7 (Memref.isWhole_whole _) h0 h1 h2 h3 h4 d0 d1 d2 d3 d4 d5 d6 d7 d8 d9 d10 d11 d12 d13 d14 d15 d16 d17 d18 d19) _ _ _ _⟩

end Cert.KernelIdeal.Body
end
-- ==== Proof.ValC.lean ====
/- The body run at a point, its buffers named: the first output tile. -/
module

public import proofs.«01_k».proof.Proof.ValBase
public import Idealize.ShloMosaic.Lib.Pipeline.FrameBody
public import Idealize.ShloMosaic.Lib.Tactic

@[expose] public section

set_option maxRecDepth 16384

noncomputable section

namespace Cert.KernelIdeal.Body

open Cert.KernelIdeal.Gen Cert.Spec
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

local notation "𝕄" => MT nD τ sig Unit (Elt Ideal) ℕ (UR sig nD τ) ℕ

attribute [local irreducible] errFill in
set_option maxHeartbeats 4000000 in
/-- The first output tile. -/
theorem valC (L : Fin 256 → Fin 32000 → EReal) (c : Dev nD) (t : Fin cfg0.N) (d0 : Vec Ideal S256x6144 .fp8e4m3) (d1 : Vec Ideal S256x6144 .fp8e4m3) (d2 : Vec Ideal S256x1 .f32) (d3 : Vec Ideal S1 .f32) (d4 : Vec Ideal S256x6144 .i8) (d5 : Vec Ideal S256x768 .fp8e4m3) (d6 : Vec Ideal S256x1280 .fp8e5m2) (d7 : Vec Ideal S256x1280 .fp8e5m2) (d8 : Vec Ideal S2x128 .f32) (d9 : Vec Ideal S2x128 .f32) (d10 : Vec Ideal S2x128 .f32) (d11 : Vec Ideal S2x128 .f32) (d12 : Vec Ideal S256x32000 .f32) (d13 : Vec Ideal S256x128 .f32) (d14 : Vec Ideal S256x128 .f32) (d15 : Vec Ideal S256x128 .f32) (d16 : Vec Ideal S256x128 .f32) (d17 : Vec Ideal S256x128 .f32) (d18 : Vec Ideal S256x128 .f32) (d19 : Vec Ideal S256x128 .f32)
    (ht : t.val = 125) (hT : t.val < 125 → TileOk L t.val (zTile d0 d1 d2 (d3 (ix1 (0 : Fin 1))) d4 d5)) (hI : Inv L t.val d12 d13 d14 d15 d16 d17 d18 d19) :
    held20 c t d0 d1 d2 d3 d4 d5 d6 d7 d8 d9 d10 d11 d12 d13 d14 d15 d16 d17 d18 d19 ⊢ wp frame (wpE (defs₀ (F := Ideal)) Variants.none c none) Set.univ (bodyAt0 t)
      (fun _ => iprop(∃ e6 e7 e8 e9 e10 e11 e12 e13 e14 e15 e16 e17 e18 e19, ⌜OutsOk L t.val d6 d7 d8 d9 d10 d11 e6 e7 e8 e9 e10 e11 ∧ Inv L (t.val + 1) e12 e13 e14 e15 e16 e17 e18 e19⌝ ∗ held20 c t d0 d1 d2 d3 d4 d5 e6 e7 e8 e9 e10 e11 e12 e13 e14 e15 e16 e17 e18 e19)) := by
  have h0 : ¬cond0 (grid0.coords t) := fun h => absurd ((hcond0 t).mp h) (by omega)
  have h1 : ¬cond1 (grid0.coords t) := fun h => absurd ((hcond1 t).mp h) (by omega)
  have h2 : cond2 (grid0.coords t) := (hcond2 t).mpr (by omega)
  have h3 : cond3 (grid0.coords t) := (hcond3 t).mpr (by omega)
  have h4 : ¬cond4 (grid0.coords t) := fun h => absurd ((hcond4 t).mp h) (by omega)
  have hn : 125 ≤ t.val := by omega
  have hN := lt150 t
  have hz := zin t hn
  have hd : ZOk L 125 d12 := by
    have hd := hI.z
    rwa [show min t.val 125 = 125 by omega] at hd
  have hD : ZOk L 125 (sc0.view.read (Elt Ideal) ((Memref.isWhole_whole cc0_scratch0).unread d12)) := by rwa [Memref.IsWhole.read_unread]
  have hl := hI.lanes (by omega)
  rw [show min t.val 125 = 125 by omega] at hl
  refine nameV c t (fun e6 e7 e8 e9 e10 e11 e12 e13 e14 e15 e16 e17 e18 e19 => OutsOk L t.val d6 d7 d8 d9 d10 d11 e6 e7 e8 e9 e10 e11 ∧ Inv L (t.val + 1) e12 e13 e14 e15 e16 e17 e18 e19) d0 d1 d2 d3 d4 d5 d6 d7 d8 d9 d10 d11 d12 d13 d14 d15 d16 d17 d18 d19 _ _ _ _ _ _ _ _ _ _ _ _ _ _ _ _ _ _ _ _ _ _ _ _ _ _ _ _
    (wroteV c _ _) (wroteV c _ _) (wroteV c _ _) .rfl (wroteV c _ _) .rfl .rfl .rfl .rfl .rfl (wroteV c _ _) (wroteV c _ _) (wroteV c _ _) (wroteV c _ _)
    (runC c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) sc0 (Memref.isWhole_whole _) sc1 (Memref.isWhole_whole _) sc2 (Memref.isWhole_whole _) sc3 (Memref.isWhole_whole _) sc4 (Memref.isWhole_whole _) sc5 (Memref.isWhole_whole _) sc6 (Memref.isWhole_whole _) sc7 (Memref.isWhole_whole _) h0 h1 h2 h3 h4 d0 d1 d2 d3 d4 d5 d6 d7 d8 d9 d10 d11 d12 d13 d14 d15 d16 d17 d18 d19).2.2.2.2.2.2.2.2 ?_
  refine ⟨⟨?_, ?_, ?_, ?_, ?_, ?_⟩, ⟨?_, fun _ => ?_, fun _ => ?_, fun _ => ?_, fun _ => ?_, fun _ => ?_⟩⟩
  · rw [if_neg (by omega), runC_c1 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) sc0 (Memref.isWhole_whole _) sc1 (Memref.isWhole_whole _) sc2 (Memref.isWhole_whole _) sc3 (Memref.isWhole_whole _) sc4 (Memref.isWhole_whole _) sc5 (Memref.isWhole_whole _) sc6 (Memref.isWhole_whole _) sc7 (Memref.isWhole_whole _) h0 h1 h2 h3 h4 d0 d1 d2 d3 d4 d5 d6 d7 d8 d9 d10 d11 d12 d13 d14 d15 d16 d17 d18 d19 hz]
    exact codes_tile t hn _ _ k0_pay132 floored pay132_at _ (lse L) (readCov_rows _ _ (rows127 (Memref.IsWhole.read_unread _ _) (Memref.IsWhole.read_unread _ _) hl)) _ hD hz
  · rw [if_neg (by omega), runC_c2 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) sc0 (Memref.isWhole_whole _) sc1 (Memref.isWhole_whole _) sc2 (Memref.isWhole_whole _) sc3 (Memref.isWhole_whole _) sc4 (Memref.isWhole_whole _) sc5 (Memref.isWhole_whole _) sc6 (Memref.isWhole_whole _) sc7 (Memref.isWhole_whole _) h0 h1 h2 h3 h4 d0 d1 d2 d3 d4 d5 d6 d7 d8 d9 d10 d11 d12 d13 d14 d15 d16 d17 d18 d19 hz]
    exact codes_tile t hn _ _ k0_pay134 (fun z l => floored (z * hf) l) pay134_at _ (lseT L) (readCov_rows _ _ (rows128 (Memref.IsWhole.read_unread _ _) (Memref.IsWhole.read_unread _ _) hl)) _ hD hz
  · rw [if_pos ht, runC_lse c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) sc0 (Memref.isWhole_whole _) sc1 (Memref.isWhole_whole _) sc2 (Memref.isWhole_whole _) sc3 (Memref.isWhole_whole _) sc4 (Memref.isWhole_whole _) sc5 (Memref.isWhole_whole _) sc6 (Memref.isWhole_whole _) sc7 (Memref.isWhole_whole _) h0 h1 h2 h3 h4 d0 d1 d2 d3 d4 d5 d6 d7 d8 d9 d10 d11 d12 d13 d14 d15 d16 d17 d18 d19 hz, store_full2]
    exact lse_row (Memref.IsWhole.read_unread _ _) (Memref.IsWhole.read_unread _ _) hl
  · rw [if_neg (by omega)]
  · rw [if_pos ht, runC_lset c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) sc0 (Memref.isWhole_whole _) sc1 (Memref.isWhole_whole _) sc2 (Memref.isWhole_whole _) sc3 (Memref.isWhole_whole _) sc4 (Memref.isWhole_whole _) sc5 (Memref.isWhole_whole _) sc6 (Memref.isWhole_whole _) sc7 (Memref.isWhole_whole _) h0 h1 h2 h3 h4 d0 d1 d2 d3 d4 d5 d6 d7 d8 d9 d10 d11 d12 d13 d14 d15 d16 d17 d18 d19 hz, store_full2]
    exact lset_row (Memref.IsWhole.read_unread _ _) (Memref.IsWhole.read_unread _ _) hl
  · rw [if_neg (by omega)]
  · rwa [show min (t.val + 1) 125 = 125 by omega]
  · rwa [show min (t.val + 1) 125 = 125 by omega]
  · rw [runC_l1 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) sc0 (Memref.isWhole_whole _) sc1 (Memref.isWhole_whole _) sc2 (Memref.isWhole_whole _) sc3 (Memref.isWhole_whole _) sc4 (Memref.isWhole_whole _) sc5 (Memref.isWhole_whole _) sc6 (Memref.isWhole_whole _) sc7 (Memref.isWhole_whole _) h0 h1 h2 h3 h4 d0 d1 d2 d3 d4 d5 d6 d7 d8 d9 d10 d11 d12 d13 d14 d15 d16 d17 d18 d19 hz, store_full]
    exact rows127 (Memref.IsWhole.read_unread _ _) (Memref.IsWhole.read_unread _ _) hl
  · rw [runC_l2 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) sc0 (Memref.isWhole_whole _) sc1 (Memref.isWhole_whole _) sc2 (Memref.isWhole_whole _) sc3 (Memref.isWhole_whole _) sc4 (Memref.isWhole_whole _) sc5 (Memref.isWhole_whole _) sc6 (Memref.isWhole_whole _) sc7 (Memref.isWhole_whole _) h0 h1 h2 h3 h4 d0 d1 d2 d3 d4 d5 d6 d7 d8 d9 d10 d11 d12 d13 d14 d15 d16 d17 d18 d19 hz, store_full]
    exact rows128 (Memref.IsWhole.read_unread _ _) (Memref.IsWhole.read_unread _ _) hl
  · rw [runC_e1 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) sc0 (Memref.isWhole_whole _) sc1 (Memref.isWhole_whole _) sc2 (Memref.isWhole_whole _) sc3 (Memref.isWhole_whole _) sc4 (Memref.isWhole_whole _) sc5 (Memref.isWhole_whole _) sc6 (Memref.isWhole_whole _) sc7 (Memref.isWhole_whole _) h0 h1 h2 h3 h4 d0 d1 d2 d3 d4 d5 d6 d7 d8 d9 d10 d11 d12 d13 d14 d15 d16 d17 d18 d19 hz]
    exact errs_first t ht sc6 _ (k0_pay7 (F := Ideal)) pay7_at k0_pay135 floored pay135_at _ (lse L) (readCov_rows _ _ (rows127 (Memref.IsWhole.read_unread _ _) (Memref.IsWhole.read_unread _ _) hl)) _ hD hz
  · rw [runC_e2 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) sc0 (Memref.isWhole_whole _) sc1 (Memref.isWhole_whole _) sc2 (Memref.isWhole_whole _) sc3 (Memref.isWhole_whole _) sc4 (Memref.isWhole_whole _) sc5 (Memref.isWhole_whole _) sc6 (Memref.isWhole_whole _) sc7 (Memref.isWhole_whole _) h0 h1 h2 h3 h4 d0 d1 d2 d3 d4 d5 d6 d7 d8 d9 d10 d11 d12 d13 d14 d15 d16 d17 d18 d19 hz]
    exact errs_first t ht sc7 _ (k0_pay8 (F := Ideal)) pay8_at k0_pay136 (fun z l => floored (z * hf) l) pay136_at _ (lseT L) (readCov_rows _ _ (rows128 (Memref.IsWhole.read_unread _ _) (Memref.IsWhole.read_unread _ _) hl)) _ hD hz

end Cert.KernelIdeal.Body
end
-- ==== Proof.ValD.lean ====
/- The body run at a point, its buffers named: an output tile. -/
module

public import proofs.«01_k».proof.Proof.ValBase
public import Idealize.ShloMosaic.Lib.Pipeline.FrameBody
public import Idealize.ShloMosaic.Lib.Tactic

@[expose] public section

set_option maxRecDepth 16384

noncomputable section

namespace Cert.KernelIdeal.Body

open Cert.KernelIdeal.Gen Cert.Spec
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

local notation "𝕄" => MT nD τ sig Unit (Elt Ideal) ℕ (UR sig nD τ) ℕ

set_option maxHeartbeats 4000000 in
/-- An output tile. -/
theorem valD (L : Fin 256 → Fin 32000 → EReal) (c : Dev nD) (t : Fin cfg0.N) (d0 : Vec Ideal S256x6144 .fp8e4m3) (d1 : Vec Ideal S256x6144 .fp8e4m3) (d2 : Vec Ideal S256x1 .f32) (d3 : Vec Ideal S1 .f32) (d4 : Vec Ideal S256x6144 .i8) (d5 : Vec Ideal S256x768 .fp8e4m3) (d6 : Vec Ideal S256x1280 .fp8e5m2) (d7 : Vec Ideal S256x1280 .fp8e5m2) (d8 : Vec Ideal S2x128 .f32) (d9 : Vec Ideal S2x128 .f32) (d10 : Vec Ideal S2x128 .f32) (d11 : Vec Ideal S2x128 .f32) (d12 : Vec Ideal S256x32000 .f32) (d13 : Vec Ideal S256x128 .f32) (d14 : Vec Ideal S256x128 .f32) (d15 : Vec Ideal S256x128 .f32) (d16 : Vec Ideal S256x128 .f32) (d17 : Vec Ideal S256x128 .f32) (d18 : Vec Ideal S256x128 .f32) (d19 : Vec Ideal S256x128 .f32)
    (ht : 125 < t.val ∧ t.val ≠ 149) (hT : t.val < 125 → TileOk L t.val (zTile d0 d1 d2 (d3 (ix1 (0 : Fin 1))) d4 d5)) (hI : Inv L t.val d12 d13 d14 d15 d16 d17 d18 d19) :
    held20 c t d0 d1 d2 d3 d4 d5 d6 d7 d8 d9 d10 d11 d12 d13 d14 d15 d16 d17 d18 d19 ⊢ wp frame (wpE (defs₀ (F := Ideal)) Variants.none c none) Set.univ (bodyAt0 t)
      (fun _ => iprop(∃ e6 e7 e8 e9 e10 e11 e12 e13 e14 e15 e16 e17 e18 e19, ⌜OutsOk L t.val d6 d7 d8 d9 d10 d11 e6 e7 e8 e9 e10 e11 ∧ Inv L (t.val + 1) e12 e13 e14 e15 e16 e17 e18 e19⌝ ∗ held20 c t d0 d1 d2 d3 d4 d5 e6 e7 e8 e9 e10 e11 e12 e13 e14 e15 e16 e17 e18 e19)) := by
  have h0 : ¬cond0 (grid0.coords t) := fun h => absurd ((hcond0 t).mp h) (by omega)
  have h1 : ¬cond1 (grid0.coords t) := fun h => absurd ((hcond1 t).mp h) (by omega)
  have h2 : ¬cond2 (grid0.coords t) := fun h => absurd ((hcond2 t).mp h) (by omega)
  have h3 : cond3 (grid0.coords t) := (hcond3 t).mpr (by omega)
  have h4 : ¬cond4 (grid0.coords t) := fun h => absurd ((hcond4 t).mp h) (by omega)
  have hn : 125 ≤ t.val := by omega
  have hN := lt150 t
  have hz := zin t hn
  have hd : ZOk L 125 d12 := by
    have hd := hI.z
    rwa [show min t.val 125 = 125 by omega] at hd
  have hD : ZOk L 125 (sc0.view.read (Elt Ideal) ((Memref.isWhole_whole cc0_scratch0).unread d12)) := by rwa [Memref.IsWhole.read_unread]
  have ht' : 125 < t.val := by omega
  have he1 := hI.e1 ht'
  have he2 := hI.e2 ht'
  refine nameV c t (fun e6 e7 e8 e9 e10 e11 e12 e13 e14 e15 e16 e17 e18 e19 => OutsOk L t.val d6 d7 d8 d9 d10 d11 e6 e7 e8 e9 e10 e11 ∧ Inv L (t.val + 1) e12 e13 e14 e15 e16 e17 e18 e19) d0 d1 d2 d3 d4 d5 d6 d7 d8 d9 d10 d11 d12 d13 d14 d15 d16 d17 d18 d19 _ _ _ _ _ _ _ _ _ _ _ _ _ _ _ _ _ _ _ _ _ _ _ _ _ _ _ _
    (wroteV c _ _) (wroteV c _ _) .rfl .rfl .rfl .rfl .rfl .rfl .rfl .rfl .rfl .rfl (wroteV c _ _) (wroteV c _ _)
    (runD c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) sc0 (Memref.isWhole_whole _) sc1 (Memref.isWhole_whole _) sc2 (Memref.isWhole_whole _) sc3 (Memref.isWhole_whole _) sc4 (Memref.isWhole_whole _) sc5 (Memref.isWhole_whole _) sc6 (Memref.isWhole_whole _) sc7 (Memref.isWhole_whole _) h0 h1 h2 h3 h4 d0 d1 d2 d3 d4 d5 d6 d7 d8 d9 d10 d11 d12 d13 d14 d15 d16 d17 d18 d19).2.2.2.2 ?_
  refine ⟨⟨?_, ?_, ?_, ?_, ?_, ?_⟩, ⟨?_, fun _ => ?_, fun _ => ?_, fun _ => ?_, fun _ => ?_, fun _ => ?_⟩⟩
  · rw [if_neg (by omega), runD_c1 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) sc0 (Memref.isWhole_whole _) sc1 (Memref.isWhole_whole _) sc2 (Memref.isWhole_whole _) sc3 (Memref.isWhole_whole _) sc4 (Memref.isWhole_whole _) sc5 (Memref.isWhole_whole _) sc6 (Memref.isWhole_whole _) sc7 (Memref.isWhole_whole _) h0 h1 h2 h3 h4 d0 d1 d2 d3 d4 d5 d6 d7 d8 d9 d10 d11 d12 d13 d14 d15 d16 d17 d18 d19 hz]
    exact codes_tile t hn _ _ k0_pay132 floored pay132_at _ (lse L) (ld_rows (Memref.IsWhole.read_unread _ _) (hI.l1 ht')) _ hD hz
  · rw [if_neg (by omega), runD_c2 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) sc0 (Memref.isWhole_whole _) sc1 (Memref.isWhole_whole _) sc2 (Memref.isWhole_whole _) sc3 (Memref.isWhole_whole _) sc4 (Memref.isWhole_whole _) sc5 (Memref.isWhole_whole _) sc6 (Memref.isWhole_whole _) sc7 (Memref.isWhole_whole _) h0 h1 h2 h3 h4 d0 d1 d2 d3 d4 d5 d6 d7 d8 d9 d10 d11 d12 d13 d14 d15 d16 d17 d18 d19 hz]
    exact codes_tile t hn _ _ k0_pay134 (fun z l => floored (z * hf) l) pay134_at _ (lseT L) (ld_rows (Memref.IsWhole.read_unread _ _) (hI.l2 ht')) _ hD hz
  · rw [if_neg (by omega)]
  · rw [if_neg (by omega)]
  · rw [if_neg (by omega)]
  · rw [if_neg (by omega)]
  · rwa [show min (t.val + 1) 125 = 125 by omega]
  · have hl := hI.lanes (by omega)
    rw [show min t.val 125 = 125 by omega] at hl
    rwa [show min (t.val + 1) 125 = 125 by omega]
  · exact hI.l1 ht'
  · exact hI.l2 ht'
  · rw [runD_e1 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) sc0 (Memref.isWhole_whole _) sc1 (Memref.isWhole_whole _) sc2 (Memref.isWhole_whole _) sc3 (Memref.isWhole_whole _) sc4 (Memref.isWhole_whole _) sc5 (Memref.isWhole_whole _) sc6 (Memref.isWhole_whole _) sc7 (Memref.isWhole_whole _) h0 h1 h2 h3 h4 d0 d1 d2 d3 d4 d5 d6 d7 d8 d9 d10 d11 d12 d13 d14 d15 d16 d17 d18 d19 hz]
    exact errs_tile t hn sc6 _ k0_pay135 floored pay135_at _ (lse L) (ld_rows (Memref.IsWhole.read_unread _ _) (hI.l1 ht')) _ (by rwa [Memref.IsWhole.read_unread]) _ hD hz
  · rw [runD_e2 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) sc0 (Memref.isWhole_whole _) sc1 (Memref.isWhole_whole _) sc2 (Memref.isWhole_whole _) sc3 (Memref.isWhole_whole _) sc4 (Memref.isWhole_whole _) sc5 (Memref.isWhole_whole _) sc6 (Memref.isWhole_whole _) sc7 (Memref.isWhole_whole _) h0 h1 h2 h3 h4 d0 d1 d2 d3 d4 d5 d6 d7 d8 d9 d10 d11 d12 d13 d14 d15 d16 d17 d18 d19 hz]
    exact errs_tile t hn sc7 _ k0_pay136 (fun z l => floored (z * hf) l) pay136_at _ (lseT L) (ld_rows (Memref.IsWhole.read_unread _ _) (hI.l2 ht')) _ (by rwa [Memref.IsWhole.read_unread]) _ hD hz

end Cert.KernelIdeal.Body
end
-- ==== Proof.ValE.lean ====
/- The body run at a point, its buffers named: the last output tile. -/
module

public import proofs.«01_k».proof.Proof.ValBase
public import Idealize.ShloMosaic.Lib.Pipeline.FrameBody
public import Idealize.ShloMosaic.Lib.Tactic

@[expose] public section

set_option maxRecDepth 16384

noncomputable section

namespace Cert.KernelIdeal.Body

open Cert.KernelIdeal.Gen Cert.Spec
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

local notation "𝕄" => MT nD τ sig Unit (Elt Ideal) ℕ (UR sig nD τ) ℕ

set_option maxHeartbeats 4000000 in
/-- The last output tile. -/
theorem valE (L : Fin 256 → Fin 32000 → EReal) (c : Dev nD) (t : Fin cfg0.N) (d0 : Vec Ideal S256x6144 .fp8e4m3) (d1 : Vec Ideal S256x6144 .fp8e4m3) (d2 : Vec Ideal S256x1 .f32) (d3 : Vec Ideal S1 .f32) (d4 : Vec Ideal S256x6144 .i8) (d5 : Vec Ideal S256x768 .fp8e4m3) (d6 : Vec Ideal S256x1280 .fp8e5m2) (d7 : Vec Ideal S256x1280 .fp8e5m2) (d8 : Vec Ideal S2x128 .f32) (d9 : Vec Ideal S2x128 .f32) (d10 : Vec Ideal S2x128 .f32) (d11 : Vec Ideal S2x128 .f32) (d12 : Vec Ideal S256x32000 .f32) (d13 : Vec Ideal S256x128 .f32) (d14 : Vec Ideal S256x128 .f32) (d15 : Vec Ideal S256x128 .f32) (d16 : Vec Ideal S256x128 .f32) (d17 : Vec Ideal S256x128 .f32) (d18 : Vec Ideal S256x128 .f32) (d19 : Vec Ideal S256x128 .f32)
    (ht : t.val = 149) (hT : t.val < 125 → TileOk L t.val (zTile d0 d1 d2 (d3 (ix1 (0 : Fin 1))) d4 d5)) (hI : Inv L t.val d12 d13 d14 d15 d16 d17 d18 d19) :
    held20 c t d0 d1 d2 d3 d4 d5 d6 d7 d8 d9 d10 d11 d12 d13 d14 d15 d16 d17 d18 d19 ⊢ wp frame (wpE (defs₀ (F := Ideal)) Variants.none c none) Set.univ (bodyAt0 t)
      (fun _ => iprop(∃ e6 e7 e8 e9 e10 e11 e12 e13 e14 e15 e16 e17 e18 e19, ⌜OutsOk L t.val d6 d7 d8 d9 d10 d11 e6 e7 e8 e9 e10 e11 ∧ Inv L (t.val + 1) e12 e13 e14 e15 e16 e17 e18 e19⌝ ∗ held20 c t d0 d1 d2 d3 d4 d5 e6 e7 e8 e9 e10 e11 e12 e13 e14 e15 e16 e17 e18 e19)) := by
  have h0 : ¬cond0 (grid0.coords t) := fun h => absurd ((hcond0 t).mp h) (by omega)
  have h1 : ¬cond1 (grid0.coords t) := fun h => absurd ((hcond1 t).mp h) (by omega)
  have h2 : ¬cond2 (grid0.coords t) := fun h => absurd ((hcond2 t).mp h) (by omega)
  have h3 : cond3 (grid0.coords t) := (hcond3 t).mpr (by omega)
  have h4 : cond4 (grid0.coords t) := (hcond4 t).mpr (by omega)
  have hn : 125 ≤ t.val := by omega
  have hN := lt150 t
  have hz := zin t hn
  have hd : ZOk L 125 d12 := by
    have hd := hI.z
    rwa [show min t.val 125 = 125 by omega] at hd
  have hD : ZOk L 125 (sc0.view.read (Elt Ideal) ((Memref.isWhole_whole cc0_scratch0).unread d12)) := by rwa [Memref.IsWhole.read_unread]
  have ht' : 125 < t.val := by omega
  have he1 := hI.e1 ht'
  have he2 := hI.e2 ht'
  refine nameV c t (fun e6 e7 e8 e9 e10 e11 e12 e13 e14 e15 e16 e17 e18 e19 => OutsOk L t.val d6 d7 d8 d9 d10 d11 e6 e7 e8 e9 e10 e11 ∧ Inv L (t.val + 1) e12 e13 e14 e15 e16 e17 e18 e19) d0 d1 d2 d3 d4 d5 d6 d7 d8 d9 d10 d11 d12 d13 d14 d15 d16 d17 d18 d19 _ _ _ _ _ _ _ _ _ _ _ _ _ _ _ _ _ _ _ _ _ _ _ _ _ _ _ _
    (wroteV c _ _) (wroteV c _ _) .rfl (wroteV c _ _) .rfl (wroteV c _ _) .rfl .rfl .rfl .rfl .rfl .rfl (wroteV c _ _) (wroteV c _ _)
    (runE c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) sc0 (Memref.isWhole_whole _) sc1 (Memref.isWhole_whole _) sc2 (Memref.isWhole_whole _) sc3 (Memref.isWhole_whole _) sc4 (Memref.isWhole_whole _) sc5 (Memref.isWhole_whole _) sc6 (Memref.isWhole_whole _) sc7 (Memref.isWhole_whole _) h0 h1 h2 h3 h4 d0 d1 d2 d3 d4 d5 d6 d7 d8 d9 d10 d11 d12 d13 d14 d15 d16 d17 d18 d19).2.2.2.2.2.2 ?_
  refine ⟨⟨?_, ?_, ?_, ?_, ?_, ?_⟩, ⟨?_, fun _ => ?_, fun _ => ?_, fun _ => ?_, fun _ => ?_, fun _ => ?_⟩⟩
  · rw [if_neg (by omega), runE_c1 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) sc0 (Memref.isWhole_whole _) sc1 (Memref.isWhole_whole _) sc2 (Memref.isWhole_whole _) sc3 (Memref.isWhole_whole _) sc4 (Memref.isWhole_whole _) sc5 (Memref.isWhole_whole _) sc6 (Memref.isWhole_whole _) sc7 (Memref.isWhole_whole _) h0 h1 h2 h3 h4 d0 d1 d2 d3 d4 d5 d6 d7 d8 d9 d10 d11 d12 d13 d14 d15 d16 d17 d18 d19 hz]
    exact codes_tile t hn _ _ k0_pay132 floored pay132_at _ (lse L) (ld_rows (Memref.IsWhole.read_unread _ _) (hI.l1 ht')) _ hD hz
  · rw [if_neg (by omega), runE_c2 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) sc0 (Memref.isWhole_whole _) sc1 (Memref.isWhole_whole _) sc2 (Memref.isWhole_whole _) sc3 (Memref.isWhole_whole _) sc4 (Memref.isWhole_whole _) sc5 (Memref.isWhole_whole _) sc6 (Memref.isWhole_whole _) sc7 (Memref.isWhole_whole _) h0 h1 h2 h3 h4 d0 d1 d2 d3 d4 d5 d6 d7 d8 d9 d10 d11 d12 d13 d14 d15 d16 d17 d18 d19 hz]
    exact codes_tile t hn _ _ k0_pay134 (fun z l => floored (z * hf) l) pay134_at _ (lseT L) (ld_rows (Memref.IsWhole.read_unread _ _) (hI.l2 ht')) _ hD hz
  · rw [if_neg (by omega)]
  · rw [if_pos ht, runE_err c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) sc0 (Memref.isWhole_whole _) sc1 (Memref.isWhole_whole _) sc2 (Memref.isWhole_whole _) sc3 (Memref.isWhole_whole _) sc4 (Memref.isWhole_whole _) sc5 (Memref.isWhole_whole _) sc6 (Memref.isWhole_whole _) sc7 (Memref.isWhole_whole _) h0 h1 h2 h3 h4 d0 d1 d2 d3 d4 d5 d6 d7 d8 d9 d10 d11 d12 d13 d14 d15 d16 d17 d18 d19 hz, store_full2]
    refine rows_ext fun i j => (pay11_at _ i j).trans (err_max ?_ _)
    rw [readCov_all, show (250 : ℕ) = 10 * (t.val + 1 - 125) by omega]
    exact errs_tile t hn sc6 _ k0_pay135 floored pay135_at _ (lse L) (ld_rows (Memref.IsWhole.read_unread _ _) (hI.l1 ht')) _ (by rwa [Memref.IsWhole.read_unread]) _ hD hz
  · rw [if_neg (by omega)]
  · rw [if_pos ht, runE_errt c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) sc0 (Memref.isWhole_whole _) sc1 (Memref.isWhole_whole _) sc2 (Memref.isWhole_whole _) sc3 (Memref.isWhole_whole _) sc4 (Memref.isWhole_whole _) sc5 (Memref.isWhole_whole _) sc6 (Memref.isWhole_whole _) sc7 (Memref.isWhole_whole _) h0 h1 h2 h3 h4 d0 d1 d2 d3 d4 d5 d6 d7 d8 d9 d10 d11 d12 d13 d14 d15 d16 d17 d18 d19 hz, store_full2]
    refine rows_ext fun i j => (pay12_at _ i j).trans (err_max ?_ _)
    rw [readCov_all, show (250 : ℕ) = 10 * (t.val + 1 - 125) by omega]
    exact errs_tile t hn sc7 _ k0_pay136 (fun z l => floored (z * hf) l) pay136_at _ (lseT L) (ld_rows (Memref.IsWhole.read_unread _ _) (hI.l2 ht')) _ (by rwa [Memref.IsWhole.read_unread]) _ hD hz
  · rwa [show min (t.val + 1) 125 = 125 by omega]
  · have hl := hI.lanes (by omega)
    rw [show min t.val 125 = 125 by omega] at hl
    rwa [show min (t.val + 1) 125 = 125 by omega]
  · exact hI.l1 ht'
  · exact hI.l2 ht'
  · rw [runE_e1 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) sc0 (Memref.isWhole_whole _) sc1 (Memref.isWhole_whole _) sc2 (Memref.isWhole_whole _) sc3 (Memref.isWhole_whole _) sc4 (Memref.isWhole_whole _) sc5 (Memref.isWhole_whole _) sc6 (Memref.isWhole_whole _) sc7 (Memref.isWhole_whole _) h0 h1 h2 h3 h4 d0 d1 d2 d3 d4 d5 d6 d7 d8 d9 d10 d11 d12 d13 d14 d15 d16 d17 d18 d19 hz]
    exact errs_tile t hn sc6 _ k0_pay135 floored pay135_at _ (lse L) (ld_rows (Memref.IsWhole.read_unread _ _) (hI.l1 ht')) _ (by rwa [Memref.IsWhole.read_unread]) _ hD hz
  · rw [runE_e2 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) sc0 (Memref.isWhole_whole _) sc1 (Memref.isWhole_whole _) sc2 (Memref.isWhole_whole _) sc3 (Memref.isWhole_whole _) sc4 (Memref.isWhole_whole _) sc5 (Memref.isWhole_whole _) sc6 (Memref.isWhole_whole _) sc7 (Memref.isWhole_whole _) h0 h1 h2 h3 h4 d0 d1 d2 d3 d4 d5 d6 d7 d8 d9 d10 d11 d12 d13 d14 d15 d16 d17 d18 d19 hz]
    exact errs_tile t hn sc7 _ k0_pay136 (fun z l => floored (z * hf) l) pay136_at _ (lseT L) (ld_rows (Memref.IsWhole.read_unread _ _) (hI.l2 ht')) _ (by rwa [Memref.IsWhole.read_unread]) _ hD hz

end Cert.KernelIdeal.Body
end
-- ==== Proof.KernelVal.lean ====
/- The body run at any point, its buffers named. -/
module

public import proofs.«01_k».proof.Proof.ValA
public import proofs.«01_k».proof.Proof.ValC
public import proofs.«01_k».proof.Proof.ValD
public import proofs.«01_k».proof.Proof.ValE
public import Idealize.ShloMosaic.Lib.Pipeline.FrameBody
public import Idealize.ShloMosaic.Lib.Tactic

@[expose] public section

set_option maxRecDepth 16384

noncomputable section

namespace Cert.KernelIdeal.Body

open Cert.KernelIdeal.Gen Cert.Spec
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

local notation "𝕄" => MT nD τ sig Unit (Elt Ideal) ℕ (UR sig nD τ) ℕ

/-- The body at any point. -/
theorem body_val (L : Fin 256 → Fin 32000 → EReal) (c : Dev nD) (t : Fin cfg0.N) (d0 : Vec Ideal S256x6144 .fp8e4m3) (d1 : Vec Ideal S256x6144 .fp8e4m3) (d2 : Vec Ideal S256x1 .f32) (d3 : Vec Ideal S1 .f32) (d4 : Vec Ideal S256x6144 .i8) (d5 : Vec Ideal S256x768 .fp8e4m3) (d6 : Vec Ideal S256x1280 .fp8e5m2) (d7 : Vec Ideal S256x1280 .fp8e5m2) (d8 : Vec Ideal S2x128 .f32) (d9 : Vec Ideal S2x128 .f32) (d10 : Vec Ideal S2x128 .f32) (d11 : Vec Ideal S2x128 .f32) (d12 : Vec Ideal S256x32000 .f32) (d13 : Vec Ideal S256x128 .f32) (d14 : Vec Ideal S256x128 .f32) (d15 : Vec Ideal S256x128 .f32) (d16 : Vec Ideal S256x128 .f32) (d17 : Vec Ideal S256x128 .f32) (d18 : Vec Ideal S256x128 .f32) (d19 : Vec Ideal S256x128 .f32)
    (hT : t.val < 125 → TileOk L t.val (zTile d0 d1 d2 (d3 (ix1 (0 : Fin 1))) d4 d5)) (hI : Inv L t.val d12 d13 d14 d15 d16 d17 d18 d19) :
    held20 c t d0 d1 d2 d3 d4 d5 d6 d7 d8 d9 d10 d11 d12 d13 d14 d15 d16 d17 d18 d19 ⊢ wp frame (wpE (defs₀ (F := Ideal)) Variants.none c none) Set.univ (bodyAt0 t)
      (fun _ => iprop(∃ e6 e7 e8 e9 e10 e11 e12 e13 e14 e15 e16 e17 e18 e19, ⌜OutsOk L t.val d6 d7 d8 d9 d10 d11 e6 e7 e8 e9 e10 e11 ∧ Inv L (t.val + 1) e12 e13 e14 e15 e16 e17 e18 e19⌝ ∗ held20 c t d0 d1 d2 d3 d4 d5 e6 e7 e8 e9 e10 e11 e12 e13 e14 e15 e16 e17 e18 e19)) := by
  have hN := lt150 t
  by_cases hA : t.val = 0
  · exact valA L c t d0 d1 d2 d3 d4 d5 d6 d7 d8 d9 d10 d11 d12 d13 d14 d15 d16 d17 d18 d19 hA hT hI
  by_cases hB : t.val < 125
  · exact valB L c t d0 d1 d2 d3 d4 d5 d6 d7 d8 d9 d10 d11 d12 d13 d14 d15 d16 d17 d18 d19 ⟨hA, hB⟩ hT hI
  by_cases hC : t.val = 125
  · exact valC L c t d0 d1 d2 d3 d4 d5 d6 d7 d8 d9 d10 d11 d12 d13 d14 d15 d16 d17 d18 d19 hC hT hI
  by_cases hE : t.val = 149
  · exact valE L c t d0 d1 d2 d3 d4 d5 d6 d7 d8 d9 d10 d11 d12 d13 d14 d15 d16 d17 d18 d19 hE hT hI
  · exact valD L c t d0 d1 d2 d3 d4 d5 d6 d7 d8 d9 d10 d11 d12 d13 d14 d15 d16 d17 d18 d19 ⟨by omega, hE⟩ hT hI

end Cert.KernelIdeal.Body
end
-- ==== Proof.KernelRun.lean ====
/- The run with every output named: the scratch buffers carry the invariant from point to point, each output block is what
   the body left at the point that writes it back. -/
module

public import proofs.«01_k».proof.Proof.KernelVal
public import proofs.«01_k».proof.Proof.KernelSide
public import Idealize.ShloMosaic.Lib.Pipeline.FrameBody
public import Idealize.ShloMosaic.Lib.Pipeline.TableIdle
public import Idealize.ShloMosaic.Lib.Pipeline.Value
public import Idealize.ShloMosaic.Lib.Pipeline.ValueKit
public import Idealize.ShloMosaic.Lib.Ring
public import Idealize.ShloMosaic.Lib.Tactic

@[expose] public section

set_option maxRecDepth 16384

noncomputable section

namespace Cert.KernelIdeal.Body

open Cert.KernelIdeal.Gen Cert.Spec
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-- The scratch buffers before point `n`, at contents of which the invariant holds. -/
def phi (c : Dev nD) (n : ℕ) : sProp 𝕄 :=
  iprop((∃ s0 s1 s2 s3 s4 s5 s6 s7, ⌜Inv (logit (args m c)) n s0 s1 s2 s3 s4 s5 s6 s7⌝ ∗ owns (c : Thread nD τ) sc0 fullShare s0 ∗ owns (c : Thread nD τ) sc1 fullShare s1 ∗ owns (c : Thread nD τ) sc2 fullShare s2 ∗ owns (c : Thread nD τ) sc3 fullShare s3 ∗ owns (c : Thread nD τ) sc4 fullShare s4 ∗ owns (c : Thread nD τ) sc5 fullShare s5 ∗ owns (c : Thread nD τ) sc6 fullShare s6 ∗ owns (c : Thread nD τ) sc7 fullShare s7) ∗ (∃ r, prngReg c r))

/-- The proof data. -/
def vdats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => codeV (code (logit (args m c))) (t.val - 125)
    | ⟨7, _⟩ => codeV (codeT (logit (args m c))) (t.val - 125)
    | ⟨8, _⟩ => rowV (lse (logit (args m c)))
    | ⟨9, _⟩ => rowV (errR (logit (args m c)))
    | ⟨10, _⟩ => rowV (lseT (logit (args m c)))
    | ⟨11, _⟩ => rowV (errT (logit (args m c)))
  Φ t := phi m c t.val
  q _ := fullShare
  owed _ := 0

theorem vA_eq (c : Dev nD) (w : Fin cfg0.W) : (vdats m 0 c).A w = V m c (Pipeline.arrRef spec0 w) := by
  dsimp only [vdats]
theorem vafter0 (c : Dev nD) (t : Fin cfg0.N) : (vdats m 0 c).after 0 t = iblk m c 0 t := by dsimp only [vdats]
theorem vbefore0 (c : Dev nD) (t : Fin cfg0.N) (d) : (vdats m 0 c).before 0 t d = iblk m c 0 t :=
  before0_0_of m (vdats m 0 c) (vA_eq m c 0) (vafter0 m c) t d
theorem vleaves0 (c : Dev nD) (t : Fin cfg0.N) :
    (vdats m 0 c).leavesExact 0 t = owns (c : Thread nD τ) (ms0 t) fullShare (iblk m c 0 t) := by
  unfold Dat.leavesExact
  rw [show cfg0.idle 0 (grid0.coords t) = false from rfl, vafter0]
theorem vafter1 (c : Dev nD) (t : Fin cfg0.N) : (vdats m 0 c).after 1 t = iblk m c 1 t := by dsimp only [vdats]
theorem vbefore1 (c : Dev nD) (t : Fin cfg0.N) (d) : (vdats m 0 c).before 1 t d = iblk m c 1 t :=
  before0_1_of m (vdats m 0 c) (vA_eq m c 1) (vafter1 m c) t d
theorem vleaves1 (c : Dev nD) (t : Fin cfg0.N) :
    (vdats m 0 c).leavesExact 1 t = owns (c : Thread nD τ) (ms1 t) fullShare (iblk m c 1 t) := by
  unfold Dat.leavesExact
  rw [show cfg0.idle 1 (grid0.coords t) = false from rfl, vafter1]
theorem vafter2 (c : Dev nD) (t : Fin cfg0.N) : (vdats m 0 c).after 2 t = iblk m c 2 t := by dsimp only [vdats]
theorem vbefore2 (c : Dev nD) (t : Fin cfg0.N) (d) : (vdats m 0 c).before 2 t d = iblk m c 2 t :=
  before0_2_of m (vdats m 0 c) (vA_eq m c 2) (vafter2 m c) t d
theorem vleaves2 (c : Dev nD) (t : Fin cfg0.N) :
    (vdats m 0 c).leavesExact 2 t = owns (c : Thread nD τ) (ms2 t) fullShare (iblk m c 2 t) := by
  unfold Dat.leavesExact
  rw [show cfg0.idle 2 (grid0.coords t) = false from rfl, vafter2]
theorem vafter3 (c : Dev nD) (t : Fin cfg0.N) : (vdats m 0 c).after 3 t = iblk m c 3 t := by dsimp only [vdats]
theorem vbefore3 (c : Dev nD) (t : Fin cfg0.N) (d) : (vdats m 0 c).before 3 t d = iblk m c 3 t :=
  before0_3_of m (vdats m 0 c) (vA_eq m c 3) (vafter3 m c) t d
theorem vleaves3 (c : Dev nD) (t : Fin cfg0.N) :
    (vdats m 0 c).leavesExact 3 t = owns (c : Thread nD τ) (ms3 t) fullShare (iblk m c 3 t) := by
  unfold Dat.leavesExact
  rw [show cfg0.idle 3 (grid0.coords t) = false from rfl, vafter3]
theorem vafter4 (c : Dev nD) (t : Fin cfg0.N) : (vdats m 0 c).after 4 t = iblk m c 4 t := by dsimp only [vdats]
theorem vbefore4 (c : Dev nD) (t : Fin cfg0.N) (d) : (vdats m 0 c).before 4 t d = iblk m c 4 t :=
  before0_4_of m (vdats m 0 c) (vA_eq m c 4) (vafter4 m c) t d
theorem vleaves4 (c : Dev nD) (t : Fin cfg0.N) :
    (vdats m 0 c).leavesExact 4 t = owns (c : Thread nD τ) (ms4 t) fullShare (iblk m c 4 t) := by
  unfold Dat.leavesExact
  rw [show cfg0.idle 4 (grid0.coords t) = false from rfl, vafter4]
theorem vafter5 (c : Dev nD) (t : Fin cfg0.N) : (vdats m 0 c).after 5 t = iblk m c 5 t := by dsimp only [vdats]
theorem vbefore5 (c : Dev nD) (t : Fin cfg0.N) (d) : (vdats m 0 c).before 5 t d = iblk m c 5 t :=
  before0_5_of m (vdats m 0 c) (vA_eq m c 5) (vafter5 m c) t d
theorem vleaves5 (c : Dev nD) (t : Fin cfg0.N) :
    (vdats m 0 c).leavesExact 5 t = owns (c : Thread nD τ) (ms5 t) fullShare (iblk m c 5 t) := by
  unfold Dat.leavesExact
  rw [show cfg0.idle 5 (grid0.coords t) = false from rfl, vafter5]
theorem vafter6 (c : Dev nD) (t : Fin cfg0.N) : (vdats m 0 c).after 6 t = codeV (code (logit (args m c))) (t.val - 125) := by dsimp only [vdats]
theorem vafter7 (c : Dev nD) (t : Fin cfg0.N) : (vdats m 0 c).after 7 t = codeV (codeT (logit (args m c))) (t.val - 125) := by dsimp only [vdats]
theorem vafter8 (c : Dev nD) (t : Fin cfg0.N) : (vdats m 0 c).after 8 t = rowV (lse (logit (args m c))) := by dsimp only [vdats]
theorem vafter9 (c : Dev nD) (t : Fin cfg0.N) : (vdats m 0 c).after 9 t = rowV (errR (logit (args m c))) := by dsimp only [vdats]
theorem vafter10 (c : Dev nD) (t : Fin cfg0.N) : (vdats m 0 c).after 10 t = rowV (lseT (logit (args m c))) := by dsimp only [vdats]
theorem vafter11 (c : Dev nD) (t : Fin cfg0.N) : (vdats m 0 c).after 11 t = rowV (errT (logit (args m c))) := by dsimp only [vdats]

/-! ## When an output is stored and when it is written back -/

/-- The points at which the body stores nothing into output 6. -/
theorem idleAt6 : ∀ t : Fin cfg0.N, cfg0.idle 6 (grid0.coords t) = (decide (t.val < 125)) :=
  (by decide +kernel : ∀ t : Fin grid0.N, idle0 6 (grid0.coords t) = (decide (t.val < 125)))
/-- The points after which output 6 is written back. -/
theorem flushAt6 : ∀ t : Fin cfg0.N, (cfg0.win 6).flush t = (decide (125 ≤ t.val)) :=
  (by decide +kernel : ∀ t : Fin grid0.N, win0_6.flush t = (decide (125 ≤ t.val)))
/-- The points at which the body stores nothing into output 7. -/
theorem idleAt7 : ∀ t : Fin cfg0.N, cfg0.idle 7 (grid0.coords t) = (decide (t.val < 125)) :=
  (by decide +kernel : ∀ t : Fin grid0.N, idle0 7 (grid0.coords t) = (decide (t.val < 125)))
/-- The points after which output 7 is written back. -/
theorem flushAt7 : ∀ t : Fin cfg0.N, (cfg0.win 7).flush t = (decide (125 ≤ t.val)) :=
  (by decide +kernel : ∀ t : Fin grid0.N, win0_7.flush t = (decide (125 ≤ t.val)))
/-- The points at which the body stores nothing into output 8. -/
theorem idleAt8 : ∀ t : Fin cfg0.N, cfg0.idle 8 (grid0.coords t) = (!decide (t.val = 125)) :=
  (by decide +kernel : ∀ t : Fin grid0.N, idle0 8 (grid0.coords t) = (!decide (t.val = 125)))
/-- The points after which output 8 is written back. -/
theorem flushAt8 : ∀ t : Fin cfg0.N, (cfg0.win 8).flush t = (decide (t.val = 149)) :=
  (by decide +kernel : ∀ t : Fin grid0.N, win0_8.flush t = (decide (t.val = 149)))
/-- The points at which the body stores nothing into output 9. -/
theorem idleAt9 : ∀ t : Fin cfg0.N, cfg0.idle 9 (grid0.coords t) = (!decide (t.val = 149)) :=
  (by decide +kernel : ∀ t : Fin grid0.N, idle0 9 (grid0.coords t) = (!decide (t.val = 149)))
/-- The points after which output 9 is written back. -/
theorem flushAt9 : ∀ t : Fin cfg0.N, (cfg0.win 9).flush t = (decide (t.val = 149)) :=
  (by decide +kernel : ∀ t : Fin grid0.N, win0_9.flush t = (decide (t.val = 149)))
/-- The points at which the body stores nothing into output 10. -/
theorem idleAt10 : ∀ t : Fin cfg0.N, cfg0.idle 10 (grid0.coords t) = (!decide (t.val = 125)) :=
  (by decide +kernel : ∀ t : Fin grid0.N, idle0 10 (grid0.coords t) = (!decide (t.val = 125)))
/-- The points after which output 10 is written back. -/
theorem flushAt10 : ∀ t : Fin cfg0.N, (cfg0.win 10).flush t = (decide (t.val = 149)) :=
  (by decide +kernel : ∀ t : Fin grid0.N, win0_10.flush t = (decide (t.val = 149)))
/-- The points at which the body stores nothing into output 11. -/
theorem idleAt11 : ∀ t : Fin cfg0.N, cfg0.idle 11 (grid0.coords t) = (!decide (t.val = 149)) :=
  (by decide +kernel : ∀ t : Fin grid0.N, idle0 11 (grid0.coords t) = (!decide (t.val = 149)))
/-- The points after which output 11 is written back. -/
theorem flushAt11 : ∀ t : Fin cfg0.N, (cfg0.win 11).flush t = (decide (t.val = 149)) :=
  (by decide +kernel : ∀ t : Fin grid0.N, win0_11.flush t = (decide (t.val = 149)))

/-- An output's buffer after a point is what the pipeline asks for: what was stored where the body stores it or it is
    written back, what was there elsewhere. -/
theorem leaves_out (c : Dev nD) (w : Fin cfg0.W) (t : Fin cfg0.N) (d e)
    (h : e = if cfg0.idle w (grid0.coords t) = true ∧ (cfg0.win w).flush t = false then (vdats m 0 c).before w t d else (vdats m 0 c).after w t) :
    owns (c : Thread nD τ) ((cfg0.win w).stage (cfg0.slots t w)) fullShare e ⊢ (vdats m 0 c).leavesExact w t := by
  subst h
  unfold Dat.leavesExact
  cases hi : cfg0.idle w (grid0.coords t)
  · rw [if_neg (by simp)]
  · cases hf : (cfg0.win w).flush t
    · rw [if_pos ⟨rfl, rfl⟩]
      iintro H; iexists d; iexact H
    · rw [if_neg (by simp)]

/-- Output 8 is written back as stored at point 125. -/
theorem vbefore8 (c : Dev nD) (t : Fin cfg0.N) (ht : t.val = 149) (d) : (vdats m 0 c).before 8 t d = (vdats m 0 c).after 8 t := by
  obtain rfl : t = (⟨149, by decide⟩ : Fin cfg0.N) := Fin.ext ht
  rw [(vdats m 0 c).before_out_traj 8 rfl (fun _ _ => rfl) (fun t _ _ _ => by rw [vafter8, vafter8]) 149 _ rfl d,
    if_neg (by decide +kernel), vafter8, vafter8]

/-- Output 10 is written back as stored at point 125. -/
theorem vbefore10 (c : Dev nD) (t : Fin cfg0.N) (ht : t.val = 149) (d) : (vdats m 0 c).before 10 t d = (vdats m 0 c).after 10 t := by
  obtain rfl : t = (⟨149, by decide⟩ : Fin cfg0.N) := Fin.ext ht
  rw [(vdats m 0 c).before_out_traj 10 rfl (fun _ _ => rfl) (fun t _ _ _ => by rw [vafter10, vafter10]) 149 _ rfl d,
    if_neg (by decide +kernel), vafter10, vafter10]

/-- Output 6's buffer after a point, as the pipeline asks for it. -/
theorem vleaves6 (c : Dev nD) (t : Fin cfg0.N) (d e : Vec Ideal S256x1280 .fp8e5m2) (he : e = if t.val < 125 then (vdats m 0 c).before 6 t d else codeV (code (logit (args m c))) (t.val - 125)) :
    owns (c : Thread nD τ) (ms6 t) fullShare e ⊢ (vdats m 0 c).leavesExact 6 t := by
  refine leaves_out m c 6 t d e (he.trans ?_)
  by_cases ht : t.val < 125
  · rw [if_pos ht, if_pos ⟨by rw [idleAt6, decide_eq_true ht], by rw [flushAt6, decide_eq_false (by omega)]⟩]
  · rw [if_neg ht, if_neg (fun h => by rw [idleAt6, decide_eq_false ht] at h; exact absurd h.1 (by decide)), vafter6]

/-- Output 7's buffer after a point, as the pipeline asks for it. -/
theorem vleaves7 (c : Dev nD) (t : Fin cfg0.N) (d e : Vec Ideal S256x1280 .fp8e5m2) (he : e = if t.val < 125 then (vdats m 0 c).before 7 t d else codeV (codeT (logit (args m c))) (t.val - 125)) :
    owns (c : Thread nD τ) (ms7 t) fullShare e ⊢ (vdats m 0 c).leavesExact 7 t := by
  refine leaves_out m c 7 t d e (he.trans ?_)
  by_cases ht : t.val < 125
  · rw [if_pos ht, if_pos ⟨by rw [idleAt7, decide_eq_true ht], by rw [flushAt7, decide_eq_false (by omega)]⟩]
  · rw [if_neg ht, if_neg (fun h => by rw [idleAt7, decide_eq_false ht] at h; exact absurd h.1 (by decide)), vafter7]

/-- Output 8's buffer after a point, as the pipeline asks for it. -/
theorem vleaves8 (c : Dev nD) (t : Fin cfg0.N) (d e : Vec Ideal S2x128 .f32) (he : e = if t.val = 125 then rowV (lse (logit (args m c))) else (vdats m 0 c).before 8 t d) :
    owns (c : Thread nD τ) (ms8 t) fullShare e ⊢ (vdats m 0 c).leavesExact 8 t := by
  refine leaves_out m c 8 t d e (he.trans ?_)
  by_cases ht : t.val = 125
  · rw [if_pos ht, if_neg (fun h => by rw [idleAt8, decide_eq_true ht] at h; exact absurd h.1 (by decide)), vafter8]
  by_cases hl : t.val = 149
  · rw [if_neg ht, if_neg (fun h => by rw [flushAt8, decide_eq_true hl] at h; exact absurd h.2 (by decide)), vbefore8 m c t hl]
  · rw [if_neg ht, if_pos ⟨by rw [idleAt8, decide_eq_false ht]; rfl, by rw [flushAt8, decide_eq_false hl]⟩]

/-- Output 9's buffer after a point, as the pipeline asks for it. -/
theorem vleaves9 (c : Dev nD) (t : Fin cfg0.N) (d e : Vec Ideal S2x128 .f32) (he : e = if t.val = 149 then rowV (errR (logit (args m c))) else (vdats m 0 c).before 9 t d) :
    owns (c : Thread nD τ) (ms9 t) fullShare e ⊢ (vdats m 0 c).leavesExact 9 t := by
  refine leaves_out m c 9 t d e (he.trans ?_)
  by_cases ht : t.val = 149
  · rw [if_pos ht, if_neg (fun h => by rw [flushAt9, decide_eq_true ht] at h; exact absurd h.2 (by decide)), vafter9]
  · rw [if_neg ht, if_pos ⟨by rw [idleAt9, decide_eq_false ht]; rfl, by rw [flushAt9, decide_eq_false ht]⟩]

/-- Output 10's buffer after a point, as the pipeline asks for it. -/
theorem vleaves10 (c : Dev nD) (t : Fin cfg0.N) (d e : Vec Ideal S2x128 .f32) (he : e = if t.val = 125 then rowV (lseT (logit (args m c))) else (vdats m 0 c).before 10 t d) :
    owns (c : Thread nD τ) (ms10 t) fullShare e ⊢ (vdats m 0 c).leavesExact 10 t := by
  refine leaves_out m c 10 t d e (he.trans ?_)
  by_cases ht : t.val = 125
  · rw [if_pos ht, if_neg (fun h => by rw [idleAt10, decide_eq_true ht] at h; exact absurd h.1 (by decide)), vafter10]
  by_cases hl : t.val = 149
  · rw [if_neg ht, if_neg (fun h => by rw [flushAt10, decide_eq_true hl] at h; exact absurd h.2 (by decide)), vbefore10 m c t hl]
  · rw [if_neg ht, if_pos ⟨by rw [idleAt10, decide_eq_false ht]; rfl, by rw [flushAt10, decide_eq_false hl]⟩]

/-- Output 11's buffer after a point, as the pipeline asks for it. -/
theorem vleaves11 (c : Dev nD) (t : Fin cfg0.N) (d e : Vec Ideal S2x128 .f32) (he : e = if t.val = 149 then rowV (errT (logit (args m c))) else (vdats m 0 c).before 11 t d) :
    owns (c : Thread nD τ) (ms11 t) fullShare e ⊢ (vdats m 0 c).leavesExact 11 t := by
  refine leaves_out m c 11 t d e (he.trans ?_)
  by_cases ht : t.val = 149
  · rw [if_pos ht, if_neg (fun h => by rw [flushAt11, decide_eq_true ht] at h; exact absurd h.2 (by decide)), vafter11]
  · rw [if_neg ht, if_pos ⟨by rw [idleAt11, decide_eq_false ht]; rfl, by rw [flushAt11, decide_eq_false ht]⟩]

/-! ## The body at a point -/

/-- What the body is called with at a point, -/
def vbodyPre (c : Dev nD) (t : Fin cfg0.N) : sProp 𝕄 :=
  iprop((vdats m 0 c).Φ t.castSucc ∗ (vdats m 0 c).owesAt () t.castSucc
    ∗ (∃ d, owns (c : Thread nD τ) (ms0 t) fullShare ((vdats m 0 c).before 0 t d)) ∗ (∃ d, owns (c : Thread nD τ) (ms1 t) fullShare ((vdats m 0 c).before 1 t d)) ∗ (∃ d, owns (c : Thread nD τ) (ms2 t) fullShare ((vdats m 0 c).before 2 t d)) ∗ (∃ d, owns (c : Thread nD τ) (ms3 t) fullShare ((vdats m 0 c).before 3 t d)) ∗ (∃ d, owns (c : Thread nD τ) (ms4 t) fullShare ((vdats m 0 c).before 4 t d)) ∗ (∃ d, owns (c : Thread nD τ) (ms5 t) fullShare ((vdats m 0 c).before 5 t d)) ∗ (∃ d, owns (c : Thread nD τ) (ms6 t) fullShare ((vdats m 0 c).before 6 t d)) ∗ (∃ d, owns (c : Thread nD τ) (ms7 t) fullShare ((vdats m 0 c).before 7 t d)) ∗ (∃ d, owns (c : Thread nD τ) (ms8 t) fullShare ((vdats m 0 c).before 8 t d)) ∗ (∃ d, owns (c : Thread nD τ) (ms9 t) fullShare ((vdats m 0 c).before 9 t d)) ∗ (∃ d, owns (c : Thread nD τ) (ms10 t) fullShare ((vdats m 0 c).before 10 t d)) ∗ (∃ d, owns (c : Thread nD τ) (ms11 t) fullShare ((vdats m 0 c).before 11 t d)))

/-- and what it returns. -/
def vbodyPost (c : Dev nD) (t : Fin cfg0.N) : sProp 𝕄 :=
  iprop((vdats m 0 c).Φ t.succ ∗ (vdats m 0 c).owesAt () t.succ
    ∗ (vdats m 0 c).leavesExact 0 t ∗ (vdats m 0 c).leavesExact 1 t ∗ (vdats m 0 c).leavesExact 2 t ∗ (vdats m 0 c).leavesExact 3 t ∗ (vdats m 0 c).leavesExact 4 t ∗ (vdats m 0 c).leavesExact 5 t ∗ (vdats m 0 c).leavesExact 6 t ∗ (vdats m 0 c).leavesExact 7 t ∗ (vdats m 0 c).leavesExact 8 t ∗ (vdats m 0 c).leavesExact 9 t ∗ (vdats m 0 c).leavesExact 10 t ∗ (vdats m 0 c).leavesExact 11 t)

/-- The body at a point, from what the pipeline gives it to what the pipeline asks for. -/
theorem vsound_body (c : Dev nD) (t : Fin cfg0.N) :
    vbodyPre m c t ⊢ wp frame (wpE (defs₀ (F := Ideal)) Variants.none c none) Set.univ (bodyAt0 t) (fun _ => vbodyPost m c t) := by
  unfold vbodyPre vbodyPost
  simp only [vbefore0, vbefore1, vbefore2, vbefore3, vbefore4, vbefore5, vleaves0, vleaves1, vleaves2, vleaves3, vleaves4, vleaves5]
  rw [show (vdats m 0 c).owesAt () t.succ = (vdats m 0 c).owesAt () t.castSucc from rfl]
  rw [show (vdats m 0 c).Φ t.succ = phi m c (t.val + 1) from rfl, show (vdats m 0 c).Φ t.castSucc = phi m c t.val from rfl]
  unfold phi
  iintro ⟨⟨⟨%s0, %s1, %s2, %s3, %s4, %s5, %s6, %s7, %hI, S0, S1, S2, S3, S4, S5, S6, S7⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  have hb := body_val (logit (args m c)) c t (iblk m c 0 t) (iblk m c 1 t) (iblk m c 2 t) (iblk m c 3 t) (iblk m c 4 t) (iblk m c 5 t) ((vdats m 0 c).before 6 t d6) ((vdats m 0 c).before 7 t d7) ((vdats m 0 c).before 8 t d8) ((vdats m 0 c).before 9 t d9) ((vdats m 0 c).before 10 t d10) ((vdats m 0 c).before 11 t d11) s0 s1 s2 s3 s4 s5 s6 s7 (fun h => tile_ok m c t h) hI
  unfold held20 at hb
  ihave Hwp := hb $$ [H0 H1 H2 H3 H4 H5 H6 H7 H8 H9 H10 H11 S0 S1 S2 S3 S4 S5 S6 S7]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [S0]; · iexact S0
    isplitl [S1]; · iexact S1
    isplitl [S2]; · iexact S2
    isplitl [S3]; · iexact S3
    isplitl [S4]; · iexact S4
    isplitl [S5]; · iexact S5
    isplitl [S6]; · iexact S6
    iexact S7
  iapply wp_wand $$ Hwp
  iintro %u ⟨%e6, %e7, %e8, %e9, %e10, %e11, %e12, %e13, %e14, %e15, %e16, %e17, %e18, %e19, %hP, H0, H1, H2, H3, H4, H5, H6, H7, H8, H9, H10, H11, S0, S1, S2, S3, S4, S5, S6, S7⟩
  isplitl [S0 S1 S2 S3 S4 S5 S6 S7 Hg]
  · isplitl [S0 S1 S2 S3 S4 S5 S6 S7]
    · iexists e12
      iexists e13
      iexists e14
      iexists e15
      iexists e16
      iexists e17
      iexists e18
      iexists e19
      isplitr
      · ipureintro; exact hP.2
      isplitl [S0]; · iexact S0
      isplitl [S1]; · iexact S1
      isplitl [S2]; · iexact S2
      isplitl [S3]; · iexact S3
      isplitl [S4]; · iexact S4
      isplitl [S5]; · iexact S5
      isplitl [S6]; · iexact S6
      iexact S7
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iapply (vleaves6 m c t d6 e6 hP.1.c1) $$ H6
  isplitl [H7]; · iapply (vleaves7 m c t d7 e7 hP.1.c2) $$ H7
  isplitl [H8]; · iapply (vleaves8 m c t d8 e8 hP.1.l1) $$ H8
  isplitl [H9]; · iapply (vleaves9 m c t d9 e9 hP.1.r1) $$ H9
  isplitl [H10]; · iapply (vleaves10 m c t d10 e10 hP.1.l2) $$ H10
  iapply (vleaves11 m c t d11 e11 hP.1.r2) $$ H11

/-- The body table's row at a point is the body. -/
theorem vdefs₀_row (t : Fin cfg0.N) :
    defs₀ (F := Ideal) .tc cfg0.body (cfg0.bodyArgs t (cfg0.slots t)) = bodyAt0 t := by
  unfold defs₀; rw [Defs.onTc_tc]

/-- The same, as the pipeline states it. -/
theorem vbody_obligation (c : Dev nD) : BodyObligation (vdats m 0 c) (defs₀ (F := Ideal)) Variants.none () Set.univ := fun t => by
  rw [bigSep_W0, bigSep_W0, vdefs₀_row]
  exact triple_restated (vsound_body m c t) rfl .rfl fun _ => .rfl

/-! ## The run -/

/-- Before the first point the invariant says nothing. -/
theorem inv_zero (L : Fin 256 → Fin 32000 → EReal) (s0 s1 s2 s3 s4 s5 s6 s7) : Inv L 0 s0 s1 s2 s3 s4 s5 s6 s7 :=
  ⟨fun r v h => absurd h (by simp), fun h => absurd rfl h, fun h => absurd h (by decide), fun h => absurd h (by decide),
    fun h => absurd h (by decide), fun h => absurd h (by decide)⟩

/-- Scratch buffers at any contents satisfy it there, -/
theorem vhin (c : Dev nD) : (Pipeline.ΦA spec0 c : sProp 𝕄) ⊢ phi m c 0 := by
  rw [PhiA_eq]
  unfold phi
  iintro ⟨⟨⟨%s0, S0⟩, ⟨%s1, S1⟩, ⟨%s2, S2⟩, ⟨%s3, S3⟩, ⟨%s4, S4⟩, ⟨%s5, S5⟩, ⟨%s6, S6⟩, ⟨%s7, S7⟩⟩, Hg⟩
  isplitl [S0 S1 S2 S3 S4 S5 S6 S7]
  · iexists s0
    iexists s1
    iexists s2
    iexists s3
    iexists s4
    iexists s5
    iexists s6
    iexists s7
    isplitr
    · ipureintro; exact inv_zero _ _ _ _ _ _ _ _ _
    isplitl [S0]; · iexact S0
    isplitl [S1]; · iexact S1
    isplitl [S2]; · iexact S2
    isplitl [S3]; · iexact S3
    isplitl [S4]; · iexact S4
    isplitl [S5]; · iexact S5
    isplitl [S6]; · iexact S6
    iexact S7
  iexact Hg

/-- and what they hold may be forgotten at the end. -/
theorem vhout (c : Dev nD) (n : ℕ) : phi m c n ⊢ (Pipeline.ΦA spec0 c : sProp 𝕄) := by
  rw [PhiA_eq]
  unfold phi
  iintro ⟨⟨%s0, %s1, %s2, %s3, %s4, %s5, %s6, %s7, %hI, S0, S1, S2, S3, S4, S5, S6, S7⟩, Hg⟩
  isplitl [S0 S1 S2 S3 S4 S5 S6 S7]
  · isplitl [S0]; · iexists s0; iexact S0
    isplitl [S1]; · iexists s1; iexact S1
    isplitl [S2]; · iexists s2; iexact S2
    isplitl [S3]; · iexists s3; iexact S3
    isplitl [S4]; · iexists s4; iexact S4
    isplitl [S5]; · iexists s5; iexact S5
    isplitl [S6]; · iexists s6; iexact S6
    iexists s7; iexact S7
  iexact Hg

set_option backward.isDefEq.respectTransparency.types false in
theorem vrun_main : θ_run defs (onTc (τ := τ) (main (F := Ideal))) (s₀ m ρ) (fun r => Pipeline.FramePost cfgs (vdats m) 0 (V m) r) :=
  Pipeline.θ_run_frame_track cfgs (vdats m) (0 : Fin 1) launch0 defs₀ Variants.none m ρ main
    (hbody := fun c => (vbody_obligation m c).loose) (hshare := fun c => (vdats m 0 c).share_full fun _ => rfl)
    (howed := fun _ _ => rfl) (V := V m) (hmain := hmain m Variants.none) (hA := vA_eq m)
    (hin := fun c => vhin m c) (hout := fun c => vhout m c _)

end Cert.KernelIdeal.Body

end
-- ==== Proof.KernelOut.lean ====
/- The kernel's run: its six results as the functions of `Logits` over its launch arrays, its arguments unchanged. -/
module

public import proofs.«01_k».proof.Proof.KernelRun

@[expose] public section

set_option maxRecDepth 16384

noncomputable section

namespace Cert.KernelIdeal.Body

open Cert.KernelIdeal.Gen Cert.Spec
open Idealize.ShloMosaic Idealize.ShloMosaic.TcCoe Idealize.ShloMosaic.Tactic Idealize.SL.Sem
open Idealize.ShloMosaic.Pipeline (Dat)

variable (m : (ℓ : Loc nD τ sig) → Buf (Elt Ideal) ℓ) (ρ : Dev nD → PrngReg) (c : Dev nD)

/-- The block indices of the outputs (Codes). -/
theorem idxCodes : ∀ t : Fin cfg0.N, win0_6.index t = ![0, t.val - 125] ∧ win0_7.index t = ![0, t.val - 125] :=
  (by decide +kernel : ∀ t : Fin grid0.N, win0_6.index t = ![0, t.val - 125] ∧ win0_7.index t = ![0, t.val - 125])
/-- The block indices of the outputs (Rows). -/
theorem idxRows : ∀ t : Fin cfg0.N, win0_8.index t = ![0, 0] ∧ win0_9.index t = ![0, 0] ∧ win0_10.index t = ![0, 0] ∧ win0_11.index t = ![0, 0] :=
  (by decide +kernel : ∀ t : Fin grid0.N, win0_8.index t = ![0, 0] ∧ win0_9.index t = ![0, 0] ∧ win0_10.index t = ![0, 0] ∧ win0_11.index t = ![0, 0])

/-- An output tile of codes, at the place it is written back to. -/
theorem codeV_at (cf : Fin 256 → Fin 32000 → EReal) (k : ℕ) (i : Fin 256) (j : Fin 1280) (v : Fin 32000) (hv : v.val = 1280 * k + j.val) :
    (codeV cf k (ix2 i j) : EReal) = cf i v := by
  have : (⟨(1280 * k + j.val) % 32000, Nat.mod_lt _ (by decide)⟩ : Fin 32000) = v := Fin.ext ((Nat.mod_eq_of_lt (by omega)).trans hv.symm)
  exact congrArg (cf i) this

/-- Where output 6's block lies in its array. -/
theorem emb6 (t : Fin cfg0.N) (i : Fin 256) (j : Fin 1280) (v : Fin 32000) (hv : v.val = 1280 * (t.val - 125) + j.val) :
    (win0_6.blk t).view.emb (ix2 i j) = ix2 i v := by
  blk_ext [idxCodes t]
/-- The kernel's output array 6 after the run. -/
theorem arr6 : (vdats m 0 c).arrAt 6 cfg0.N = fun i : S256x32000.Idx => (code (logit (args m c)) (i 0) (i 1) : EReal) := by
  refine (vdats m 0 c).arrAt_eq_of_covers 6 _ (by decide +kernel) fun t hf y => ?_
  have hN : t.val < 150 := lt150 t
  blk_simp
  rw [vafter6]
  obtain ⟨i, j, rfl⟩ : ∃ (i : Fin 256) (j : Fin 1280), y = ix2 i j := ⟨y 0, y 1, by funext a; fin_cases a <;> rfl⟩
  rw [emb6 t i j ⟨1280 * (t.val - 125) + j.val, by omega⟩ rfl]
  exact codeV_at _ _ i j _ rfl

/-- Where output 7's block lies in its array. -/
theorem emb7 (t : Fin cfg0.N) (i : Fin 256) (j : Fin 1280) (v : Fin 32000) (hv : v.val = 1280 * (t.val - 125) + j.val) :
    (win0_7.blk t).view.emb (ix2 i j) = ix2 i v := by
  blk_ext [idxCodes t]
/-- The kernel's output array 7 after the run. -/
theorem arr7 : (vdats m 0 c).arrAt 7 cfg0.N = fun i : S256x32000.Idx => (codeT (logit (args m c)) (i 0) (i 1) : EReal) := by
  refine (vdats m 0 c).arrAt_eq_of_covers 7 _ (by decide +kernel) fun t hf y => ?_
  have hN : t.val < 150 := lt150 t
  blk_simp
  rw [vafter7]
  obtain ⟨i, j, rfl⟩ : ∃ (i : Fin 256) (j : Fin 1280), y = ix2 i j := ⟨y 0, y 1, by funext a; fin_cases a <;> rfl⟩
  rw [emb7 t i j ⟨1280 * (t.val - 125) + j.val, by omega⟩ rfl]
  exact codeV_at _ _ i j _ rfl

/-- Where output 8's block lies in its array. -/
theorem emb8 (t : Fin cfg0.N) (i : Fin 2) (j : Fin 128) : (win0_8.blk t).view.emb (ix2 i j) = ix2 i j := by
  blk_ext [idxRows t]
/-- The kernel's output array 8 after the run. -/
theorem arr8 : (vdats m 0 c).arrAt 8 cfg0.N = fun i : S2x128.Idx => (lse (logit (args m c)) (rowOf (i 0) (i 1)) : EReal) := by
  refine (vdats m 0 c).arrAt_eq_of_covers 8 _ (by decide +kernel) fun t hf y => ?_
  blk_simp
  rw [vafter8]
  obtain ⟨i, j, rfl⟩ : ∃ (i : Fin 2) (j : Fin 128), y = ix2 i j := ⟨y 0, y 1, by funext a; fin_cases a <;> rfl⟩
  rw [emb8]
  rfl

/-- Where output 9's block lies in its array. -/
theorem emb9 (t : Fin cfg0.N) (i : Fin 2) (j : Fin 128) : (win0_9.blk t).view.emb (ix2 i j) = ix2 i j := by
  blk_ext [idxRows t]
/-- The kernel's output array 9 after the run. -/
theorem arr9 : (vdats m 0 c).arrAt 9 cfg0.N = fun i : S2x128.Idx => (errR (logit (args m c)) (rowOf (i 0) (i 1)) : EReal) := by
  refine (vdats m 0 c).arrAt_eq_of_covers 9 _ (by decide +kernel) fun t hf y => ?_
  blk_simp
  rw [vafter9]
  obtain ⟨i, j, rfl⟩ : ∃ (i : Fin 2) (j : Fin 128), y = ix2 i j := ⟨y 0, y 1, by funext a; fin_cases a <;> rfl⟩
  rw [emb9]
  rfl

/-- Where output 10's block lies in its array. -/
theorem emb10 (t : Fin cfg0.N) (i : Fin 2) (j : Fin 128) : (win0_10.blk t).view.emb (ix2 i j) = ix2 i j := by
  blk_ext [idxRows t]
/-- The kernel's output array 10 after the run. -/
theorem arr10 : (vdats m 0 c).arrAt 10 cfg0.N = fun i : S2x128.Idx => (lseT (logit (args m c)) (rowOf (i 0) (i 1)) : EReal) := by
  refine (vdats m 0 c).arrAt_eq_of_covers 10 _ (by decide +kernel) fun t hf y => ?_
  blk_simp
  rw [vafter10]
  obtain ⟨i, j, rfl⟩ : ∃ (i : Fin 2) (j : Fin 128), y = ix2 i j := ⟨y 0, y 1, by funext a; fin_cases a <;> rfl⟩
  rw [emb10]
  rfl

/-- Where output 11's block lies in its array. -/
theorem emb11 (t : Fin cfg0.N) (i : Fin 2) (j : Fin 128) : (win0_11.blk t).view.emb (ix2 i j) = ix2 i j := by
  blk_ext [idxRows t]
/-- The kernel's output array 11 after the run. -/
theorem arr11 : (vdats m 0 c).arrAt 11 cfg0.N = fun i : S2x128.Idx => (errT (logit (args m c)) (rowOf (i 0) (i 1)) : EReal) := by
  refine (vdats m 0 c).arrAt_eq_of_covers 11 _ (by decide +kernel) fun t hf y => ?_
  blk_simp
  rw [vafter11]
  obtain ⟨i, j, rfl⟩ : ∃ (i : Fin 2) (j : Fin 128), y = ix2 i j := ⟨y 0, y 1, by funext a; fin_cases a <;> rfl⟩
  rw [emb11]
  rfl

/-- The run ends with output array 6 as written back. -/
theorem post6 (r : PUnit × MemSt nD τ sig (Elt Ideal)) (h : Pipeline.FramePost cfgs (vdats m) 0 (V m) r) (c : Dev nD) :
    r.2.mem ((c : Thread nD τ).loc main_v4_0) = (vdats m 0 c).arrAt 6 cfg0.N :=
  (h c).1 6
/-- The run ends with output array 7 as written back. -/
theorem post7 (r : PUnit × MemSt nD τ sig (Elt Ideal)) (h : Pipeline.FramePost cfgs (vdats m) 0 (V m) r) (c : Dev nD) :
    r.2.mem ((c : Thread nD τ).loc main_v4_1) = (vdats m 0 c).arrAt 7 cfg0.N :=
  (h c).1 7
/-- The run ends with output array 8 as written back. -/
theorem post8 (r : PUnit × MemSt nD τ sig (Elt Ideal)) (h : Pipeline.FramePost cfgs (vdats m) 0 (V m) r) (c : Dev nD) :
    r.2.mem ((c : Thread nD τ).loc main_v4_2) = (vdats m 0 c).arrAt 8 cfg0.N :=
  (h c).1 8
/-- The run ends with output array 9 as written back. -/
theorem post9 (r : PUnit × MemSt nD τ sig (Elt Ideal)) (h : Pipeline.FramePost cfgs (vdats m) 0 (V m) r) (c : Dev nD) :
    r.2.mem ((c : Thread nD τ).loc main_v4_3) = (vdats m 0 c).arrAt 9 cfg0.N :=
  (h c).1 9
/-- The run ends with output array 10 as written back. -/
theorem post10 (r : PUnit × MemSt nD τ sig (Elt Ideal)) (h : Pipeline.FramePost cfgs (vdats m) 0 (V m) r) (c : Dev nD) :
    r.2.mem ((c : Thread nD τ).loc main_v4_4) = (vdats m 0 c).arrAt 10 cfg0.N :=
  (h c).1 10
/-- The run ends with output array 11 as written back. -/
theorem post11 (r : PUnit × MemSt nD τ sig (Elt Ideal)) (h : Pipeline.FramePost cfgs (vdats m) 0 (V m) r) (c : Dev nD) :
    r.2.mem ((c : Thread nD τ).loc main_v4_5) = (vdats m 0 c).arrAt 11 cfg0.N :=
  (h c).1 11
/-- The run leaves argument 0 as it was. -/
theorem kept_arg0 (r : PUnit × MemSt nD τ sig (Elt Ideal)) (h : Pipeline.FramePost cfgs (vdats m) 0 (V m) r) (c : Dev nD) :
    r.2.mem ((c : Thread nD τ).loc main_arg0) = m ((c : Thread nD τ).loc main_arg0) :=
  ((h c).2 main_arg0 (Pipeline.mem_restRefs_of main_arg0 (by decide) (by decide))).trans (V_main_arg0 m c)
/-- The run leaves argument 1 as it was. -/
theorem kept_arg1 (r : PUnit × MemSt nD τ sig (Elt Ideal)) (h : Pipeline.FramePost cfgs (vdats m) 0 (V m) r) (c : Dev nD) :
    r.2.mem ((c : Thread nD τ).loc main_arg1) = m ((c : Thread nD τ).loc main_arg1) :=
  ((h c).2 main_arg1 (Pipeline.mem_restRefs_of main_arg1 (by decide) (by decide))).trans (V_main_arg1 m c)
/-- The run leaves argument 2 as it was. -/
theorem kept_arg2 (r : PUnit × MemSt nD τ sig (Elt Ideal)) (h : Pipeline.FramePost cfgs (vdats m) 0 (V m) r) (c : Dev nD) :
    r.2.mem ((c : Thread nD τ).loc main_arg2) = m ((c : Thread nD τ).loc main_arg2) :=
  ((h c).1 4).trans (((vdats m 0 c).arrAt_in 4 rfl _).trans ((vA_eq m c 4).trans (V_main_arg2 m c)))
/-- The run leaves argument 3 as it was. -/
theorem kept_arg3 (r : PUnit × MemSt nD τ sig (Elt Ideal)) (h : Pipeline.FramePost cfgs (vdats m) 0 (V m) r) (c : Dev nD) :
    r.2.mem ((c : Thread nD τ).loc main_arg3) = m ((c : Thread nD τ).loc main_arg3) :=
  ((h c).1 5).trans (((vdats m 0 c).arrAt_in 5 rfl _).trans ((vA_eq m c 5).trans (V_main_arg3 m c)))
/-- The run leaves argument 4 as it was. -/
theorem kept_arg4 (r : PUnit × MemSt nD τ sig (Elt Ideal)) (h : Pipeline.FramePost cfgs (vdats m) 0 (V m) r) (c : Dev nD) :
    r.2.mem ((c : Thread nD τ).loc main_arg4) = m ((c : Thread nD τ).loc main_arg4) :=
  ((h c).1 3).trans (((vdats m 0 c).arrAt_in 3 rfl _).trans ((vA_eq m c 3).trans (V_main_arg4 m c)))

set_option maxHeartbeats 1000000 in
/-- The kernel's run. -/
theorem run : θ_run (defs (F := Ideal)) (onTc (τ := τ) (main (F := Ideal))) ⟨m, fun _ => 0, ρ⟩ fun r => ∀ c : Dev nD,
      r.2.mem ((c : Thread nD τ).loc main_v4_0) = (fun i : S256x32000.Idx => (code (logit (args m c)) (i 0) (i 1) : EReal))
      ∧ r.2.mem ((c : Thread nD τ).loc main_v4_2) = (fun i : S2x128.Idx => (lse (logit (args m c)) (rowOf (i 0) (i 1)) : EReal))
      ∧ r.2.mem ((c : Thread nD τ).loc main_v4_3) = (fun i : S2x128.Idx => (errR (logit (args m c)) (rowOf (i 0) (i 1)) : EReal))
      ∧ r.2.mem ((c : Thread nD τ).loc main_v4_1) = (fun i : S256x32000.Idx => (codeT (logit (args m c)) (i 0) (i 1) : EReal))
      ∧ r.2.mem ((c : Thread nD τ).loc main_v4_4) = (fun i : S2x128.Idx => (lseT (logit (args m c)) (rowOf (i 0) (i 1)) : EReal))
      ∧ r.2.mem ((c : Thread nD τ).loc main_v4_5) = (fun i : S2x128.Idx => (errT (logit (args m c)) (rowOf (i 0) (i 1)) : EReal))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run _ _ _).mono (fun r h c => ⟨(post6 m r h c).trans (arr6 m c),
      (post8 m r h c).trans (arr8 m c),
      (post9 m r h c).trans (arr9 m c),
      (post7 m r h c).trans (arr7 m c),
      (post10 m r h c).trans (arr10 m c),
      (post11 m r h c).trans (arr11 m c),
      kept_arg0 m r h c,
      kept_arg1 m r h c,
      kept_arg2 m r h c,
      kept_arg3 m r h c,
      kept_arg4 m r h c⟩)
    (vrun_main m ρ)

end Cert.KernelIdeal.Body

end
-- ==== Proof.RefLogits.lean ====
module

public import proofs.«01_k».proof.Proof.Gen.ReferenceIdeal.Frame
public import proofs.«01_k».proof.Proof.Logits
public import Idealize.ShloMosaic.Lib.Pointwise

@[expose] public section

set_option maxRecDepth 16384

/-!
  What the reference's body computes from the blocks that it loads, index by index: the logits, the two
  log-sum-exps of a row, and the codes and errors over them.
-/

noncomputable section
namespace Cert.ReferenceIdeal.Side

open Cert.ReferenceIdeal Cert.ReferenceIdeal.Gen Cert.Spec
open Idealize.ShloMosaic Idealize.ShloMosaic.TcCoe Idealize.ShloMosaic.Tactic

/-- The greatest entry of each row. -/
def rowMax (v : FVec Ideal S256x32000 .f32) : FVec Ideal S256 .f32 :=
  multiReduction .maximumf [1] S256 v 0xFF800000#32 reduces_S256x32000_S256 (.inl rfl) rfl

/-- The sum of each row. -/
def rowSum (v : FVec Ideal S256x32000 .f32) : FVec Ideal S256 .f32 :=
  multiReduction .add [1] S256 v 0x00000000#32 reduces_S256x32000_S256 (.inl rfl) rfl

/-- `e^(z - max)` of each entry of each row. -/
def rowExp (v : FVec Ideal S256x32000 .f32) (M : FVec Ideal S256 .f32) : FVec Ideal S256x32000 .f32 :=
  exp (subf v (broadcastTo S256x32000 (shapeCast S256x1 M shapeCasts_S256_S256x1) broadcasts_S256x1_S256x32000))

theorem rowMax_at (v : FVec Ideal S256x32000 .f32) (r : Fin 256) :
    rowMax v (ix1 r) = Finset.univ.fold max ⊥ fun x : Fin 32000 => v (ix2 r x) := by
  unfold rowMax
  pointwise
  rw [ofBits_ninf]

theorem rowSum_at (v : FVec Ideal S256x32000 .f32) (r : Fin 256) :
    rowSum v (ix1 r) = ∑ x : Fin 32000, v (ix2 r x) := by
  unfold rowSum
  pointwise

theorem rowExp_at (v : FVec Ideal S256x32000 .f32) (M : FVec Ideal S256 .f32) (r : Fin 256) (x : Fin 32000) :
    rowExp v M (ix2 r x) = Ideal.exp (v (ix2 r x) - M (ix1 r)) := by
  unfold rowExp
  pointwise

theorem pay3_eq (v0 : Vec Ideal S32000x768 .fp8e4m3) (v2 : Vec Ideal S32000x6144 .bf16) (v9 : Vec Ideal S32000x6144 .bf16)
    (v16 : Vec Ideal S256x6144 .fp8e4m3) (v20 : Vec Ideal S256x6144 .fp8e4m3) (v25 : Vec Ideal S256x1 .f32) (v29 : Vec Ideal S1x1 .f32) :
    k0_pay3 v0 v2 v9 v16 v20 v25 v29 = addf (rowMax (k0_pay2 v0 v2 v9 v16 v20 v25 v29))
      (log (rowSum (rowExp (k0_pay2 v0 v2 v9 v16 v20 v25 v29) (rowMax (k0_pay2 v0 v2 v9 v16 v20 v25 v29))))) := rfl

theorem pay10_eq (v : FVec Ideal S256x32000 .f32) :
    k0_pay10 v = addf (rowMax (k0_pay9 v)) (log (rowSum (rowExp (k0_pay9 v) (rowMax (k0_pay9 v))))) := rfl

theorem lse_row (v : FVec Ideal S256x32000 .f32) (r : Fin 256) :
    addf (rowMax v) (log (rowSum (rowExp v (rowMax v)))) (ix1 r)
      = lseOf (∃ x : Fin 32000, v (ix2 r x) = ⊤) (∑ x : Fin 32000, w (v (ix2 r x))) := by
  have h : ∀ a b : FVec Ideal S256 .f32, addf a (log b) (ix1 r) = a (ix1 r) + Ideal.log (b (ix1 r)) := fun _ _ => rfl
  rw [h, rowSum_at, rowMax_at]
  simp only [rowExp_at, rowMax_at]
  exact lse_plain (fun x : Fin 32000 => v (ix2 r x))

theorem pay9_at (v : FVec Ideal S256x32000 .f32) (r : Fin 256) (x : Fin 32000) : k0_pay9 v (ix2 r x) = v (ix2 r x) * hf := by
  unfold k0_pay9
  pointwise
  exact ofBits_two _

theorem hf_lse (v : FVec Ideal S256x32000 .f32) (r : Fin 256) :
    k0_pay10 v (ix1 r) = lseT (fun r x => v (ix2 r x)) r := by
  rw [pay10_eq, lse_row, lseT]
  simp only [pay9_at, hf_top]

/-- The two-row layout of a column of rows: entry `(i, j)` is row `128 i + j`. -/
def rowOf (i : Fin 2) (j : Fin 128) : Fin 256 := ⟨i.val * 128 + j.val, by omega⟩

section
variable (v0 : Vec Ideal S32000x768 .fp8e4m3) (v2 : Vec Ideal S32000x6144 .bf16) (v9 : Vec Ideal S32000x6144 .bf16)
    (v16 : Vec Ideal S256x6144 .fp8e4m3) (v20 : Vec Ideal S256x6144 .fp8e4m3) (v25 : Vec Ideal S256x1 .f32) (v29 : Vec Ideal S1x1 .f32)

theorem pay2_at (i : Fin 256) (j : Fin 32000) : k0_pay2 v0 v2 v9 v16 v20 v25 v29 (ix2 i j) =
    (∑ x : Fin 6144, v16 (ix2 i x) * (v2 (ix2 j x) * v0 (ix2 j ⟨x.val / 8, by omega⟩)) +
      ∑ x : Fin 6144, v20 (ix2 i x) * (v9 (ix2 j x) * v0 (ix2 j ⟨x.val / 8, by omega⟩))) * v25 (ix2 i 0) * v29 (ix2 0 0) := by
  unfold k0_pay2
  pointwise

theorem pay3_at (r : Fin 256) : k0_pay3 v0 v2 v9 v16 v20 v25 v29 (ix1 r) =
    lse (fun r x => k0_pay2 v0 v2 v9 v16 v20 v25 v29 (ix2 r x)) r := by
  rw [pay3_eq, lse_row, lse]

theorem pay4_at (r : Fin 256) : k0_pay4 v0 v2 v9 v16 v20 v25 v29 (ix2 r 0) =
    lse (fun r x => k0_pay2 v0 v2 v9 v16 v20 v25 v29 (ix2 r x)) r := by
  rw [← pay3_at]
  unfold k0_pay4
  pointwise

end

theorem pay6_at (v : FVec Ideal S256x32000 .f32) (l : FVec Ideal S256x1 .f32) (r : Fin 256) (x : Fin 32000) :
    k0_pay6 v l (ix2 r x) = floored (v (ix2 r x)) (l (ix2 r 0)) := by
  unfold k0_pay6 k0_pay5 floored
  pointwise

theorem pay7_at (v : FVec Ideal S256 .f32) (i : Fin 2) (j : Fin 128) : k0_pay7 v (ix2 i j) = v (ix1 (rowOf i j)) := by
  unfold k0_pay7 rowOf
  pointwise

theorem pay8_at (v : FVec Ideal S256x32000 .f32) (l : FVec Ideal S256x1 .f32) (i : Fin 2) (j : Fin 128) :
    k0_pay8 v l (ix2 i j) = Finset.univ.fold max ⊥ fun x : Fin 32000 => dev (floored (v (ix2 (rowOf i j) x)) (l (ix2 (rowOf i j) 0))) := by
  unfold k0_pay8 k0_pay6 k0_pay5 rowOf floored dev
  pointwise
  rw [ofBits_ninf]

theorem pay12_at (v : FVec Ideal S256x32000 .f32) (r : Fin 256) (x : Fin 32000) :
    k0_pay12 v (ix2 r x) = codeT (fun r x => v (ix2 r x)) r x := by
  unfold codeT
  rw [← hf_lse]
  simp only [← pay9_at]
  unfold k0_pay12 k0_pay11 floored
  pointwise

theorem pay13_at (v : FVec Ideal S256x32000 .f32) (i : Fin 2) (j : Fin 128) :
    k0_pay13 v (ix2 i j) = lseT (fun r x => v (ix2 r x)) (rowOf i j) := by
  rw [← hf_lse]
  unfold k0_pay13 rowOf
  pointwise

theorem pay14_at (v : FVec Ideal S256x32000 .f32) (i : Fin 2) (j : Fin 128) :
    k0_pay1 (k0_pay14 v) (ix2 i j) = errT (fun r x => v (ix2 r x)) (rowOf i j) := by
  unfold errT
  simp only [codeT, ← hf_lse, ← pay9_at]
  unfold k0_pay1 k0_pay14 k0_pay12 k0_pay11 rowOf floored dev
  pointwise
  rw [ofBits_ninf]

end Cert.ReferenceIdeal.Side
end
-- ==== Proof.RefSide.lean ====
module

public import proofs.«01_k».proof.Proof.RefLogits
public import Idealize.ShloMosaic.Lib.Pipeline.Value
public import Idealize.ShloMosaic.Lib.Pipeline.ValueKit
public import Idealize.ShloMosaic.Lib.StableHlo.ReadAt

@[expose] public section

set_option maxRecDepth 16384

/-!
  The reference's run: each of its six result arrays, index by index, as the functions of `Logits` over its launch
  arrays.
-/

noncomputable section
namespace Cert.ReferenceIdeal.Side

open Cert.ReferenceIdeal Cert.ReferenceIdeal.Gen Cert.Spec
open Idealize.ShloMosaic Idealize.ShloMosaic.TcCoe Idealize.ShloMosaic.Tactic Idealize.SL.Sem
open Idealize.ShloMosaic.Pipeline (Dat)

variable (m : (ℓ : Loc nD τ sig) → Buf (Elt Ideal) ℓ) (ρ : Dev nD → PrngReg) (c : Dev nD)

/-- The launch arrays as functions of indices. -/
def args : Args where
  xe i j := m (c, Proc.tc.devRef main_arg0) (ix3 (⟨i.val / 128, by omega⟩ : Fin 2) (⟨i.val % 128, by omega⟩ : Fin 128) (⟨2 * j.val, by omega⟩ : Fin 12288))
  xo i j := m (c, Proc.tc.devRef main_arg0) (ix3 (⟨i.val / 128, by omega⟩ : Fin 2) (⟨i.val % 128, by omega⟩ : Fin 128) (⟨1 + 2 * j.val, by omega⟩ : Fin 12288))
  xs i := m (c, Proc.tc.devRef main_arg1) (ix2 (⟨i.val / 128, by omega⟩ : Fin 2) (⟨i.val % 128, by omega⟩ : Fin 128))
  g := m (c, Proc.tc.devRef main_arg4) (ix1 (0 : Fin 1))
  wb v j := m (c, Proc.tc.devRef main_arg2) (ix2 v j)
  sc v j := m (c, Proc.tc.devRef main_arg3) (ix2 v j)

theorem V_v2 (i : Fin 256) (j : Fin 6144) : V m c main_v2 (ix2 i j) = (args m c).xe i j := by
  unfold V args
  after_reads_at

theorem V_v3 (i : Fin 256) (j : Fin 6144) : V m c main_v3 (ix2 i j) = (args m c).xo i j := by
  unfold V args
  after_reads_at

theorem V_v4 (i : Fin 256) : V m c main_v4 (ix2 i (0 : Fin 1)) = (args m c).xs i := by
  unfold V args
  after_reads_at

theorem V_v5 : V m c main_v5 (ix2 (0 : Fin 1) (0 : Fin 1)) = (args m c).g := by
  unfold V args
  after_reads_at

theorem V_v32 (i : Fin 32000) (j : Fin 6144) : V m c main_v32 (ix2 i j) = lo4 ((args m c).wb i j) := by
  unfold V args lo4 val4
  after_reads_at

theorem V_v59 (i : Fin 32000) (j : Fin 6144) : V m c main_v59 (ix2 i j) = hi4 ((args m c).wb i j) := by
  unfold V args hi4 val4
  after_reads_at

theorem idx : ∀ t : Fin cfg0.N, win0_0.index t = ![0, 0] ∧ win0_1.index t = ![0, 0] ∧ win0_2.index t = ![0, 0]
    ∧ win0_3.index t = ![0, 0] ∧ win0_4.index t = ![0, 0] ∧ win0_5.index t = ![0, 0] ∧ win0_6.index t = ![0, 0] :=
  (by decide +kernel : ∀ t : Fin grid0.N, win0_0.index t = ![0, 0] ∧ win0_1.index t = ![0, 0] ∧ win0_2.index t = ![0, 0]
    ∧ win0_3.index t = ![0, 0] ∧ win0_4.index t = ![0, 0] ∧ win0_5.index t = ![0, 0] ∧ win0_6.index t = ![0, 0])

theorem blk0 (t : Fin cfg0.N) (i : Fin 256) (j : Fin 6144) : iblk m c 0 t (ix2 i j) = (args m c).xe i j := by
  have : iblk m c 0 t (ix2 i j) = V m c main_v2 (ix2 i j) := by blk_ext [iblk, idx t]
  exact this.trans (V_v2 m c i j)
theorem blk1 (t : Fin cfg0.N) (i : Fin 256) (j : Fin 6144) : iblk m c 1 t (ix2 i j) = (args m c).xo i j := by
  have : iblk m c 1 t (ix2 i j) = V m c main_v3 (ix2 i j) := by blk_ext [iblk, idx t]
  exact this.trans (V_v3 m c i j)
theorem blk2 (t : Fin cfg0.N) (i : Fin 256) : iblk m c 2 t (ix2 i (0 : Fin 1)) = (args m c).xs i := by
  have : iblk m c 2 t (ix2 i (0 : Fin 1)) = V m c main_v4 (ix2 i (0 : Fin 1)) := by blk_ext [iblk, idx t]
  exact this.trans (V_v4 m c i)
theorem blk3 (t : Fin cfg0.N) : iblk m c 3 t (ix2 (0 : Fin 1) (0 : Fin 1)) = (args m c).g := by
  have : iblk m c 3 t (ix2 (0 : Fin 1) (0 : Fin 1)) = V m c main_v5 (ix2 (0 : Fin 1) (0 : Fin 1)) := by blk_ext [iblk, idx t]
  exact this.trans (V_v5 m c)
theorem blk4 (t : Fin cfg0.N) (i : Fin 32000) (j : Fin 6144) : iblk m c 4 t (ix2 i j) = lo4 ((args m c).wb i j) := by
  have : iblk m c 4 t (ix2 i j) = V m c main_v32 (ix2 i j) := by blk_ext [iblk, idx t]
  exact this.trans (V_v32 m c i j)
theorem blk5 (t : Fin cfg0.N) (i : Fin 32000) (j : Fin 6144) : iblk m c 5 t (ix2 i j) = hi4 ((args m c).wb i j) := by
  have : iblk m c 5 t (ix2 i j) = V m c main_v59 (ix2 i j) := by blk_ext [iblk, idx t]
  exact this.trans (V_v59 m c i j)
theorem blk6 (t : Fin cfg0.N) (i : Fin 32000) (j : Fin 768) : iblk m c 6 t (ix2 i j) = (args m c).sc i j := by
  have : iblk m c 6 t (ix2 i j) = V m c main_arg3 (ix2 i j) := by blk_ext [iblk, idx t]
  exact this.trans (congrFun (V_main_arg3 m c) _)

theorem zeros2 : (![0, 0] : Fin 2 → ℕ) = fun _ => 0 := by funext a; fin_cases a <;> rfl

/-- The logits of the reference's run are `logit`. -/
theorem pay15_at (t : Fin cfg0.N) (r : Fin 256) (v : Fin 32000) :
    k0_pay15 (iblk m c 0 t) (iblk m c 1 t) (iblk m c 2 t) (iblk m c 3 t) (iblk m c 4 t) (iblk m c 5 t) (iblk m c 6 t) (ix2 r v)
      = logit (args m c) r v := by
  unfold k0_pay15 logit
  rw [View.ld_unit_zero zeros2, View.ld_unit_zero zeros2, View.ld_unit_zero zeros2, View.ld_unit_zero zeros2,
    View.ld_unit_zero zeros2, View.ld_unit_zero zeros2, View.ld_unit_zero zeros2]
  rw [pay2_at]
  simp only [blk0, blk1, blk2, blk3, blk4, blk5, blk6]

theorem pay15_fun (t : Fin cfg0.N) : (fun (r : Fin 256) (v : Fin 32000) =>
    k0_pay15 (iblk m c 0 t) (iblk m c 1 t) (iblk m c 2 t) (iblk m c 3 t) (iblk m c 4 t) (iblk m c 5 t) (iblk m c 6 t) (ix2 r v))
      = logit (args m c) := by
  funext r v; exact pay15_at m c t r v

theorem pay16_at (t : Fin cfg0.N) (r : Fin 256) :
    k0_pay16 (iblk m c 0 t) (iblk m c 1 t) (iblk m c 2 t) (iblk m c 3 t) (iblk m c 4 t) (iblk m c 5 t) (iblk m c 6 t) (ix2 r 0)
      = lse (logit (args m c)) r := by
  rw [← pay15_fun m c t]
  unfold k0_pay16 k0_pay15
  exact pay4_at ..

/-! ## The arrays after the run -/

theorem idxOut : ∀ t : Fin cfg0.N, win0_7.index t = ![0, 0] ∧ win0_8.index t = ![0, 0] ∧ win0_9.index t = ![0, 0]
    ∧ win0_10.index t = ![0, 0] ∧ win0_11.index t = ![0, 0] ∧ win0_12.index t = ![0, 0] :=
  (by decide +kernel : ∀ t : Fin grid0.N, win0_7.index t = ![0, 0] ∧ win0_8.index t = ![0, 0] ∧ win0_9.index t = ![0, 0]
    ∧ win0_10.index t = ![0, 0] ∧ win0_11.index t = ![0, 0] ∧ win0_12.index t = ![0, 0])

theorem pay3_ld (t : Fin cfg0.N) (r : Fin 256) : k0_pay3 (View.ld (iblk m c 6 t) r0_0) (View.ld (iblk m c 4 t) r0_1)
    (View.ld (iblk m c 5 t) r0_1) (View.ld (iblk m c 0 t) r0_2) (View.ld (iblk m c 1 t) r0_2) (View.ld (iblk m c 2 t) r0_3)
    (View.ld (iblk m c 3 t) r0_4) (ix1 r) = lse (logit (args m c)) r := by
  rw [← pay15_fun m c t]
  unfold k0_pay15
  exact pay3_at ..

theorem emb7 (t : Fin cfg0.N) (i : Fin 256) (j : Fin 32000) : (win0_7.blk t).view.emb (ix2 i j) = ix2 i j := by
  blk_ext [idxOut t]

theorem arr7 : (dats m 0 c).arrAt 7 cfg0.N = fun i : S256x32000.Idx => code (logit (args m c)) (i 0) (i 1) := by
  refine (dats m 0 c).arrAt_eq_of_covers 7 _ (by decide +kernel) fun t hf y => ?_
  blk_simp
  rw [after0_7]
  unfold out0_7
  rw [View.canon_unit_zero zeros2]
  obtain ⟨i, j, rfl⟩ : ∃ (i : Fin 256) (j : Fin 32000), y = ix2 i j := ⟨y 0, y 1, by funext a; fin_cases a <;> rfl⟩
  rw [emb7]
  rw [pay6_at, pay15_at, pay16_at]
  rfl

theorem emb8 (t : Fin cfg0.N) (i : Fin 2) (j : Fin 128) : (win0_8.blk t).view.emb (ix2 i j) = ix2 i j := by
  blk_ext [idxOut t]

theorem arr8 : (dats m 0 c).arrAt 8 cfg0.N = fun i : S2x128.Idx => lse (logit (args m c)) (rowOf (i 0) (i 1)) := by
  refine (dats m 0 c).arrAt_eq_of_covers 8 _ (by decide +kernel) fun t hf y => ?_
  blk_simp
  rw [after0_8]
  unfold out0_8
  rw [View.canon_unit_zero zeros2]
  obtain ⟨i, j, rfl⟩ : ∃ (i : Fin 2) (j : Fin 128), y = ix2 i j := ⟨y 0, y 1, by funext a; fin_cases a <;> rfl⟩
  rw [emb8]
  rw [pay7_at]
  exact pay3_ld ..

theorem emb9 (t : Fin cfg0.N) (i : Fin 2) (j : Fin 128) : (win0_9.blk t).view.emb (ix2 i j) = ix2 i j := by
  blk_ext [idxOut t]

theorem arr9 : (dats m 0 c).arrAt 9 cfg0.N = fun i : S2x128.Idx => errR (logit (args m c)) (rowOf (i 0) (i 1)) := by
  refine (dats m 0 c).arrAt_eq_of_covers 9 _ (by decide +kernel) fun t hf y => ?_
  blk_simp
  rw [after0_9]
  unfold out0_9
  rw [View.canon_unit_zero zeros2]
  obtain ⟨i, j, rfl⟩ : ∃ (i : Fin 2) (j : Fin 128), y = ix2 i j := ⟨y 0, y 1, by funext a; fin_cases a <;> rfl⟩
  rw [emb9]
  rw [pay8_at]
  simp only [pay15_at, pay16_at]
  rfl

theorem emb10 (t : Fin cfg0.N) (i : Fin 256) (j : Fin 32000) : (win0_10.blk t).view.emb (ix2 i j) = ix2 i j := by
  blk_ext [idxOut t]

theorem arr10 : (dats m 0 c).arrAt 10 cfg0.N = fun i : S256x32000.Idx => codeT (logit (args m c)) (i 0) (i 1) := by
  refine (dats m 0 c).arrAt_eq_of_covers 10 _ (by decide +kernel) fun t hf y => ?_
  blk_simp
  rw [after0_10]
  unfold out0_10
  rw [View.canon_unit_zero zeros2]
  obtain ⟨i, j, rfl⟩ : ∃ (i : Fin 256) (j : Fin 32000), y = ix2 i j := ⟨y 0, y 1, by funext a; fin_cases a <;> rfl⟩
  rw [emb10]
  rw [pay12_at, pay15_fun]
  rfl

theorem emb11 (t : Fin cfg0.N) (i : Fin 2) (j : Fin 128) : (win0_11.blk t).view.emb (ix2 i j) = ix2 i j := by
  blk_ext [idxOut t]

theorem arr11 : (dats m 0 c).arrAt 11 cfg0.N = fun i : S2x128.Idx => lseT (logit (args m c)) (rowOf (i 0) (i 1)) := by
  refine (dats m 0 c).arrAt_eq_of_covers 11 _ (by decide +kernel) fun t hf y => ?_
  blk_simp
  rw [after0_11]
  unfold out0_11
  rw [View.canon_unit_zero zeros2]
  obtain ⟨i, j, rfl⟩ : ∃ (i : Fin 2) (j : Fin 128), y = ix2 i j := ⟨y 0, y 1, by funext a; fin_cases a <;> rfl⟩
  rw [emb11]
  rw [pay13_at, pay15_fun]
  rfl

theorem emb12 (t : Fin cfg0.N) (i : Fin 2) (j : Fin 128) : (win0_12.blk t).view.emb (ix2 i j) = ix2 i j := by
  blk_ext [idxOut t]

theorem arr12 : (dats m 0 c).arrAt 12 cfg0.N = fun i : S2x128.Idx => errT (logit (args m c)) (rowOf (i 0) (i 1)) := by
  refine (dats m 0 c).arrAt_eq_of_covers 12 _ (by decide +kernel) fun t hf y => ?_
  blk_simp
  rw [after0_12]
  unfold out0_12
  rw [View.canon_unit_zero zeros2]
  obtain ⟨i, j, rfl⟩ : ∃ (i : Fin 2) (j : Fin 128), y = ix2 i j := ⟨y 0, y 1, by funext a; fin_cases a <;> rfl⟩
  rw [emb12]
  rw [pay14_at, pay15_fun]
  rfl

end Cert.ReferenceIdeal.Side
end
-- ==== Proof.RefRun.lean ====
/- The reference's run: its six results as the functions of `Logits` over its launch arrays, its arguments unchanged. -/
module

public import proofs.«01_k».proof.Proof.RefSide

@[expose] public section

set_option maxRecDepth 16384

noncomputable section

namespace Cert.ReferenceIdeal.Side

open Cert.ReferenceIdeal Cert.ReferenceIdeal.Gen Cert.Spec
open Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The run ends with output array 7 as written back. -/
theorem post7 (r : PUnit × MemSt nD τ sig (Elt Ideal)) (h : Pipeline.FramePost cfgs (dats m) 0 (V m) r) (c : Dev nD) :
    r.2.mem ((c : Thread nD τ).loc main_v60_0) = (dats m 0 c).arrAt 7 cfg0.N :=
  (h c).1 7
/-- The run ends with output array 8 as written back. -/
theorem post8 (r : PUnit × MemSt nD τ sig (Elt Ideal)) (h : Pipeline.FramePost cfgs (dats m) 0 (V m) r) (c : Dev nD) :
    r.2.mem ((c : Thread nD τ).loc main_v60_1) = (dats m 0 c).arrAt 8 cfg0.N :=
  (h c).1 8
/-- The run ends with output array 9 as written back. -/
theorem post9 (r : PUnit × MemSt nD τ sig (Elt Ideal)) (h : Pipeline.FramePost cfgs (dats m) 0 (V m) r) (c : Dev nD) :
    r.2.mem ((c : Thread nD τ).loc main_v60_2) = (dats m 0 c).arrAt 9 cfg0.N :=
  (h c).1 9
/-- The run ends with output array 10 as written back. -/
theorem post10 (r : PUnit × MemSt nD τ sig (Elt Ideal)) (h : Pipeline.FramePost cfgs (dats m) 0 (V m) r) (c : Dev nD) :
    r.2.mem ((c : Thread nD τ).loc main_v60_3) = (dats m 0 c).arrAt 10 cfg0.N :=
  (h c).1 10
/-- The run ends with output array 11 as written back. -/
theorem post11 (r : PUnit × MemSt nD τ sig (Elt Ideal)) (h : Pipeline.FramePost cfgs (dats m) 0 (V m) r) (c : Dev nD) :
    r.2.mem ((c : Thread nD τ).loc main_v60_4) = (dats m 0 c).arrAt 11 cfg0.N :=
  (h c).1 11
/-- The run ends with output array 12 as written back. -/
theorem post12 (r : PUnit × MemSt nD τ sig (Elt Ideal)) (h : Pipeline.FramePost cfgs (dats m) 0 (V m) r) (c : Dev nD) :
    r.2.mem ((c : Thread nD τ).loc main_v60_5) = (dats m 0 c).arrAt 12 cfg0.N :=
  (h c).1 12
/-- After the frame run, argument `main_arg0` is as launched: no window stages it, and the run leaves the region's other buffers as they were. -/
theorem kept_main_arg0 (r : PUnit × MemSt nD τ sig (Elt Ideal)) (h : Pipeline.FramePost cfgs (dats m) 0 (V m) r) (c : Dev nD) :
    r.2.mem ((c : Thread nD τ).loc main_arg0) = m ((c : Thread nD τ).loc main_arg0) :=
  ((h c).2 main_arg0 (Pipeline.mem_restRefs_of main_arg0 (by decide) (by decide))).trans (V_main_arg0 m c)

/-- After the frame run, argument `main_arg1` is as launched: no window stages it, and the run leaves the region's other buffers as they were. -/
theorem kept_main_arg1 (r : PUnit × MemSt nD τ sig (Elt Ideal)) (h : Pipeline.FramePost cfgs (dats m) 0 (V m) r) (c : Dev nD) :
    r.2.mem ((c : Thread nD τ).loc main_arg1) = m ((c : Thread nD τ).loc main_arg1) :=
  ((h c).2 main_arg1 (Pipeline.mem_restRefs_of main_arg1 (by decide) (by decide))).trans (V_main_arg1 m c)

/-- After the frame run, argument `main_arg2` is as launched: no window stages it, and the run leaves the region's other buffers as they were. -/
theorem kept_main_arg2 (r : PUnit × MemSt nD τ sig (Elt Ideal)) (h : Pipeline.FramePost cfgs (dats m) 0 (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)

/-- After the frame run, argument `main_arg3` is as launched: input window 6 stages it and never writes it back. -/
theorem kept_main_arg3 (r : PUnit × MemSt nD τ sig (Elt Ideal)) (h : Pipeline.FramePost cfgs (dats m) 0 (V m) r) (c : Dev nD) :
    r.2.mem ((c : Thread nD τ).loc main_arg3) = m ((c : Thread nD τ).loc main_arg3) :=
  ((h c).1 6).trans (((dats m 0 c).arrAt_in 6 rfl _).trans ((A_eq m c 6).trans (V_main_arg3 m c)))

/-- After the frame run, argument `main_arg4` is as launched: no window stages it, and the run leaves the region's other buffers as they were. -/
theorem kept_main_arg4 (r : PUnit × MemSt nD τ sig (Elt Ideal)) (h : Pipeline.FramePost cfgs (dats m) 0 (V m) r) (c : Dev nD) :
    r.2.mem ((c : Thread nD τ).loc main_arg4) = m ((c : Thread nD τ).loc main_arg4) :=
  ((h c).2 main_arg4 (Pipeline.mem_restRefs_of main_arg4 (by decide) (by decide))).trans (V_main_arg4 m c)

set_option maxHeartbeats 1000000 in
/-- The reference's run. -/
theorem run : θ_run (defs (F := Ideal)) (onTc (τ := τ) (main (F := Ideal))) ⟨m, fun _ => 0, ρ⟩ fun r => ∀ c : Dev nD,
      r.2.mem ((c : Thread nD τ).loc main_v60_0) = (fun i : S256x32000.Idx => (code (logit (args m c)) (i 0) (i 1) : EReal))
      ∧ r.2.mem ((c : Thread nD τ).loc main_v60_1) = (fun i : S2x128.Idx => (lse (logit (args m c)) (rowOf (i 0) (i 1)) : EReal))
      ∧ r.2.mem ((c : Thread nD τ).loc main_v60_2) = (fun i : S2x128.Idx => (errR (logit (args m c)) (rowOf (i 0) (i 1)) : EReal))
      ∧ r.2.mem ((c : Thread nD τ).loc main_v60_3) = (fun i : S256x32000.Idx => (codeT (logit (args m c)) (i 0) (i 1) : EReal))
      ∧ r.2.mem ((c : Thread nD τ).loc main_v60_4) = (fun i : S2x128.Idx => (lseT (logit (args m c)) (rowOf (i 0) (i 1)) : EReal))
      ∧ r.2.mem ((c : Thread nD τ).loc main_v60_5) = (fun i : S2x128.Idx => (errT (logit (args m c)) (rowOf (i 0) (i 1)) : EReal))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run _ _ _).mono (fun r h c => ⟨(post7 m r h c).trans (arr7 m c),
      (post8 m r h c).trans (arr8 m c),
      (post9 m r h c).trans (arr9 m c),
      (post10 m r h c).trans (arr10 m c),
      (post11 m r h c).trans (arr11 m c),
      (post12 m r h c).trans (arr12 m c),
      kept_main_arg0 m r h c,
      kept_main_arg1 m r h c,
      kept_main_arg2 m r h c,
      kept_main_arg3 m r h c,
      kept_main_arg4 m r h c⟩)
    (run_main m ρ)

end Cert.ReferenceIdeal.Side

end
-- ==== Proof.Agree.lean ====
/- From memories that agree on the arguments, the kernel and the reference end with the same six results. -/
module

public import proofs.«01_k».proof.Proof.KernelOut
public import proofs.«01_k».proof.Proof.RefRun
public import proofs.«01_k».proof.Defs

@[expose] public section

set_option maxRecDepth 16384

noncomputable section

namespace Cert.Proof

open Idealize.ShloMosaic Idealize.SL.Sem Cert.Spec

/-- Memories that agree on the arguments give both programs the same launch arrays. -/
theorem args_eq (m : (ℓ : Loc KernelIdeal.nD KernelIdeal.τ KernelIdeal.sig) → Buf (Elt Ideal) ℓ)
    (m' : (ℓ : Loc ReferenceIdeal.nD ReferenceIdeal.τ ReferenceIdeal.sig) → Buf (Elt Ideal) ℓ) (c : Dev KernelIdeal.nD)
    (h0 : m' ((c.tc : Thread ReferenceIdeal.nD ReferenceIdeal.τ).loc ReferenceIdeal.main_arg0) = m ((c.tc : Thread KernelIdeal.nD KernelIdeal.τ).loc KernelIdeal.main_arg0))
    (h1 : m' ((c.tc : Thread ReferenceIdeal.nD ReferenceIdeal.τ).loc ReferenceIdeal.main_arg1) = m ((c.tc : Thread KernelIdeal.nD KernelIdeal.τ).loc KernelIdeal.main_arg1))
    (h2 : m' ((c.tc : Thread ReferenceIdeal.nD ReferenceIdeal.τ).loc ReferenceIdeal.main_arg2) = m ((c.tc : Thread KernelIdeal.nD KernelIdeal.τ).loc KernelIdeal.main_arg2))
    (h3 : m' ((c.tc : Thread ReferenceIdeal.nD ReferenceIdeal.τ).loc ReferenceIdeal.main_arg3) = m ((c.tc : Thread KernelIdeal.nD KernelIdeal.τ).loc KernelIdeal.main_arg3))
    (h4 : m' ((c.tc : Thread ReferenceIdeal.nD ReferenceIdeal.τ).loc ReferenceIdeal.main_arg4) = m ((c.tc : Thread KernelIdeal.nD KernelIdeal.τ).loc KernelIdeal.main_arg4)) :
    ReferenceIdeal.Side.args m' c = KernelIdeal.Body.args m c := by
  unfold ReferenceIdeal.Side.args KernelIdeal.Body.args
  congr 1
  · funext i j; exact congrFun h0 _
  · funext i j; exact congrFun h0 _
  · funext i; exact congrFun h1 _
  · exact congrFun h4 _
  · funext v j; exact congrFun h2 _
  · funext v j; exact congrFun h3 _

/-- The value claim: the same six results, and the arguments of both unchanged. -/
theorem algebraic : algebraic_KernelIdeal_ReferenceIdeal (hKernelIdeal := KernelIdeal.Gen.facts) (hReferenceIdeal := ReferenceIdeal.Gen.facts) := by
  intro m g m' g' _ h
  have ha : ∀ c, ReferenceIdeal.Side.args m' c = KernelIdeal.Body.args m c := fun c =>
    args_eq m m' c (h c).1 (h c).2.1 (h c).2.2.1 (h c).2.2.2.1 (h c).2.2.2.2
  have hr := ReferenceIdeal.Side.run m' g'
  simp only [ha] at hr
  exact ⟨_, _, _, _, _, _, KernelIdeal.Body.run m g, hr⟩

end Cert.Proof

end
-- ==== Proof.lean ====
/- The claims: each of the three programs runs to its end, leaves its arguments as they were and every semaphore counter at
   zero; the ideal kernel is the kernel over the extended reals; and the ideal kernel's six results are the reference's. -/
module

public import proofs.«01_k».proof.Defs
public import proofs.«01_k».proof.Proof.KernelFrame
public import proofs.«01_k».proof.Proof.KernelIdealFrame
public import proofs.«01_k».proof.Proof.Agree
public import proofs.«01_k».proof.Proof.Gen.Kernel
public import proofs.«01_k».proof.Proof.Gen.KernelIdeal
public import proofs.«01_k».proof.Proof.Gen.ReferenceIdeal
public import proofs.«01_k».proof.Proof.Gen.ReferenceIdeal.Frame
public import Idealize.ShloMosaic.Adequacy
public import Idealize.ShloMosaic.Init

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts,
    fun m ρ _ => Cert.Kernel.Body.frame_main m ρ, fun m ρ _ => Cert.KernelIdeal.Body.frame_main m ρ,
    fun m ρ _ => Cert.ReferenceIdeal.Gen.frame m ρ, trivial, algebraic⟩

end Cert.Proof

end
